-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_v12) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v14)) (v1 : (c : Dev Cert.Kernel2Ideal.nD) → Buf (Elt Ideal) ((c.tc : Thread Cert.Kernel2Ideal.nD Cert.Kernel2Ideal.τ).loc Cert.Kernel2Ideal.main_v15)) (v2 : (c : Dev Cert.Kernel2Ideal.nD) → Buf (Elt Ideal) ((c.tc : Thread Cert.Kernel2Ideal.nD Cert.Kernel2Ideal.τ).loc Cert.Kernel2Ideal.main_v28)) (v3 : (c : Dev Cert.Kernel2Ideal.nD) → Buf (Elt Ideal) ((c.tc : Thread Cert.Kernel2Ideal.nD Cert.Kernel2Ideal.τ).loc Cert.Kernel2Ideal.main_v29)) (v4 : (c : Dev Cert.Kernel2Ideal.nD) → Buf (Elt Ideal) ((c.tc : Thread Cert.Kernel2Ideal.nD Cert.Kernel2Ideal.τ).loc Cert.Kernel2Ideal.main_v30)) (v5 : (c : Dev Cert.Kernel2Ideal.nD) → Buf (Elt Ideal) ((c.tc : Thread Cert.Kernel2Ideal.nD Cert.Kernel2Ideal.τ).loc Cert.Kernel2Ideal.main_v31)) (v6 : (c : Dev Cert.Kernel2Ideal.nD) → Buf (Elt Ideal) ((c.tc : Thread Cert.Kernel2Ideal.nD Cert.Kernel2Ideal.τ).loc Cert.Kernel2Ideal.main_v32)) (v7 : (c : Dev Cert.Kernel2Ideal.nD) → Buf (Elt Ideal) ((c.tc : Thread Cert.Kernel2Ideal.nD Cert.Kernel2Ideal.τ).loc Cert.Kernel2Ideal.main_v33)) (v8 : (c : Dev Cert.Kernel2Ideal.nD) → Buf (Elt Ideal) ((c.tc : Thread Cert.Kernel2Ideal.nD Cert.Kernel2Ideal.τ).loc Cert.Kernel2Ideal.main_v34)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_v15) = v1 c
          ∧ r.2.mem ((c.tc : Thread Cert.Kernel2Ideal.nD Cert.Kernel2Ideal.τ).loc Cert.Kernel2Ideal.main_v28) = v2 c
          ∧ r.2.mem ((c.tc : Thread Cert.Kernel2Ideal.nD Cert.Kernel2Ideal.τ).loc Cert.Kernel2Ideal.main_v29) = v3 c
          ∧ r.2.mem ((c.tc : Thread Cert.Kernel2Ideal.nD Cert.Kernel2Ideal.τ).loc Cert.Kernel2Ideal.main_v30) = v4 c
          ∧ r.2.mem ((c.tc : Thread Cert.Kernel2Ideal.nD Cert.Kernel2Ideal.τ).loc Cert.Kernel2Ideal.main_v31) = v5 c
          ∧ r.2.mem ((c.tc : Thread Cert.Kernel2Ideal.nD Cert.Kernel2Ideal.τ).loc Cert.Kernel2Ideal.main_v32) = v6 c
          ∧ r.2.mem ((c.tc : Thread Cert.Kernel2Ideal.nD Cert.Kernel2Ideal.τ).loc Cert.Kernel2Ideal.main_v33) = v7 c
          ∧ r.2.mem ((c.tc : Thread Cert.Kernel2Ideal.nD Cert.Kernel2Ideal.τ).loc Cert.Kernel2Ideal.main_v34) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_v23) = v1 c
          ∧ r.2.mem ((c.tc : Thread Cert.Reference2Ideal.nD Cert.Reference2Ideal.τ).loc Cert.Reference2Ideal.main_v39) = v2 c
          ∧ r.2.mem ((c.tc : Thread Cert.Reference2Ideal.nD Cert.Reference2Ideal.τ).loc Cert.Reference2Ideal.main_v26) = v3 c
          ∧ r.2.mem ((c.tc : Thread Cert.Reference2Ideal.nD Cert.Reference2Ideal.τ).loc Cert.Reference2Ideal.main_v30) = v4 c
          ∧ r.2.mem ((c.tc : Thread Cert.Reference2Ideal.nD Cert.Reference2Ideal.τ).loc Cert.Reference2Ideal.main_v29) = v5 c
          ∧ r.2.mem ((c.tc : Thread Cert.Reference2Ideal.nD Cert.Reference2Ideal.τ).loc Cert.Reference2Ideal.main_v33) = v6 c
          ∧ r.2.mem ((c.tc : Thread Cert.Reference2Ideal.nD Cert.Reference2Ideal.τ).loc Cert.Reference2Ideal.main_v37) = v7 c
          ∧ r.2.mem ((c.tc : Thread Cert.Reference2Ideal.nD Cert.Reference2Ideal.τ).loc Cert.Reference2Ideal.main_v41) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v71) = v0 c
          ∧ r.2.mem ((c.tc : Thread Cert.Reference3Ideal.nD Cert.Reference3Ideal.τ).loc Cert.Reference3Ideal.main_v70) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v49_0)) (v1 : (c : Dev Cert.Kernel4Ideal.nD) → Buf (Elt Ideal) ((c.tc : Thread Cert.Kernel4Ideal.nD Cert.Kernel4Ideal.τ).loc Cert.Kernel4Ideal.main_v49_1)) (v2 : (c : Dev Cert.Kernel4Ideal.nD) → Buf (Elt Ideal) ((c.tc : Thread Cert.Kernel4Ideal.nD Cert.Kernel4Ideal.τ).loc Cert.Kernel4Ideal.main_v49_2)) (v3 : (c : Dev Cert.Kernel4Ideal.nD) → Buf (Elt Ideal) ((c.tc : Thread Cert.Kernel4Ideal.nD Cert.Kernel4Ideal.τ).loc Cert.Kernel4Ideal.main_v49_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v49_0) = v0 c
          ∧ r.2.mem ((c.tc : Thread Cert.Kernel4Ideal.nD Cert.Kernel4Ideal.τ).loc Cert.Kernel4Ideal.main_v49_1) = v1 c
          ∧ r.2.mem ((c.tc : Thread Cert.Kernel4Ideal.nD Cert.Kernel4Ideal.τ).loc Cert.Kernel4Ideal.main_v49_2) = v2 c
          ∧ r.2.mem ((c.tc : Thread Cert.Kernel4Ideal.nD Cert.Kernel4Ideal.τ).loc Cert.Kernel4Ideal.main_v49_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v162) = v0 c
          ∧ r.2.mem ((c.tc : Thread Cert.Reference4Ideal.nD Cert.Reference4Ideal.τ).loc Cert.Reference4Ideal.main_v163) = v1 c
          ∧ r.2.mem ((c.tc : Thread Cert.Reference4Ideal.nD Cert.Reference4Ideal.τ).loc Cert.Reference4Ideal.main_v156) = v2 c
          ∧ r.2.mem ((c.tc : Thread Cert.Reference4Ideal.nD Cert.Reference4Ideal.τ).loc Cert.Reference4Ideal.main_v81) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite.lean ====
abbrev S4096x3200 : Shape := ⟨2, ![4096, 3200]⟩
abbrev S16x512 : Shape := ⟨2, ![16, 512]⟩
abbrev S1x512 : Shape := ⟨2, ![1, 512]⟩
abbrev S1x1024 : Shape := ⟨2, ![1, 1024]⟩
abbrev S4096x2048 : Shape := ⟨2, ![4096, 2048]⟩
abbrev S_ : Shape := ⟨0, ![]⟩
abbrev S4096x16 : Shape := ⟨2, ![4096, 16]⟩

class Facts : Prop where
  slices_S4096x3200_S4096x2048_0_0 : S4096x3200.Slices ![0, 0] S4096x2048
  bcast_S_S4096x2048 : S_.BroadcastsInDim S4096x2048 (![] : Fin 0 → Fin S4096x2048.rank)
  reducesTo_S4096x2048_S_d0_1 : S4096x2048.ReducesTo [0, 1] S_
  h_S_ : 0 < S_.numel
  slices_S4096x3200_S4096x16_0_3072 : S4096x3200.Slices ![0, 3072] S4096x16
  bcast_S_S4096x16 : S_.BroadcastsInDim S4096x16 (![] : Fin 0 → Fin S4096x16.rank)
  reducesTo_S4096x16_S_d0_1 : S4096x16.ReducesTo [0, 1] S_
  bcast_S_S16x512 : S_.BroadcastsInDim S16x512 (![] : Fin 0 → Fin S16x512.rank)
  reducesTo_S16x512_S_d0_1 : S16x512.ReducesTo [0, 1] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_v15 : IVec S_ 1) (main_v16 : FVec F S1x512 .f32) (main_cst_4 : FVec F S_ .f32) : IVec S_ 1 :=
  let main_v17 : FVec F S1x512 .f32 := broadcastInDim S1x512 ![] bcast_S_S1x512 main_cst_4
  let main_v18 : IVec S1x512 1 := cmpf .olt main_v16 main_v17
  let main_c_5 : IVec S_ 1 := constantI S_ 1 1#1
  let main_v19 : IVec S_ 1 := (fun x v => Host.reduce IntOp.andi x v reducesTo_S1x512_S_d0_1 h_S_) main_v18 main_c_5
  let main_v20 : IVec S_ 1 := andi main_v15 main_v19
  main_v20

def fn {F : FTy → Type} [FloatOps F] (main_arg0 : FVec F S4096x3200 .f32) (main_arg1 : FVec F S16x512 .f32) (main_arg2 : FVec F S1x512 .f32) (main_arg3 : FVec F S1x1024 .f32) : IVec S_ 1 :=
  let main_v0 : FVec F S4096x2048 .f32 := (extractStridedSlice S4096x2048 ![0, 0] · slices_S4096x3200_S4096x2048_0_0) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S4096x16 .f32 := (extractStridedSlice S4096x16 ![0, 3072] · slices_S4096x3200_S4096x16_0_3072) main_arg0
  let main_v6 : FVec F S4096x16 .f32 := Host.absf main_v5
  let main_cst_0 : FVec F S_ .f32 := constant S_ .f32 0x7F800000#32
  let main_v7 : FVec F S4096x16 .f32 := broadcastInDim S4096x16 ![] bcast_S_S4096x16 main_cst_0
  let main_v8 : IVec S4096x16 1 := cmpf .olt main_v6 main_v7
  let main_c_1 : IVec S_ 1 := constantI S_ 1 1#1
  let main_v9 : IVec S_ 1 := (fun x v => Host.reduce IntOp.andi x v reducesTo_S4096x16_S_d0_1 h_S_) main_v8 main_c_1
  let main_v10 : IVec S_ 1 := andi main_v4 main_v9
  let main_v11 : FVec F S16x512 .f32 := Host.absf main_arg1
  let main_cst_2 : FVec F S_ .f32 := constant S_ .f32 0x7F800000#32
  let main_v12 : FVec F S16x512 .f32 := broadcastInDim S16x512 ![] bcast_S_S16x512 main_cst_2
  let main_v13 : IVec S16x512 1 := cmpf .olt main_v11 main_v12
  let main_c_3 : IVec S_ 1 := constantI S_ 1 1#1
  let main_v14 : IVec S_ 1 := (fun x v => Host.reduce IntOp.andi x v reducesTo_S16x512_S_d0_1 h_S_) main_v13 main_c_3
  let main_v15 : IVec S_ 1 := andi main_v10 main_v14
  let main_v16 : FVec F S1x512 .f32 := Host.absf main_arg2
  let main_cst_4 : FVec F S_ .f32 := constant S_ .f32 0x7F800000#32
  fn_part1 (F := F) main_v15 main_v16 main_cst_4
-- ==== Pre_finite4.lean ====
abbrev S4096x3088 : Shape := ⟨2, ![4096, 3088]⟩
abbrev S4096x1024 : Shape := ⟨2, ![4096, 1024]⟩
abbrev S16x512 : Shape := ⟨2, ![16, 512]⟩
abbrev S1x512 : Shape := ⟨2, ![1, 512]⟩
abbrev S1x1024 : Shape := ⟨2, ![1, 1024]⟩
abbrev S_ : Shape := ⟨0, ![]⟩

class Facts : Prop where
  bcast_S_S4096x3088 : S_.BroadcastsInDim S4096x3088 (![] : Fin 0 → Fin S4096x3088.rank)
  reducesTo_S4096x3088_S_d0_1 : S4096x3088.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S16x512 : S_.BroadcastsInDim S16x512 (![] : Fin 0 → Fin S16x512.rank)
  reducesTo_S16x512_S_d0_1 : S16x512.ReducesTo [0, 1] S_
  bcast_S_S1x512 : S_.BroadcastsInDim S1x512 (![] : Fin 0 → Fin S1x512.rank)
  reducesTo_S1x512_S_d0_1 : S1x512.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  main_v23

def fn {F : FTy → Type} [FloatOps F] (main_arg0 : FVec F S4096x3088 .f32) (main_arg1 : FVec F S4096x1024 .f32) (main_arg2 : FVec F S16x512 .f32) (main_arg3 : FVec F S1x512 .f32) (main_arg4 : FVec F S1x1024 .f32) : IVec S_ 1 :=
  let main_v0 : FVec F S4096x3088 .f32 := Host.absf main_arg0
  let main_cst : FVec F S_ .f32 := constant S_ .f32 0x7F800000#32
  let main_v1 : FVec F S4096x3088 .f32 := broadcastInDim S4096x3088 ![] bcast_S_S4096x3088 main_cst
  let main_v2 : IVec S4096x3088 1 := cmpf .olt main_v0 main_v1
  let main_c : IVec S_ 1 := constantI S_ 1 1#1
  let main_v3 : IVec S_ 1 := (fun x v => Host.reduce IntOp.andi x v reducesTo_S4096x3088_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S16x512 .f32 := Host.absf main_arg2
  let main_cst_2 : FVec F S_ .f32 := constant S_ .f32 0x7F800000#32
  let main_v10 : FVec F S16x512 .f32 := broadcastInDim S16x512 ![] bcast_S_S16x512 main_cst_2
  let main_v11 : IVec S16x512 1 := cmpf .olt main_v9 main_v10
  let main_c_3 : IVec S_ 1 := constantI S_ 1 1#1
  let main_v12 : IVec S_ 1 := (fun x v => Host.reduce IntOp.andi x v reducesTo_S16x512_S_d0_1 h_S_) main_v11 main_c_3
  let main_v13 : IVec S_ 1 := andi main_v8 main_v12
  let main_v14 : FVec F S1x512 .f32 := Host.absf main_arg3
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_arg4 main_v13 main_v16
-- ==== Kernel.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩
abbrev S1024x2048 : Shape := ⟨2, ![1024, 2048]⟩
abbrev S2048x1024 : Shape := ⟨2, ![2048, 1024]⟩
abbrev S4x1024x1024 : Shape := ⟨3, ![4, 1024, 1024]⟩
abbrev S1x1024x1024 : Shape := ⟨3, ![1, 1024, 1024]⟩

abbrev nBuf : Space → Nat
  | .hbm => 10
  | .vmem => 34
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .bf16⟩
  | .hbm, ⟨3, _⟩ => ⟨S4096x1024, .bf16⟩
  | .hbm, ⟨4, _⟩ => ⟨S4096x4096, .bf16⟩
  | .hbm, ⟨5, _⟩ => ⟨S4096x1024, .f32⟩
  | .hbm, ⟨6, _⟩ => ⟨S4096x4096, .bf16⟩
  | .hbm, ⟨7, _⟩ => ⟨S4096x1024, .f32⟩
  | .hbm, ⟨8, _⟩ => ⟨S4096x1024, .f32⟩
  | .hbm, ⟨9, _⟩ => ⟨S4x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x4096, .bf16⟩
  | .local _ .vmem, ⟨7, _⟩ => ⟨S1024x4096, .bf16⟩
  | .local _ .vmem, ⟨8, _⟩ => ⟨S4096x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S2048x1024, .bf16⟩
  | .local _ .vmem, ⟨14, _⟩ => ⟨S2048x1024, .bf16⟩
  | .local _ .vmem, ⟨15, _⟩ => ⟨S1024x2048, .bf16⟩
  | .local _ .vmem, ⟨16, _⟩ => ⟨S1024x2048, .bf16⟩
  | .local _ .vmem, ⟨17, _⟩ => ⟨S1024x2048, .bf16⟩
  | .local _ .vmem, ⟨18, _⟩ => ⟨S1024x2048, .bf16⟩
  | .local _ .vmem, ⟨19, _⟩ => ⟨S4096x1024, .bf16⟩
  | .local _ .vmem, ⟨20, _⟩ => ⟨S4096x1024, .bf16⟩
  | .local _ .vmem, ⟨21, _⟩ => ⟨S4096x1024, .bf16⟩
  | .local _ .vmem, ⟨22, _⟩ => ⟨S1024x1024, .f32⟩
  | .local _ .vmem, ⟨23, _⟩ => ⟨S1024x1024, .f32⟩
  | .local _ .vmem, ⟨24, _⟩ => ⟨S1024x4096, .bf16⟩
  | .local _ .vmem, ⟨25, _⟩ => ⟨S1024x4096, .bf16⟩
  | .local _ .vmem, ⟨26, _⟩ => ⟨S1024x4096, .bf16⟩
  | .local _ .vmem, ⟨27, _⟩ => ⟨S1024x1024, .f32⟩
  | .local _ .vmem, ⟨28, _⟩ => ⟨S1024x1024, .f32⟩
  | .local _ .vmem, ⟨29, _⟩ => ⟨S4096x1024, .bf16⟩
  | .local _ .vmem, ⟨30, _⟩ => ⟨S4096x1024, .bf16⟩
  | .local _ .vmem, ⟨31, _⟩ => ⟨S4096x1024, .bf16⟩
  | .local _ .vmem, ⟨32, _⟩ => ⟨S1x1024x1024, .f32⟩
  | .local _ .vmem, ⟨33, _⟩ => ⟨S1x1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg1_0 : Ref sig .tc := ⟨.vmem, 30, rfl⟩
abbrev cc5_stg1_1 : Ref sig .tc := ⟨.vmem, 31, rfl⟩
abbrev cc5_stg2_0 : Ref sig .tc := ⟨.vmem, 32, rfl⟩
abbrev cc5_stg2_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem1_0 : DmaSem sig := 30
abbrev cc5_sem1_1 : DmaSem sig := 31
abbrev cc5_sem2_0 : DmaSem sig := 32
abbrev cc5_sem2_1 : DmaSem sig := 33

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x2048 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![4, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S4096x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S1024x4096 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![1, 4, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage5_0 : Fin 1 → Memref sig .tc .vmem S4096x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 2 → Memref sig .tc .vmem S4096x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1x1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== ReferenceIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S1024x4x1024 : Shape := ⟨3, ![1024, 4, 1024]⟩
abbrev S4x1024x1024 : Shape := ⟨3, ![4, 1024, 1024]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S1024x4096, .f32⟩
  | .hbm, ⟨6, _⟩ => ⟨S4096x1024, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .i1⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S4096x1024, .f32⟩
  | .hbm, ⟨19, _⟩ => ⟨S1024x4096, .f32⟩
  | .hbm, ⟨20, _⟩ => ⟨S4096x1024, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S4096x1024, .f32⟩
  | .hbm, ⟨29, _⟩ => ⟨S1024x4096, .f32⟩
  | .hbm, ⟨30, _⟩ => ⟨S4096x1024, .f32⟩
  | .hbm, ⟨31, _⟩ => ⟨S1024x4x1024, .f32⟩
  | .hbm, ⟨32, _⟩ => ⟨S4x1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel2.lean ====
abbrev S4096x1024 : Shape := ⟨2, ![4096, 1024]⟩
abbrev S4x1024x772 : Shape := ⟨3, ![4, 1024, 772]⟩
abbrev S4096x3200 : Shape := ⟨2, ![4096, 3200]⟩
abbrev S1024x1024 : Shape := ⟨2, ![1024, 1024]⟩
abbrev S1024x2048 : Shape := ⟨2, ![1024, 2048]⟩
abbrev S4096x2048 : Shape := ⟨2, ![4096, 2048]⟩
abbrev S1x1024x772 : Shape := ⟨3, ![1, 1024, 772]⟩
abbrev S1024x772 : Shape := ⟨2, ![1024, 772]⟩
abbrev S1x1024x504 : Shape := ⟨3, ![1, 1024, 504]⟩
abbrev S1024x504 : Shape := ⟨2, ![1024, 504]⟩
abbrev S1x1024x252 : Shape := ⟨3, ![1, 1024, 252]⟩
abbrev S1024x252 : Shape := ⟨2, ![1024, 252]⟩
abbrev S1x1024x16 : Shape := ⟨3, ![1, 1024, 16]⟩
abbrev S1024x16 : Shape := ⟨2, ![1024, 16]⟩
abbrev S_ : Shape := ⟨0, ![]⟩
abbrev S1024x112 : Shape := ⟨2, ![1024, 112]⟩
abbrev S1024x3200 : Shape := ⟨2, ![1024, 3200]⟩
abbrev S2048x1024 : Shape := ⟨2, ![2048, 1024]⟩
abbrev S1024x640 : Shape := ⟨2, ![1024, 640]⟩
abbrev S2048x640 : Shape := ⟨2, ![2048, 640]⟩
abbrev S4096x640 : Shape := ⟨2, ![4096, 640]⟩
abbrev S4x1024x512 : Shape := ⟨3, ![4, 1024, 512]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 45
  | .vmem => 44
  | .smem => 0
  | _ => 0

abbrev bufTy : (tb : Table) → Fin (tcTables nBuf tb) → BufTy
  | .hbm, ⟨0, _⟩ => ⟨S4096x1024, .bf16⟩
  | .hbm, ⟨1, _⟩ => ⟨S4x1024x772, .bf16⟩
  | .hbm, ⟨2, _⟩ => ⟨S4096x3200, .bf16⟩
  | .hbm, ⟨3, _⟩ => ⟨S4096x1024, .bf16⟩
  | .hbm, ⟨4, _⟩ => ⟨S1024x1024, .bf16⟩
  | .hbm, ⟨5, _⟩ => ⟨S4096x1024, .bf16⟩
  | .hbm, ⟨6, _⟩ => ⟨S4096x1024, .bf16⟩
  | .hbm, ⟨7, _⟩ => ⟨S1024x2048, .bf16⟩
  | .hbm, ⟨8, _⟩ => ⟨S4096x2048, .bf16⟩
  | .hbm, ⟨9, _⟩ => ⟨S1x1024x772, .bf16⟩
  | .hbm, ⟨10, _⟩ => ⟨S1024x772, .bf16⟩
  | .hbm, ⟨11, _⟩ => ⟨S1x1024x772, .bf16⟩
  | .hbm, ⟨12, _⟩ => ⟨S1024x772, .bf16⟩
  | .hbm, ⟨13, _⟩ => ⟨S1x1024x504, .bf16⟩
  | .hbm, ⟨14, _⟩ => ⟨S1024x504, .bf16⟩
  | .hbm, ⟨15, _⟩ => ⟨S1x1024x252, .bf16⟩
  | .hbm, ⟨16, _⟩ => ⟨S1024x252, .bf16⟩
  | .hbm, ⟨17, _⟩ => ⟨S1x1024x772, .bf16⟩
  | .hbm, ⟨18, _⟩ => ⟨S1024x772, .bf16⟩
  | .hbm, ⟨19, _⟩ => ⟨S1x1024x16, .bf16⟩
  | .hbm, ⟨20, _⟩ => ⟨S1024x16, .bf16⟩
  | .hbm, ⟨21, _⟩ => ⟨S_, .bf16⟩
  | .hbm, ⟨22, _⟩ => ⟨S1024x112, .bf16⟩
  | .hbm, ⟨23, _⟩ => ⟨S1024x3200, .bf16⟩
  | .hbm, ⟨24, _⟩ => ⟨S4096x3200, .f32⟩
  | .hbm, ⟨25, _⟩ => ⟨S4096x1024, .f32⟩
  | .hbm, ⟨26, _⟩ => ⟨S1024x3200, .f32⟩
  | .hbm, ⟨27, _⟩ => ⟨S1024x772, .f32⟩
  | .hbm, ⟨28, _⟩ => ⟨S1024x772, .f32⟩
  | .hbm, ⟨29, _⟩ => ⟨S1024x504, .f32⟩
  | .hbm, ⟨30, _⟩ => ⟨S1024x16, .f32⟩
  | .hbm, ⟨31, _⟩ => ⟨S1024x252, .f32⟩
  | .hbm, ⟨32, _⟩ => ⟨S1024x772, .f32⟩
  | .hbm, ⟨33, _⟩ => ⟨S1024x772, .f32⟩
  | .hbm, ⟨34, _⟩ => ⟨S1x1024x772, .f32⟩
  | .hbm, ⟨35, _⟩ => ⟨S1x1024x772, .f32⟩
  | .hbm, ⟨36, _⟩ => ⟨S1x1024x772, .f32⟩
  | .hbm, ⟨37, _⟩ => ⟨S1x1024x772, .f32⟩
  | .hbm, ⟨38, _⟩ => ⟨S4x1024x772, .f32⟩
  | .hbm, ⟨39, _⟩ => ⟨S4096x1024, .f32⟩
  | .hbm, ⟨40, _⟩ => ⟨S4096x1024, .f32⟩
  | .hbm, ⟨41, _⟩ => ⟨S1024x1024, .f32⟩
  | .hbm, ⟨42, _⟩ => ⟨S4096x2048, .f32⟩
  | .hbm, ⟨43, _⟩ => ⟨S4096x1024, .f32⟩
  | .hbm, ⟨44, _⟩ => ⟨S4x1024x512, .f32⟩
  | .local _ .vmem, ⟨0, _⟩ => ⟨S2048x1024, .bf16⟩
  | .local _ .vmem, ⟨1, _⟩ => ⟨S2048x1024, .bf16⟩
  | .local _ .vmem, ⟨2, _⟩ => ⟨S1024x640, .bf16⟩
  | .local _ .vmem, ⟨3, _⟩ => ⟨S1024x640, .bf16⟩
  | .local _ .vmem, ⟨4, _⟩ => ⟨S2048x640, .f32⟩
  | .local _ .vmem, ⟨5, _⟩ => ⟨S2048x640, .f32⟩
  | .local _ .vmem, ⟨6, _⟩ => ⟨S1024x3200, .bf16⟩
  | .local _ .vmem, ⟨7, _⟩ => ⟨S1024x3200, .bf16⟩
  | .local _ .vmem, ⟨8, _⟩ => ⟨S1024x3200, .bf16⟩
  | .local _ .vmem, ⟨9, _⟩ => ⟨S1024x1024, .f32⟩
  | .local _ .vmem, ⟨10, _⟩ => ⟨S1024x1024, .f32⟩
  | .local _ .vmem, ⟨11, _⟩ => ⟨S4096x1024, .bf16⟩
  | .local _ .vmem, ⟨12, _⟩ => ⟨S4096x640, .bf16⟩
  | .local _ .vmem, ⟨13, _⟩ => ⟨S4096x640, .bf16⟩
  | .local _ .vmem, ⟨14, _⟩ => ⟨S1024x640, .f32⟩
  | .local _ .vmem, ⟨15, _⟩ => ⟨S1024x640, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .f32⟩
  | .local _ .vmem, ⟨20, _⟩ => ⟨S1024x1024, .f32⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1024x1024, .f32⟩
  | .local _ .vmem, ⟨25, _⟩ => ⟨S1024x1024, .f32⟩
  | .local _ .vmem, ⟨26, _⟩ => ⟨S4096x1024, .bf16⟩
  | .local _ .vmem, ⟨27, _⟩ => ⟨S4096x1024, .bf16⟩
  | .local _ .vmem, ⟨28, _⟩ => ⟨S1024x1024, .f32⟩
  | .local _ .vmem, ⟨29, _⟩ => ⟨S1024x1024, .bf16⟩
  | .local _ .vmem, ⟨30, _⟩ => ⟨S1024x1024, .bf16⟩
  | .local _ .vmem, ⟨31, _⟩ => ⟨S1024x2048, .bf16⟩
  | .local _ .vmem, ⟨32, _⟩ => ⟨S1024x2048, .f32⟩
  | .local _ .vmem, ⟨33, _⟩ => ⟨S1024x2048, .f32⟩
  | .local _ .vmem, ⟨34, _⟩ => ⟨S1024x2048, .bf16⟩
  | .local _ .vmem, ⟨35, _⟩ => ⟨S1024x2048, .bf16⟩
  | .local _ .vmem, ⟨36, _⟩ => ⟨S1024x2048, .bf16⟩
  | .local _ .vmem, ⟨37, _⟩ => ⟨S1024x1024, .f32⟩
  | .local _ .vmem, ⟨38, _⟩ => ⟨S1024x1024, .f32⟩
  | .local _ .vmem, ⟨39, _⟩ => ⟨S4096x1024, .bf16⟩
  | .local _ .vmem, ⟨40, _⟩ => ⟨S4096x512, .bf16⟩
  | .local _ .vmem, ⟨41, _⟩ => ⟨S4096x512, .bf16⟩
  | .local _ .vmem, ⟨42, _⟩ => ⟨S1x1024x512, .f32⟩
  | .local _ .vmem, ⟨43, _⟩ => ⟨S1x1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc5_stg0_0 : Ref sig .tc := ⟨.vmem, 26, rfl⟩
abbrev cc5_stg1_0 : Ref sig .tc := ⟨.vmem, 27, rfl⟩
abbrev cc5_stg2_0 : Ref sig .tc := ⟨.vmem, 28, rfl⟩
abbrev cc6_stg0_0 : Ref sig .tc := ⟨.vmem, 29, rfl⟩
abbrev cc6_stg0_1 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg2_1 : Ref sig .tc := ⟨.vmem, 33, rfl⟩
abbrev cc7_stg0_0 : Ref sig .tc := ⟨.vmem, 34, rfl⟩
abbrev cc7_stg0_1 : Ref sig .tc := ⟨.vmem, 35, rfl⟩
abbrev cc7_stg1_0 : Ref sig .tc := ⟨.vmem, 36, rfl⟩
abbrev cc7_stg2_0 : Ref sig .tc := ⟨.vmem, 37, rfl⟩
abbrev cc7_stg2_1 : Ref sig .tc := ⟨.vmem, 38, rfl⟩
abbrev cc8_stg0_0 : Ref sig .tc := ⟨.vmem, 39, rfl⟩
abbrev cc8_stg1_0 : Ref sig .tc := ⟨.vmem, 40, rfl⟩
abbrev cc8_stg1_1 : Ref sig .tc := ⟨.vmem, 41, rfl⟩
abbrev cc8_stg2_0 : Ref sig .tc := ⟨.vmem, 42, rfl⟩
abbrev cc8_stg2_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25
abbrev cc5_sem0_0 : DmaSem sig := 26
abbrev cc5_sem1_0 : DmaSem sig := 27
abbrev cc5_sem2_0 : DmaSem sig := 28
abbrev cc6_sem0_0 : DmaSem sig := 29
abbrev cc6_sem0_1 : DmaSem sig := 30
abbrev cc6_sem1_0 : DmaSem sig := 31
abbrev cc6_sem2_0 : DmaSem sig := 32
abbrev cc6_sem2_1 : DmaSem sig := 33
abbrev cc7_sem0_0 : DmaSem sig := 34
abbrev cc7_sem0_1 : DmaSem sig := 35
abbrev cc7_sem1_0 : DmaSem sig := 36
abbrev cc7_sem2_0 : DmaSem sig := 37
abbrev cc7_sem2_1 : DmaSem sig := 38
abbrev cc8_sem0_0 : DmaSem sig := 39
abbrev cc8_sem1_0 : DmaSem sig := 40
abbrev cc8_sem1_1 : DmaSem sig := 41
abbrev cc8_sem2_0 : DmaSem sig := 42
abbrev cc8_sem2_1 : DmaSem sig := 43

abbrev nD : Nat := 1
abbrev τ : Topo := Topo.v7x

variable {F : FTy → Type} [FloatOps F]

abbrev grid0 : Pipeline.Grid := ⟨3, ![2, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x3200 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x3200 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 5, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S4096x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S4096x640 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x640 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![1, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 1 → Memref sig .tc .vmem S4096x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 1 → Memref sig .tc .vmem S4096x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 1 → Memref sig .tc .vmem S1024x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, true, false]

abbrev grid6 : Pipeline.Grid := ⟨3, ![4, 1, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1024x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 1 → Memref sig .tc .vmem S1024x2048 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, true]

abbrev stage6_2 : Fin 2 → Memref sig .tc .vmem S1024x2048 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![4, 1, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1024x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 1 → Memref sig .tc .vmem S1024x2048 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true, true]

abbrev stage7_2 : Fin 2 → Memref sig .tc .vmem S1024x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![1, 4, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage8_0 : Fin 1 → Memref sig .tc .vmem S4096x1024 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, false, true]

abbrev stage8_1 : Fin 2 → Memref sig .tc .vmem S4096x512 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S1x1024x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]
-- ==== Reference2Ideal.lean ====
abbrev S4096x1024 : Shape := ⟨2, ![4096, 1024]⟩
abbrev S4x1024x772 : Shape := ⟨3, ![4, 1024, 772]⟩
abbrev S4096x3200 : Shape := ⟨2, ![4096, 3200]⟩
abbrev S1024x1024 : Shape := ⟨2, ![1024, 1024]⟩
abbrev S1024x2048 : Shape := ⟨2, ![1024, 2048]⟩
abbrev S4096x2048 : Shape := ⟨2, ![4096, 2048]⟩
abbrev S1024x4x772 : Shape := ⟨3, ![1024, 4, 772]⟩
abbrev S1024x3088 : Shape := ⟨2, ![1024, 3088]⟩
abbrev S4096x3088 : Shape := ⟨2, ![4096, 3088]⟩
abbrev S4096x512 : Shape := ⟨2, ![4096, 512]⟩
abbrev S4096x16 : Shape := ⟨2, ![4096, 16]⟩
abbrev S_ : Shape := ⟨0, ![]⟩
abbrev S4096x112 : Shape := ⟨2, ![4096, 112]⟩
abbrev S3088x1024 : Shape := ⟨2, ![3088, 1024]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x772, .bf16⟩
  | .hbm, ⟨2, _⟩ => ⟨S4096x3200, .bf16⟩
  | .hbm, ⟨3, _⟩ => ⟨S4096x1024, .bf16⟩
  | .hbm, ⟨4, _⟩ => ⟨S1024x1024, .bf16⟩
  | .hbm, ⟨5, _⟩ => ⟨S4096x1024, .bf16⟩
  | .hbm, ⟨6, _⟩ => ⟨S4096x1024, .bf16⟩
  | .hbm, ⟨7, _⟩ => ⟨S1024x2048, .bf16⟩
  | .hbm, ⟨8, _⟩ => ⟨S4096x2048, .bf16⟩
  | .hbm, ⟨9, _⟩ => ⟨S4x1024x772, .f32⟩
  | .hbm, ⟨10, _⟩ => ⟨S1024x4x772, .f32⟩
  | .hbm, ⟨11, _⟩ => ⟨S1024x3088, .f32⟩
  | .hbm, ⟨12, _⟩ => ⟨S4096x1024, .f32⟩
  | .hbm, ⟨13, _⟩ => ⟨S4096x3088, .f32⟩
  | .hbm, ⟨14, _⟩ => ⟨S4096x512, .f32⟩
  | .hbm, ⟨15, _⟩ => ⟨S4096x512, .f32⟩
  | .hbm, ⟨16, _⟩ => ⟨S4096x1024, .f32⟩
  | .hbm, ⟨17, _⟩ => ⟨S4096x16, .f32⟩
  | .hbm, ⟨18, _⟩ => ⟨S4096x1024, .f32⟩
  | .hbm, ⟨19, _⟩ => ⟨S_, .f32⟩
  | .hbm, ⟨20, _⟩ => ⟨S4096x112, .f32⟩
  | .hbm, ⟨21, _⟩ => ⟨S4096x3200, .f32⟩
  | .hbm, ⟨22, _⟩ => ⟨S_, .f32⟩
  | .hbm, ⟨23, _⟩ => ⟨S4096x112, .f32⟩
  | .hbm, ⟨24, _⟩ => ⟨S4096x3200, .f32⟩
  | .hbm, ⟨25, _⟩ => ⟨S4096x512, .f32⟩
  | .hbm, ⟨26, _⟩ => ⟨S4096x512, .f32⟩
  | .hbm, ⟨27, _⟩ => ⟨S4096x1024, .f32⟩
  | .hbm, ⟨28, _⟩ => ⟨S4096x1024, .f32⟩
  | .hbm, ⟨29, _⟩ => ⟨S4096x16, .f32⟩
  | .hbm, ⟨30, _⟩ => ⟨S4096x112, .f32⟩
  | .hbm, ⟨31, _⟩ => ⟨S4096x3088, .f32⟩
  | .hbm, ⟨32, _⟩ => ⟨S3088x1024, .f32⟩
  | .hbm, ⟨33, _⟩ => ⟨S1024x3088, .f32⟩
  | .hbm, ⟨34, _⟩ => ⟨S4096x1024, .f32⟩
  | .hbm, ⟨35, _⟩ => ⟨S4096x1024, .f32⟩
  | .hbm, ⟨36, _⟩ => ⟨S1024x1024, .f32⟩
  | .hbm, ⟨37, _⟩ => ⟨S4096x1024, .f32⟩
  | .hbm, ⟨38, _⟩ => ⟨S4096x1024, .f32⟩
  | .hbm, ⟨39, _⟩ => ⟨S1024x1024, .f32⟩
  | .hbm, ⟨40, _⟩ => ⟨S1024x1024, .f32⟩
  | .hbm, ⟨41, _⟩ => ⟨S4096x1024, .f32⟩
  | .hbm, ⟨42, _⟩ => ⟨S4096x1024, .f32⟩
  | .hbm, ⟨43, _⟩ => ⟨S1024x2048, .f32⟩
  | .hbm, ⟨44, _⟩ => ⟨S4096x2048, .f32⟩
  | .hbm, ⟨45, _⟩ => ⟨S4096x2048, .f32⟩
  | .hbm, ⟨46, _⟩ => ⟨S2048x1024, .f32⟩
  | .hbm, ⟨47, _⟩ => ⟨S1024x2048, .f32⟩
  | .hbm, ⟨48, _⟩ => ⟨S4096x1024, .f32⟩
  | .hbm, ⟨49, _⟩ => ⟨S1024x4x772, .f32⟩
  | .hbm, ⟨50, _⟩ => ⟨S4x1024x772, .f32⟩
  | .hbm, ⟨51, _⟩ => ⟨S1024x4x512, .f32⟩
  | .hbm, ⟨52, _⟩ => ⟨S4x1024x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== Kernel3.lean ====
abbrev S4096x3200 : Shape := ⟨2, ![4096, 3200]⟩
abbrev S16x512 : Shape := ⟨2, ![16, 512]⟩
abbrev S1x512 : Shape := ⟨2, ![1, 512]⟩
abbrev S1x1024 : Shape := ⟨2, ![1, 1024]⟩
abbrev S_ : Shape := ⟨0, ![]⟩
abbrev S112x512 : Shape := ⟨2, ![112, 512]⟩
abbrev S128x512 : Shape := ⟨2, ![128, 512]⟩
abbrev S4096x1024 : Shape := ⟨2, ![4096, 1024]⟩
abbrev S64x512x256 : Shape := ⟨3, ![64, 512, 256]⟩
abbrev S256x3200 : Shape := ⟨2, ![256, 3200]⟩
abbrev S256x1024 : Shape := ⟨2, ![256, 1024]⟩
abbrev S4x512x256 : Shape := ⟨3, ![4, 512, 256]⟩
abbrev S512x256 : Shape := ⟨2, ![512, 256]⟩
abbrev S256x512 : Shape := ⟨2, ![256, 512]⟩
abbrev S8x512 : Shape := ⟨2, ![8, 512]⟩
abbrev S256x128 : Shape := ⟨2, ![256, 128]⟩
abbrev S256x256 : Shape := ⟨2, ![256, 256]⟩
abbrev S64x512 : Shape := ⟨2, ![64, 512]⟩
abbrev S64x128 : Shape := ⟨2, ![64, 128]⟩
abbrev S64x256 : Shape := ⟨2, ![64, 256]⟩
abbrev S128x256 : Shape := ⟨2, ![128, 256]⟩
abbrev S1x128 : Shape := ⟨2, ![1, 128]⟩
abbrev S128x128 : Shape := ⟨2, ![128, 128]⟩
abbrev S1x128x256 : Shape := ⟨3, ![1, 128, 256]⟩
abbrev S64 : Shape := ⟨1, ![64]⟩
abbrev S64x1 : Shape := ⟨2, ![64, 1]⟩
abbrev S1x256 : Shape := ⟨2, ![1, 256]⟩

abbrev nBuf : Space → Nat
  | .hbm => 10
  | .vmem => 12
  | .smem => 0
  | _ => 0

abbrev bufTy : (tb : Table) → Fin (tcTables nBuf tb) → BufTy
  | .hbm, ⟨0, _⟩ => ⟨S4096x3200, .f32⟩
  | .hbm, ⟨1, _⟩ => ⟨S16x512, .f32⟩
  | .hbm, ⟨2, _⟩ => ⟨S1x512, .f32⟩
  | .hbm, ⟨3, _⟩ => ⟨S1x1024, .f32⟩
  | .hbm, ⟨4, _⟩ => ⟨S_, .f32⟩
  | .hbm, ⟨5, _⟩ => ⟨S112x512, .f32⟩
  | .hbm, ⟨6, _⟩ => ⟨S128x512, .f32⟩
  | .hbm, ⟨7, _⟩ => ⟨S128x512, .bf16⟩
  | .hbm, ⟨8, _⟩ => ⟨S4096x1024, .bf16⟩
  | .hbm, ⟨9, _⟩ => ⟨S64x512x256, .f32⟩
  | .local _ .vmem, ⟨0, _⟩ => ⟨S256x3200, .f32⟩
  | .local _ .vmem, ⟨1, _⟩ => ⟨S256x3200, .f32⟩
  | .local _ .vmem, ⟨2, _⟩ => ⟨S128x512, .bf16⟩
  | .local _ .vmem, ⟨3, _⟩ => ⟨S1x512, .f32⟩
  | .local _ .vmem, ⟨4, _⟩ => ⟨S1x1024, .f32⟩
  | .local _ .vmem, ⟨5, _⟩ => ⟨S256x1024, .bf16⟩
  | .local _ .vmem, ⟨6, _⟩ => ⟨S256x1024, .bf16⟩
  | .local _ .vmem, ⟨7, _⟩ => ⟨S4x512x256, .f32⟩
  | .local _ .vmem, ⟨8, _⟩ => ⟨S4x512x256, .f32⟩
  | .local _ .vmem, ⟨9, _⟩ => ⟨S512x256, .f32⟩
  | .local _ .vmem, ⟨10, _⟩ => ⟨S256x512, .f32⟩
  | .local _ .vmem, ⟨11, _⟩ => ⟨S8x512, .f32⟩
  | _, _ => ⟨S4096x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S4096x3200 : Shape := ⟨2, ![4096, 3200]⟩
abbrev S16x512 : Shape := ⟨2, ![16, 512]⟩
abbrev S1x512 : Shape := ⟨2, ![1, 512]⟩
abbrev S1x1024 : Shape := ⟨2, ![1, 1024]⟩
abbrev S4096x512 : Shape := ⟨2, ![4096, 512]⟩
abbrev S4096x1024 : Shape := ⟨2, ![4096, 1024]⟩
abbrev S4096x16 : Shape := ⟨2, ![4096, 16]⟩
abbrev S4096x112 : Shape := ⟨2, ![4096, 112]⟩
abbrev S_ : Shape := ⟨0, ![]⟩
abbrev S64x64x4x128 : Shape := ⟨4, ![64, 64, 4, 128]⟩
abbrev S64x64x4x256 : Shape := ⟨4, ![64, 64, 4, 256]⟩
abbrev S64x64x512 : Shape := ⟨3, ![64, 64, 512]⟩
abbrev S64x1x4x128 : Shape := ⟨4, ![64, 1, 4, 128]⟩
abbrev S64x4x64x64 : Shape := ⟨4, ![64, 4, 64, 64]⟩
abbrev S64x4x64x256 : Shape := ⟨4, ![64, 4, 64, 256]⟩
abbrev S64x4x128 : Shape := ⟨3, ![64, 4, 128]⟩
abbrev S64x4x128x256 : Shape := ⟨4, ![64, 4, 128, 256]⟩
abbrev S64x64x64 : Shape := ⟨3, ![64, 64, 64]⟩
abbrev S64x64x1x1 : Shape := ⟨4, ![64, 64, 1, 1]⟩
abbrev S4x128x256x64 : Shape := ⟨4, ![4, 128, 256, 64]⟩
abbrev S64x4x128x1 : Shape := ⟨4, ![64, 4, 128, 1]⟩
abbrev S64x4x64 : Shape := ⟨3, ![64, 4, 64]⟩
abbrev S64x4x64x1 : Shape := ⟨4, ![64, 4, 64, 1]⟩
abbrev S64x512x256 : Shape := ⟨3, ![64, 512, 256]⟩

abbrev nBuf : Space → Nat
  | .hbm => 110
  | .vmem => 0
  | .smem => 0
  | _ => 0

abbrev bufTy : (tb : Table) → Fin (tcTables nBuf tb) → BufTy
  | .hbm, ⟨0, _⟩ => ⟨S4096x3200, .f32⟩
  | .hbm, ⟨1, _⟩ => ⟨S16x512, .f32⟩
  | .hbm, ⟨2, _⟩ => ⟨S1x512, .f32⟩
  | .hbm, ⟨3, _⟩ => ⟨S1x1024, .f32⟩
  | .hbm, ⟨4, _⟩ => ⟨S4096x512, .f32⟩
  | .hbm, ⟨5, _⟩ => ⟨S4096x512, .f32⟩
  | .hbm, ⟨6, _⟩ => ⟨S4096x1024, .f32⟩
  | .hbm, ⟨7, _⟩ => ⟨S4096x1024, .f32⟩
  | .hbm, ⟨8, _⟩ => ⟨S4096x16, .f32⟩
  | .hbm, ⟨9, _⟩ => ⟨S4096x112, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4096x512, .i1⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S4096x512, .f32⟩
  | .hbm, ⟨31, _⟩ => ⟨S4096x512, .f32⟩
  | .hbm, ⟨32, _⟩ => ⟨S64x64x4x128, .f32⟩
  | .hbm, ⟨33, _⟩ => ⟨S_, .f32⟩
  | .hbm, ⟨34, _⟩ => ⟨S64x64x4x128, .f32⟩
  | .hbm, ⟨35, _⟩ => ⟨S64x64x4x128, .f32⟩
  | .hbm, ⟨36, _⟩ => ⟨S64x64x4x128, .f32⟩
  | .hbm, ⟨37, _⟩ => ⟨S64x64x4x256, .f32⟩
  | .hbm, ⟨38, _⟩ => ⟨S64x64x512, .f32⟩
  | .hbm, ⟨39, _⟩ => ⟨S_, .f32⟩
  | .hbm, ⟨40, _⟩ => ⟨S_, .f32⟩
  | .hbm, ⟨41, _⟩ => ⟨S64x64x512, .f32⟩
  | .hbm, ⟨42, _⟩ => ⟨S64x64x4x128, .f32⟩
  | .hbm, ⟨43, _⟩ => ⟨S64x1x4x128, .f32⟩
  | .hbm, ⟨44, _⟩ => ⟨S64x64x4x128, .f32⟩
  | .hbm, ⟨45, _⟩ => ⟨S64x64x4x128, .f32⟩
  | .hbm, ⟨46, _⟩ => ⟨S64x64x4x128, .f32⟩
  | .hbm, ⟨47, _⟩ => ⟨S64x64x4x128, .f32⟩
  | .hbm, ⟨48, _⟩ => ⟨S64x4x64x64, .f32⟩
  | .hbm, ⟨49, _⟩ => ⟨S64x4x64x256, .f32⟩
  | .hbm, ⟨50, _⟩ => ⟨S64x4x128, .f32⟩
  | .hbm, ⟨51, _⟩ => ⟨S64x4x128x256, .f32⟩
  | .hbm, ⟨52, _⟩ => ⟨S64x64x64, .i32⟩
  | .hbm, ⟨53, _⟩ => ⟨S64x64x64, .i32⟩
  | .hbm, ⟨54, _⟩ => ⟨S64x64x64, .i32⟩
  | .hbm, ⟨55, _⟩ => ⟨S64x64x64, .i1⟩
  | .hbm, ⟨56, _⟩ => ⟨S64x64x64, .i1⟩
  | .hbm, ⟨57, _⟩ => ⟨S64x64x64, .i1⟩
  | .hbm, ⟨58, _⟩ => ⟨S64x64x64, .f32⟩
  | .hbm, ⟨59, _⟩ => ⟨S64x64x4x128, .f32⟩
  | .hbm, ⟨60, _⟩ => ⟨S64x64x1x1, .i32⟩
  | .hbm, ⟨61, _⟩ => ⟨S64x64x1x1, .i32⟩
  | .hbm, ⟨62, _⟩ => ⟨S64x64x1x1, .i1⟩
  | .hbm, ⟨63, _⟩ => ⟨S64x64x4x128, .f32⟩
  | .hbm, ⟨64, _⟩ => ⟨S_, .f32⟩
  | .hbm, ⟨65, _⟩ => ⟨S_, .f32⟩
  | .hbm, ⟨66, _⟩ => ⟨S64x64x4x128, .i1⟩
  | .hbm, ⟨67, _⟩ => ⟨S64x64x4x128, .f32⟩
  | .hbm, ⟨68, _⟩ => ⟨S64x64x4x128, .f32⟩
  | .hbm, ⟨69, _⟩ => ⟨S4x128x256x64, .f32⟩
  | .hbm, ⟨70, _⟩ => ⟨S64x4x128x256, .f32⟩
  | .hbm, ⟨71, _⟩ => ⟨S64x4x128, .f32⟩
  | .hbm, ⟨72, _⟩ => ⟨S64x4x128x1, .f32⟩
  | .hbm, ⟨73, _⟩ => ⟨S64x4x128x256, .f32⟩
  | .hbm, ⟨74, _⟩ => ⟨S64x4x128x256, .f32⟩
  | .hbm, ⟨75, _⟩ => ⟨S64x4x128x256, .f32⟩
  | .hbm, ⟨76, _⟩ => ⟨S64x1x4x128, .f32⟩
  | .hbm, ⟨77, _⟩ => ⟨S64x64x4x128, .f32⟩
  | .hbm, ⟨78, _⟩ => ⟨S64x64x4x128, .f32⟩
  | .hbm, ⟨79, _⟩ => ⟨S64x4x64x256, .f32⟩
  | .hbm, ⟨80, _⟩ => ⟨S64x4x64x256, .f32⟩
  | .hbm, ⟨81, _⟩ => ⟨S64x4x64x256, .f32⟩
  | .hbm, ⟨82, _⟩ => ⟨S_, .f32⟩
  | .hbm, ⟨83, _⟩ => ⟨S64x4x64, .f32⟩
  | .hbm, ⟨84, _⟩ => ⟨S64x4x64x1, .f32⟩
  | .hbm, ⟨85, _⟩ => ⟨S_, .f32⟩
  | .hbm, ⟨86, _⟩ => ⟨S64x4x64x1, .f32⟩
  | .hbm, ⟨87, _⟩ => ⟨S64x4x64x1, .f32⟩
  | .hbm, ⟨88, _⟩ => ⟨S_, .f32⟩
  | .hbm, ⟨89, _⟩ => ⟨S64x4x64x1, .f32⟩
  | .hbm, ⟨90, _⟩ => ⟨S64x4x64x1, .f32⟩
  | .hbm, ⟨91, _⟩ => ⟨S64x4x64x1, .f32⟩
  | .hbm, ⟨92, _⟩ => ⟨S64x4x64x256, .f32⟩
  | .hbm, ⟨93, _⟩ => ⟨S64x4x64x256, .f32⟩
  | .hbm, ⟨94, _⟩ => ⟨S64x64x4x256, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S_, .f32⟩
  | .hbm, ⟨101, _⟩ => ⟨S4096x1024, .f32⟩
  | .hbm, ⟨102, _⟩ => ⟨S4096x1024, .f32⟩
  | .hbm, ⟨103, _⟩ => ⟨S_, .f32⟩
  | .hbm, ⟨104, _⟩ => ⟨S4096x1024, .f32⟩
  | .hbm, ⟨105, _⟩ => ⟨S4096x1024, .f32⟩
  | .hbm, ⟨106, _⟩ => ⟨S4096x1024, .f32⟩
  | .hbm, ⟨107, _⟩ => ⟨S4096x1024, .f32⟩
  | .hbm, ⟨108, _⟩ => ⟨S64x512x256, .f32⟩
  | .hbm, ⟨109, _⟩ => ⟨S4096x1024, .bf16⟩
  | _, _ => ⟨S4096x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_v1 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_0 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_call1_call0_cst : Ref sig .tc := ⟨.hbm, 39, rfl⟩
abbrev main_call1_call0_v0 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_1 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_2 : Ref sig .tc := ⟨.hbm, 82, rfl⟩
abbrev main_v55 : Ref sig .tc := ⟨.hbm, 83, rfl⟩
abbrev main_v56 : Ref sig .tc := ⟨.hbm, 84, rfl⟩
abbrev main_cst_3 : Ref sig .tc := ⟨.hbm, 85, rfl⟩
abbrev main_v57 : Ref sig .tc := ⟨.hbm, 86, rfl⟩
abbrev main_v58 : Ref sig .tc := ⟨.hbm, 87, rfl⟩
abbrev main_cst_4 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_call3_v0 : Ref sig .tc := ⟨.hbm, 98, rfl⟩
abbrev main_call3_v1 : Ref sig .tc := ⟨.hbm, 99, rfl⟩
abbrev main_call3_cst : Ref sig .tc := ⟨.hbm, 100, rfl⟩
abbrev main_call3_v2 : Ref sig .tc := ⟨.hbm, 101, rfl⟩
abbrev main_call3_v3 : Ref sig .tc := ⟨.hbm, 102, rfl⟩
abbrev main_call3_cst_0 : Ref sig .tc := ⟨.hbm, 103, rfl⟩
abbrev main_call3_v4 : Ref sig .tc := ⟨.hbm, 104, rfl⟩
abbrev main_call3_v5 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩

abbrev nD : Nat := 1
abbrev τ : Topo := Topo.v7x

variable {F : FTy → Type} [FloatOps F]
-- ==== Kernel4.lean ====
abbrev S4096x3088 : Shape := ⟨2, ![4096, 3088]⟩
abbrev S4096x1024 : Shape := ⟨2, ![4096, 1024]⟩
abbrev S16x512 : Shape := ⟨2, ![16, 512]⟩
abbrev S1x512 : Shape := ⟨2, ![1, 512]⟩
abbrev S1x1024 : Shape := ⟨2, ![1, 1024]⟩
abbrev S4096x512 : Shape := ⟨2, ![4096, 512]⟩
abbrev S4096x16 : Shape := ⟨2, ![4096, 16]⟩
abbrev S_ : Shape := ⟨0, ![]⟩
abbrev S64x64x4x128 : Shape := ⟨4, ![64, 64, 4, 128]⟩
abbrev S64x64x4x256 : Shape := ⟨4, ![64, 64, 4, 256]⟩
abbrev S64x64x512 : Shape := ⟨3, ![64, 64, 512]⟩
abbrev S64x1x4x128 : Shape := ⟨4, ![64, 1, 4, 128]⟩
abbrev S64x4x128x256 : Shape := ⟨4, ![64, 4, 128, 256]⟩
abbrev S64x4x128 : Shape := ⟨3, ![64, 4, 128]⟩
abbrev S64x64x64x1x1 : Shape := ⟨5, ![64, 64, 64, 1, 1]⟩
abbrev S64x64x64x4x128 : Shape := ⟨5, ![64, 64, 64, 4, 128]⟩
abbrev S64x64x1x1 : Shape := ⟨4, ![64, 64, 1, 1]⟩
abbrev S4x128x256x64 : Shape := ⟨4, ![4, 128, 256, 64]⟩
abbrev S64x4x128x1 : Shape := ⟨4, ![64, 4, 128, 1]⟩
abbrev S64x512x256 : Shape := ⟨3, ![64, 512, 256]⟩
abbrev S4096x112 : Shape := ⟨2, ![4096, 112]⟩
abbrev S4096x3200 : Shape := ⟨2, ![4096, 3200]⟩
abbrev S112x512 : Shape := ⟨2, ![112, 512]⟩
abbrev S128x512 : Shape := ⟨2, ![128, 512]⟩
abbrev S256x3200 : Shape := ⟨2, ![256, 3200]⟩
abbrev S256x1024 : Shape := ⟨2, ![256, 1024]⟩
abbrev S4x512x256 : Shape := ⟨3, ![4, 512, 256]⟩
abbrev S1x512x256 : Shape := ⟨3, ![1, 512, 256]⟩
abbrev S512x256 : Shape := ⟨2, ![512, 256]⟩
abbrev S256x512 : Shape := ⟨2, ![256, 512]⟩
abbrev S8x512 : Shape := ⟨2, ![8, 512]⟩
abbrev S256x128 : Shape := ⟨2, ![256, 128]⟩
abbrev S256x256 : Shape := ⟨2, ![256, 256]⟩
abbrev S64x512 : Shape := ⟨2, ![64, 512]⟩
abbrev S64x128 : Shape := ⟨2, ![64, 128]⟩
abbrev S1x128x256 : Shape := ⟨3, ![1, 128, 256]⟩
abbrev S128x256 : Shape := ⟨2, ![128, 256]⟩
abbrev S64x256 : Shape := ⟨2, ![64, 256]⟩
abbrev S64 : Shape := ⟨1, ![64]⟩
abbrev S64x1 : Shape := ⟨2, ![64, 1]⟩
abbrev S1x256 : Shape := ⟨2, ![1, 256]⟩
abbrev S256 : Shape := ⟨1, ![256]⟩
abbrev S1x128 : Shape := ⟨2, ![1, 128]⟩
abbrev S128x128 : Shape := ⟨2, ![128, 128]⟩
abbrev S128 : Shape := ⟨1, ![128]⟩
abbrev S128x1 : Shape := ⟨2, ![128, 1]⟩
abbrev S512 : Shape := ⟨1, ![512]⟩

abbrev nBuf : Space → Nat
  | .hbm => 88
  | .vmem => 21
  | .smem => 0
  | _ => 0

abbrev bufTy : (tb : Table) → Fin (tcTables nBuf tb) → BufTy
  | .hbm, ⟨0, _⟩ => ⟨S4096x3088, .f32⟩
  | .hbm, ⟨1, _⟩ => ⟨S4096x1024, .f32⟩
  | .hbm, ⟨2, _⟩ => ⟨S16x512, .f32⟩
  | .hbm, ⟨3, _⟩ => ⟨S1x512, .f32⟩
  | .hbm, ⟨4, _⟩ => ⟨S1x1024, .f32⟩
  | .hbm, ⟨5, _⟩ => ⟨S4096x512, .f32⟩
  | .hbm, ⟨6, _⟩ => ⟨S4096x512, .f32⟩
  | .hbm, ⟨7, _⟩ => ⟨S4096x1024, .f32⟩
  | .hbm, ⟨8, _⟩ => ⟨S4096x1024, .f32⟩
  | .hbm, ⟨9, _⟩ => ⟨S4096x16, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4096x512, .i1⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S4096x512, .f32⟩
  | .hbm, ⟨31, _⟩ => ⟨S4096x512, .f32⟩
  | .hbm, ⟨32, _⟩ => ⟨S64x64x4x128, .f32⟩
  | .hbm, ⟨33, _⟩ => ⟨S64x64x4x256, .f32⟩
  | .hbm, ⟨34, _⟩ => ⟨S64x64x512, .f32⟩
  | .hbm, ⟨35, _⟩ => ⟨S_, .f32⟩
  | .hbm, ⟨36, _⟩ => ⟨S_, .f32⟩
  | .hbm, ⟨37, _⟩ => ⟨S64x64x512, .f32⟩
  | .hbm, ⟨38, _⟩ => ⟨S64x64x4x128, .f32⟩
  | .hbm, ⟨39, _⟩ => ⟨S64x1x4x128, .f32⟩
  | .hbm, ⟨40, _⟩ => ⟨S64x64x4x128, .f32⟩
  | .hbm, ⟨41, _⟩ => ⟨S64x64x4x128, .f32⟩
  | .hbm, ⟨42, _⟩ => ⟨S64x64x4x128, .f32⟩
  | .hbm, ⟨43, _⟩ => ⟨S64x64x4x128, .f32⟩
  | .hbm, ⟨44, _⟩ => ⟨S64x4x128x256, .f32⟩
  | .hbm, ⟨45, _⟩ => ⟨S64x4x128, .f32⟩
  | .hbm, ⟨46, _⟩ => ⟨S64x64x64x1x1, .i32⟩
  | .hbm, ⟨47, _⟩ => ⟨S64x64x64x1x1, .i32⟩
  | .hbm, ⟨48, _⟩ => ⟨S64x64x64x1x1, .i32⟩
  | .hbm, ⟨49, _⟩ => ⟨S64x64x64x1x1, .i1⟩
  | .hbm, ⟨50, _⟩ => ⟨S64x64x64x1x1, .i1⟩
  | .hbm, ⟨51, _⟩ => ⟨S64x64x64x1x1, .i1⟩
  | .hbm, ⟨52, _⟩ => ⟨S_, .f32⟩
  | .hbm, ⟨53, _⟩ => ⟨S_, .f32⟩
  | .hbm, ⟨54, _⟩ => ⟨S64x64x64x4x128, .i1⟩
  | .hbm, ⟨55, _⟩ => ⟨S64x64x64x4x128, .f32⟩
  | .hbm, ⟨56, _⟩ => ⟨S64x64x64x4x128, .f32⟩
  | .hbm, ⟨57, _⟩ => ⟨S64x64x64x4x128, .f32⟩
  | .hbm, ⟨58, _⟩ => ⟨S_, .f32⟩
  | .hbm, ⟨59, _⟩ => ⟨S64x64x4x128, .f32⟩
  | .hbm, ⟨60, _⟩ => ⟨S64x64x1x1, .i32⟩
  | .hbm, ⟨61, _⟩ => ⟨S64x64x1x1, .i32⟩
  | .hbm, ⟨62, _⟩ => ⟨S64x64x1x1, .i1⟩
  | .hbm, ⟨63, _⟩ => ⟨S64x64x4x128, .f32⟩
  | .hbm, ⟨64, _⟩ => ⟨S_, .f32⟩
  | .hbm, ⟨65, _⟩ => ⟨S_, .f32⟩
  | .hbm, ⟨66, _⟩ => ⟨S64x64x4x128, .i1⟩
  | .hbm, ⟨67, _⟩ => ⟨S64x64x4x128, .f32⟩
  | .hbm, ⟨68, _⟩ => ⟨S64x64x4x128, .f32⟩
  | .hbm, ⟨69, _⟩ => ⟨S4x128x256x64, .f32⟩
  | .hbm, ⟨70, _⟩ => ⟨S64x4x128x256, .f32⟩
  | .hbm, ⟨71, _⟩ => ⟨S64x4x128, .f32⟩
  | .hbm, ⟨72, _⟩ => ⟨S64x4x128x1, .f32⟩
  | .hbm, ⟨73, _⟩ => ⟨S64x4x128x256, .f32⟩
  | .hbm, ⟨74, _⟩ => ⟨S64x4x128x256, .f32⟩
  | .hbm, ⟨75, _⟩ => ⟨S64x4x128x256, .f32⟩
  | .hbm, ⟨76, _⟩ => ⟨S64x512x256, .f32⟩
  | .hbm, ⟨77, _⟩ => ⟨S_, .f32⟩
  | .hbm, ⟨78, _⟩ => ⟨S4096x112, .f32⟩
  | .hbm, ⟨79, _⟩ => ⟨S4096x3200, .f32⟩
  | .hbm, ⟨80, _⟩ => ⟨S_, .f32⟩
  | .hbm, ⟨81, _⟩ => ⟨S112x512, .f32⟩
  | .hbm, ⟨82, _⟩ => ⟨S128x512, .f32⟩
  | .hbm, ⟨83, _⟩ => ⟨S128x512, .bf16⟩
  | .hbm, ⟨84, _⟩ => ⟨S4096x3200, .bf16⟩
  | .hbm, ⟨85, _⟩ => ⟨S128x512, .f32⟩
  | .hbm, ⟨86, _⟩ => ⟨S1x512, .f32⟩
  | .hbm, ⟨87, _⟩ => ⟨S1x1024, .f32⟩
  | .local _ .vmem, ⟨0, _⟩ => ⟨S256x3200, .f32⟩
  | .local _ .vmem, ⟨1, _⟩ => ⟨S256x3200, .f32⟩
  | .local _ .vmem, ⟨2, _⟩ => ⟨S256x1024, .f32⟩
  | .local _ .vmem, ⟨3, _⟩ => ⟨S256x1024, .f32⟩
  | .local _ .vmem, ⟨4, _⟩ => ⟨S4x512x256, .f32⟩
  | .local _ .vmem, ⟨5, _⟩ => ⟨S4x512x256, .f32⟩
  | .local _ .vmem, ⟨6, _⟩ => ⟨S1x512x256, .f32⟩
  | .local _ .vmem, ⟨7, _⟩ => ⟨S1x512x256, .f32⟩
  | .local _ .vmem, ⟨8, _⟩ => ⟨S128x512, .bf16⟩
  | .local _ .vmem, ⟨9, _⟩ => ⟨S1x512, .f32⟩
  | .local _ .vmem, ⟨10, _⟩ => ⟨S1x1024, .f32⟩
  | .local _ .vmem, ⟨11, _⟩ => ⟨S256x3200, .bf16⟩
  | .local _ .vmem, ⟨12, _⟩ => ⟨S256x3200, .bf16⟩
  | .local _ .vmem, ⟨13, _⟩ => ⟨S128x512, .f32⟩
  | .local _ .vmem, ⟨14, _⟩ => ⟨S1x512, .f32⟩
  | .local _ .vmem, ⟨15, _⟩ => ⟨S1x1024, .f32⟩
  | .local _ .vmem, ⟨16, _⟩ => ⟨S512x256, .f32⟩
  | .local _ .vmem, ⟨17, _⟩ => ⟨S256x512, .f32⟩
  | .local _ .vmem, ⟨18, _⟩ => ⟨S8x512, .f32⟩
  | .local _ .vmem, ⟨19, _⟩ => ⟨S256x512, .f32⟩
  | .local _ .vmem, ⟨20, _⟩ => ⟨S8x512, .f32⟩
  | _, _ => ⟨S4096x3088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_v1 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_call1_call0_cst : Ref sig .tc := ⟨.hbm, 35, rfl⟩
abbrev main_call1_call0_v0 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_0 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_v29 : Ref sig .tc := ⟨.hbm, 57, rfl⟩
abbrev main_cst_1 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_2 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_3 : Ref sig .tc := ⟨.hbm, 77, rfl⟩
abbrev main_v44 : Ref sig .tc := ⟨.hbm, 78, rfl⟩
abbrev main_v45 : Ref sig .tc := ⟨.hbm, 79, rfl⟩
abbrev main_cst_4 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49_0 : Ref sig .tc := ⟨.hbm, 84, rfl⟩
abbrev main_v49_1 : Ref sig .tc := ⟨.hbm, 85, rfl⟩
abbrev main_v49_2 : Ref sig .tc := ⟨.hbm, 86, rfl⟩
abbrev main_v49_3 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let c15_i32 : BitVec 32 := 15#32
  let v0 : BitVec 32 := Scalar.subi c15_i32 arg0
  let c4_i32 : BitVec 32 := 4#32
  let v1 : BitVec 32 := Scalar.muli c4_i32 v0
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  ![v3.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x3200 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference4Ideal.lean ====
abbrev S4096x3088 : Shape := ⟨2, ![4096, 3088]⟩
abbrev S4096x1024 : Shape := ⟨2, ![4096, 1024]⟩
abbrev S16x512 : Shape := ⟨2, ![16, 512]⟩
abbrev S1x512 : Shape := ⟨2, ![1, 512]⟩
abbrev S1x1024 : Shape := ⟨2, ![1, 1024]⟩
abbrev S_ : Shape := ⟨0, ![]⟩
abbrev S4096x112 : Shape := ⟨2, ![4096, 112]⟩
abbrev S4096x3200 : Shape := ⟨2, ![4096, 3200]⟩
abbrev S4096x512 : Shape := ⟨2, ![4096, 512]⟩
abbrev S4096x16 : Shape := ⟨2, ![4096, 16]⟩
abbrev S64x64x4x128 : Shape := ⟨4, ![64, 64, 4, 128]⟩
abbrev S64x64x4x256 : Shape := ⟨4, ![64, 64, 4, 256]⟩
abbrev S64x64x512 : Shape := ⟨3, ![64, 64, 512]⟩
abbrev S64x1x4x128 : Shape := ⟨4, ![64, 1, 4, 128]⟩
abbrev S64x4x64x64 : Shape := ⟨4, ![64, 4, 64, 64]⟩
abbrev S64x4x64x256 : Shape := ⟨4, ![64, 4, 64, 256]⟩
abbrev S64x4x128 : Shape := ⟨3, ![64, 4, 128]⟩
abbrev S64x4x128x256 : Shape := ⟨4, ![64, 4, 128, 256]⟩
abbrev S64x64x64 : Shape := ⟨3, ![64, 64, 64]⟩
abbrev S64x64x1x1 : Shape := ⟨4, ![64, 64, 1, 1]⟩
abbrev S4x128x256x64 : Shape := ⟨4, ![4, 128, 256, 64]⟩
abbrev S64x4x128x1 : Shape := ⟨4, ![64, 4, 128, 1]⟩
abbrev S64x4x64 : Shape := ⟨3, ![64, 4, 64]⟩
abbrev S64x4x64x1 : Shape := ⟨4, ![64, 4, 64, 1]⟩
abbrev S64x512x256 : Shape := ⟨3, ![64, 512, 256]⟩
abbrev S1024 : Shape := ⟨1, ![1024]⟩
abbrev S64x4x256x128 : Shape := ⟨4, ![64, 4, 256, 128]⟩
abbrev S64x4x64x128 : Shape := ⟨4, ![64, 4, 64, 128]⟩
abbrev S4x128x64x64 : Shape := ⟨4, ![4, 128, 64, 64]⟩
abbrev S4x128x64 : Shape := ⟨3, ![4, 128, 64]⟩
abbrev S64x4x256x64 : Shape := ⟨4, ![64, 4, 256, 64]⟩
abbrev S64x4x128x64 : Shape := ⟨4, ![64, 4, 128, 64]⟩
abbrev S512 : Shape := ⟨1, ![512]⟩
abbrev S512x16 : Shape := ⟨2, ![512, 16]⟩
abbrev S128x512 : Shape := ⟨2, ![128, 512]⟩

abbrev nBuf : Space → Nat
  | .hbm => 265
  | .vmem => 0
  | .smem => 0
  | _ => 0

abbrev hbmTy0_0 (i : Nat) : BufTy := match i % 128 with
  | 0 => ⟨S4096x3088, .f32⟩
  | 1 => ⟨S4096x1024, .f32⟩
  | 2 => ⟨S16x512, .f32⟩
  | 3 => ⟨S1x512, .f32⟩
  | 4 => ⟨S1x1024, .f32⟩
  | 5 => ⟨S_, .f32⟩
  | 6 => ⟨S4096x112, .f32⟩
  | 7 => ⟨S4096x3200, .f32⟩
  | 8 => ⟨S4096x512, .f32⟩
  | 9 => ⟨S4096x512, .f32⟩
  | 10 => ⟨S4096x1024, .f32⟩
  | 11 => ⟨S4096x1024, .f32⟩
  | 12 => ⟨S4096x16, .f32⟩
  | 13 => ⟨S4096x112, .f32⟩
  | 14 => ⟨S4096x512, .f32⟩
  | 15 => ⟨S4096x512, .f32⟩
  | 16 => ⟨S4096x512, .f32⟩
  | 17 => ⟨S4096x512, .f32⟩
  | 18 => ⟨S_, .f32⟩
  | 19 => ⟨S4096x512, .f32⟩
  | 20 => ⟨S4096x512, .f32⟩
  | 21 => ⟨S4096x512, .f32⟩
  | 22 => ⟨S4096x512, .f32⟩
  | 23 => ⟨S4096x512, .i1⟩
  | 24 => ⟨S4096x512, .f32⟩
  | 25 => ⟨S4096x512, .f32⟩
  | 26 => ⟨S4096x512, .f32⟩
  | 27 => ⟨S4096x512, .f32⟩
  | 28 => ⟨S4096x512, .f32⟩
  | 29 => ⟨S4096x512, .f32⟩
  | 30 => ⟨S4096x512, .f32⟩
  | 31 => ⟨S4096x512, .f32⟩
  | 32 => ⟨S_, .f32⟩
  | 33 => ⟨S4096x512, .f32⟩
  | 34 => ⟨S4096x512, .i1⟩
  | 35 => ⟨S_, .f32⟩
  | 36 => ⟨S4096x512, .f32⟩
  | 37 => ⟨S4096x512, .f32⟩
  | 38 => ⟨S_, .f32⟩
  | 39 => ⟨S4096x512, .f32⟩
  | 40 => ⟨S4096x512, .i1⟩
  | 41 => ⟨S_, .f32⟩
  | 42 => ⟨S4096x512, .f32⟩
  | 43 => ⟨S4096x512, .f32⟩
  | 44 => ⟨S4096x512, .f32⟩
  | 45 => ⟨S4096x512, .f32⟩
  | 46 => ⟨S_, .f32⟩
  | 47 => ⟨S_, .f32⟩
  | 48 => ⟨S_, .i1⟩
  | 49 => ⟨S_, .f32⟩
  | 50 => ⟨S_, .f32⟩
  | 51 => ⟨S_, .f32⟩
  | 52 => ⟨S_, .f32⟩
  | 53 => ⟨S4096x512, .f32⟩
  | 54 => ⟨S4096x512, .i1⟩
  | 55 => ⟨S_, .f32⟩
  | 56 => ⟨S4096x512, .f32⟩
  | 57 => ⟨S4096x512, .f32⟩
  | 58 => ⟨S4096x512, .f32⟩
  | 59 => ⟨S4096x512, .f32⟩
  | 60 => ⟨S4096x512, .f32⟩
  | 61 => ⟨S_, .f32⟩
  | 62 => ⟨S4096x512, .f32⟩
  | 63 => ⟨S4096x512, .f32⟩
  | 64 => ⟨S4096x512, .f32⟩
  | 65 => ⟨S_, .f32⟩
  | 66 => ⟨S4096x512, .f32⟩
  | 67 => ⟨S4096x512, .f32⟩
  | 68 => ⟨S64x64x4x128, .f32⟩
  | 69 => ⟨S_, .f32⟩
  | 70 => ⟨S64x64x4x128, .f32⟩
  | 71 => ⟨S64x64x4x128, .f32⟩
  | 72 => ⟨S64x64x4x128, .f32⟩
  | 73 => ⟨S64x64x4x256, .f32⟩
  | 74 => ⟨S64x64x512, .f32⟩
  | 75 => ⟨S_, .f32⟩
  | 76 => ⟨S_, .f32⟩
  | 77 => ⟨S64x64x512, .f32⟩
  | 78 => ⟨S64x64x4x128, .f32⟩
  | 79 => ⟨S64x1x4x128, .f32⟩
  | 80 => ⟨S64x64x4x128, .f32⟩
  | 81 => ⟨S64x64x4x128, .f32⟩
  | 82 => ⟨S64x64x4x128, .f32⟩
  | 83 => ⟨S64x64x4x128, .f32⟩
  | 84 => ⟨S64x4x64x64, .f32⟩
  | 85 => ⟨S64x4x64x256, .f32⟩
  | 86 => ⟨S64x4x128, .f32⟩
  | 87 => ⟨S64x4x128x256, .f32⟩
  | 88 => ⟨S64x64x64, .i32⟩
  | 89 => ⟨S64x64x64, .i32⟩
  | 90 => ⟨S64x64x64, .i32⟩
  | 91 => ⟨S64x64x64, .i1⟩
  | 92 => ⟨S64x64x64, .i1⟩
  | 93 => ⟨S64x64x64, .i1⟩
  | 94 => ⟨S64x64x64, .f32⟩
  | 95 => ⟨S64x64x4x128, .f32⟩
  | 96 => ⟨S64x64x1x1, .i32⟩
  | 97 => ⟨S64x64x1x1, .i32⟩
  | 98 => ⟨S64x64x1x1, .i1⟩
  | 99 => ⟨S64x64x4x128, .f32⟩
  | 100 => ⟨S_, .f32⟩
  | 101 => ⟨S_, .f32⟩
  | 102 => ⟨S64x64x4x128, .i1⟩
  | 103 => ⟨S64x64x4x128, .f32⟩
  | 104 => ⟨S64x64x4x128, .f32⟩
  | 105 => ⟨S_, .f32⟩
  | 106 => ⟨S64x64x4x128, .f32⟩
  | 107 => ⟨S4x128x256x64, .f32⟩
  | 108 => ⟨S64x4x128x256, .f32⟩
  | 109 => ⟨S64x4x128, .f32⟩
  | 110 => ⟨S64x4x128x1, .f32⟩
  | 111 => ⟨S64x4x128x256, .f32⟩
  | 112 => ⟨S64x4x128x256, .f32⟩
  | 113 => ⟨S64x4x128x256, .f32⟩
  | 114 => ⟨S64x1x4x128, .f32⟩
  | 115 => ⟨S64x64x4x128, .f32⟩
  | 116 => ⟨S64x64x4x128, .f32⟩
  | 117 => ⟨S64x4x64x256, .f32⟩
  | 118 => ⟨S64x4x64x256, .f32⟩
  | 119 => ⟨S64x4x64x256, .f32⟩
  | 120 => ⟨S_, .f32⟩
  | 121 => ⟨S64x4x64, .f32⟩
  | 122 => ⟨S64x4x64x1, .f32⟩
  | 123 => ⟨S_, .f32⟩
  | 124 => ⟨S64x4x64x1, .f32⟩
  | 125 => ⟨S64x4x64x1, .f32⟩
  | 126 => ⟨S_, .f32⟩
  | 127 => ⟨S64x4x64x1, .f32⟩
  | _ => ⟨S4096x3088, .f32⟩

abbrev hbmTy0_1 (i : Nat) : BufTy := match i % 128 with
  | 0 => ⟨S64x4x64x1, .f32⟩
  | 1 => ⟨S64x4x64x1, .f32⟩
  | 2 => ⟨S64x4x64x1, .f32⟩
  | 3 => ⟨S_, .f32⟩
  | 4 => ⟨S64x4x64x1, .f32⟩
  | 5 => ⟨S64x4x64x1, .f32⟩
  | 6 => ⟨S64x4x64x256, .f32⟩
  | 7 => ⟨S64x4x64x256, .f32⟩
  | 8 => ⟨S64x64x4x256, .f32⟩
  | 9 => ⟨S4096x1024, .f32⟩
  | 10 => ⟨S4096x1024, .f32⟩
  | 11 => ⟨S4096x1024, .f32⟩
  | 12 => ⟨S4096x1024, .f32⟩
  | 13 => ⟨S4096x1024, .f32⟩
  | 14 => ⟨S_, .f32⟩
  | 15 => ⟨S4096x1024, .f32⟩
  | 16 => ⟨S4096x1024, .f32⟩
  | 17 => ⟨S_, .f32⟩
  | 18 => ⟨S4096x1024, .f32⟩
  | 19 => ⟨S4096x1024, .f32⟩
  | 20 => ⟨S_, .f32⟩
  | 21 => ⟨S4096x1024, .f32⟩
  | 22 => ⟨S4096x1024, .f32⟩
  | 23 => ⟨S4096x1024, .f32⟩
  | 24 => ⟨S4096x1024, .f32⟩
  | 25 => ⟨S4096x1024, .f32⟩
  | 26 => ⟨S64x512x256, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S_, .f32⟩
  | 35 => ⟨S1024, .f32⟩
  | 36 => ⟨S1x1024, .f32⟩
  | 37 => ⟨S4096x1024, .f32⟩
  | 38 => ⟨S4096x1024, .f32⟩
  | 39 => ⟨S64x64x4x256, .f32⟩
  | 40 => ⟨S64x4x64x256, .f32⟩
  | 41 => ⟨S64x4x64x256, .f32⟩
  | 42 => ⟨S_, .f32⟩
  | 43 => ⟨S64x4x64, .f32⟩
  | 44 => ⟨S64x4x64x1, .f32⟩
  | 45 => ⟨S64x4x64x256, .f32⟩
  | 46 => ⟨S64x4x64x256, .f32⟩
  | 47 => ⟨S64x4x64x1, .f32⟩
  | 48 => ⟨S_, .f32⟩
  | 49 => ⟨S64x4x64x1, .f32⟩
  | 50 => ⟨S64x4x64x1, .f32⟩
  | 51 => ⟨S_, .f32⟩
  | 52 => ⟨S64x4x64, .f32⟩
  | 53 => ⟨S64x4x64x256, .f32⟩
  | 54 => ⟨S64x4x64x256, .f32⟩
  | 55 => ⟨S64x4x64x256, .f32⟩
  | 56 => ⟨S64x4x64x256, .f32⟩
  | 57 => ⟨S64x4x64x256, .f32⟩
  | 58 => ⟨S64x4x256x128, .f32⟩
  | 59 => ⟨S64x4x128x256, .f32⟩
  | 60 => ⟨S64x4x64x128, .f32⟩
  | 61 => ⟨S64x64x4x128, .f32⟩
  | 62 => ⟨S64x64x4x128, .f32⟩
  | 63 => ⟨S_, .f32⟩
  | 64 => ⟨S64x4x128, .f32⟩
  | 65 => ⟨S64x1x4x128, .f32⟩
  | 66 => ⟨S64x64x4x128, .f32⟩
  | 67 => ⟨S64x64x4x128, .f32⟩
  | 68 => ⟨S64x1x4x128, .f32⟩
  | 69 => ⟨S4x128x256x64, .f32⟩
  | 70 => ⟨S4x128x64x64, .f32⟩
  | 71 => ⟨S64x64x4x128, .f32⟩
  | 72 => ⟨S4x128x256x64, .f32⟩
  | 73 => ⟨S64x4x128x256, .f32⟩
  | 74 => ⟨S_, .f32⟩
  | 75 => ⟨S64x64x4x128, .f32⟩
  | 76 => ⟨S64x64x4x128, .f32⟩
  | 77 => ⟨S64x64x4x128, .f32⟩
  | 78 => ⟨S4x128x64, .f32⟩
  | 79 => ⟨S64x4x128, .f32⟩
  | 80 => ⟨S64x4x256x64, .f32⟩
  | 81 => ⟨S64x64x4x256, .f32⟩
  | 82 => ⟨S64x4x128x64, .f32⟩
  | 83 => ⟨S64x64x4x128, .f32⟩
  | 84 => ⟨S64x1x4x128, .f32⟩
  | 85 => ⟨S64x1x4x128, .f32⟩
  | 86 => ⟨S64x4x256x64, .f32⟩
  | 87 => ⟨S64x64x4x256, .f32⟩
  | 88 => ⟨S64x64x4x256, .f32⟩
  | 89 => ⟨S64x4x64x64, .f32⟩
  | 90 => ⟨S64x4x64x128, .f32⟩
  | 91 => ⟨S64x64x4x128, .f32⟩
  | 92 => ⟨S64x64x4x128, .f32⟩
  | 93 => ⟨S64x4x64x128, .f32⟩
  | 94 => ⟨S64x64x4x128, .f32⟩
  | 95 => ⟨S64x64x4x128, .f32⟩
  | 96 => ⟨S64x64x4x128, .f32⟩
  | 97 => ⟨S64x64x4x128, .f32⟩
  | 98 => ⟨S64x64x4x128, .f32⟩
  | 99 => ⟨S_, .f32⟩
  | 100 => ⟨S64x4x128, .f32⟩
  | 101 => ⟨S64x1x4x128, .f32⟩
  | 102 => ⟨S64x64x4x128, .f32⟩
  | 103 => ⟨S64x1x4x128, .f32⟩
  | 104 => ⟨S_, .f32⟩
  | 105 => ⟨S64x64x4x128, .f32⟩
  | 106 => ⟨S64x64x4x128, .f32⟩
  | 107 => ⟨S64x64x512, .f32⟩
  | 108 => ⟨S_, .f32⟩
  | 109 => ⟨S_, .f32⟩
  | 110 => ⟨S64x64x512, .f32⟩
  | 111 => ⟨S4096x512, .f32⟩
  | 112 => ⟨S4096x1024, .f32⟩
  | 113 => ⟨S4096x512, .f32⟩
  | 114 => ⟨S_, .f32⟩
  | 115 => ⟨S64x64x4x128, .f32⟩
  | 116 => ⟨S64x64x4x128, .f32⟩
  | 117 => ⟨S4096x512, .f32⟩
  | 118 => ⟨S_, .f32⟩
  | 119 => ⟨S4096x512, .f32⟩
  | 120 => ⟨S4096x512, .f32⟩
  | 121 => ⟨S4096x512, .f32⟩
  | 122 => ⟨S4096x512, .f32⟩
  | 123 => ⟨S4096x512, .f32⟩
  | 124 => ⟨S_, .f32⟩
  | 125 => ⟨S512, .f32⟩
  | 126 => ⟨S1x512, .f32⟩
  | 127 => ⟨S512x16, .f32⟩
  | _ => ⟨S4096x3088, .f32⟩

abbrev hbmTy0_2 (i : Nat) : BufTy := match i % 128 with
  | 0 => ⟨S16x512, .f32⟩
  | 1 => ⟨S4096x16, .f32⟩
  | 2 => ⟨S_, .f32⟩
  | 3 => ⟨S4096x112, .f32⟩
  | 4 => ⟨S4096x3200, .f32⟩
  | 5 => ⟨S4096x3200, .bf16⟩
  | 6 => ⟨S_, .i32⟩
  | 7 => ⟨S_, .f32⟩
  | 8 => ⟨S128x512, .f32⟩
  | _ => ⟨S4096x3088, .f32⟩

abbrev hbmTy (i : Nat) : BufTy := match i / 128 with
  | 0 => hbmTy0_0 i
  | 1 => hbmTy0_1 i
  | 2 => hbmTy0_2 i
  | _ => ⟨S4096x3088, .f32⟩

abbrev bufTy : (tb : Table) → Fin (tcTables nBuf tb) → BufTy
  | .hbm, ⟨i, _⟩ => hbmTy i
  | _, _ => ⟨S4096x3088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1_0 : Ref sig .tc := ⟨.hbm, 31, rfl⟩
abbrev main_call0_call0_cst_0 : Ref sig .tc := ⟨.hbm, 32, rfl⟩
abbrev main_call0_call0_v13 : Ref sig .tc := ⟨.hbm, 33, rfl⟩
abbrev main_call0_call0_v14 : Ref sig .tc := ⟨.hbm, 34, rfl⟩
abbrev main_call0_call0_cst_1 : Ref sig .tc := ⟨.hbm, 35, rfl⟩
abbrev main_call0_call0_v15 : Ref sig .tc := ⟨.hbm, 36, rfl⟩
abbrev main_call0_call0_v16 : Ref sig .tc := ⟨.hbm, 37, rfl⟩
abbrev main_call0_call0_cst_2 : Ref sig .tc := ⟨.hbm, 38, rfl⟩
abbrev main_call0_call0_v17 : Ref sig .tc := ⟨.hbm, 39, rfl⟩
abbrev main_call0_call0_v18 : Ref sig .tc := ⟨.hbm, 40, rfl⟩
abbrev main_call0_call0_cst_3 : Ref sig .tc := ⟨.hbm, 41, rfl⟩
abbrev main_call0_call0_v19 : Ref sig .tc := ⟨.hbm, 42, rfl⟩
abbrev main_call0_call0_v20 : Ref sig .tc := ⟨.hbm, 43, rfl⟩
abbrev main_call0_call0_v21 : Ref sig .tc := ⟨.hbm, 44, rfl⟩
abbrev main_v11_1 : Ref sig .tc := ⟨.hbm, 45, rfl⟩
abbrev main_call0_call0_cst_4 : Ref sig .tc := ⟨.hbm, 46, rfl⟩
abbrev main_call0_call0_cst_5 : Ref sig .tc := ⟨.hbm, 47, rfl⟩
abbrev main_call0_call0_v23 : Ref sig .tc := ⟨.hbm, 48, rfl⟩
abbrev main_call0_call0_cst_6 : Ref sig .tc := ⟨.hbm, 49, rfl⟩
abbrev main_call0_call0_cst_7 : Ref sig .tc := ⟨.hbm, 50, rfl⟩
abbrev main_call0_call0_v24 : Ref sig .tc := ⟨.hbm, 51, rfl⟩
abbrev main_call0_call0_cst_8 : Ref sig .tc := ⟨.hbm, 52, rfl⟩
abbrev main_call0_call0_v25 : Ref sig .tc := ⟨.hbm, 53, rfl⟩
abbrev main_call0_call0_v26 : Ref sig .tc := ⟨.hbm, 54, rfl⟩
abbrev main_call0_call0_cst_9 : Ref sig .tc := ⟨.hbm, 55, rfl⟩
abbrev main_call0_call0_v27 : Ref sig .tc := ⟨.hbm, 56, rfl⟩
abbrev main_call0_call0_v28 : Ref sig .tc := ⟨.hbm, 57, rfl⟩
abbrev main_call0_call0_v29 : Ref sig .tc := ⟨.hbm, 58, rfl⟩
abbrev main_call0_call0_v30 : Ref sig .tc := ⟨.hbm, 59, rfl⟩
abbrev main_call0_call0_v31 : Ref sig .tc := ⟨.hbm, 60, rfl⟩
abbrev main_call0_call0_cst_10 : Ref sig .tc := ⟨.hbm, 61, rfl⟩
abbrev main_call0_call0_v32 : Ref sig .tc := ⟨.hbm, 62, rfl⟩
abbrev main_v11_2 : Ref sig .tc := ⟨.hbm, 63, rfl⟩
abbrev main_v11_0 : Ref sig .tc := ⟨.hbm, 64, rfl⟩
abbrev main_cst_0 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_cst_1 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_call1_call0_cst : Ref sig .tc := ⟨.hbm, 75, rfl⟩
abbrev main_call1_call0_v0 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_cst_2 : Ref sig .tc := ⟨.hbm, 100, rfl⟩
abbrev main_call2_v0 : Ref sig .tc := ⟨.hbm, 101, rfl⟩
abbrev main_v43_1 : Ref sig .tc := ⟨.hbm, 102, rfl⟩
abbrev main_call2_v2 : Ref sig .tc := ⟨.hbm, 103, rfl⟩
abbrev main_v43_0 : Ref sig .tc := ⟨.hbm, 104, rfl⟩
abbrev main_call2_cst : Ref sig .tc := ⟨.hbm, 105, rfl⟩
abbrev main_v43_2 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_cst_3 : Ref sig .tc := ⟨.hbm, 120, rfl⟩
abbrev main_v57 : Ref sig .tc := ⟨.hbm, 121, rfl⟩
abbrev main_v58 : Ref sig .tc := ⟨.hbm, 122, rfl⟩
abbrev main_cst_4 : Ref sig .tc := ⟨.hbm, 123, rfl⟩
abbrev main_v59 : Ref sig .tc := ⟨.hbm, 124, rfl⟩
abbrev main_v60 : Ref sig .tc := ⟨.hbm, 125, rfl⟩
abbrev main_cst_5 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_cst_6 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_call3_v0 : Ref sig .tc := ⟨.hbm, 140, rfl⟩
abbrev main_call3_v1 : Ref sig .tc := ⟨.hbm, 141, rfl⟩
abbrev main_call3_cst : Ref sig .tc := ⟨.hbm, 142, rfl⟩
abbrev main_call3_v2 : Ref sig .tc := ⟨.hbm, 143, rfl⟩
abbrev main_call3_v3 : Ref sig .tc := ⟨.hbm, 144, rfl⟩
abbrev main_call3_cst_0 : Ref sig .tc := ⟨.hbm, 145, rfl⟩
abbrev main_call3_v4 : Ref sig .tc := ⟨.hbm, 146, rfl⟩
abbrev main_v73_2 : Ref sig .tc := ⟨.hbm, 147, rfl⟩
abbrev main_call3_cst_1 : Ref sig .tc := ⟨.hbm, 148, rfl⟩
abbrev main_call3_v6 : Ref sig .tc := ⟨.hbm, 149, rfl⟩
abbrev main_call3_v7 : Ref sig .tc := ⟨.hbm, 150, rfl⟩
abbrev main_v73_1 : Ref sig .tc := ⟨.hbm, 151, rfl⟩
abbrev main_v73_0 : Ref sig .tc := ⟨.hbm, 152, rfl⟩
abbrev main_v74 : Ref sig .tc := ⟨.hbm, 153, rfl⟩
abbrev main_v75 : Ref sig .tc := ⟨.hbm, 154, rfl⟩
abbrev main_v76 : Ref sig .tc := ⟨.hbm, 155, rfl⟩
abbrev main_v77 : Ref sig .tc := ⟨.hbm, 156, rfl⟩
abbrev main_call4_v0 : Ref sig .tc := ⟨.hbm, 157, rfl⟩
abbrev main_call4_v1 : Ref sig .tc := ⟨.hbm, 158, rfl⟩
abbrev main_call4_v2 : Ref sig .tc := ⟨.hbm, 159, rfl⟩
abbrev main_v78 : Ref sig .tc := ⟨.hbm, 160, rfl⟩
abbrev main_v79 : Ref sig .tc := ⟨.hbm, 161, rfl⟩
abbrev main_cst_7 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_cst_8 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_v90 : Ref sig .tc := ⟨.hbm, 174, rfl⟩
abbrev main_v91 : Ref sig .tc := ⟨.hbm, 175, rfl⟩
abbrev main_cst_9 : Ref sig .tc := ⟨.hbm, 176, rfl⟩
abbrev main_v92 : Ref sig .tc := ⟨.hbm, 177, rfl⟩
abbrev main_v93 : Ref sig .tc := ⟨.hbm, 178, rfl⟩
abbrev main_cst_10 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_cst_11 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_call5_cst : Ref sig .tc := ⟨.hbm, 202, rfl⟩
abbrev main_call5_v0 : Ref sig .tc := ⟨.hbm, 203, rfl⟩
abbrev main_v115 : Ref sig .tc := ⟨.hbm, 204, rfl⟩
abbrev main_v116 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_v123 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_v135 : Ref sig .tc := ⟨.hbm, 224, rfl⟩
abbrev main_v136 : Ref sig .tc := ⟨.hbm, 225, rfl⟩
abbrev main_v137 : Ref sig .tc := ⟨.hbm, 226, rfl⟩
abbrev main_cst_12 : Ref sig .tc := ⟨.hbm, 227, rfl⟩
abbrev main_v138 : Ref sig .tc := ⟨.hbm, 228, rfl⟩
abbrev main_v139 : Ref sig .tc := ⟨.hbm, 229, rfl⟩
abbrev main_v140 : Ref sig .tc := ⟨.hbm, 230, rfl⟩
abbrev main_v141 : Ref sig .tc := ⟨.hbm, 231, rfl⟩
abbrev main_cst_13 : Ref sig .tc := ⟨.hbm, 232, rfl⟩
abbrev main_v142 : Ref sig .tc := ⟨.hbm, 233, rfl⟩
abbrev main_v143 : Ref sig .tc := ⟨.hbm, 234, rfl⟩
abbrev main_v144 : Ref sig .tc := ⟨.hbm, 235, rfl⟩
abbrev main_call6_call0_cst : Ref sig .tc := ⟨.hbm, 236, rfl⟩
abbrev main_call6_call0_v0 : Ref sig .tc := ⟨.hbm, 237, rfl⟩
abbrev main_v145 : Ref sig .tc := ⟨.hbm, 238, rfl⟩
abbrev main_v146 : Ref sig .tc := ⟨.hbm, 239, rfl⟩
abbrev main_v147 : Ref sig .tc := ⟨.hbm, 240, rfl⟩
abbrev main_v148 : Ref sig .tc := ⟨.hbm, 241, rfl⟩
abbrev main_cst_14 : Ref sig .tc := ⟨.hbm, 242, rfl⟩
abbrev main_v149 : Ref sig .tc := ⟨.hbm, 243, rfl⟩
abbrev main_v150 : Ref sig .tc := ⟨.hbm, 244, rfl⟩
abbrev main_v151 : Ref sig .tc := ⟨.hbm, 245, rfl⟩
abbrev main_cst_15 : Ref sig .tc := ⟨.hbm, 246, rfl⟩
abbrev main_v152 : Ref sig .tc := ⟨.hbm, 247, rfl⟩
abbrev main_v153 : Ref sig .tc := ⟨.hbm, 248, rfl⟩
abbrev main_call7_v0 : Ref sig .tc := ⟨.hbm, 249, rfl⟩
abbrev main_call7_v1 : Ref sig .tc := ⟨.hbm, 250, rfl⟩
abbrev main_v154 : Ref sig .tc := ⟨.hbm, 251, rfl⟩
abbrev main_cst_16 : Ref sig .tc := ⟨.hbm, 252, rfl⟩
abbrev main_v155 : Ref sig .tc := ⟨.hbm, 253, rfl⟩
abbrev main_v156 : Ref sig .tc := ⟨.hbm, 254, rfl⟩
abbrev main_v157 : Ref sig .tc := ⟨.hbm, 255, rfl⟩
abbrev main_v158 : Ref sig .tc := ⟨.hbm, 256, rfl⟩
abbrev main_v159 : Ref sig .tc := ⟨.hbm, 257, rfl⟩
abbrev main_cst_17 : Ref sig .tc := ⟨.hbm, 258, rfl⟩
abbrev main_v160 : Ref sig .tc := ⟨.hbm, 259, rfl⟩
abbrev main_v161 : Ref sig .tc := ⟨.hbm, 260, rfl⟩
abbrev main_v162 : Ref sig .tc := ⟨.hbm, 261, rfl⟩
abbrev main_c : Ref sig .tc := ⟨.hbm, 262, rfl⟩
abbrev main_call8_v0 : Ref sig .tc := ⟨.hbm, 263, rfl⟩
abbrev main_v163 : Ref sig .tc := ⟨.hbm, 264, rfl⟩

abbrev nD : Nat := 1
abbrev τ : Topo := Topo.v7x

variable {F : FTy → Type} [FloatOps F]
-- ==== Proof.MlpMaths.lean ====
/-
  THE MATHEMATICS OF THE SQUARED-ReLU LAYER, element by element over the extended reals: what each of the six
  products of the layer's forward and backward pass holds at an index, as a sum over its contracted coordinate.
  Both programs are read to these functions.
-/
module

public import Idealize.ShloMosaic.Lib.Pointwise
public import Idealize.ShloMosaic.PureOps.Ideal.Laws

@[expose] public section

set_option maxRecDepth 16384

noncomputable section

open Idealize.ShloMosaic

namespace Cert.Mlp

/-- An array of extended reals with `a` rows and `b` columns. -/
abbrev Mat (a b : ℕ) : Type := (⟨2, ![a, b]⟩ : Shape).Idx → EReal

/-- The hidden activation `relu(h · w1)`. -/
def hiddenAct (h : Mat 4096 1024) (w1 : Mat 1024 4096) : Mat 4096 4096 :=
  fun i => max (∑ k : Fin 1024, h (ix2 (i 0) k) * w1 (ix2 k (i 1))) 0

/-- The layer's result `a² · w2`, of the hidden activation `a`. -/
def mlpOut (a : Mat 4096 4096) (w2 : Mat 4096 1024) : Mat 4096 1024 :=
  fun i => ∑ k : Fin 4096, (a (ix2 (i 0) k) * a (ix2 (i 0) k)) * w2 (ix2 k (i 1))

/-- The gradient at the first product's result: `(ct · w2ᵀ) · 2a`. -/
def dHidden (ct : Mat 4096 1024) (w2 : Mat 4096 1024) (a : Mat 4096 4096) : Mat 4096 4096 :=
  fun i => (∑ k : Fin 1024, ct (ix2 (i 0) k) * w2 (ix2 (i 1) k)) * (Ideal.ofBits .f32 0x40000000#32 * a (ix2 (i 0) (i 1)))

/-- The gradient of the second weight: `(a²)ᵀ · ct`. -/
def dW2 (a : Mat 4096 4096) (ct : Mat 4096 1024) : Mat 4096 1024 :=
  fun i => ∑ k : Fin 4096, (a (ix2 k (i 0)) * a (ix2 k (i 0))) * ct (ix2 k (i 1))

/-- The gradient of the layer's input: `da · w1ᵀ`. -/
def dInput (da : Mat 4096 4096) (w1 : Mat 1024 4096) : Mat 4096 1024 :=
  fun i => ∑ k : Fin 4096, da (ix2 (i 0) k) * w1 (ix2 (i 1) k)

/-- The gradient of the first weight, `hᵀ · da`, cut into four shards of 1024 columns. -/
def dW1 (h : Mat 4096 1024) (da : Mat 4096 4096) : (⟨3, ![4, 1024, 1024]⟩ : Shape).Idx → EReal :=
  fun i => ∑ k : Fin 4096, h (ix2 k (i 1)) * da (ix2 k ⟨(i 0).val * 1024 + (i 2).val, by
    have h0 : (i 0).val < 4 := (i 0).isLt
    have h2 : (i 2).val < 1024 := (i 2).isLt
    omega⟩)

/-- The binary32 pattern the kernel multiplies by is the number two. -/
theorem ofBits_two : Ideal.ofBits .f32 0x40000000#32 = 2 := by
  rw [show (2 : EReal) = ((2 : ℝ) : EReal) by norm_cast]
  simp [Ideal.ofBits, Ideal.ieee, -EReal.coe_mul]; norm_num

/-- The gradient of the squared ReLU, written both ways: where the pre-activation `p` is positive, `p·y + y·p`, and
    zero elsewhere, against `y · 2·relu(p)`. It holds at the infinities too. -/
theorem relu_sq_grad (p y : EReal) :
    (if 0 < p then max p 0 * y + y * max p 0 else 0) = y * (2 * max p 0) := by
  split_ifs with h
  · rw [max_eq_left h.le, ← one_add_one_eq_two, EReal.right_distrib_of_nonneg zero_le_one zero_le_one, one_mul,
      EReal.left_distrib_of_nonneg h.le h.le, mul_comm p y]
  · rw [max_eq_right (not_lt.mp h), mul_zero, mul_zero]

end Cert.Mlp
-- ==== Proof.MlpBlocks.lean ====
/-
  THE KERNEL'S SIX CALLS, each array after its call as one function of the arrays the call was given: the blocks the
  grid points write back tile the array, and what a point writes at an element is the function there.
-/
module

public import proofs.«01_k».proof.Proof.Gen.KernelIdeal.Frame
public import proofs.«01_k».proof.Proof.MlpMaths
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Mlp

open Cert.KernelIdeal Cert.KernelIdeal.Gen Cert.Mlp

variable (V : (c : Dev nD) → (b : Ref sig .tc) → Buf (Elt Ideal) ((c : Thread nD τ).loc b))

/-! ## The first product and its ReLU -/

/-- The block indices of this call's windows at grid point `t`, in its coordinates. -/
theorem idx0 : ∀ t : Fin cfg0.N, win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

/-- What grid point `t` writes at an element of its block. -/
theorem point0 (c : Dev nD) (t : Fin cfg0.N) (y) :
    k0_pay1 (iblk0 V c 0 t) (iblk0 V c 1 t) y
      = hiddenAct (V c main_arg0) (V c main_arg1) (((cfg0.win 2).blk t).view.emb y) := by
  pointwise [k0_pay1, hiddenAct]
  blk_point [iblk0, idx0 t]

/-- The call's result array. -/
theorem final0 (c : Dev nD) : (dat0 V c).arrAt 2 cfg0.N = hiddenAct (V c main_arg0) (V c main_arg1) := by
  refine (dat0 V c).arrAt_eq_of_covers 2 _ (by decide +kernel) fun t _ y => ?_
  blk_simp
  rw [after0_2]; frame_out
  exact point0 V c t y

/-! ## The product of the squares with the second weight -/

/-- The block indices of this call's windows at grid point `t`, in its coordinates. -/
theorem idx1 : ∀ t : Fin cfg1.N, win1_0.index t = ![(grid1.coords t 0).val, 0]
    ∧ win1_1.index t = ![0, (grid1.coords t 1).val]
    ∧ win1_2.index t = ![(grid1.coords t 0).val, (grid1.coords t 1).val] :=
  (by decide +kernel : ∀ t : Fin grid1.N, _)

/-- What grid point `t` writes at an element of its block. -/
theorem point1 (c : Dev nD) (t : Fin cfg1.N) (y) :
    k1_pay1 (iblk1 V c 0 t) (iblk1 V c 1 t) y
      = mlpOut (V c main_v0) (V c main_arg2) (((cfg1.win 2).blk t).view.emb y) := by
  pointwise [k1_pay1, mlpOut]
  blk_point [iblk1, idx1 t]

/-- The call's result array. -/
theorem final1 (c : Dev nD) : (dat1 V c).arrAt 2 cfg1.N = mlpOut (V c main_v0) (V c main_arg2) := by
  refine (dat1 V c).arrAt_eq_of_covers 2 _ (by decide +kernel) fun t _ y => ?_
  blk_simp
  rw [after1_2]; frame_out
  exact point1 V c t y

/-! ## The gradient at the first product -/

/-- The block indices of this call's windows at grid point `t`, in its coordinates. -/
theorem idx2 : ∀ t : Fin cfg2.N, win2_0.index t = ![(grid2.coords t 0).val, 0]
    ∧ win2_1.index t = ![(grid2.coords t 1).val, 0]
    ∧ win2_2.index t = ![(grid2.coords t 0).val, (grid2.coords t 1).val]
    ∧ win2_3.index t = ![(grid2.coords t 0).val, (grid2.coords t 1).val] :=
  (by decide +kernel : ∀ t : Fin grid2.N, _)

/-- What grid point `t` writes at an element of its block. -/
theorem point2 (c : Dev nD) (t : Fin cfg2.N) (y) :
    k2_pay1 (iblk2 V c 0 t) (iblk2 V c 1 t) (iblk2 V c 2 t) y
      = dHidden (V c main_arg3) (V c main_arg2) (V c main_v0) (((cfg2.win 3).blk t).view.emb y) := by
  pointwise [k2_pay1, dHidden]
  blk_point [iblk2, idx2 t]

/-- The call's result array. -/
theorem final2 (c : Dev nD) : (dat2 V c).arrAt 3 cfg2.N = dHidden (V c main_arg3) (V c main_arg2) (V c main_v0) := by
  refine (dat2 V c).arrAt_eq_of_covers 3 _ (by decide +kernel) fun t _ y => ?_
  blk_simp
  rw [after2_3]; frame_out
  exact point2 V c t y

/-! ## The gradient of the second weight -/

/-- The block indices of this call's windows at grid point `t`, in its coordinates. -/
theorem idx3 : ∀ t : Fin cfg3.N, win3_0.index t = ![0, (grid3.coords t 0).val]
    ∧ win3_1.index t = ![0, (grid3.coords t 1).val]
    ∧ win3_2.index t = ![(grid3.coords t 0).val, (grid3.coords t 1).val] :=
  (by decide +kernel : ∀ t : Fin grid3.N, _)

/-- What grid point `t` writes at an element of its block. -/
theorem point3 (c : Dev nD) (t : Fin cfg3.N) (y) :
    k3_pay1 (iblk3 V c 0 t) (iblk3 V c 1 t) y
      = dW2 (V c main_v0) (V c main_arg3) (((cfg3.win 2).blk t).view.emb y) := by
  pointwise [k3_pay1, dW2]
  blk_point [iblk3, idx3 t]

/-- The call's result array. -/
theorem final3 (c : Dev nD) : (dat3 V c).arrAt 2 cfg3.N = dW2 (V c main_v0) (V c main_arg3) := by
  refine (dat3 V c).arrAt_eq_of_covers 2 _ (by decide +kernel) fun t _ y => ?_
  blk_simp
  rw [after3_2]; frame_out
  exact point3 V c t y

/-! ## The gradient of the input -/

/-- The block indices of this call's windows at grid point `t`, in its coordinates. -/
theorem idx4 : ∀ t : Fin cfg4.N, win4_0.index t = ![(grid4.coords t 0).val, 0]
    ∧ win4_1.index t = ![(grid4.coords t 1).val, 0]
    ∧ win4_2.index t = ![(grid4.coords t 0).val, (grid4.coords t 1).val] :=
  (by decide +kernel : ∀ t : Fin grid4.N, _)

/-- What grid point `t` writes at an element of its block. -/
theorem point4 (c : Dev nD) (t : Fin cfg4.N) (y) :
    k4_pay1 (iblk4 V c 0 t) (iblk4 V c 1 t) y
      = dInput (V c main_v2) (V c main_arg1) (((cfg4.win 2).blk t).view.emb y) := by
  pointwise [k4_pay1, dInput]
  blk_point [iblk4, idx4 t]

/-- The call's result array. -/
theorem final4 (c : Dev nD) : (dat4 V c).arrAt 2 cfg4.N = dInput (V c main_v2) (V c main_arg1) := by
  refine (dat4 V c).arrAt_eq_of_covers 2 _ (by decide +kernel) fun t _ y => ?_
  blk_simp
  rw [after4_2]; frame_out
  exact point4 V c t y

/-! ## The gradient of the first weight, one shard of columns to a point -/

/-- The block indices of this call's windows at grid point `t`, in its coordinates. -/
theorem idx5 : ∀ t : Fin cfg5.N, win5_0.index t = ![0, (grid5.coords t 0).val]
    ∧ win5_1.index t = ![0, (grid5.coords t 1).val]
    ∧ win5_2.index t = ![(grid5.coords t 1).val, (grid5.coords t 0).val, 0] :=
  (by decide +kernel : ∀ t : Fin grid5.N, _)

/-- What grid point `t` writes at an element of its block. -/
theorem point5 (c : Dev nD) (t : Fin cfg5.N) (y) :
    k5_pay1 (iblk5 V c 0 t) (iblk5 V c 1 t) y
      = dW1 (V c main_arg0) (V c main_v2) (((cfg5.win 2).blk t).view.emb y) := by
  pointwise [k5_pay1, dW1]
  blk_point [iblk5, idx5 t]

/-- The call's result array. -/
theorem final5 (c : Dev nD) : (dat5 V c).arrAt 2 cfg5.N = dW1 (V c main_arg0) (V c main_v2) := by
  refine (dat5 V c).arrAt_eq_of_covers 2 _ (by decide +kernel) fun t _ y => ?_
  blk_simp
  rw [after5_2]; frame_out
  exact point5 V c t y

end Cert.KernelIdeal.Mlp
-- ==== Proof.MlpRun.lean ====
/-
  THE KERNEL'S RUN with its four result arrays named: the contents at the last segment boundary, read back through the
  six calls to functions of the arguments.
-/
module

public import proofs.«01_k».proof.Proof.MlpBlocks

@[expose] public section

set_option maxRecDepth 16384

noncomputable section

namespace Cert.KernelIdeal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Mlp

section Run

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every execution ends with every array of the program at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

end Run

variable (m : (ℓ : Loc nD τ sig) → Buf (Elt Ideal) ℓ) (ρ : Dev nD → PrngReg)

/-- The hidden activation of the launch arguments. -/
abbrev act (c : Dev nD) : Mat 4096 4096 :=
  hiddenAct (m ((c : Thread nD τ).loc main_arg0)) (m ((c : Thread nD τ).loc main_arg1))
/-- The gradient at the first product, of the launch arguments. -/
abbrev dAct (c : Dev nD) : Mat 4096 4096 :=
  dHidden (m ((c : Thread nD τ).loc main_arg3)) (m ((c : Thread nD τ).loc main_arg2)) (act m c)

theorem V1_v0 (c : Dev nD) : V1 m ρ c main_v0 = act m c := (W1_arr m ρ c 2).trans (final0 (V0 m ρ) c)
theorem V2_v0 (c : Dev nD) : V2 m ρ c main_v0 = act m c := (W2_of m ρ c main_v0 (by decide +kernel)).trans (V1_v0 m ρ c)
theorem V3_v0 (c : Dev nD) : V3 m ρ c main_v0 = act m c := (W3_of m ρ c main_v0 (by decide +kernel)).trans (V2_v0 m ρ c)

theorem V2_v1 (c : Dev nD) : V2 m ρ c main_v1 = mlpOut (act m c) (m ((c : Thread nD τ).loc main_arg2)) := by
  refine (W2_arr m ρ c 2).trans ((final1 (V1 m ρ) c).trans ?_)
  rw [V1_v0, show V1 m ρ c main_arg2 = _ from W1_args m ρ c main_arg2 (by decide)]

theorem V3_v2 (c : Dev nD) : V3 m ρ c main_v2 = dAct m c := by
  refine (W3_arr m ρ c 3).trans ((final2 (V2 m ρ) c).trans ?_)
  rw [V2_v0, show V2 m ρ c main_arg2 = _ from W2_args m ρ c main_arg2 (by decide),
    show V2 m ρ c main_arg3 = _ from W2_args m ρ c main_arg3 (by decide)]
theorem V4_v2 (c : Dev nD) : V4 m ρ c main_v2 = dAct m c := (W4_of m ρ c main_v2 (by decide +kernel)).trans (V3_v2 m ρ c)
theorem V5_v2 (c : Dev nD) : V5 m ρ c main_v2 = dAct m c := (W5_of m ρ c main_v2 (by decide +kernel)).trans (V4_v2 m ρ c)

theorem V4_v3 (c : Dev nD) : V4 m ρ c main_v3 = dW2 (act m c) (m ((c : Thread nD τ).loc main_arg3)) := by
  refine (W4_arr m ρ c 2).trans ((final3 (V3 m ρ) c).trans ?_)
  rw [V3_v0, show V3 m ρ c main_arg3 = _ from W3_args m ρ c main_arg3 (by decide)]

theorem V5_v4 (c : Dev nD) : V5 m ρ c main_v4 = dInput (dAct m c) (m ((c : Thread nD τ).loc main_arg1)) := by
  refine (W5_arr m ρ c 2).trans ((final4 (V4 m ρ) c).trans ?_)
  rw [V4_v2, show V4 m ρ c main_arg1 = _ from W4_args m ρ c main_arg1 (by decide)]

theorem V6_v5 (c : Dev nD) : V6 m ρ c main_v5 = dW1 (m ((c : Thread nD τ).loc main_arg0)) (dAct m c) := by
  refine (W6_arr m ρ c 2).trans ((final5 (V5 m ρ) c).trans ?_)
  rw [V5_v2, show V5 m ρ c main_arg0 = _ from W5_args m ρ c main_arg0 (by decide)]

/-- The kernel's run: its four results as functions of the arguments, the arguments unchanged. -/
theorem run : θ_run defs (onTc (τ := τ) (main (F := Ideal))) ⟨m, fun _ => 0, ρ⟩ (fun r => ∀ c : Dev nD,
      r.2.mem ((c.tc : Thread nD τ).loc main_v1) = mlpOut (act m c) (m ((c.tc : Thread nD τ).loc main_arg2))
      ∧ r.2.mem ((c.tc : Thread nD τ).loc main_v4) = dInput (dAct m c) (m ((c.tc : Thread nD τ).loc main_arg1))
      ∧ r.2.mem ((c.tc : Thread nD τ).loc main_v5) = dW1 (m ((c.tc : Thread nD τ).loc main_arg0)) (dAct m c)
      ∧ r.2.mem ((c.tc : Thread nD τ).loc main_v3) = dW2 (act m c) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v1 (by decide))).trans ((W6_of m ρ c main_v1 (by decide +kernel)).trans
        ((W5_of m ρ c main_v1 (by decide +kernel)).trans ((W4_of m ρ c main_v1 (by decide +kernel)).trans
          ((W3_of m ρ c main_v1 (by decide +kernel)).trans (V2_v1 m ρ c))))),
     (h c _ (mem_uc main_v4 (by decide))).trans ((W6_of m ρ c main_v4 (by decide +kernel)).trans (V5_v4 m ρ c)),
     (h c _ (mem_uc main_v5 (by decide))).trans (V6_v5 m ρ c),
     (h c _ (mem_uc main_v3 (by decide))).trans ((W6_of m ρ c main_v3 (by decide +kernel)).trans
        ((W5_of m ρ c main_v3 (by decide +kernel)).trans (V4_v3 m ρ c))),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c)⟩)
    (run_all m ρ)

end Cert.KernelIdeal.Mlp

end
-- ==== Proof.MlpReference.lean ====
/-
  THE REFERENCE'S RESULTS read at an index: each composed term of the host program is the layer's mathematics. The
  gradient of the squared ReLU is the one place where the texts differ: the reference selects `a·ct + ct·a` where the
  pre-activation is positive and zero elsewhere, the kernel multiplies `ct` by `2a`.
-/
module

public import proofs.«01_k».proof.Proof.Gen.ReferenceIdeal.Run
public import proofs.«01_k».proof.Proof.MlpMaths
public import Idealize.ShloMosaic.Lib.Pipeline.ValueKit

@[expose] public section

set_option maxRecDepth 16384

noncomputable section

namespace Cert.ReferenceIdeal.Mlp

open Idealize.ShloMosaic Idealize.ShloMosaic.TcCoe Idealize.SL.Sem
open Cert.ReferenceIdeal Cert.ReferenceIdeal.Gen Cert.Mlp

variable (x : FVec Ideal S4096x1024 .bf16) (w1 : FVec Ideal S1024x4096 .bf16) (w2 : FVec Ideal S4096x1024 .bf16)
  (ct : FVec Ideal S4096x1024 .bf16)

/-- The pre-activation's term. -/
abbrev PRE : FVec Ideal S4096x4096 .f32 :=
  Host.dotGeneral dot_S4096x1024_S1024x4096_S4096x4096_1_0_0_1_n_n none (extf .f32 x bitsLt_bf16_f32) (extf .f32 w1 bitsLt_bf16_f32)
/-- The zero array the host compares with. -/
abbrev ZERO : FVec Ideal S4096x4096 .f32 := broadcastInDim S4096x4096 ![] bcast_S_S4096x4096 (constant S_ .f32 0x00000000#32)
/-- The hidden activation's term. -/
abbrev ACT : FVec Ideal S4096x4096 .f32 := maximumf (PRE x w1) ZERO
/-- The cotangent at the squares. -/
abbrev CT2 : FVec Ideal S4096x4096 .f32 :=
  Host.dotGeneral dot_S4096x1024_S4096x1024_S4096x4096_1_1_0_0_n_n none (extf .f32 ct bitsLt_bf16_f32) (extf .f32 w2 bitsLt_bf16_f32)
/-- The gradient at the pre-activation. -/
abbrev DPRE : FVec Ideal S4096x4096 .f32 :=
  select (cmpf .ogt (PRE x w1) ZERO) (addf (mulf (ACT x w1) (CT2 w2 ct)) (mulf (CT2 w2 ct) (ACT x w1))) ZERO

/-- The host's hidden activation. -/
theorem act_eq : ACT x w1 = hiddenAct x w1 := by
  funext i
  pointwise [hiddenAct]

/-- The host's gradient at the pre-activation is the kernel's. -/
theorem dPre_eq : DPRE x w1 w2 ct = dHidden ct w2 (ACT x w1) := by
  funext i
  pointwise [dHidden]
  rw [ofBits_two]
  exact relu_sq_grad _ _

/-- The layer's result, of any hidden activation. -/
theorem out_eq (a : FVec Ideal S4096x4096 .f32) :
    Host.dotGeneral dot_S4096x4096_S4096x1024_S4096x1024_1_0_0_1_n_n none (mulf a a) (extf .f32 w2 bitsLt_bf16_f32)
      = mlpOut a w2 := by
  funext i
  pointwise [mlpOut]

/-- The gradient of the input, of any gradient at the pre-activation. -/
theorem dInput_eq (da : FVec Ideal S4096x4096 .f32) :
    Host.dotGeneral dot_S4096x4096_S1024x4096_S4096x1024_1_1_0_0_n_n none da (extf .f32 w1 bitsLt_bf16_f32)
      = dInput da w1 := by
  funext i
  pointwise [dInput]

/-- The gradient of the first weight, transposed, reshaped to shards of columns and the shards brought in front. -/
theorem dW1_eq (da : FVec Ideal S4096x4096 .f32) :
    transpose S4x1024x1024 [1, 0, 2] (shapeCast S1024x4x1024 (transpose S1024x4096 [1, 0]
        (Host.dotGeneral dot_S4096x4096_S4096x1024_S4096x1024_0_0_1_1_n_n none da (extf .f32 x bitsLt_bf16_f32))
        transposes_S4096x1024_S1024x4096_1_0) shapeCasts_S1024x4096_S1024x4x1024) transposes_S1024x4x1024_S4x1024x1024_1_0_2
      = dW1 x da := by
  funext i
  pointwise [dW1]
  exact Finset.sum_congr rfl fun k _ => mul_comm _ _

/-- The gradient of the second weight. -/
theorem dW2_eq (a : FVec Ideal S4096x4096 .f32) :
    transpose S4096x1024 [1, 0] (Host.dotGeneral dot_S4096x1024_S4096x4096_S1024x4096_0_0_1_1_n_n none
        (extf .f32 ct bitsLt_bf16_f32) (mulf a a)) transposes_S1024x4096_S4096x1024_1_0
      = dW2 a ct := by
  funext i
  pointwise [dW2]
  exact Finset.sum_congr rfl fun k _ => mul_comm _ _

/-- The reference's run: its four results as the layer's mathematics of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9)
          = mlpOut (hiddenAct (m ((c.tc : Thread nD τ).loc main_arg0)) (m ((c.tc : Thread nD τ).loc main_arg1))) (m ((c.tc : Thread nD τ).loc main_arg2))
      ∧ r.2.mem ((c.tc : Thread nD τ).loc main_v21)
          = dInput (dHidden (m ((c.tc : Thread nD τ).loc main_arg3)) (m ((c.tc : Thread nD τ).loc main_arg2)) (hiddenAct (m ((c.tc : Thread nD τ).loc main_arg0)) (m ((c.tc : Thread nD τ).loc main_arg1)))) (m ((c.tc : Thread nD τ).loc main_arg1))
      ∧ r.2.mem ((c.tc : Thread nD τ).loc main_v23)
          = dW1 (m ((c.tc : Thread nD τ).loc main_arg0)) (dHidden (m ((c.tc : Thread nD τ).loc main_arg3)) (m ((c.tc : Thread nD τ).loc main_arg2)) (hiddenAct (m ((c.tc : Thread nD τ).loc main_arg0)) (m ((c.tc : Thread nD τ).loc main_arg1))))
      ∧ r.2.mem ((c.tc : Thread nD τ).loc main_v12)
          = dW2 (hiddenAct (m ((c.tc : Thread nD τ).loc main_arg0)) (m ((c.tc : Thread nD τ).loc main_arg1))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨h9, h21, h23, h12, hargs⟩ := h c
    refine ⟨h9.trans ?_, h21.trans ?_, h23.trans ?_, h12.trans ?_, hargs⟩
    · exact (out_eq _ (ACT _ _)).trans (by rw [act_eq])
    · exact (dInput_eq _ (DPRE _ _ _ _)).trans (by rw [dPre_eq, act_eq])
    · exact (dW1_eq _ (DPRE _ _ _ _)).trans (by rw [dPre_eq, act_eq])
    · exact (dW2_eq _ (ACT _ _)).trans (by rw [act_eq]))
    (Value.run m ρ)

end Cert.ReferenceIdeal.Mlp

end
-- ==== Proof.LinMaths.lean ====
/-
  THE MATHEMATICS OF THE LINEAR MAPS of the two mixers: a product, its two transposed forms, and the order in which the
  attention's input weight keeps its columns. The reference has the columns q | k | v | low-rank gate | output gate
  (3088 in all, cut into four shards of 772); the kernel's padded array has q | k | v | output gate | low-rank gate |
  zeros (3200 in all).
-/
module

public import Idealize.ShloMosaic.Lib.Pointwise
public import Idealize.ShloMosaic.PureOps.Ideal.Laws

@[expose] public section

set_option maxRecDepth 16384

noncomputable section

open Idealize.ShloMosaic

namespace Cert.Linear

/-- An array of extended reals with `a` rows and `b` columns. -/
abbrev Mat (a b : ℕ) : Type := (⟨2, ![a, b]⟩ : Shape).Idx → EReal
/-- An array of `a` such arrays. -/
abbrev Stack (a b c : ℕ) : Type := (⟨3, ![a, b, c]⟩ : Shape).Idx → EReal

/-- `x · w`. -/
def prod {m k n : ℕ} (x : Mat m k) (w : Mat k n) : Mat m n := fun i => ∑ l : Fin k, x (ix2 (i 0) l) * w (ix2 l (i 1))
/-- `y · wᵀ`. -/
def prodT {m k n : ℕ} (y : Mat m k) (w : Mat n k) : Mat m n := fun i => ∑ l : Fin k, y (ix2 (i 0) l) * w (ix2 (i 1) l)
/-- `xᵀ · y`. -/
def tProd {m k n : ℕ} (x : Mat k m) (y : Mat k n) : Mat m n := fun i => ∑ l : Fin k, x (ix2 l (i 0)) * y (ix2 l (i 1))

/-- `zᵀ · y` cut into four shards of 512 columns. -/
def tProdShards (z : Mat 4096 1024) (y : Mat 4096 2048) : Stack 4 1024 512 :=
  fun i => ∑ l : Fin 4096, z (ix2 l (i 1)) * y (ix2 l ⟨(i 0).val * 512 + (i 2).val, by
    have h0 : (i 0).val < 4 := (i 0).isLt
    have h2 : (i 2).val < 512 := (i 2).isLt
    omega⟩)

/-- Where column `k` of the reference's weight lies in the kernel's padded array. -/
def col (k : Fin 3088) : Fin 3200 :=
  if h : k.val < 2048 then ⟨k.val, by omega⟩ else if h' : k.val < 2064 then ⟨k.val + 1024, by omega⟩ else ⟨k.val - 16, by omega⟩

theorem col_val (k : Fin 3088) :
    (col k).val = if k.val < 2048 then k.val else if k.val < 2064 then k.val + 1024 else k.val - 16 := by
  unfold col; split_ifs <;> rfl

theorem col_injective : Function.Injective col := fun a b h => by
  have := congrArg Fin.val h
  rw [col_val, col_val] at this
  apply Fin.ext
  split_ifs at this <;> omega

/-- Which column of the reference's weight lies at column `j` of the padded array, where one does. -/
def colInv (j : Fin 3200) (h : j.val < 3088) : Fin 3088 :=
  if h : j.val < 2048 then ⟨j.val, by omega⟩ else if h' : j.val < 3072 then ⟨j.val + 16, by omega⟩ else ⟨j.val - 1024, by omega⟩

theorem colInv_val (j : Fin 3200) (h : j.val < 3088) :
    (colInv j h).val = if j.val < 2048 then j.val else if j.val < 3072 then j.val + 16 else j.val - 1024 := by
  unfold colInv; split_ifs <;> rfl

theorem col_lt (k : Fin 3088) : (col k).val < 3088 := by rw [col_val]; split_ifs <;> omega
theorem colInv_col (k : Fin 3088) : colInv (col k) (col_lt k) = k := by
  apply Fin.ext; rw [colInv_val, col_val]; split_ifs <;> omega
theorem col_colInv (j : Fin 3200) (h : j.val < 3088) : col (colInv j h) = j := by
  apply Fin.ext; rw [col_val, colInv_val]; split_ifs <;> omega

/-- The reference's weight, its four shards of columns side by side. -/
def wWhole (w : Stack 4 1024 772) : Mat 1024 3088 :=
  fun i => w (ix3 ⟨(i 1).val / 772, by have h : (i 1).val < 3088 := (i 1).isLt; omega⟩ (i 0) ⟨(i 1).val % 772, by omega⟩)

/-- The kernel's padded weight. -/
def wPad (w : Stack 4 1024 772) : Mat 1024 3200 :=
  fun i => if h : (i 1).val < 3088 then wWhole w (ix2 (i 0) (colInv (i 1) h)) else 0

/-- The gradient of the input weight, shard by shard, from the cotangent of the padded array. -/
def dwIn (h : Mat 4096 1024) (y : Mat 4096 3200) : Stack 4 1024 772 :=
  fun i => ∑ l : Fin 4096, h (ix2 l (i 1)) * y (ix2 l (col ⟨(i 0).val * 772 + (i 2).val, by
    have h0 : (i 0).val < 4 := (i 0).isLt
    have h2 : (i 2).val < 772 := (i 2).isLt
    omega⟩))

/-- A sum over the reference's columns is the sum over the padded array's, whose last columns hold zeros. -/
theorem sum_col (f : Fin 3200 → EReal) (w : Stack 4 1024 772) (j : Fin 1024) :
    ∑ k : Fin 3088, f (col k) * wWhole w (ix2 j k) = ∑ k : Fin 3200, f k * wPad w (ix2 j k) := by
  refine Finset.sum_of_injOn col (fun _ _ _ _ h => col_injective h) (fun _ _ => Finset.mem_univ _) (fun k _ hk => ?_) (fun k _ => ?_)
  · have : ¬ k.val < 3088 := fun h => hk ⟨colInv k h, by simp, col_colInv k h⟩
    unfold wPad
    rw [dif_neg (show ¬ ((ix2 j k : (⟨2, ![1024, 3200]⟩ : Shape).Idx) 1).val < 3088 from this), mul_zero]
  · congr 1
    unfold wPad
    rw [dif_pos (show ((ix2 j (col k) : (⟨2, ![1024, 3200]⟩ : Shape).Idx) 1).val < 3088 from col_lt k)]
    exact congrArg (fun t => wWhole w (ix2 j t)) (colInv_col k).symm

end Cert.Linear
-- ==== Proof.LinBlocks.lean ====
/-
  THE NINE LINEAR CALLS, each array after its call as one function of the arrays the call was given: the blocks the
  grid points write back tile the array, and what a point writes at an element is the function there.
-/
module

public import proofs.«01_k».proof.Proof.Gen.Kernel2Ideal.Frame
public import proofs.«01_k».proof.Proof.LinMaths
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Lin

open Cert.Kernel2Ideal Cert.Kernel2Ideal.Gen Cert.Linear

variable (V : (c : Dev nD) → (b : Ref sig .tc) → Buf (Elt Ideal) ((c : Thread nD τ).loc b))

/-! ## gla_in: the attention's input map -/

/-- The block indices of this call's windows at grid point `t`, in its coordinates. -/
theorem idx0 : ∀ t : Fin cfg0.N, win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

/-- What grid point `t` writes at an element of its block. -/
theorem point0 (c : Dev nD) (t : Fin cfg0.N) (y) :
    k0_pay1 (iblk0 V c 0 t) (iblk0 V c 1 t) y = prod (V c main_arg0) (V c main_v13) (((cfg0.win 2).blk t).view.emb y) := by
  pointwise [k0_pay1, prod]
  blk_point [iblk0, idx0 t]

/-- The call's result array. -/
theorem final0 (c : Dev nD) : (dat0 V c).arrAt 2 cfg0.N = prod (V c main_arg0) (V c main_v13) := by
  refine (dat0 V c).arrAt_eq_of_covers 2 _ (by decide +kernel) fun t _ y => ?_
  blk_simp
  rw [after0_2]; frame_out
  exact point0 V c t y

/-! ## gla_in_dx: the gradient of its input -/

/-- The block indices of this call's windows at grid point `t`, in its coordinates. -/
theorem idx1 : ∀ t : Fin cfg1.N, win1_0.index t = ![(grid1.coords t 0).val, 0]
    ∧ win1_1.index t = ![(grid1.coords t 1).val, 0]
    ∧ win1_2.index t = ![(grid1.coords t 0).val, (grid1.coords t 1).val] :=
  (by decide +kernel : ∀ t : Fin grid1.N, _)

/-- What grid point `t` writes at an element of its block. -/
theorem point1 (c : Dev nD) (t : Fin cfg1.N) (y) :
    k1_pay1 (iblk1 V c 0 t) (iblk1 V c 1 t) y = prodT (V c main_arg2) (V c main_v13) (((cfg1.win 2).blk t).view.emb y) := by
  pointwise [k1_pay1, prodT]
  blk_point [iblk1, idx1 t]

/-- The call's result array. -/
theorem final1 (c : Dev nD) : (dat1 V c).arrAt 2 cfg1.N = prodT (V c main_arg2) (V c main_v13) := by
  refine (dat1 V c).arrAt_eq_of_covers 2 _ (by decide +kernel) fun t _ y => ?_
  blk_simp
  rw [after1_2]; frame_out
  exact point1 V c t y

/-! ## gla_in_dw: the gradient of its padded weight -/

/-- The block indices of this call's windows at grid point `t`, in its coordinates. -/
theorem idx2 : ∀ t : Fin cfg2.N, win2_0.index t = ![0, (grid2.coords t 0).val]
    ∧ win2_1.index t = ![0, (grid2.coords t 1).val]
    ∧ win2_2.index t = ![(grid2.coords t 0).val, (grid2.coords t 1).val] :=
  (by decide +kernel : ∀ t : Fin grid2.N, _)

/-- What grid point `t` writes at an element of its block. -/
theorem point2 (c : Dev nD) (t : Fin cfg2.N) (y) :
    k2_pay1 (iblk2 V c 0 t) (iblk2 V c 1 t) y = tProd (V c main_arg0) (V c main_arg2) (((cfg2.win 2).blk t).view.emb y) := by
  pointwise [k2_pay1, tProd]
  blk_point [iblk2, idx2 t]

/-- The call's result array. -/
theorem final2 (c : Dev nD) : (dat2 V c).arrAt 2 cfg2.N = tProd (V c main_arg0) (V c main_arg2) := by
  refine (dat2 V c).arrAt_eq_of_covers 2 _ (by decide +kernel) fun t _ y => ?_
  blk_simp
  rw [after2_2]; frame_out
  exact point2 V c t y

/-! ## gla_out: the attention's output map -/

/-- The block indices of this call's windows at grid point `t`, in its coordinates. -/
theorem idx3 : ∀ t : Fin cfg3.N, win3_0.index t = ![(grid3.coords t 0).val, 0]
    ∧ win3_1.index t = ![0, (grid3.coords t 1).val]
    ∧ win3_2.index t = ![(grid3.coords t 0).val, (grid3.coords t 1).val] :=
  (by decide +kernel : ∀ t : Fin grid3.N, _)

/-- What grid point `t` writes at an element of its block. -/
theorem point3 (c : Dev nD) (t : Fin cfg3.N) (y) :
    k3_pay1 (iblk3 V c 0 t) (iblk3 V c 1 t) y = prod (V c main_arg3) (V c main_arg4) (((cfg3.win 2).blk t).view.emb y) := by
  pointwise [k3_pay1, prod]
  blk_point [iblk3, idx3 t]

/-- The call's result array. -/
theorem final3 (c : Dev nD) : (dat3 V c).arrAt 2 cfg3.N = prod (V c main_arg3) (V c main_arg4) := by
  refine (dat3 V c).arrAt_eq_of_covers 2 _ (by decide +kernel) fun t _ y => ?_
  blk_simp
  rw [after3_2]; frame_out
  exact point3 V c t y

/-! ## gla_out_dx: the gradient of its input -/

/-- The block indices of this call's windows at grid point `t`, in its coordinates. -/
theorem idx4 : ∀ t : Fin cfg4.N, win4_0.index t = ![(grid4.coords t 0).val, 0]
    ∧ win4_1.index t = ![(grid4.coords t 1).val, 0]
    ∧ win4_2.index t = ![(grid4.coords t 0).val, (grid4.coords t 1).val] :=
  (by decide +kernel : ∀ t : Fin grid4.N, _)

/-- What grid point `t` writes at an element of its block. -/
theorem point4 (c : Dev nD) (t : Fin cfg4.N) (y) :
    k4_pay1 (iblk4 V c 0 t) (iblk4 V c 1 t) y = prodT (V c main_arg5) (V c main_arg4) (((cfg4.win 2).blk t).view.emb y) := by
  pointwise [k4_pay1, prodT]
  blk_point [iblk4, idx4 t]

/-- The call's result array. -/
theorem final4 (c : Dev nD) : (dat4 V c).arrAt 2 cfg4.N = prodT (V c main_arg5) (V c main_arg4) := by
  refine (dat4 V c).arrAt_eq_of_covers 2 _ (by decide +kernel) fun t _ y => ?_
  blk_simp
  rw [after4_2]; frame_out
  exact point4 V c t y

/-! ## gla_out_dw: the gradient of its weight -/

/-- The block indices of this call's windows at grid point `t`, in its coordinates. -/
theorem idx5 : ∀ t : Fin cfg5.N, win5_0.index t = ![0, (grid5.coords t 0).val]
    ∧ win5_1.index t = ![0, (grid5.coords t 1).val]
    ∧ win5_2.index t = ![(grid5.coords t 0).val, (grid5.coords t 1).val] :=
  (by decide +kernel : ∀ t : Fin grid5.N, _)

/-- What grid point `t` writes at an element of its block. -/
theorem point5 (c : Dev nD) (t : Fin cfg5.N) (y) :
    k5_pay1 (iblk5 V c 0 t) (iblk5 V c 1 t) y = tProd (V c main_arg3) (V c main_arg5) (((cfg5.win 2).blk t).view.emb y) := by
  pointwise [k5_pay1, tProd]
  blk_point [iblk5, idx5 t]

/-- The call's result array. -/
theorem final5 (c : Dev nD) : (dat5 V c).arrAt 2 cfg5.N = tProd (V c main_arg3) (V c main_arg5) := by
  refine (dat5 V c).arrAt_eq_of_covers 2 _ (by decide +kernel) fun t _ y => ?_
  blk_simp
  rw [after5_2]; frame_out
  exact point5 V c t y

/-! ## glu: the gated linear unit's map -/

/-- The block indices of this call's windows at grid point `t`, in its coordinates. -/
theorem idx6 : ∀ t : Fin cfg6.N, win6_0.index t = ![(grid6.coords t 0).val, 0]
    ∧ win6_1.index t = ![0, (grid6.coords t 1).val]
    ∧ win6_2.index t = ![(grid6.coords t 0).val, (grid6.coords t 1).val] :=
  (by decide +kernel : ∀ t : Fin grid6.N, _)

/-- What grid point `t` writes at an element of its block. -/
theorem point6 (c : Dev nD) (t : Fin cfg6.N) (y) :
    k6_pay1 (iblk6 V c 0 t) (iblk6 V c 1 t) y = prod (V c main_arg6) (V c main_arg7) (((cfg6.win 2).blk t).view.emb y) := by
  pointwise [k6_pay1, prod]
  blk_point [iblk6, idx6 t]

/-- The call's result array. -/
theorem final6 (c : Dev nD) : (dat6 V c).arrAt 2 cfg6.N = prod (V c main_arg6) (V c main_arg7) := by
  refine (dat6 V c).arrAt_eq_of_covers 2 _ (by decide +kernel) fun t _ y => ?_
  blk_simp
  rw [after6_2]; frame_out
  exact point6 V c t y

/-! ## glu_dx: the gradient of its input -/

/-- The block indices of this call's windows at grid point `t`, in its coordinates. -/
theorem idx7 : ∀ t : Fin cfg7.N, win7_0.index t = ![(grid7.coords t 0).val, 0]
    ∧ win7_1.index t = ![(grid7.coords t 1).val, 0]
    ∧ win7_2.index t = ![(grid7.coords t 0).val, (grid7.coords t 1).val] :=
  (by decide +kernel : ∀ t : Fin grid7.N, _)

/-- What grid point `t` writes at an element of its block. -/
theorem point7 (c : Dev nD) (t : Fin cfg7.N) (y) :
    k7_pay1 (iblk7 V c 0 t) (iblk7 V c 1 t) y = prodT (V c main_arg8) (V c main_arg7) (((cfg7.win 2).blk t).view.emb y) := by
  pointwise [k7_pay1, prodT]
  blk_point [iblk7, idx7 t]

/-- The call's result array. -/
theorem final7 (c : Dev nD) : (dat7 V c).arrAt 2 cfg7.N = prodT (V c main_arg8) (V c main_arg7) := by
  refine (dat7 V c).arrAt_eq_of_covers 2 _ (by decide +kernel) fun t _ y => ?_
  blk_simp
  rw [after7_2]; frame_out
  exact point7 V c t y

/-! ## glu_dw: the gradient of its weight, one shard of columns to a point -/

/-- The block indices of this call's windows at grid point `t`, in its coordinates. -/
theorem idx8 : ∀ t : Fin cfg8.N, win8_0.index t = ![0, (grid8.coords t 0).val]
    ∧ win8_1.index t = ![0, (grid8.coords t 1).val]
    ∧ win8_2.index t = ![(grid8.coords t 1).val, (grid8.coords t 0).val, 0] :=
  (by decide +kernel : ∀ t : Fin grid8.N, _)

/-- What grid point `t` writes at an element of its block. -/
theorem point8 (c : Dev nD) (t : Fin cfg8.N) (y) :
    k8_pay1 (iblk8 V c 0 t) (iblk8 V c 1 t) y = tProdShards (V c main_arg6) (V c main_arg8) (((cfg8.win 2).blk t).view.emb y) := by
  pointwise [k8_pay1, tProdShards]
  blk_point [iblk8, idx8 t]

/-- The call's result array. -/
theorem final8 (c : Dev nD) : (dat8 V c).arrAt 2 cfg8.N = tProdShards (V c main_arg6) (V c main_arg8) := by
  refine (dat8 V c).arrAt_eq_of_covers 2 _ (by decide +kernel) fun t _ y => ?_
  blk_simp
  rw [after8_2]; frame_out
  exact point8 V c t y

end Cert.Kernel2Ideal.Lin
-- ==== Proof.LinRun.lean ====
/-
  THE RUN OF THE NINE LINEAR CALLS with its result arrays named: the contents at the last segment boundary, read back
  through the calls, and the host operations that lay out the attention's input weight and its gradient, to functions
  of the arguments.
-/
module

public import proofs.«01_k».proof.Proof.LinBlocks

@[expose] public section

set_option maxRecDepth 16384

noncomputable section

namespace Cert.Kernel2Ideal.Lin

open Idealize.ShloMosaic Idealize.ShloMosaic.TcCoe Idealize.ShloMosaic.Tactic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen Cert.Linear

section Run

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every execution ends with every array of the program at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h _ => h)

end Run

variable (m : (ℓ : Loc nD τ sig) → Buf (Elt Ideal) ℓ) (ρ : Dev nD → PrngReg)

/-- An argument array at launch. -/
abbrev arg (c : Dev nD) (b : Ref sig .tc) : Buf (Elt Ideal) ((c : Thread nD τ).loc b) := m ((c : Thread nD τ).loc b)

/-- The seven pieces of the padded weight side by side. -/
def padPieces (u0 u1 : FVec Ideal S1024x772 .bf16) (u2 : FVec Ideal S1024x504 .bf16) (u3 : FVec Ideal S1024x252 .bf16)
    (u4 : FVec Ideal S1024x772 .bf16) (u5 : FVec Ideal S1024x16 .bf16) (u6 : FVec Ideal S1024x112 .bf16) :
    FVec Ideal S1024x3200 .bf16 :=
  concatenate S1024x3200 1 [⟨S1024x772, u0⟩, ⟨S1024x772, u1⟩, ⟨S1024x504, u2⟩, ⟨S1024x252, u3⟩, ⟨S1024x772, u4⟩,
    ⟨S1024x16, u5⟩, ⟨S1024x112, u6⟩]
    concatenates_S1024x772_S1024x772_S1024x504_S1024x252_S1024x772_S1024x16_S1024x112_S1024x3200_d1

/-- The host's re-laid input weight: the pieces of the four shards, in the padded order, and zeros. -/
theorem pad_eq (w : FVec Ideal S4x1024x772 .bf16) :
    padPieces
      (shapeCast S1024x772 (extractStridedSlice S1x1024x772 ![0, 0, 0] w slices_S4x1024x772_S1x1024x772_0_0_0) shapeCasts_S1x1024x772_S1024x772)
      (shapeCast S1024x772 (extractStridedSlice S1x1024x772 ![1, 0, 0] w slices_S4x1024x772_S1x1024x772_1_0_0) shapeCasts_S1x1024x772_S1024x772)
      (shapeCast S1024x504 (extractStridedSlice S1x1024x504 ![2, 0, 0] w slices_S4x1024x772_S1x1024x504_2_0_0) shapeCasts_S1x1024x504_S1024x504)
      (shapeCast S1024x252 (extractStridedSlice S1x1024x252 ![2, 0, 520] w slices_S4x1024x772_S1x1024x252_2_0_520) shapeCasts_S1x1024x252_S1024x252)
      (shapeCast S1024x772 (extractStridedSlice S1x1024x772 ![3, 0, 0] w slices_S4x1024x772_S1x1024x772_3_0_0) shapeCasts_S1x1024x772_S1024x772)
      (shapeCast S1024x16 (extractStridedSlice S1x1024x16 ![2, 0, 504] w slices_S4x1024x772_S1x1024x16_2_0_504) shapeCasts_S1x1024x16_S1024x16)
      (broadcastInDim S1024x112 ![] bcast_S_S1024x112 (constant S_ .bf16 0x0000#16)) = wPad w := by
  funext i
  have h1 : (i 1).val < 3200 := (i 1).isLt
  have piece : ∀ (a a' : Fin 4) (b b' : Fin 772), a.val = a'.val → b.val = b'.val →
      w (ix3 a (i 0) b) = w (ix3 a' (i 0) b') := by
    intro a a' b b' h h'
    rw [Fin.ext h, Fin.ext h']
  pointwise [padPieces, wPad, wWhole]
  by_cases hlt : (i 1).val < 3088
  · simp only [dif_pos hlt]
    generalize hc : colInv (i 1) hlt = cc
    have hv : cc.val = if (i 1).val < 2048 then (i 1).val else if (i 1).val < 3072 then (i 1).val + 16 else (i 1).val - 1024 := by
      rw [← hc]; exact colInv_val _ _
    have e0 : ((0 : Fin 4) : ℕ) = 0 := rfl
    have e1 : ((1 : Fin 4) : ℕ) = 1 := rfl
    have e2 : ((2 : Fin 4) : ℕ) = 2 := rfl
    have e3 : ((3 : Fin 4) : ℕ) = 3 := rfl
    split_ifs at hv <;> split_ifs <;> first
      | omega
      | (refine piece _ _ _ _ ?_ ?_ <;> dsimp only <;> omega)
  · simp only [dif_neg hlt]
    split_ifs <;> first | rfl | omega

/-- The padded weight's array, where the calls that read it find it. -/
theorem V1_v13 (c : Dev nD) : V1 m ρ c main_v13 = wPad (arg m c main_arg1) := by
  refine Eq.trans ?_ (pad_eq _)
  show StableHlo.after hostOps0 (W0 m ρ c) (Proc.devRef .tc main_v13) = _
  after_results_simp
  show padPieces _ _ _ _ _ _ _ = _
  dsimp only [Matrix.cons_val]
  after_results_simp
  rfl

/-- The third shard of the weight's gradient, from its three pieces. -/
def shardPieces (u0 : FVec Ideal S1024x504 .f32) (u1 : FVec Ideal S1024x16 .f32) (u2 : FVec Ideal S1024x252 .f32) :
    FVec Ideal S1024x772 .f32 :=
  concatenate S1024x772 1 [⟨S1024x504, u0⟩, ⟨S1024x16, u1⟩, ⟨S1024x252, u2⟩]
    concatenates_S1024x504_S1024x16_S1024x252_S1024x772_d1

/-- The four shards stacked. -/
def shards (u0 u1 u2 u3 : FVec Ideal S1x1024x772 .f32) : FVec Ideal S4x1024x772 .f32 :=
  concatenate S4x1024x772 0 [⟨S1x1024x772, u0⟩, ⟨S1x1024x772, u1⟩, ⟨S1x1024x772, u2⟩, ⟨S1x1024x772, u3⟩]
    concatenates_S1x1024x772_S1x1024x772_S1x1024x772_S1x1024x772_S4x1024x772_d0

/-- The columns of the padded gradient put back into the weight's own shards. -/
theorem shards_eq (h : Mat 4096 1024) (y : Mat 4096 3200) (d : FVec Ideal S1024x3200 .f32) (hd : d = tProd h y) :
    shards
      (broadcastInDim S1x1024x772 ![1, 2] bcast_S1024x772_S1x1024x772_1_2 (extractStridedSlice S1024x772 ![0, 0] d slices_S1024x3200_S1024x772_0_0))
      (broadcastInDim S1x1024x772 ![1, 2] bcast_S1024x772_S1x1024x772_1_2 (extractStridedSlice S1024x772 ![0, 772] d slices_S1024x3200_S1024x772_0_772))
      (broadcastInDim S1x1024x772 ![1, 2] bcast_S1024x772_S1x1024x772_1_2 (shardPieces
        (extractStridedSlice S1024x504 ![0, 1544] d slices_S1024x3200_S1024x504_0_1544)
        (extractStridedSlice S1024x16 ![0, 3072] d slices_S1024x3200_S1024x16_0_3072)
        (extractStridedSlice S1024x252 ![0, 2048] d slices_S1024x3200_S1024x252_0_2048)))
      (broadcastInDim S1x1024x772 ![1, 2] bcast_S1024x772_S1x1024x772_1_2 (extractStridedSlice S1024x772 ![0, 2300] d slices_S1024x3200_S1024x772_0_2300))
      = dwIn h y := by
  funext i
  have h0 : (i 0).val < 4 := (i 0).isLt
  have h2 : (i 2).val < 772 := (i 2).isLt
  have read : ∀ (a : Fin 1024) (b : Fin 3200), d (ix2 a b) = ∑ l : Fin 4096, h (ix2 l a) * y (ix2 l b) := by
    intro a b; rw [hd]; rfl
  have piece : ∀ (b b' : Fin 3200), b.val = b'.val → d (ix2 (i 1) b) = ∑ l : Fin 4096, h (ix2 l (i 1)) * y (ix2 l b') := by
    intro b b' e
    obtain rfl := Fin.ext e
    exact read _ _
  pointwise [shards, shardPieces, dwIn]
  generalize hc : col _ = cc
  have hv := congrArg Fin.val hc
  rw [col_val] at hv
  dsimp only at hv
  split_ifs at hv <;> split_ifs <;> first
    | omega
    | (refine piece _ _ ?_; dsimp only; omega)

/-- The gradient of the input weight, where the host leaves it. -/
theorem V5_v28 (c : Dev nD) : V5 m ρ c main_v28 = dwIn (arg m c main_arg0) (arg m c main_arg2) := by
  have hd : V4 m ρ c main_v16 = tProd (arg m c main_arg0) (arg m c main_arg2) := by
    refine (W4_arr m ρ c 2).trans ((final2 (V3 m ρ) c).trans ?_)
    rw [show V3 m ρ c main_arg0 = _ from W3_args m ρ c main_arg0 (by decide),
      show V3 m ρ c main_arg2 = _ from W3_args m ρ c main_arg2 (by decide)]
  refine Eq.trans ?_ (shards_eq _ _ _ hd)
  show StableHlo.after hostOps3 (W4 m ρ c) (Proc.devRef .tc main_v28) = _
  after_results_simp
  show shards _ _ _ _ = _
  dsimp only [Matrix.cons_val]
  after_results_simp
  rfl

theorem V2_v13 (c : Dev nD) : V2 m ρ c main_v13 = wPad (arg m c main_arg1) :=
  (W2_of m ρ c main_v13 (by decide +kernel)).trans (V1_v13 m ρ c)

theorem V2_v14 (c : Dev nD) : V2 m ρ c main_v14 = prod (arg m c main_arg0) (wPad (arg m c main_arg1)) := by
  refine (W2_arr m ρ c 2).trans ((final0 (V1 m ρ) c).trans ?_)
  rw [V1_v13, show V1 m ρ c main_arg0 = _ from W1_args m ρ c main_arg0 (by decide)]

theorem V3_v15 (c : Dev nD) : V3 m ρ c main_v15 = prodT (arg m c main_arg2) (wPad (arg m c main_arg1)) := by
  refine (W3_arr m ρ c 2).trans ((final1 (V2 m ρ) c).trans ?_)
  rw [V2_v13, show V2 m ρ c main_arg2 = _ from W2_args m ρ c main_arg2 (by decide)]

theorem V6_v29 (c : Dev nD) : V6 m ρ c main_v29 = prod (arg m c main_arg3) (arg m c main_arg4) := by
  refine (W6_arr m ρ c 2).trans ((final3 (V5 m ρ) c).trans ?_)
  rw [show V5 m ρ c main_arg3 = _ from W5_args m ρ c main_arg3 (by decide),
    show V5 m ρ c main_arg4 = _ from W5_args m ρ c main_arg4 (by decide)]

theorem V7_v30 (c : Dev nD) : V7 m ρ c main_v30 = prodT (arg m c main_arg5) (arg m c main_arg4) := by
  refine (W7_arr m ρ c 2).trans ((final4 (V6 m ρ) c).trans ?_)
  rw [show V6 m ρ c main_arg5 = _ from W6_args m ρ c main_arg5 (by decide),
    show V6 m ρ c main_arg4 = _ from W6_args m ρ c main_arg4 (by decide)]

theorem V8_v31 (c : Dev nD) : V8 m ρ c main_v31 = tProd (arg m c main_arg3) (arg m c main_arg5) := by
  refine (W8_arr m ρ c 2).trans ((final5 (V7 m ρ) c).trans ?_)
  rw [show V7 m ρ c main_arg3 = _ from W7_args m ρ c main_arg3 (by decide),
    show V7 m ρ c main_arg5 = _ from W7_args m ρ c main_arg5 (by decide)]

theorem V9_v32 (c : Dev nD) : V9 m ρ c main_v32 = prod (arg m c main_arg6) (arg m c main_arg7) := by
  refine (W9_arr m ρ c 2).trans ((final6 (V8 m ρ) c).trans ?_)
  rw [show V8 m ρ c main_arg6 = _ from W8_args m ρ c main_arg6 (by decide),
    show V8 m ρ c main_arg7 = _ from W8_args m ρ c main_arg7 (by decide)]

theorem V10_v33 (c : Dev nD) : V10 m ρ c main_v33 = prodT (arg m c main_arg8) (arg m c main_arg7) := by
  refine (W10_arr m ρ c 2).trans ((final7 (V9 m ρ) c).trans ?_)
  rw [show V9 m ρ c main_arg8 = _ from W9_args m ρ c main_arg8 (by decide),
    show V9 m ρ c main_arg7 = _ from W9_args m ρ c main_arg7 (by decide)]

theorem V11_v34 (c : Dev nD) : V11 m ρ c main_v34 = tProdShards (arg m c main_arg6) (arg m c main_arg8) := by
  refine (W11_arr m ρ c 2).trans ((final8 (V10 m ρ) c).trans ?_)
  rw [show V10 m ρ c main_arg6 = _ from W10_args m ρ c main_arg6 (by decide),
    show V10 m ρ c main_arg8 = _ from W10_args m ρ c main_arg8 (by decide)]

/-- The run of the nine calls: their results as functions of the arguments, the arguments unchanged. -/
theorem run : θ_run defs (onTc (τ := τ) (main (F := Ideal))) ⟨m, fun _ => 0, ρ⟩ (fun r => ∀ c : Dev nD,
      r.2.mem ((c.tc : Thread nD τ).loc main_v14) = prod (arg m c main_arg0) (wPad (arg m c main_arg1))
      ∧ r.2.mem ((c.tc : Thread nD τ).loc main_v15) = prodT (arg m c main_arg2) (wPad (arg m c main_arg1))
      ∧ r.2.mem ((c.tc : Thread nD τ).loc main_v28) = dwIn (arg m c main_arg0) (arg m c main_arg2)
      ∧ r.2.mem ((c.tc : Thread nD τ).loc main_v29) = prod (arg m c main_arg3) (arg m c main_arg4)
      ∧ r.2.mem ((c.tc : Thread nD τ).loc main_v30) = prodT (arg m c main_arg5) (arg m c main_arg4)
      ∧ r.2.mem ((c.tc : Thread nD τ).loc main_v31) = tProd (arg m c main_arg3) (arg m c main_arg5)
      ∧ r.2.mem ((c.tc : Thread nD τ).loc main_v32) = prod (arg m c main_arg6) (arg m c main_arg7)
      ∧ r.2.mem ((c.tc : Thread nD τ).loc main_v33) = prodT (arg m c main_arg8) (arg m c main_arg7)
      ∧ r.2.mem ((c.tc : Thread nD τ).loc main_v34) = tProdShards (arg m c main_arg6) (arg m c main_arg8)
      ∧ r.2.mem ((c.tc : Thread nD τ).loc main_arg0) = arg m c main_arg0
      ∧ r.2.mem ((c.tc : Thread nD τ).loc main_arg1) = arg m c main_arg1
      ∧ r.2.mem ((c.tc : Thread nD τ).loc main_arg2) = arg m c main_arg2
      ∧ r.2.mem ((c.tc : Thread nD τ).loc main_arg3) = arg m c main_arg3
      ∧ r.2.mem ((c.tc : Thread nD τ).loc main_arg4) = arg m c main_arg4
      ∧ r.2.mem ((c.tc : Thread nD τ).loc main_arg5) = arg m c main_arg5
      ∧ r.2.mem ((c.tc : Thread nD τ).loc main_arg6) = arg m c main_arg6
      ∧ r.2.mem ((c.tc : Thread nD τ).loc main_arg7) = arg m c main_arg7
      ∧ r.2.mem ((c.tc : Thread nD τ).loc main_arg8) = arg m c main_arg8) :=
  (θ_run defs _ _).mono (fun r h c =>
    ⟨(h c _ (mem_uc main_v14 (by decide))).trans ((W11_of m ρ c main_v14 (by decide +kernel)).trans ((W10_of m ρ c main_v14 (by decide +kernel)).trans ((W9_of m ρ c main_v14 (by decide +kernel)).trans ((W8_of m ρ c main_v14 (by decide +kernel)).trans ((W7_of m ρ c main_v14 (by decide +kernel)).trans ((W6_of m ρ c main_v14 (by decide +kernel)).trans ((W5_of m ρ c main_v14 (by decide +kernel)).trans ((W4_of m ρ c main_v14 (by decide +kernel)).trans ((W3_of m ρ c main_v14 (by decide +kernel)).trans (V2_v14 m ρ c)))))))))),
     (h c _ (mem_uc main_v15 (by decide))).trans ((W11_of m ρ c main_v15 (by decide +kernel)).trans ((W10_of m ρ c main_v15 (by decide +kernel)).trans ((W9_of m ρ c main_v15 (by decide +kernel)).trans ((W8_of m ρ c main_v15 (by decide +kernel)).trans ((W7_of m ρ c main_v15 (by decide +kernel)).trans ((W6_of m ρ c main_v15 (by decide +kernel)).trans ((W5_of m ρ c main_v15 (by decide +kernel)).trans ((W4_of m ρ c main_v15 (by decide +kernel)).trans (V3_v15 m ρ c))))))))),
     (h c _ (mem_uc main_v28 (by decide))).trans ((W11_of m ρ c main_v28 (by decide +kernel)).trans ((W10_of m ρ c main_v28 (by decide +kernel)).trans ((W9_of m ρ c main_v28 (by decide +kernel)).trans ((W8_of m ρ c main_v28 (by decide +kernel)).trans ((W7_of m ρ c main_v28 (by decide +kernel)).trans ((W6_of m ρ c main_v28 (by decide +kernel)).trans (V5_v28 m ρ c))))))),
     (h c _ (mem_uc main_v29 (by decide))).trans ((W11_of m ρ c main_v29 (by decide +kernel)).trans ((W10_of m ρ c main_v29 (by decide +kernel)).trans ((W9_of m ρ c main_v29 (by decide +kernel)).trans ((W8_of m ρ c main_v29 (by decide +kernel)).trans ((W7_of m ρ c main_v29 (by decide +kernel)).trans (V6_v29 m ρ c)))))),
     (h c _ (mem_uc main_v30 (by decide))).trans ((W11_of m ρ c main_v30 (by decide +kernel)).trans ((W10_of m ρ c main_v30 (by decide +kernel)).trans ((W9_of m ρ c main_v30 (by decide +kernel)).trans ((W8_of m ρ c main_v30 (by decide +kernel)).trans (V7_v30 m ρ c))))),
     (h c _ (mem_uc main_v31 (by decide))).trans ((W11_of m ρ c main_v31 (by decide +kernel)).trans ((W10_of m ρ c main_v31 (by decide +kernel)).trans ((W9_of m ρ c main_v31 (by decide +kernel)).trans (V8_v31 m ρ c)))),
     (h c _ (mem_uc main_v32 (by decide))).trans ((W11_of m ρ c main_v32 (by decide +kernel)).trans ((W10_of m ρ c main_v32 (by decide +kernel)).trans (V9_v32 m ρ c))),
     (h c _ (mem_uc main_v33 (by decide))).trans ((W11_of m ρ c main_v33 (by decide +kernel)).trans (V10_v33 m ρ c)),
     (h c _ (mem_uc main_v34 (by decide))).trans (V11_v34 m ρ c),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c)⟩)
    (run_all m ρ)

end Cert.Kernel2Ideal.Lin

end
-- ==== Proof.LinReference.lean ====
/-
  THE REFERENCE'S LINEAR MAPS read at an index: each composed term of the host program is one of the products. Where the
  attention's input weight is concerned, the reference multiplies by the whole weight and splits the columns, and its
  gradients put the pieces of the cotangent back in the weight's order.
-/
module

public import proofs.«01_k».proof.Proof.Gen.Reference2Ideal.Run
public import proofs.«01_k».proof.Proof.LinMaths
public import Idealize.ShloMosaic.Lib.Pipeline.ValueKit

@[expose] public section

set_option maxRecDepth 16384

noncomputable section

namespace Cert.Reference2Ideal.Lin

open Idealize.ShloMosaic Idealize.ShloMosaic.TcCoe Idealize.SL.Sem
open Cert.Reference2Ideal Cert.Reference2Ideal.Gen Cert.Linear

/-- The term that puts the four shards of the weight side by side. -/
abbrev WHOLE (w : FVec Ideal S4x1024x772 .bf16) : FVec Ideal S1024x3088 .f32 :=
  shapeCast _ (transpose S1024x4x772 [1, 0, 2] (extf .f32 w bitsLt_bf16_f32) transposes_S4x1024x772_S1024x4x772_1_0_2)
    shapeCasts_S1024x4x772_S1024x3088

/-- The term that splits the product's columns and puts the pieces in the padded order, of any product. -/
abbrev SPLIT (d : FVec Ideal S4096x3088 .f32) : FVec Ideal S4096x3200 .f32 :=
  concatenate S4096x3200 1 [⟨S4096x512, extractStridedSlice S4096x512 ![0, 0] d slices_S4096x3088_S4096x512_0_0⟩,
    ⟨S4096x512, extractStridedSlice S4096x512 ![0, 512] d slices_S4096x3088_S4096x512_0_512⟩,
    ⟨S4096x1024, extractStridedSlice S4096x1024 ![0, 1024] d slices_S4096x3088_S4096x1024_0_1024⟩,
    ⟨S4096x1024, extractStridedSlice S4096x1024 ![0, 2064] d slices_S4096x3088_S4096x1024_0_2064⟩,
    ⟨S4096x16, extractStridedSlice S4096x16 ![0, 2048] d slices_S4096x3088_S4096x16_0_2048⟩,
    ⟨S4096x112, broadcastInDim S4096x112 ![] bcast_S_S4096x112 (constant S_ .f32 0x00000000#32)⟩]
    concatenates_S4096x512_S4096x512_S4096x1024_S4096x1024_S4096x16_S4096x112_S4096x3200_d1

/-- The term that puts the pieces of a padded cotangent back in the weight's order. -/
abbrev UNSPLIT (y : FVec Ideal S4096x3200 .bf16) : FVec Ideal S4096x3088 .f32 :=
  concatenate S4096x3088 1 [⟨S4096x512, extractStridedSlice S4096x512 ![0, 0] (extf .f32 y bitsLt_bf16_f32) slices_S4096x3200_S4096x512_0_0⟩,
    ⟨S4096x512, extractStridedSlice S4096x512 ![0, 512] (extf .f32 y bitsLt_bf16_f32) slices_S4096x3200_S4096x512_0_512⟩,
    ⟨S4096x1024, extractStridedSlice S4096x1024 ![0, 1024] (extf .f32 y bitsLt_bf16_f32) slices_S4096x3200_S4096x1024_0_1024⟩,
    ⟨S4096x16, extractStridedSlice S4096x16 ![0, 3072] (extf .f32 y bitsLt_bf16_f32) slices_S4096x3200_S4096x16_0_3072⟩,
    ⟨S4096x1024, extractStridedSlice S4096x1024 ![0, 2048] (extf .f32 y bitsLt_bf16_f32) slices_S4096x3200_S4096x1024_0_2048⟩]
    concatenates_S4096x512_S4096x512_S4096x1024_S4096x16_S4096x1024_S4096x3088_d1

theorem whole_eq (w : FVec Ideal S4x1024x772 .bf16) : WHOLE w = wWhole w := by
  funext i
  pointwise [wWhole]

theorem split_eq (d : FVec Ideal S4096x3088 .f32) :
    SPLIT d = fun i => if h : (i 1).val < 3088 then d (ix2 (i 0) (colInv (i 1) h)) else 0 := by
  funext i
  have h1 : (i 1).val < 3200 := (i 1).isLt
  have piece : ∀ (b b' : Fin 3088), b.val = b'.val → d (ix2 (i 0) b) = d (ix2 (i 0) b') := by
    intro b b' e
    obtain rfl := Fin.ext e
    rfl
  pointwise []
  by_cases hlt : (i 1).val < 3088
  · simp only [dif_pos hlt]
    generalize hc : colInv (i 1) hlt = cc
    have hv : cc.val = if (i 1).val < 2048 then (i 1).val else if (i 1).val < 3072 then (i 1).val + 16 else (i 1).val - 1024 := by
      rw [← hc]; exact colInv_val _ _
    split_ifs at hv <;> split_ifs <;> first
      | omega
      | (refine piece _ _ ?_; dsimp only; omega)
  · simp only [dif_neg hlt]
    split_ifs <;> first | rfl | omega

theorem unsplit_eq (y : FVec Ideal S4096x3200 .bf16) : UNSPLIT y = fun i => y (ix2 (i 0) (col (i 1))) := by
  funext i
  have h1 : (i 1).val < 3088 := (i 1).isLt
  have piece : ∀ (b b' : Fin 3200), b.val = b'.val → y (ix2 (i 0) b) = y (ix2 (i 0) b') := by
    intro b b' e
    obtain rfl := Fin.ext e
    rfl
  pointwise []
  generalize hc : col (i 1) = cc
  have hv : cc.val = if (i 1).val < 2048 then (i 1).val else if (i 1).val < 2064 then (i 1).val + 1024 else (i 1).val - 16 := by
    rw [← hc]; exact col_val _
  split_ifs at hv <;> split_ifs <;> first
    | omega
    | (refine piece _ _ ?_; dsimp only; omega)

/-- The split product is the product with the padded weight. -/
theorem proj_eq (h : FVec Ideal S4096x1024 .bf16) (w : FVec Ideal S4x1024x772 .bf16) :
    SPLIT (Host.dotGeneral dot_S4096x1024_S1024x3088_S4096x3088_1_0_0_1_n_n none (extf .f32 h bitsLt_bf16_f32) (WHOLE w))
      = prod h (wPad w) := by
  rw [split_eq, whole_eq]
  generalize hw : wWhole w = u
  funext i
  pointwise [prod, wPad]
  rw [hw]
  by_cases hlt : (i 1).val < 3088
  · rw [dif_pos hlt]
    exact Finset.sum_congr rfl fun k _ => by rw [dif_pos hlt]
  · rw [dif_neg hlt]
    exact (Finset.sum_eq_zero fun k _ => by rw [dif_neg hlt, mul_zero]).symm

/-- The gradient of the input, of the whole weight: the padding adds nothing. -/
theorem dh_eq (y : FVec Ideal S4096x3200 .bf16) (w : FVec Ideal S4x1024x772 .bf16) :
    Host.dotGeneral dot_S4096x3088_S1024x3088_S4096x1024_1_1_0_0_n_n none (UNSPLIT y) (WHOLE w) = prodT y (wPad w) := by
  rw [unsplit_eq, whole_eq]
  funext i
  refine Eq.trans ?_ (sum_col (fun k => y (ix2 (i 0) k)) w (i 1))
  generalize wWhole w = u
  pointwise []

/-- The gradient of the weight, cut into its shards. -/
theorem dw_eq (h : FVec Ideal S4096x1024 .bf16) (y : FVec Ideal S4096x3200 .bf16) :
    transpose S4x1024x772 [1, 0, 2] (shapeCast S1024x4x772 (transpose S1024x3088 [1, 0]
        (Host.dotGeneral dot_S4096x3088_S4096x1024_S3088x1024_0_0_1_1_n_n none (UNSPLIT y) (extf .f32 h bitsLt_bf16_f32))
        transposes_S3088x1024_S1024x3088_1_0) shapeCasts_S1024x3088_S1024x4x772) transposes_S1024x4x772_S4x1024x772_1_0_2
      = dwIn h y := by
  rw [unsplit_eq]
  funext i
  pointwise [dwIn]
  exact Finset.sum_congr rfl fun k _ => mul_comm _ _

section Square

variable (x y : FVec Ideal S4096x1024 .bf16) (w : FVec Ideal S1024x1024 .bf16)

theorem out_eq : Host.dotGeneral dot_S4096x1024_S1024x1024_S4096x1024_1_0_0_1_n_n none (extf .f32 x bitsLt_bf16_f32)
    (extf .f32 w bitsLt_bf16_f32) = prod x w := by
  funext i
  pointwise [prod]

theorem outDx_eq : Host.dotGeneral dot_S4096x1024_S1024x1024_S4096x1024_1_1_0_0_n_n none (extf .f32 y bitsLt_bf16_f32)
    (extf .f32 w bitsLt_bf16_f32) = prodT y w := by
  funext i
  pointwise [prodT]

theorem outDw_eq : transpose S1024x1024 [1, 0] (Host.dotGeneral dot_S4096x1024_S4096x1024_S1024x1024_0_0_1_1_n_n none
    (extf .f32 y bitsLt_bf16_f32) (extf .f32 x bitsLt_bf16_f32)) transposes_S1024x1024_S1024x1024_1_0 = tProd x y := by
  funext i
  pointwise [tProd]
  exact Finset.sum_congr rfl fun k _ => mul_comm _ _

end Square

section Wide

variable (z : FVec Ideal S4096x1024 .bf16) (y : FVec Ideal S4096x2048 .bf16) (w : FVec Ideal S1024x2048 .bf16)

theorem glu_eq : Host.dotGeneral dot_S4096x1024_S1024x2048_S4096x2048_1_0_0_1_n_n none (extf .f32 z bitsLt_bf16_f32)
    (extf .f32 w bitsLt_bf16_f32) = prod z w := by
  funext i
  pointwise [prod]

theorem gluDx_eq : Host.dotGeneral dot_S4096x2048_S1024x2048_S4096x1024_1_1_0_0_n_n none (extf .f32 y bitsLt_bf16_f32)
    (extf .f32 w bitsLt_bf16_f32) = prodT y w := by
  funext i
  pointwise [prodT]

theorem gluDw_eq : transpose S4x1024x512 [1, 0, 2] (shapeCast S1024x4x512 (transpose S1024x2048 [1, 0]
    (Host.dotGeneral dot_S4096x2048_S4096x1024_S2048x1024_0_0_1_1_n_n none (extf .f32 y bitsLt_bf16_f32) (extf .f32 z bitsLt_bf16_f32))
    transposes_S2048x1024_S1024x2048_1_0) shapeCasts_S1024x2048_S1024x4x512) transposes_S1024x4x512_S4x1024x512_1_0_2
      = tProdShards z y := by
  funext i
  pointwise [tProdShards]
  exact Finset.sum_congr rfl fun k _ => mul_comm _ _

end Wide

/-- The reference's run: its nine results as the products of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v11)
          = prod (m ((c.tc : Thread nD τ).loc main_arg0)) (wPad (m ((c.tc : Thread nD τ).loc main_arg1)))
      ∧ r.2.mem ((c.tc : Thread nD τ).loc main_v23)
          = prodT (m ((c.tc : Thread nD τ).loc main_arg2)) (wPad (m ((c.tc : Thread nD τ).loc main_arg1)))
      ∧ r.2.mem ((c.tc : Thread nD τ).loc main_v39)
          = dwIn (m ((c.tc : Thread nD τ).loc main_arg0)) (m ((c.tc : Thread nD τ).loc main_arg2))
      ∧ r.2.mem ((c.tc : Thread nD τ).loc main_v26)
          = prod (m ((c.tc : Thread nD τ).loc main_arg3)) (m ((c.tc : Thread nD τ).loc main_arg4))
      ∧ r.2.mem ((c.tc : Thread nD τ).loc main_v30)
          = prodT (m ((c.tc : Thread nD τ).loc main_arg5)) (m ((c.tc : Thread nD τ).loc main_arg4))
      ∧ r.2.mem ((c.tc : Thread nD τ).loc main_v29)
          = tProd (m ((c.tc : Thread nD τ).loc main_arg3)) (m ((c.tc : Thread nD τ).loc main_arg5))
      ∧ r.2.mem ((c.tc : Thread nD τ).loc main_v33)
          = prod (m ((c.tc : Thread nD τ).loc main_arg6)) (m ((c.tc : Thread nD τ).loc main_arg7))
      ∧ r.2.mem ((c.tc : Thread nD τ).loc main_v37)
          = prodT (m ((c.tc : Thread nD τ).loc main_arg8)) (m ((c.tc : Thread nD τ).loc main_arg7))
      ∧ r.2.mem ((c.tc : Thread nD τ).loc main_v41)
          = tProdShards (m ((c.tc : Thread nD τ).loc main_arg6)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => by
    obtain ⟨h11, h23, h39, h26, h30, h29, h33, h37, h41, hargs⟩ := h c
    exact ⟨h11.trans (proj_eq _ _), h23.trans (dh_eq _ _), h39.trans (dw_eq _ _), h26.trans (out_eq _ _),
      h30.trans (outDx_eq _ _), h29.trans (outDw_eq _ _), h33.trans (glu_eq _ _), h37.trans (gluDx_eq _ _),
      h41.trans (gluDw_eq _ _), hargs⟩)
    (Value.run m ρ)

end Cert.Reference2Ideal.Lin

end
-- ==== Proof.GlaMaths.lean ====
/-
  THE GATED LINEAR ATTENTION'S NUMBERS. On finite queries, keys, values and gates everything up to a head's output
  before its norm is a real number: the running sums of the gates' logarithms, what a chunk adds to the state, the
  state before each chunk and the output against the state after the chunk. The state is a recursion over the
  chunks; `St_closed` is its closed form, and `out_split` splits the output into the part inside the chunk and the
  part from the chunks before it.
-/
module

public import Idealize.ShloMosaic.PureOps
public import Idealize.ShloMosaic.Lib.IdealHost
public import Idealize.ShloMosaic.Lib.Pointwise
public import Mathlib.Algebra.BigOperators.Intervals

@[expose] public section

noncomputable section

open Idealize.ShloMosaic

namespace Cert.Gla

/-! ## Real numbers among the extended reals -/

/-- A finite sum of real numbers, taken among the extended reals. -/
theorem coe_sum {ι : Type} (s : Finset ι) (f : ι → ℝ) : ∑ i ∈ s, ((f i : ℝ) : EReal) = ((∑ i ∈ s, f i : ℝ) : EReal) := by
  classical
  refine Finset.induction_on s (by simp) fun a s ha h => ?_
  rw [Finset.sum_insert ha, Finset.sum_insert ha, h, EReal.coe_add]

/-- The exponential of a real number. -/
theorem exp_coe (r : ℝ) : Ideal.exp (r : EReal) = ((Real.exp r : ℝ) : EReal) := rfl

/-- The query's scale, the f32 number nearest 1/√128, as a real number. -/
def scale : ℝ := (Ideal.ofBits .f32 0x3DB504F3#32).toReal

/-- The scale is real. -/
theorem scale_coe : Ideal.ofBits .f32 0x3DB504F3#32 = (scale : EReal) := by
  refine (EReal.coe_toReal ?_ ?_).symm <;> simp [Ideal.ofBits, Ideal.ieee, -EReal.coe_mul]

/-- The logarithm of a gate at a real input: log σ(g) / 16. -/
def gate (g : ℝ) : ℝ := (min g 0 - Real.log (1 + Real.exp (-|g|))) / 16

/-- The absolute value of a real number. -/
theorem absf_coe (g : ℝ) : FloatOps.absf (F := Ideal) (φ := .f32) (g : EReal) = ((|g| : ℝ) : EReal) := by
  show max (g : EReal) (-(g : EReal)) = _
  exact (EReal.coe_strictMono.monotone.map_max (a := g) (b := -g)).symm

/-- The logarithm of one plus an exponential. -/
theorem log_one_add_exp (r : ℝ) : Ideal.log (1 + Ideal.exp (r : EReal)) = ((Real.log (1 + Real.exp r) : ℝ) : EReal) := by
  rw [exp_coe, ← EReal.coe_one, ← EReal.coe_add]
  show (if 1 + Real.exp r ≤ 0 then ⊥ else ((Real.log (1 + Real.exp r) : ℝ) : EReal)) = _
  rw [if_neg (by have := Real.exp_pos r; linarith)]

/-- The f32 constant 1/16. -/
theorem sixteenth : Ideal.ofBits .f32 0x3D800000#32 = (((1 / 16 : ℝ)) : EReal) := by
  simp [Ideal.ofBits, Ideal.ieee, -EReal.coe_mul]; norm_num

/-! ## The numbers -/

section
variable (P L : ℕ → ℕ → ℝ)

/-- The running sum of the gates' logarithms over chunk `n` up to its row `s`. -/
def gc (n s k : ℕ) : ℝ := ∑ t ∈ Finset.range (s + 1), L (64 * n + t) k

/-- A key of chunk `n` decayed to the chunk's end. -/
def kd (n s k : ℕ) : ℝ := P (64 * n + s) (512 + k) * Real.exp (gc L n 63 k - gc L n s k)

/-- What chunk `n` adds to the state. -/
def kv (n k e : ℕ) : ℝ := ∑ s : Fin 64, kd P L n s.val k * P (64 * n + s.val) (1024 + 256 * (k / 128) + e)

/-- The state before chunk `n`. -/
def St : ℕ → ℕ → ℕ → ℝ
  | 0, _, _ => 0
  | n + 1, k, e => Real.exp (gc L n 63 k) * St n k e + kv P L n k e

/-- A head's output of row `s` of chunk `n`, before the norm. -/
def out (n s h e : ℕ) : ℝ := ∑ d : Fin 128, P (64 * n + s) (128 * h + d.val) * scale * St P L (n + 1) (128 * h + d.val) e

/-- The state as the sum of what the earlier chunks add, each decayed over the chunks in between. -/
theorem St_closed (n k e : ℕ) :
    St P L n k e = ∑ m ∈ Finset.range n, kv P L m k e * Real.exp (∑ j ∈ Finset.Ico (m + 1) n, gc L j 63 k) := by
  induction n with
  | zero => simp [St]
  | succ n ih =>
    rw [St, ih, Finset.sum_range_succ, Finset.mul_sum]
    refine congrArg₂ (· + ·) (Finset.sum_congr rfl fun m hm => ?_) (by simp)
    rw [Finset.sum_Ico_succ_top (by have := Finset.mem_range.mp hm; omega), Real.exp_add]
    ring

/-- The closed form over all the chunks, those that are not earlier weighing nothing. -/
theorem St_masked (n : Fin 64) (k e : ℕ) :
    St P L n.val k e = ∑ m : Fin 64, kv P L m.val k e * (if m < n then
      Real.exp (∑ j : Fin 64, (if m < j ∧ j < n then 1 else 0) * gc L j.val 63 k) else 0) := by
  have hn := n.isLt
  rw [St_closed]
  have h1 : ∀ m : Fin 64, ∑ j : Fin 64, (if m < j ∧ j < n then (1 : ℝ) else 0) * gc L j.val 63 k
      = ∑ j ∈ Finset.Ico (m.val + 1) n.val, gc L j 63 k := fun m => by
    rw [show Finset.Ico (m.val + 1) n.val = (Finset.range 64).filter (fun j => m.val < j ∧ j < n.val) from by
      ext j; simp only [Finset.mem_Ico, Finset.mem_filter, Finset.mem_range]; omega, Finset.sum_filter,
      Finset.sum_range (fun j => if m.val < j ∧ j < n.val then gc L j 63 k else 0)]
    refine Finset.sum_congr rfl fun j _ => ?_
    simp only [Fin.lt_def]
    split <;> simp
  rw [show Finset.range n.val = (Finset.range 64).filter (fun m => m < n.val) from by
      ext j; simp only [Finset.mem_filter, Finset.mem_range]; omega, Finset.sum_filter,
      Finset.sum_range (fun m => if m < n.val then kv P L m k e * Real.exp (∑ j ∈ Finset.Ico (m + 1) n.val, gc L j 63 k) else 0)]
  refine Finset.sum_congr rfl fun m _ => ?_
  rw [h1]
  simp only [Fin.lt_def]
  split <;> simp

/-- The output inside the chunk plus the output from the state before it. -/
theorem out_split (n s h e : ℕ) (hh : h < 4) :
    (∑ t : Fin 64, (∑ d : Fin 128, P (64 * n + s) (128 * h + d.val) * scale * kd P L n t.val (128 * h + d.val)) * P (64 * n + t.val) (1024 + 256 * h + e))
      + ∑ d : Fin 128, P (64 * n + s) (128 * h + d.val) * scale * Real.exp (gc L n 63 (128 * h + d.val)) * St P L n (128 * h + d.val) e
      = out P L n s h e := by
  have e1 : ∀ d : Fin 128, (128 * h + d.val) / 128 = h := fun d => by have := d.isLt; omega
  simp only [out, St, kv, e1, mul_add, Finset.sum_add_distrib, Finset.mul_sum, Finset.sum_mul]
  rw [Finset.sum_comm, add_comm]
  refine congrArg₂ (· + ·) (Finset.sum_congr rfl fun d _ => by ring) (Finset.sum_congr rfl fun d _ => Finset.sum_congr rfl fun t _ => by ring)

/-- A running sum over a block of four chunks, as a masked sum over the block's rows. -/
theorem gc_masked (b : ℕ) (r : Fin 256) (k : ℕ) :
    ∑ j : Fin 256, (if j.val / 64 = r.val / 64 ∧ j.val ≤ r.val then (1 : ℝ) else 0) * L (256 * b + j.val) k
      = gc L (4 * b + r.val / 64) (r.val % 64) k := by
  have hr := r.isLt
  have h1 : ∑ j : Fin 256, (if j.val / 64 = r.val / 64 ∧ j.val ≤ r.val then (1 : ℝ) else 0) * L (256 * b + j.val) k
      = ∑ j ∈ Finset.Ico (64 * (r.val / 64)) (r.val + 1), L (256 * b + j) k := by
    rw [show Finset.Ico (64 * (r.val / 64)) (r.val + 1) = (Finset.range 256).filter (fun j => j / 64 = r.val / 64 ∧ j ≤ r.val) from by
      ext j; simp only [Finset.mem_Ico, Finset.mem_filter, Finset.mem_range]; omega, Finset.sum_filter,
      Finset.sum_range (fun j => if j / 64 = r.val / 64 ∧ j ≤ r.val then L (256 * b + j) k else 0)]
    refine Finset.sum_congr rfl fun j _ => ?_
    split <;> simp
  rw [h1, Finset.sum_Ico_eq_sum_range, gc]
  refine Finset.sum_congr (by congr 1; omega) fun t _ => ?_
  congr 1
  omega

end

/-! ## The two results -/

/-- An array of rows. -/
abbrev Rows (n w : ℕ) (φ : FTy) : Type := FVec Ideal ⟨2, ![n, w]⟩ φ

/-- The normed and gated outputs. -/
def ogs (P L : ℕ → ℕ → ℝ) (proj : Rows 4096 3200 .f32) (gn : Rows 1 1024 .f32) (y0 : Fin 4096) (y1 : Fin 1024) : EReal :=
  (((out P L (y0.val / 64) (y0.val % 64) (y1.val / 256) (y1.val % 256) : ℝ) : EReal)
      * Ideal.rsqrt (Ideal.div (∑ e : Fin 256, ((out P L (y0.val / 64) (y0.val % 64) (y1.val / 256) e.val : ℝ) : EReal)
          * ((out P L (y0.val / 64) (y0.val % 64) (y1.val / 256) e.val : ℝ) : EReal)) (Ideal.ofBits .f32 0x43800000#32) + Ideal.ofBits .f32 0x358637BD#32))
    * gn (ix2 0 y1) * (proj (ix2 y0 ⟨2048 + y1.val, by omega⟩) * Ideal.logistic (proj (ix2 y0 ⟨2048 + y1.val, by omega⟩)))

/-- What the claim takes for granted of the arguments: real queries, keys and values, and real inputs to the gates. -/
structure Real4 (P Gt : ℕ → ℕ → ℝ) (proj : Rows 4096 3200 .f32) (wg2 : Rows 16 512 .f32) (bg : Rows 1 512 .f32) : Prop where
  qkv : ∀ (i : Fin 4096) (j : Fin 3200), j.val < 2048 → proj (ix2 i j) = (P i.val j.val : EReal)
  gates : ∀ (i : Fin 4096) (k : Fin 512), (∑ c : Fin 16, proj (ix2 i ⟨3072 + c.val, by omega⟩) * wg2 (ix2 c k)) + bg (ix2 0 k) = (Gt i.val k.val : EReal)

end Cert.Gla

end
-- ==== Proof.GlaFinite.lean ====
module

public import proofs.«01_k».proof.Pre_finite
public import proofs.«01_k».proof.Proof.GlaMaths
public import Idealize.ShloMosaic.Lib.Pointwise
public import Idealize.ShloMosaic.Lib.ReduceAll

/-!
# What the precondition of the gated linear attention says

`finite` is a conjunction of four tests that every entry of an array is, in absolute value, below infinity. Over the
extended reals such an entry is a real number, so the queries, the keys, the values and what goes into the gates are real.
-/

@[expose] public section

noncomputable section

open Idealize Idealize.ShloMosaic Cert.Gla

namespace Cert.Pre_finite.Gla

/-- The relations between shapes that the precondition's operations take. -/
theorem facts : Cert.Pre_finite.Facts where
  slices_S4096x3200_S4096x2048_0_0 := by decide
  bcast_S_S4096x2048 := by decide
  reducesTo_S4096x2048_S_d0_1 := by decide
  h_S_ := by decide
  slices_S4096x3200_S4096x16_0_3072 := by decide
  bcast_S_S4096x16 := by decide
  reducesTo_S4096x16_S_d0_1 := by decide
  bcast_S_S16x512 := by decide
  reducesTo_S16x512_S_d0_1 := by decide
  bcast_S_S1x512 := by decide
  reducesTo_S1x512_S_d0_1 := by decide

/-- An extended real that is below infinity in absolute value is a real number. -/
theorem real_of_lt (x : EReal) (h : FloatOps.cmpf (F := Ideal) (φ := .f32) .olt (FloatOps.absf (F := Ideal) (φ := .f32) x) (FloatOps.ofBits (F := Ideal) .f32 0x7F800000#32) = 1#1) :
    x = (x.toReal : EReal) := by
  have inf : Ideal.ofBits .f32 0x7F800000#32 = ⊤ := by simp [Ideal.ofBits, Ideal.ieee]
  have h' : BitVec.ofBool (decide (max x (-x) < Ideal.ofBits .f32 0x7F800000#32)) = 1#1 := h
  rw [inf] at h'
  have hlt : max x (-x) < ⊤ := by
    by_contra hn
    rw [decide_eq_false hn] at h'
    exact absurd h' (by decide)
  refine (EReal.coe_toReal (fun e => ?_) (fun e => ?_)).symm <;> subst e <;> simp at hlt

variable [Cert.Pre_finite.Facts]

/-- The four arrays of the precondition hold real numbers. -/
theorem reals (proj : FVec Ideal S4096x3200 .f32) (wg2 : FVec Ideal S16x512 .f32) (bg : FVec Ideal S1x512 .f32) (gn : FVec Ideal S1x1024 .f32)
    (h : fn (F := Ideal) proj wg2 bg gn = fun _ => 1#1) :
    (∀ i : S4096x2048.Idx, extractStridedSlice S4096x2048 ![0, 0] proj Facts.slices_S4096x3200_S4096x2048_0_0 i = (((extractStridedSlice S4096x2048 ![0, 0] proj Facts.slices_S4096x3200_S4096x2048_0_0 i : EReal)).toReal : EReal))
    ∧ (∀ i : S4096x16.Idx, extractStridedSlice S4096x16 ![0, 3072] proj Facts.slices_S4096x3200_S4096x16_0_3072 i = ((extractStridedSlice S4096x16 ![0, 3072] proj Facts.slices_S4096x3200_S4096x16_0_3072 i : EReal).toReal : EReal))
    ∧ (∀ i, wg2 i = ((wg2 i : EReal).toReal : EReal)) ∧ ∀ i, bg i = ((bg i : EReal).toReal : EReal) := by
  have e := congrFun h (fun d => d.elim0)
  dsimp only [fn, fn_part1] at e
  obtain ⟨e, e3⟩ := IntOp.andi_eq_one.1 e
  obtain ⟨e, e2⟩ := IntOp.andi_eq_one.1 e
  obtain ⟨e0, e1⟩ := IntOp.andi_eq_one.1 e
  haveI : Subsingleton S_.Idx := ⟨fun a b => funext fun d => d.elim0⟩
  exact ⟨fun i => real_of_lt _ (Host.reduce_andi_all _ _ _ _ _ e0 i), fun i => real_of_lt _ (Host.reduce_andi_all _ _ _ _ _ e1 i),
    fun i => real_of_lt _ (Host.reduce_andi_all _ _ _ _ _ e2 i), fun i => real_of_lt _ (Host.reduce_andi_all _ _ _ _ _ e3 i)⟩

/-- A real number read from an array at two natural numbers, zero outside. -/
def at2 {R C : ℕ} (x : Fin R → Fin C → EReal) (i j : ℕ) : ℝ := if h : i < R ∧ j < C then (x ⟨i, h.1⟩ ⟨j, h.2⟩).toReal else 0

/-- Within the array it is the entry. -/
theorem at2_coe {R C : ℕ} (x : Fin R → Fin C → EReal) (i : Fin R) (j : Fin C) (h : x i j = ((x i j).toReal : EReal)) :
    x i j = (at2 x i.val j.val : EReal) := by
  rw [at2, dif_pos ⟨i.isLt, j.isLt⟩]; exact h

/-- A finite sum of products of real numbers, with a real number added, is real. -/
theorem sum_real {n : ℕ} (a b : Fin n → EReal) (d : EReal) (ha : ∀ i, a i = ((a i).toReal : EReal)) (hb : ∀ i, b i = ((b i).toReal : EReal)) (hd : d = (d.toReal : EReal)) :
    (∑ i, a i * b i) + d = (((∑ i, a i * b i) + d).toReal : EReal) := by
  have : (∑ i, a i * b i) + d = ((∑ i, (a i).toReal * (b i).toReal + d.toReal : ℝ) : EReal) := by
    rw [EReal.coe_add, ← Cert.Gla.coe_sum, ← hd]
    congr 1
    refine Finset.sum_congr rfl fun i _ => ?_
    rw [EReal.coe_mul, ← ha i, ← hb i]
  rw [this, EReal.toReal_coe]

/-- The precondition gives real queries, keys and values, and real inputs to the gates. -/
theorem real4 (proj : FVec Ideal S4096x3200 .f32) (wg2 : FVec Ideal S16x512 .f32) (bg : FVec Ideal S1x512 .f32) (gn : FVec Ideal S1x1024 .f32)
    (h : fn (F := Ideal) proj wg2 bg gn = fun _ => 1#1) :
    Real4 (at2 fun i j => proj (ix2 i j)) (at2 fun i k => (∑ c : Fin 16, proj (ix2 (i : Fin 4096) ⟨3072 + c.val, by omega⟩) * wg2 (ix2 c (k : Fin 512))) + bg (ix2 0 k)) proj wg2 bg := by
  obtain ⟨h0, h1, h2, h3⟩ := reals proj wg2 bg gn h
  refine ⟨fun i j hj => at2_coe (fun i j => proj (ix2 i j)) i j ?_, fun i k => at2_coe (fun i k => (∑ c : Fin 16, proj (ix2 (i : Fin 4096) ⟨3072 + c.val, by omega⟩) * wg2 (ix2 c (k : Fin 512))) + bg (ix2 0 k)) i k (sum_real _ _ _ (fun c => ?_) (fun c => h2 _) (h3 _))⟩
  · have := h0 (ix2 i ⟨j.val, hj⟩)
    have e : extractStridedSlice S4096x2048 ![0, 0] proj Facts.slices_S4096x3200_S4096x2048_0_0 (ix2 i ⟨j.val, hj⟩) = proj (ix2 i j) := by
      pointwise
    rw [e] at this; exact this
  · have := h1 (ix2 i c)
    have e : extractStridedSlice S4096x16 ![0, 3072] proj Facts.slices_S4096x3200_S4096x16_0_3072 (ix2 i c) = proj (ix2 i ⟨3072 + c.val, by omega⟩) := by
      pointwise
    rw [e] at this; exact this

end Cert.Pre_finite.Gla

end
-- ==== Proof.GlaBlocks.lean ====
module

public import proofs.«01_k».proof.Proof.Gen.Kernel3Ideal.Value
public import Idealize.ShloMosaic.Lib.Pipeline.ValueKit
public import Idealize.ShloMosaic.Lib.Pipeline.CanonAppend
public import Idealize.ShloMosaic.Lib.Pointwise

/-!
# A block of the gated linear attention call

One grid point of the call works on four chunks of 64 rows. Here are the values its buffers and its stores hold as functions
of the block: the decays, the states after the four chunks, each from the one before, and the normed and gated outputs; and
the lemmas by which a load of a scratch buffer reads what the stores before it left there.
-/

@[expose] public section

set_option maxRecDepth 16384

noncomputable section

open Idealize.ShloMosaic Idealize.ShloMosaic.TcCoe Idealize.SL.Sem
open Idealize.ShloMosaic.Pipeline (Dat)

namespace Cert.Kernel3Ideal.Gla

open Cert.Kernel3Ideal Cert.Kernel3Ideal.Gen

/-- A load of the state's buffer whose box is disjoint from the last store's rectangle reads the earlier stores. -/
theorem readCov_miss (v : View sig .tc .vmem S512x256 .f32) (r : Rect S512x256) (w : r.shape.Idx → Elt Ideal .f32)
    (L : List (View.Piece (Elt Ideal) S512x256 .f32)) (B : LoadRect S512x256)
    (h : LoadRect.disj r B = true) : v.readCov ((⟨r, w⟩ : View.Piece (Elt Ideal) S512x256 .f32) :: L) B = v.readCov L B :=
  View.readCov_cons_of_disjoint v ⟨r, w⟩ L B (Finset.disjoint_right.mpr fun i hi => by
    obtain ⟨j, rfl⟩ := B.exists_idx_of_mem hi
    exact LoadRect.idx_not_mem_of_disj h j)

/-- The decay from each row of a block to the end of its chunk, of the running sums `G` of the gates' logarithms. -/
def wB (G : Vec Ideal S256x512 .f32) : Vec Ideal S256x512 .f32 := fun y =>
  Ideal.exp (G (ix2 ⟨64 * ((y 0).val / 64) + 63, by have : (y 0).val < 256 := (y 0).isLt; omega⟩ (y 1)) - G y)

/-- The running sums at the chunks' last rows, one row for each chunk of the block (and four unused rows). -/
def geB (G : Vec Ideal S256x512 .f32) : Vec Ideal S8x512 .f32 := fun y =>
  G (ix2 ⟨64 * ((y 0).val % 4) + 63, by omega⟩ (y 1))

/-- A load of the decays reads `wB` of the running sums. -/
theorem w_read (v : View sig .tc .vmem S256x512 .f32) (a : FVec Ideal S256x256 .bf16) (b : FVec Ideal S256x512 .bf16)
    (d : FVec Ideal S256x512 .f32) (off sz : Fin S256x512.rank → ℕ) (inb : ∀ i, off i + sz i ≤ S256x512.size i) :
    v.readCov [⟨Rect.unit ![192, 0] ![64, 512] inb_S256x512_S64x512_192_0, k0_pay25 (k0_pay13 a b d) (k0_pay23 a b d)⟩,
      ⟨Rect.unit ![128, 0] ![64, 512] inb_S256x512_S64x512_128_0, k0_pay22 a b d⟩,
      ⟨Rect.unit ![64, 0] ![64, 512] inb_S256x512_S64x512_64_0, k0_pay19 a b d⟩,
      ⟨Rect.unit ![0, 0] ![64, 512] inb_S256x512_S64x512_0_0, k0_pay16 a b d⟩]
      (Rect.unit off sz inb).toLoadRect = View.ld (wB (k0_pay13 a b d)) (Rect.unit off sz inb) := by
  rw [View.readCov_eq_canon']
  funext x
  show View.canon _ ((Rect.unit off sz inb).idx x) = wB _ ((Rect.unit off sz inb).idx x)
  generalize (Rect.unit off sz inb).idx x = y
  canon_tiles i h
  all_goals
    simp only [k0_pay25, k0_pay23, k0_pay22, k0_pay20, k0_pay19, k0_pay17, k0_pay16, k0_pay14, wB]
    generalize k0_pay13 a b d = G
    pointwise
    refine congrArg₂ (fun p q => Ideal.exp (G p - G q)) ?_ ?_ <;>
      · funext k
        fin_cases k <;> refine Fin.ext ?_ <;> simp <;> omega

/-- A row among the first four is in one of the four one-row pieces. -/
theorem rows_cover (p3 p2 p1 p0 : S1x512.Idx → Elt Ideal .f32) (y : S8x512.Idx) (hy : (y 0).val < 4) :
    ∃ p ∈ ([⟨Rect.unit ![3, 0] ![1, 512] inb_S8x512_S1x512_3_0, p3⟩, ⟨Rect.unit ![2, 0] ![1, 512] inb_S8x512_S1x512_2_0, p2⟩,
      ⟨Rect.unit ![1, 0] ![1, 512] inb_S8x512_S1x512_1_0, p1⟩, ⟨Rect.unit ![0, 0] ![1, 512] inb_S8x512_S1x512_0_0, p0⟩] :
        List (View.Piece (Elt Ideal) S8x512 .f32)), y ∈ p.1.set := by
  have hy1 : (y 1).val < 512 := (y 1).isLt
  have hm : ∀ (n : ℕ) (inb : ∀ i, (![n, 0] : Fin 2 → ℕ) i + (![1, 512] : Fin 2 → ℕ) i ≤ S8x512.size i), (y 0).val = n →
      y ∈ (Rect.unit (s := S8x512) ![n, 0] ![1, 512] inb).set := fun n inb e => by
    refine (Rect.unit (s := S8x512) ![n, 0] ![1, 512] inb).mem_set.mpr fun i => ?_
    fin_cases i
    · exact ⟨0, Nat.one_pos, by simpa using e⟩
    · exact ⟨(y 1).val, hy1, by simp⟩
  have : (y 0).val = 3 ∨ (y 0).val = 2 ∨ (y 0).val = 1 ∨ (y 0).val = 0 := by omega
  rcases this with e | e | e | e
  · exact ⟨_, .head _, hm 3 inb_S8x512_S1x512_3_0 e⟩
  · exact ⟨_, .tail _ (.head _), hm 2 inb_S8x512_S1x512_2_0 e⟩
  · exact ⟨_, .tail _ (.tail _ (.head _)), hm 1 inb_S8x512_S1x512_1_0 e⟩
  · exact ⟨_, .tail _ (.tail _ (.tail _ (.head _))), hm 0 inb_S8x512_S1x512_0_0 e⟩

/-- A load of the chunks' last running sums reads `geB`. -/
theorem g_read (v : View sig .tc .vmem S8x512 .f32) (a : FVec Ideal S256x256 .bf16) (b : FVec Ideal S256x512 .bf16)
    (d : FVec Ideal S256x512 .f32) (off sz : Fin S8x512.rank → ℕ) (inb : ∀ i, off i + sz i ≤ S8x512.size i)
    (h : off 0 + sz 0 ≤ 4) :
    v.readCov [⟨Rect.unit ![3, 0] ![1, 512] inb_S8x512_S1x512_3_0, k0_pay24 a b d⟩,
      ⟨Rect.unit ![2, 0] ![1, 512] inb_S8x512_S1x512_2_0, k0_pay21 a b d⟩,
      ⟨Rect.unit ![1, 0] ![1, 512] inb_S8x512_S1x512_1_0, k0_pay18 a b d⟩,
      ⟨Rect.unit ![0, 0] ![1, 512] inb_S8x512_S1x512_0_0, k0_pay15 a b d⟩]
      (Rect.unit off sz inb).toLoadRect = View.ld (geB (k0_pay13 a b d)) (Rect.unit off sz inb) := by
  rw [View.readCov_eq_canon']
  funext x
  have hx : ((Rect.unit off sz inb).idx x 0).val < 4 := by
    have h1 := Rect.idx_unit_val off sz inb x 0
    have h2 : (x 0).val < sz 0 := (x 0).isLt
    omega
  show View.canon _ ((Rect.unit off sz inb).idx x) = geB _ ((Rect.unit off sz inb).idx x)
  generalize (Rect.unit off sz inb).idx x = y at hx
  canon_tiles i h using rows_cover _ _ _ _ y hx
  all_goals
    simp only [k0_pay24, k0_pay23, k0_pay21, k0_pay20, k0_pay18, k0_pay17, k0_pay15, k0_pay14, geB]
    generalize k0_pay13 a b d = G
    pointwise
    refine congrArg G ?_
    · funext k
      fin_cases k <;> refine Fin.ext ?_ <;> simp <;> omega

/-- What a chunk adds to a head's state, and the state after it, at an element. -/
theorem unit_apply (row : Vec Ideal S1x128 .f32) (prev : Vec Ideal S128x256 .f32) (k w : Vec Ideal S64x128 .f32) (u : Vec Ideal S64x256 .f32) (x : S128x256.Idx) :
    (addf (mulf (exp (concatenate S128x256 1 [⟨S128x128, transpose S128x128 [1, 0] (broadcastTo S128x128 (shapeCast S1x128 row shapeCasts_S1x128_S1x128) broadcasts_S1x128_S128x128) transposes_S128x128_p1_0_S128x128⟩, ⟨S128x128, transpose S128x128 [1, 0] (broadcastTo S128x128 (shapeCast S1x128 row shapeCasts_S1x128_S1x128) broadcasts_S1x128_S128x128) transposes_S128x128_p1_0_S128x128⟩] concatenates_S128x128_S128x128_S128x256_d1)) prev)
      (matmul dot_S64x128_S64x256_S128x256_0_0_1_1_n_n none (truncf FTy.bf16 (mulf k w) bitsLt_bf16_f32) (truncf FTy.bf16 u bitsLt_bf16_f32) (constant S128x256 FTy.f32 0#32)) : FVec Ideal S128x256 .f32) x
    = Ideal.exp (row (ix2 0 (x 0))) * prev x + ∑ s : Fin 64, (k (ix2 s (x 0)) * w (ix2 s (x 0))) * u (ix2 s (x 1)) := by
  pointwise
  split <;> rfl

/-- A head's output of a chunk against the state, at an element. -/
theorem o_apply (q : Vec Ideal S64x128 .f32) (S : FVec Ideal S128x256 .f32) (x : S64x256.Idx) :
    (matmul dot_S64x128_S128x256_S64x256_1_0_0_1_n_n none (truncf FTy.bf16 (mulf q (broadcast S64x128 (Scalar.ofBits .f32 0x3DB504F3#32))) bitsLt_bf16_f32)
      (truncf FTy.bf16 S bitsLt_bf16_f32) (constant S64x256 FTy.f32 0#32) : FVec Ideal S64x256 .f32) x
    = ∑ d : Fin 128, (q (ix2 (x 0) d) * Ideal.ofBits .f32 0x3DB504F3#32) * S (ix2 d (x 1)) := by
  pointwise

/-- The norm and the gate of a head's output, at an element. -/
theorem og_apply (o r : FVec Ideal S64x256 .f32) (gn : Vec Ideal S1x256 .f32) (x : S64x256.Idx) :
    (mulf (mulf (mulf o (broadcastTo S64x256 (rsqrt (addf (divf (shapeCast S64x1 (multiReduction .add [1] S64 (mulf o o) 0x00000000#32 reduces_S64x256_S64 (.inl rfl) rfl) shapeCasts_S64_S64x1)
      (broadcast S64x1 (Scalar.ofBits .f32 0x43800000#32))) (broadcast S64x1 (Scalar.ofBits .f32 0x358637BD#32)))) broadcasts_S64x1_S64x256))
      (broadcastTo S64x256 gn broadcasts_S1x256_S64x256)) (mulf r (logistic r)) : FVec Ideal S64x256 .f32) x
    = ((o x * Ideal.rsqrt (Ideal.div (∑ e : Fin 256, o (ix2 (x 0) e) * o (ix2 (x 0) e)) (Ideal.ofBits .f32 0x43800000#32) + Ideal.ofBits .f32 0x358637BD#32)) * gn (ix2 0 (x 1)))
      * (r x * Ideal.logistic (r x)) := by
  pointwise

/-- The state after chunk `n` of a block, from the state `prev` before it. -/
def stB (x0 : Vec Ideal S256x3200 .f32) (G : Vec Ideal S256x512 .f32) (n : ℕ) (prev : Vec Ideal S512x256 .f32) : Vec Ideal S512x256 .f32 := fun y =>
  Ideal.exp (G (ix2 ⟨64 * (n % 4) + 63, by omega⟩ (y 0))) * prev y
    + ∑ s : Fin 64, (x0 (ix2 ⟨64 * (n % 4) + s.val, by omega⟩ ⟨512 + (y 0).val, by have : (y 0).val < 512 := (y 0).isLt; omega⟩)
        * wB G (ix2 ⟨64 * (n % 4) + s.val, by omega⟩ (y 0)))
      * x0 (ix2 ⟨64 * (n % 4) + s.val, by omega⟩ ⟨1024 + 256 * ((y 0).val / 128) + (y 1).val, by
          have : (y 0).val < 512 := (y 0).isLt
          have : (y 1).val < 256 := (y 1).isLt
          omega⟩)

/-- The states after each chunk of a block. -/
def chainB (x0 : Vec Ideal S256x3200 .f32) (G : Vec Ideal S256x512 .f32) (S : Vec Ideal S512x256 .f32) : ℕ → Vec Ideal S512x256 .f32
  | 0 => stB x0 G 0 S
  | n + 1 => stB x0 G (n + 1) (chainB x0 G S n)

/-- A head's new state is a part of `stB` of the old state. -/
theorem unit_ld (x0 : Vec Ideal S256x3200 .f32) (G : Vec Ideal S256x512 .f32) (S : Vec Ideal S512x256 .f32) (n n64 h128 k512 v1024 : ℕ)
    (inbg : ∀ i, (![n, h128] : Fin S8x512.rank → ℕ) i + (![1, 128] : Fin S8x512.rank → ℕ) i ≤ S8x512.size i)
    (inbk : ∀ i, (![n64, k512] : Fin S256x3200.rank → ℕ) i + (![64, 128] : Fin S256x3200.rank → ℕ) i ≤ S256x3200.size i)
    (inbw : ∀ i, (![n64, h128] : Fin S256x512.rank → ℕ) i + (![64, 128] : Fin S256x512.rank → ℕ) i ≤ S256x512.size i)
    (inbv : ∀ i, (![n64, v1024] : Fin S256x3200.rank → ℕ) i + (![64, 256] : Fin S256x3200.rank → ℕ) i ≤ S256x3200.size i)
    (inbs : ∀ i, (![h128, 0] : Fin S512x256.rank → ℕ) i + (![128, 256] : Fin S512x256.rank → ℕ) i ≤ S512x256.size i)
    (hn : n < 4) (h64 : n64 = 64 * n) (hh : h128 % 128 = 0) (hk : k512 = 512 + h128) (hv : v1024 = 1024 + 256 * (h128 / 128)) :
    (addf (mulf (exp (concatenate S128x256 1 [⟨S128x128, transpose S128x128 [1, 0] (broadcastTo S128x128 (shapeCast S1x128 (View.ld (geB G) (Rect.unit ![n, h128] ![1, 128] inbg)) shapeCasts_S1x128_S1x128) broadcasts_S1x128_S128x128) transposes_S128x128_p1_0_S128x128⟩, ⟨S128x128, transpose S128x128 [1, 0] (broadcastTo S128x128 (shapeCast S1x128 (View.ld (geB G) (Rect.unit ![n, h128] ![1, 128] inbg)) shapeCasts_S1x128_S1x128) broadcasts_S1x128_S128x128) transposes_S128x128_p1_0_S128x128⟩] concatenates_S128x128_S128x128_S128x256_d1)) (View.ld S (Rect.unit ![h128, 0] ![128, 256] inbs)))
      (matmul dot_S64x128_S64x256_S128x256_0_0_1_1_n_n none (truncf FTy.bf16 (mulf (View.ld x0 (Rect.unit ![n64, k512] ![64, 128] inbk)) (View.ld (wB G) (Rect.unit ![n64, h128] ![64, 128] inbw))) bitsLt_bf16_f32) (truncf FTy.bf16 (View.ld x0 (Rect.unit ![n64, v1024] ![64, 256] inbv)) bitsLt_bf16_f32) (constant S128x256 FTy.f32 0#32)) : FVec Ideal S128x256 .f32)
    = View.ld (stB x0 G n S) (Rect.unit ![h128, 0] ![128, 256] inbs) := by
  subst h64 hk hv
  funext x
  refine (unit_apply _ _ _ _ _ x).trans ?_
  have hx0 : (x 0).val < 128 := (x 0).isLt
  have hx1 : (x 1).val < 256 := (x 1).isLt
  simp only [View.ld_apply, stB, geB]
  have hm : n % 4 = n := Nat.mod_eq_of_lt hn
  refine congrArg₂ (· + ·) (congrArg₂ (· * ·) (congrArg (fun j => Ideal.exp (G j)) ?_) rfl)
    (Finset.sum_congr rfl fun s _ => congrArg₂ (· * ·) (congrArg₂ (· * ·) (congrArg x0 ?_) (congrArg (wB G) ?_)) (congrArg x0 ?_))
  all_goals
    funext a
    fin_cases a <;> refine Fin.ext ?_ <;> simp [hm] <;> omega

/-- The running sums of the gates' logarithms over a block. -/
abbrev gcB (x0 : Vec Ideal S256x3200 .f32) (x1 : Vec Ideal S128x512 .bf16) (x2 : Vec Ideal S1x512 .f32) : Vec Ideal S256x512 .f32 :=
  k0_pay13 (k0_pay7 (iota Kind.tc S256x256 32 [0] iota_S256x256_d0_w32)
                            (iota Kind.tc S256x256 32 [1] iota_S256x256_d1_w32) (64#32) k0_pay4 k0_pay5 k0_pay6)
                          (k0_pay11
                            (k0_pay3 (View.ld x0 (Rect.unit ![0, 3072] ![256, 128] inb_S256x3200_S256x128_0_3072)) x1
                              x2))
                          (k0_pay12
                            (k0_pay3 (View.ld x0 (Rect.unit ![0, 3072] ![256, 128] inb_S256x3200_S256x128_0_3072)) x1
                              x2)
                            (iota Kind.tc S256x256 32 [0] iota_S256x256_d0_w32)
                            (iota Kind.tc S256x256 32 [1] iota_S256x256_d1_w32) (64#32) k0_pay4 k0_pay5 k0_pay6)

/-- A head's part of a state, read as one slice of the states' block. -/
theorem st_piece (f : Vec Ideal S512x256 .f32) (h128 : ℕ)
    (inbs : ∀ i, (![h128, 0] : Fin S512x256.rank → ℕ) i + (![128, 256] : Fin S512x256.rank → ℕ) i ≤ S512x256.size i)
    (x : S1x128x256.Idx) (y1 : Fin 512) (y2 : Fin 256) (h1 : y1.val = h128 + (x 1).val) (h2 : y2.val = (x 2).val) :
    shapeCast S1x128x256 (View.ld f (Rect.unit ![h128, 0] ![128, 256] inbs)) shapeCasts_S128x256_S1x128x256 x = f (ix2 y1 y2) := by
  have e : ∀ g : FVec Ideal S128x256 .f32, shapeCast S1x128x256 g shapeCasts_S128x256_S1x128x256 x = g (ix2 (x 1) (x 2)) := fun g => by
    pointwise
  refine (e _).trans ?_
  rw [View.ld_apply]
  refine congrArg f ?_
  funext a
  fin_cases a <;> refine Fin.ext ?_ <;> simp <;> omega

/-- A load of a part of the state whose last store filled it whole reads what was stored. -/
theorem readCov_whole (v : View sig .tc .vmem S512x256 .f32) (w : Vec Ideal S512x256 .f32) (L : List (View.Piece (Elt Ideal) S512x256 .f32))
    (off sz : Fin S512x256.rank → ℕ) (inb : ∀ i, off i + sz i ≤ S512x256.size i) :
    v.readCov ((⟨Rect.unit (s := S512x256) ![0, 0] ![512, 256] inb_S512x256_S512x256_0_0, w⟩ : View.Piece (Elt Ideal) S512x256 .f32) :: L)
      (Rect.unit off sz inb).toLoadRect = View.ld w (Rect.unit off sz inb) := by
  rw [View.readCov_eq_canon']
  funext x
  show View.canon _ ((Rect.unit off sz inb).idx x) = w ((Rect.unit off sz inb).idx x)
  generalize (Rect.unit off sz inb).idx x = y
  have e : (Rect.unit (s := S512x256) ![0, 0] ![512, 256] inb_S512x256_S512x256_0_0).idx y = y := by
    funext k
    refine Fin.ext ((Rect.idx_unit_val _ _ _ _ _).trans ?_)
    fin_cases k <;> exact Nat.zero_add _
  have h := View.canon_cons_emb (Rect.unit (s := S512x256) ![0, 0] ![512, 256] inb_S512x256_S512x256_0_0) w L y
  exact (congrArg (View.canon _) e.symm).trans h

/-- Every index of the state lies in one of the four heads' parts. -/
theorem heads_cover (p3 p2 p1 p0 : S128x256.Idx → Elt Ideal .f32) (y : S512x256.Idx) :
    ∃ p ∈ ([⟨Rect.unit ![384, 0] ![128, 256] inb_S512x256_S128x256_384_0, p3⟩, ⟨Rect.unit ![256, 0] ![128, 256] inb_S512x256_S128x256_256_0, p2⟩,
      ⟨Rect.unit ![128, 0] ![128, 256] inb_S512x256_S128x256_128_0, p1⟩, ⟨Rect.unit ![0, 0] ![128, 256] inb_S512x256_S128x256_0_0, p0⟩] :
        List (View.Piece (Elt Ideal) S512x256 .f32)), y ∈ p.1.set := by
  have hy0 : (y 0).val < 512 := (y 0).isLt
  have hy1 : (y 1).val < 256 := (y 1).isLt
  have hm : ∀ (n : ℕ) (inb : ∀ i, (![n, 0] : Fin 2 → ℕ) i + (![128, 256] : Fin 2 → ℕ) i ≤ S512x256.size i), n ≤ (y 0).val → (y 0).val < n + 128 →
      y ∈ (Rect.unit (s := S512x256) ![n, 0] ![128, 256] inb).set := fun n inb h1 h2 => by
    refine (Rect.unit (s := S512x256) ![n, 0] ![128, 256] inb).mem_set.mpr fun i => ?_
    fin_cases i
    · exact ⟨(y 0).val - n, by show _ < 128; omega, by show (y 0).val = n + 1 * ((y 0).val - n); omega⟩
    · exact ⟨(y 1).val, hy1, by simp⟩
  have : 384 ≤ (y 0).val ∨ 256 ≤ (y 0).val ∧ (y 0).val < 384 ∨ 128 ≤ (y 0).val ∧ (y 0).val < 256 ∨ (y 0).val < 128 := by omega
  rcases this with e | e | e | e
  · exact ⟨_, .head _, hm 384 inb_S512x256_S128x256_384_0 e (by omega)⟩
  · exact ⟨_, .tail _ (.head _), hm 256 inb_S512x256_S128x256_256_0 e.1 e.2⟩
  · exact ⟨_, .tail _ (.tail _ (.head _)), hm 128 inb_S512x256_S128x256_128_0 e.1 e.2⟩
  · exact ⟨_, .tail _ (.tail _ (.tail _ (.head _))), hm 0 inb_S512x256_S128x256_0_0 (Nat.zero_le _) (by omega)⟩

/-- A row of a head's output against the state `S`, before the norm. -/
def oB (x0 : Vec Ideal S256x3200 .f32) (S : Vec Ideal S512x256 .f32) (r : Fin 256) (h : ℕ) (e : Fin 256) : Ideal .f32 :=
  ∑ d : Fin 128, (x0 (ix2 r ⟨128 * (h % 4) + d.val, by omega⟩) * Ideal.ofBits .f32 0x3DB504F3#32) * S (ix2 ⟨128 * (h % 4) + d.val, by omega⟩ e)

/-- The normed and gated outputs of a block, from the states after its chunks. -/
def ogB (x0 : Vec Ideal S256x3200 .f32) (x3 : Vec Ideal S1x1024 .f32) (S : ℕ → Vec Ideal S512x256 .f32) : Vec Ideal S256x1024 .bf16 := fun y =>
  ((oB x0 (S ((y 0).val / 64)) (y 0) ((y 1).val / 256) ⟨(y 1).val % 256, by omega⟩
      * Ideal.rsqrt (Ideal.div (∑ e : Fin 256, oB x0 (S ((y 0).val / 64)) (y 0) ((y 1).val / 256) e * oB x0 (S ((y 0).val / 64)) (y 0) ((y 1).val / 256) e)
          (Ideal.ofBits .f32 0x43800000#32) + Ideal.ofBits .f32 0x358637BD#32)) * x3 (ix2 0 (y 1)))
    * (x0 (ix2 (y 0) ⟨2048 + (y 1).val, by have : (y 1).val < 1024 := (y 1).isLt; omega⟩)
      * Ideal.logistic (x0 (ix2 (y 0) ⟨2048 + (y 1).val, by have : (y 1).val < 1024 := (y 1).isLt; omega⟩)))

/-- A head's rows of a chunk of the outputs are `ogB`'s. -/
theorem og_piece (x0 : Vec Ideal S256x3200 .f32) (x3 : Vec Ideal S1x1024 .f32) (S : ℕ → Vec Ideal S512x256 .f32) (f : Vec Ideal S512x256 .f32)
    (n64 h128 h256 r2048 : ℕ)
    (inbq : ∀ i, (![n64, h128] : Fin S256x3200.rank → ℕ) i + (![64, 128] : Fin S256x3200.rank → ℕ) i ≤ S256x3200.size i)
    (inbs : ∀ i, (![h128, 0] : Fin S512x256.rank → ℕ) i + (![128, 256] : Fin S512x256.rank → ℕ) i ≤ S512x256.size i)
    (inbg : ∀ i, (![0, h256] : Fin S1x1024.rank → ℕ) i + (![1, 256] : Fin S1x1024.rank → ℕ) i ≤ S1x1024.size i)
    (inbr : ∀ i, (![n64, r2048] : Fin S256x3200.rank → ℕ) i + (![64, 256] : Fin S256x3200.rank → ℕ) i ≤ S256x3200.size i)
    (hn : n64 % 64 = 0) (hh : h128 = 128 * (h256 / 256 % 4)) (h2 : h256 % 256 = 0) (hr : r2048 = 2048 + h256) (hf : f = S (n64 / 64))
    (x : S64x256.Idx) (y : S256x1024.Idx) (h0 : (y 0).val = n64 + (x 0).val) (h1 : (y 1).val = h256 + (x 1).val) :
    (truncf FTy.bf16 (mulf (mulf (mulf
      (matmul dot_S64x128_S128x256_S64x256_1_0_0_1_n_n none (truncf FTy.bf16 (mulf (View.ld x0 (Rect.unit ![n64, h128] ![64, 128] inbq)) (broadcast S64x128 (FloatOps.ofBits (F := Ideal) .f32 0x3DB504F3#32))) bitsLt_bf16_f32)
        (truncf FTy.bf16 (View.ld f (Rect.unit ![h128, 0] ![128, 256] inbs)) bitsLt_bf16_f32) (constant S64x256 FTy.f32 0#32))
      (broadcastTo S64x256 (rsqrt (addf (divf (shapeCast S64x1 (multiReduction .add [1] S64 (mulf
        (matmul dot_S64x128_S128x256_S64x256_1_0_0_1_n_n none (truncf FTy.bf16 (mulf (View.ld x0 (Rect.unit ![n64, h128] ![64, 128] inbq)) (broadcast S64x128 (FloatOps.ofBits (F := Ideal) .f32 0x3DB504F3#32))) bitsLt_bf16_f32)
          (truncf FTy.bf16 (View.ld f (Rect.unit ![h128, 0] ![128, 256] inbs)) bitsLt_bf16_f32) (constant S64x256 FTy.f32 0#32))
        (matmul dot_S64x128_S128x256_S64x256_1_0_0_1_n_n none (truncf FTy.bf16 (mulf (View.ld x0 (Rect.unit ![n64, h128] ![64, 128] inbq)) (broadcast S64x128 (FloatOps.ofBits (F := Ideal) .f32 0x3DB504F3#32))) bitsLt_bf16_f32)
          (truncf FTy.bf16 (View.ld f (Rect.unit ![h128, 0] ![128, 256] inbs)) bitsLt_bf16_f32) (constant S64x256 FTy.f32 0#32)))
        0x00000000#32 reduces_S64x256_S64 (.inl rfl) rfl) shapeCasts_S64_S64x1)
        (broadcast S64x1 (FloatOps.ofBits (F := Ideal) .f32 0x43800000#32))) (broadcast S64x1 (FloatOps.ofBits (F := Ideal) .f32 0x358637BD#32)))) broadcasts_S64x1_S64x256))
      (broadcastTo S64x256 (View.ld x3 (Rect.unit ![0, h256] ![1, 256] inbg)) broadcasts_S1x256_S64x256))
      (mulf (View.ld x0 (Rect.unit ![n64, r2048] ![64, 256] inbr)) (logistic (View.ld x0 (Rect.unit ![n64, r2048] ![64, 256] inbr))))) bitsLt_bf16_f32
      : FVec Ideal S64x256 .bf16) x = ogB x0 x3 S y := by
  subst hh hr hf
  refine (og_apply _ _ _ x).trans ?_
  have hx0 : (x 0).val < 64 := (x 0).isLt
  have hx1 : (x 1).val < 256 := (x 1).isLt
  have hy0 : (y 0).val < 256 := (y 0).isLt
  have hy1 : (y 1).val < 1024 := (y 1).isLt
  have ho : ∀ e : Fin 256, (matmul dot_S64x128_S128x256_S64x256_1_0_0_1_n_n none (truncf FTy.bf16 (mulf (View.ld x0 (Rect.unit ![n64, 128 * (h256 / 256 % 4)] ![64, 128] inbq)) (broadcast S64x128 (FloatOps.ofBits (F := Ideal) .f32 0x3DB504F3#32))) bitsLt_bf16_f32)
        (truncf FTy.bf16 (View.ld (S (n64 / 64)) (Rect.unit ![128 * (h256 / 256 % 4), 0] ![128, 256] inbs)) bitsLt_bf16_f32) (constant S64x256 FTy.f32 0#32) : FVec Ideal S64x256 .f32) (ix2 (x 0) e)
      = oB x0 (S ((y 0).val / 64)) (y 0) ((y 1).val / 256) e := fun e => by
    refine (o_apply _ _ _).trans ?_
    have e1 : n64 / 64 = (y 0).val / 64 := by omega
    have e2 : h256 / 256 % 4 = (y 1).val / 256 % 4 := by omega
    rw [e1]
    refine Finset.sum_congr rfl fun d _ => ?_
    rw [View.ld_apply, View.ld_apply]
    refine congrArg₂ (· * ·) (congrArg (· * _) (congrArg x0 ?_)) (congrArg (S _) ?_)
    all_goals
      funext a
      fin_cases a <;> refine Fin.ext ?_ <;> simp [e2] <;> omega
  have hx : x = ix2 (x 0) (x 1) := by
    funext a
    fin_cases a <;> rfl
  have hox := (congrArg _ hx).trans (ho (x 1))
  simp only [ho, hox, View.ld_apply, ogB]
  have e3 : (⟨(y 1).val % 256, by omega⟩ : Fin 256) = x 1 := Fin.ext (by show (y 1).val % 256 = (x 1).val; omega)
  rw [e3]
  refine congrArg₂ (· * ·) (congrArg₂ (· * ·) rfl (congrArg x3 ?_)) (congrArg (fun j => x0 j * Ideal.logistic (x0 j)) ?_)
  all_goals
    funext a
    fin_cases a <;> refine Fin.ext ?_ <;> simp <;> omega

end Cert.Kernel3Ideal.Gla
-- ==== Proof.GlaValues.lean ====
module

public import proofs.«01_k».proof.Proof.GlaBlocks
public import proofs.«01_k».proof.Proof.GlaMaths
public import Idealize.ShloMosaic.Lib.Pipeline.ValueKit
public import Idealize.ShloMosaic.Lib.Pipeline.CanonAppend
public import Idealize.ShloMosaic.Lib.Pointwise

/-!
# A block of the gated linear attention call, on real numbers

On real queries, keys, values and gates a block's running sums, states and outputs are those of Proof/GlaMaths.lean: the
chain of four states is the recurrence over the chunks, and the three-part split of the gates' logarithms adds up to them.
-/

@[expose] public section

set_option maxRecDepth 16384

noncomputable section

open Idealize.ShloMosaic Idealize.ShloMosaic.TcCoe Idealize.SL.Sem
open Idealize.ShloMosaic.Pipeline (Dat)

namespace Cert.Kernel3Ideal.Gla

open Cert.Kernel3Ideal Cert.Kernel3Ideal.Gen Cert.Gla

/-- What the kernel's block of gates holds at an element whose gate input is the real number `g`. -/
theorem lgate (v : Vec Ideal S256x128 .f32) (x1 : Vec Ideal S128x512 .bf16) (x2 : Vec Ideal S1x512 .f32) (y : S256x512.Idx) (g : ℝ)
    (hg : (∑ c : Fin 128, v (ix2 (y 0) c) * x1 (ix2 c (y 1))) + x2 (ix2 0 (y 1)) = (g : EReal)) :
    (k0_pay3 v x1 x2 : FVec Ideal S256x512 .f32) y = (gate g : EReal) := by
  pointwise [k0_pay3]
  rw [hg, absf_coe, ← EReal.coe_zero, ← EReal.coe_sub, log_one_add_exp, sixteenth, ← EReal.coe_strictMono.monotone.map_min, ← EReal.coe_sub, ← EReal.coe_mul, gate, zero_sub]
  norm_num [div_eq_mul_inv]

/-- The floor division by 64 of a row number below 256, as the kernel takes it of a word. -/
theorem div64 : ∀ r : Fin 256, Scalar.select
    (IntOp.andi
      (IntOp.cmpi CmpIPredicate.ne
        (IntOp.subi (BitVec.setWidth 32 (IntOp.cmpi CmpIPredicate.sgt (BitVec.ofNat 32 r.val) 0#32))
          (BitVec.setWidth 32 (IntOp.cmpi CmpIPredicate.slt (BitVec.ofNat 32 r.val) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 r.val) 64#32) 0#32))
    (IntOp.subi (IntOp.divsi ArithUnit.vector (BitVec.ofNat 32 r.val) 64#32) 1#32)
    (IntOp.divsi ArithUnit.vector (BitVec.ofNat 32 r.val) 64#32) = BitVec.ofNat 32 (r.val / 64) := by
  decide +kernel

/-- The comparison of two row numbers below 256. -/
theorem sge256 : ∀ r j : Fin 256, IntOp.cmpi CmpIPredicate.sge (BitVec.ofNat 32 r.val) (BitVec.ofNat 32 j.val) = BitVec.ofBool (decide (j.val ≤ r.val)) := by
  intro r j
  rw [WordCmp.cmpi_sge_ofNat (by omega) (by omega)]

/-- The equality of two chunk numbers below 4. -/
theorem eq4 : ∀ r j : Fin 4, IntOp.cmpi CmpIPredicate.eq (BitVec.ofNat 32 r.val) (BitVec.ofNat 32 j.val) = BitVec.ofBool (decide (j.val = r.val)) := by
  decide +kernel

/-- The kernel's triangle within the chunks. -/
theorem tri (r j : Fin 256) : (k0_pay7 (F := Ideal) (iota Kind.tc S256x256 32 [0] iota_S256x256_d0_w32)
      (iota Kind.tc S256x256 32 [1] iota_S256x256_d1_w32) (64#32) k0_pay4 k0_pay5 k0_pay6) (ix2 r j)
    = (((if j.val / 64 = r.val / 64 ∧ j.val ≤ r.val then 1 else 0 : ℝ)) : EReal) := by
  have h4 := eq4 ⟨r.val / 64, by omega⟩ ⟨j.val / 64, by omega⟩
  pointwise [k0_pay7, k0_pay4, k0_pay5, k0_pay6]
  rw [div64 r, div64 j, sge256 r j, h4]
  by_cases h1 : j.val / 64 = r.val / 64 <;> by_cases h2 : j.val ≤ r.val <;>
    simp [h1, h2, IntOp.andi, FloatOps.sitofp]

/-- The running sums as the kernel takes them: the triangle times the gates' three parts, of which the second and the third vanish on real gates. -/
theorem gcB_apply (x0 : Vec Ideal S256x3200 .f32) (x1 : Vec Ideal S128x512 .bf16) (x2 : Vec Ideal S1x512 .f32) (L : ℕ → ℕ → ℝ) (b : ℕ)
    (hL : ∀ y : S256x512.Idx, (k0_pay3 (View.ld x0 (Rect.unit ![0, 3072] ![256, 128] inb_S256x3200_S256x128_0_3072)) x1 x2 : FVec Ideal S256x512 .f32) y
      = (L (256 * b + (y 0).val) (y 1).val : EReal)) (r : Fin 256) (k : Fin 512) :
    gcB x0 x1 x2 (ix2 r k) = (gc L (4 * b + r.val / 64) (r.val % 64) k.val : EReal) := by
  unfold gcB
  have ht := tri
  simp only [k0_pay12, k0_pay13]
  generalize k0_pay7 (F := Ideal) _ _ _ _ _ _ = M at ht
  generalize k0_pay3 (F := Ideal) _ _ _ = la at hL
  pointwise [k0_pay11, k0_pay10, k0_pay9, k0_pay8]
  have h0 : ∀ x : Fin 256, la (ix2 x k) = (L (256 * b + x.val) k.val : EReal) := fun x => hL _
  have hz : ∀ r : ℝ, (r : EReal) - r = 0 := fun r => by rw [← EReal.coe_sub, sub_self, EReal.coe_zero]
  simp only [h0, ht, hz, sub_zero, mul_zero, Finset.sum_const_zero, add_zero, ← EReal.coe_mul]
  rw [coe_sum, ← gc_masked L b r]

/-! ## A block's states and outputs as real numbers -/

section
variable {P L : ℕ → ℕ → ℝ} {b : ℕ} {x0 : Vec Ideal S256x3200 .f32} {G : Vec Ideal S256x512 .f32}
  (hx : ∀ (r : Fin 256) (j : Fin 3200), j.val < 2048 → x0 (ix2 r j) = (P (256 * b + r.val) j.val : EReal))
  (hG : ∀ (r : Fin 256) (k : Fin 512), G (ix2 r k) = (gc L (4 * b + r.val / 64) (r.val % 64) k.val : EReal))
include hx hG

/-- The state after chunk `n` of block `b`. -/
theorem stB_coe (n : ℕ) (hn : n < 4) (prev : Vec Ideal S512x256 .f32)
    (hp : ∀ (k : Fin 512) (e : Fin 256), prev (ix2 k e) = (St P L (4 * b + n) k.val e.val : EReal)) (k : Fin 512) (e : Fin 256) :
    stB x0 G n prev (ix2 k e) = (St P L (4 * b + n + 1) k.val e.val : EReal) := by
  have hk := k.isLt
  have he := e.isLt
  have hm : n % 4 = n := Nat.mod_eq_of_lt hn
  have hw : ∀ s : Fin 64, wB G (ix2 ⟨64 * (n % 4) + s.val, by omega⟩ k) = ((Real.exp (gc L (4 * b + n) 63 k.val - gc L (4 * b + n) s.val k.val) : ℝ) : EReal) := fun s => by
    have hs := s.isLt
    show Ideal.exp (G (ix2 ⟨64 * ((64 * (n % 4) + s.val) / 64) + 63, _⟩ k) - G (ix2 ⟨64 * (n % 4) + s.val, _⟩ k)) = _
    rw [hG, hG, ← EReal.coe_sub, exp_coe]
    dsimp only
    congr 4 <;> omega
  have hge : Ideal.exp (G (ix2 ⟨64 * (n % 4) + 63, by omega⟩ k)) = ((Real.exp (gc L (4 * b + n) 63 k.val) : ℝ) : EReal) := by
    rw [hG, exp_coe]
    dsimp only
    congr 3 <;> omega
  have ht : ∀ s : Fin 64, (x0 (ix2 ⟨64 * (n % 4) + s.val, by omega⟩ ⟨512 + k.val, by omega⟩) * wB G (ix2 ⟨64 * (n % 4) + s.val, by omega⟩ k))
        * x0 (ix2 ⟨64 * (n % 4) + s.val, by omega⟩ ⟨1024 + 256 * (k.val / 128) + e.val, by omega⟩)
      = ((kd P L (4 * b + n) s.val k.val * P (64 * (4 * b + n) + s.val) (1024 + 256 * (k.val / 128) + e.val) : ℝ) : EReal) := fun s => by
    rw [hw s, hx _ _ (by show 512 + k.val < 2048; omega), hx _ _ (by show 1024 + 256 * (k.val / 128) + e.val < 2048; omega), ← EReal.coe_mul, ← EReal.coe_mul, kd,
      show 256 * b + (64 * (n % 4) + s.val) = 64 * (4 * b + n) + s.val by omega]
  refine (congrArg₂ (· + ·) (congrArg₂ (· * ·) hge (hp k e)) ((Finset.sum_congr rfl fun s _ => ht s).trans (coe_sum _ _))).trans ?_
  rw [← EReal.coe_mul, ← EReal.coe_add]
  rfl

/-- The states after each chunk of block `b`, from the state before the block. -/
theorem chainB_coe (prev : Vec Ideal S512x256 .f32)
    (hp : ∀ (k : Fin 512) (e : Fin 256), prev (ix2 k e) = (St P L (4 * b) k.val e.val : EReal)) (n : ℕ) (hn : n < 4) (k : Fin 512) (e : Fin 256) :
    chainB x0 G prev n (ix2 k e) = (St P L (4 * b + n + 1) k.val e.val : EReal) := by
  induction n generalizing k e with
  | zero => exact stB_coe hx hG 0 hn prev hp k e
  | succ n ih => exact stB_coe hx hG (n + 1) hn _ (ih (by omega)) k e

omit hG in
/-- A head's output of a row of block `b` before the norm. -/
theorem oB_coe (S : Vec Ideal S512x256 .f32) (r : Fin 256) (h : ℕ) (hh : h < 4)
    (hS : ∀ (k : Fin 512) (e : Fin 256), S (ix2 k e) = (St P L (4 * b + r.val / 64 + 1) k.val e.val : EReal)) (e : Fin 256) :
    oB x0 S r h e = (out P L (4 * b + r.val / 64) (r.val % 64) h e.val : EReal) := by
  have hr := r.isLt
  have ht : ∀ d : Fin 128, (x0 (ix2 r ⟨128 * (h % 4) + d.val, by omega⟩) * Ideal.ofBits .f32 0x3DB504F3#32) * S (ix2 ⟨128 * (h % 4) + d.val, by omega⟩ e)
      = ((P (64 * (4 * b + r.val / 64) + r.val % 64) (128 * h + d.val) * scale * St P L (4 * b + r.val / 64 + 1) (128 * h + d.val) e.val : ℝ) : EReal) := fun d => by
    have hd := d.isLt
    have hm : h % 4 = h := Nat.mod_eq_of_lt hh
    rw [hS, hx _ _ (by show 128 * (h % 4) + d.val < 2048; omega), scale_coe, ← EReal.coe_mul, ← EReal.coe_mul,
      show 256 * b + r.val = 64 * (4 * b + r.val / 64) + r.val % 64 by omega]
    dsimp only
    rw [hm]
  exact (Finset.sum_congr rfl fun d _ => ht d).trans (coe_sum _ _)

end

end Cert.Kernel3Ideal.Gla
-- ==== Proof.GlaPoints.lean ====
module

public import proofs.«01_k».proof.Proof.GlaBlocks
public import Idealize.ShloMosaic.Lib.Pipeline.ValueKit
public import Idealize.ShloMosaic.Lib.Pipeline.CanonAppend
public import Idealize.ShloMosaic.Lib.Pointwise

/-!
# The two kinds of grid point of the gated linear attention call

The first point starts from the zero state, a later one from the state the point before it left. For both, the block of
states, the carried state and the block of outputs are the functions of Proof/GlaBlocks.lean.
-/

@[expose] public section

set_option maxRecDepth 16384

noncomputable section

open Idealize.ShloMosaic Idealize.ShloMosaic.TcCoe Idealize.SL.Sem
open Idealize.ShloMosaic.Pipeline (Dat)

namespace Cert.Kernel3Ideal.Gla

open Cert.Kernel3Ideal Cert.Kernel3Ideal.Gen

set_option maxHeartbeats 2000000 in
/-- At a later point the states' block holds the chain of the four chunks' states, from the carried one. -/
theorem statesB (c : Dev nD) (i : grid0.Coords) (arg1 : Memref sig .tc .vmem S256x3200 .f32) (harg1 : arg1.IsWhole) (arg2 : Memref sig .tc .vmem S128x512 .bf16) (harg2 : arg2.IsWhole)
    (arg3 : Memref sig .tc .vmem S1x512 .f32) (harg3 : arg3.IsWhole) (arg4 : Memref sig .tc .vmem S1x1024 .f32) (harg4 : arg4.IsWhole) (arg5 : Memref sig .tc .vmem S256x1024 .bf16) (harg5 : arg5.IsWhole)
    (arg6 : Memref sig .tc .vmem S4x512x256 .f32) (harg6 : arg6.IsWhole) (arg7 : Memref sig .tc .vmem S512x256 .f32) (harg7 : arg7.IsWhole) (arg8 : Memref sig .tc .vmem S256x512 .f32) (harg8 : arg8.IsWhole)
    (arg9 : Memref sig .tc .vmem S8x512 .f32) (harg9 : arg9.IsWhole) (hc0 : ¬cond0_0 i)
    (x0 : Vec Ideal S256x3200 .f32) (x1 : Vec Ideal S128x512 .bf16) (x2 : Vec Ideal S1x512 .f32) (x3 : Vec Ideal S1x1024 .f32) (xs0 : Vec Ideal S512x256 .f32) (y : S4x512x256.Idx) :
    out0_B_5 c i arg1 harg1 arg2 harg2 arg3 harg3 arg4 harg4 arg5 harg5 arg6 harg6 arg7 harg7 arg8 harg8 arg9 harg9 hc0 x0 x1 x2 x3 xs0 y = chainB x0 (gcB x0 x1 x2) xs0 (y 0).val (ix2 (y 1) (y 2)) := by
  frame_out
  unfold gcB
  canon_tiles x h
  all_goals
    simp (disch := decide) only [↓View.readCov_cons_toLoadRect, ↓w_read, ↓g_read, ↓readCov_miss]
    generalize k0_pay13 (F := Ideal) _ _ _ = G
    simp only [k0_pay1, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, shapeCast_id]
    repeat rw [unit_ld]
    any_goals decide
    refine (st_piece _ _ _ _ (y 1) (y 2) (by omega) (by omega)).trans ?_
    rcases (by omega : (y 0).val = 0 ∨ (y 0).val = 1 ∨ (y 0).val = 2 ∨ (y 0).val = 3) with e | e | e | e
    all_goals first
      | (exfalso; omega)
      | rw [e]; rfl

set_option maxHeartbeats 2000000 in
/-- At the first point the states' block holds the chain from the zero state. -/
theorem statesA (c : Dev nD) (i : grid0.Coords) (arg1 : Memref sig .tc .vmem S256x3200 .f32) (harg1 : arg1.IsWhole) (arg2 : Memref sig .tc .vmem S128x512 .bf16) (harg2 : arg2.IsWhole)
    (arg3 : Memref sig .tc .vmem S1x512 .f32) (harg3 : arg3.IsWhole) (arg4 : Memref sig .tc .vmem S1x1024 .f32) (harg4 : arg4.IsWhole) (arg5 : Memref sig .tc .vmem S256x1024 .bf16) (harg5 : arg5.IsWhole)
    (arg6 : Memref sig .tc .vmem S4x512x256 .f32) (harg6 : arg6.IsWhole) (arg7 : Memref sig .tc .vmem S512x256 .f32) (harg7 : arg7.IsWhole) (arg8 : Memref sig .tc .vmem S256x512 .f32) (harg8 : arg8.IsWhole)
    (arg9 : Memref sig .tc .vmem S8x512 .f32) (harg9 : arg9.IsWhole) (hc0 : cond0_0 i)
    (x0 : Vec Ideal S256x3200 .f32) (x1 : Vec Ideal S128x512 .bf16) (x2 : Vec Ideal S1x512 .f32) (x3 : Vec Ideal S1x1024 .f32) (y : S4x512x256.Idx) :
    out0_A_5 c i arg1 harg1 arg2 harg2 arg3 harg3 arg4 harg4 arg5 harg5 arg6 harg6 arg7 harg7 arg8 harg8 arg9 harg9 hc0 x0 x1 x2 x3 y = chainB x0 (gcB x0 x1 x2) (k0_pay2 (F := Ideal)) (y 0).val (ix2 (y 1) (y 2)) := by
  frame_out
  unfold gcB
  canon_tiles x h
  all_goals
    simp (disch := decide) only [↓View.readCov_cons_toLoadRect, ↓w_read, ↓g_read, ↓readCov_miss, ↓readCov_whole]
    generalize k0_pay13 (F := Ideal) _ _ _ = G
    simp only [k0_pay1, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, shapeCast_id]
    repeat rw [unit_ld]
    any_goals decide
    refine (st_piece _ _ _ _ (y 1) (y 2) (by omega) (by omega)).trans ?_
    rcases (by omega : (y 0).val = 0 ∨ (y 0).val = 1 ∨ (y 0).val = 2 ∨ (y 0).val = 3) with e | e | e | e
    all_goals first
      | (exfalso; omega)
      | rw [e]; rfl

set_option maxHeartbeats 2000000 in
/-- At a later point the carried state becomes the chain's last. -/
theorem soutB (c : Dev nD) (i : grid0.Coords) (arg1 : Memref sig .tc .vmem S256x3200 .f32) (harg1 : arg1.IsWhole) (arg2 : Memref sig .tc .vmem S128x512 .bf16) (harg2 : arg2.IsWhole)
    (arg3 : Memref sig .tc .vmem S1x512 .f32) (harg3 : arg3.IsWhole) (arg4 : Memref sig .tc .vmem S1x1024 .f32) (harg4 : arg4.IsWhole) (arg5 : Memref sig .tc .vmem S256x1024 .bf16) (harg5 : arg5.IsWhole)
    (arg6 : Memref sig .tc .vmem S4x512x256 .f32) (harg6 : arg6.IsWhole) (arg7 : Memref sig .tc .vmem S512x256 .f32) (harg7 : arg7.IsWhole) (arg8 : Memref sig .tc .vmem S256x512 .f32) (harg8 : arg8.IsWhole)
    (arg9 : Memref sig .tc .vmem S8x512 .f32) (harg9 : arg9.IsWhole) (hc0 : ¬cond0_0 i)
    (x0 : Vec Ideal S256x3200 .f32) (x1 : Vec Ideal S128x512 .bf16) (x2 : Vec Ideal S1x512 .f32) (x3 : Vec Ideal S1x1024 .f32) (xs0 : Vec Ideal S512x256 .f32) (y : S512x256.Idx) :
    sout0_B_0 c i arg1 harg1 arg2 harg2 arg3 harg3 arg4 harg4 arg5 harg5 arg6 harg6 arg7 harg7 arg8 harg8 arg9 harg9 hc0 x0 x1 x2 x3 xs0 y = chainB x0 (gcB x0 x1 x2) xs0 3 y := by
  frame_out
  unfold gcB
  change View.canon ([_, _, _, _] ++ _) y = _
  refine View.canon_append_of_pieces _ _ _ ?_ y (heads_cover _ _ _ _ y)
  refine List.forall_mem_cons.mpr ⟨?_, List.forall_mem_cons.mpr ⟨?_, List.forall_mem_cons.mpr ⟨?_, List.forall_mem_cons.mpr ⟨?_, fun _ h => absurd h List.not_mem_nil⟩⟩⟩⟩
  all_goals
    refine fun x => congrFun (?_ : _ = View.ld _ _) x
    simp (disch := decide) only [↓View.readCov_cons_toLoadRect, ↓w_read, ↓g_read, ↓readCov_miss, ↓readCov_whole]
    generalize k0_pay13 (F := Ideal) _ _ _ = G
    simp only [k0_pay1, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, shapeCast_id]
    repeat rw [unit_ld]
    any_goals decide
    rfl

set_option maxHeartbeats 2000000 in
/-- At the first point the carried state becomes the last of the chain from the zero state. -/
theorem soutA (c : Dev nD) (i : grid0.Coords) (arg1 : Memref sig .tc .vmem S256x3200 .f32) (harg1 : arg1.IsWhole) (arg2 : Memref sig .tc .vmem S128x512 .bf16) (harg2 : arg2.IsWhole)
    (arg3 : Memref sig .tc .vmem S1x512 .f32) (harg3 : arg3.IsWhole) (arg4 : Memref sig .tc .vmem S1x1024 .f32) (harg4 : arg4.IsWhole) (arg5 : Memref sig .tc .vmem S256x1024 .bf16) (harg5 : arg5.IsWhole)
    (arg6 : Memref sig .tc .vmem S4x512x256 .f32) (harg6 : arg6.IsWhole) (arg7 : Memref sig .tc .vmem S512x256 .f32) (harg7 : arg7.IsWhole) (arg8 : Memref sig .tc .vmem S256x512 .f32) (harg8 : arg8.IsWhole)
    (arg9 : Memref sig .tc .vmem S8x512 .f32) (harg9 : arg9.IsWhole) (hc0 : cond0_0 i)
    (x0 : Vec Ideal S256x3200 .f32) (x1 : Vec Ideal S128x512 .bf16) (x2 : Vec Ideal S1x512 .f32) (x3 : Vec Ideal S1x1024 .f32) (y : S512x256.Idx) :
    sout0_A_0 c i arg1 harg1 arg2 harg2 arg3 harg3 arg4 harg4 arg5 harg5 arg6 harg6 arg7 harg7 arg8 harg8 arg9 harg9 hc0 x0 x1 x2 x3 y = chainB x0 (gcB x0 x1 x2) (k0_pay2 (F := Ideal)) 3 y := by
  frame_out
  unfold gcB
  change View.canon ([_, _, _, _] ++ _) y = _
  refine View.canon_append_of_pieces _ _ _ ?_ y (heads_cover _ _ _ _ y)
  refine List.forall_mem_cons.mpr ⟨?_, List.forall_mem_cons.mpr ⟨?_, List.forall_mem_cons.mpr ⟨?_, List.forall_mem_cons.mpr ⟨?_, fun _ h => absurd h List.not_mem_nil⟩⟩⟩⟩
  all_goals
    refine fun x => congrFun (?_ : _ = View.ld _ _) x
    simp (disch := decide) only [↓View.readCov_cons_toLoadRect, ↓w_read, ↓g_read, ↓readCov_miss, ↓readCov_whole]
    generalize k0_pay13 (F := Ideal) _ _ _ = G
    simp only [k0_pay1, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, shapeCast_id]
    repeat rw [unit_ld]
    any_goals decide
    rfl

set_option maxHeartbeats 2000000 in
/-- At a later point the output block holds the normed and gated outputs against the chain's states. -/
theorem outsB (c : Dev nD) (i : grid0.Coords) (arg1 : Memref sig .tc .vmem S256x3200 .f32) (harg1 : arg1.IsWhole) (arg2 : Memref sig .tc .vmem S128x512 .bf16) (harg2 : arg2.IsWhole)
    (arg3 : Memref sig .tc .vmem S1x512 .f32) (harg3 : arg3.IsWhole) (arg4 : Memref sig .tc .vmem S1x1024 .f32) (harg4 : arg4.IsWhole) (arg5 : Memref sig .tc .vmem S256x1024 .bf16) (harg5 : arg5.IsWhole)
    (arg6 : Memref sig .tc .vmem S4x512x256 .f32) (harg6 : arg6.IsWhole) (arg7 : Memref sig .tc .vmem S512x256 .f32) (harg7 : arg7.IsWhole) (arg8 : Memref sig .tc .vmem S256x512 .f32) (harg8 : arg8.IsWhole)
    (arg9 : Memref sig .tc .vmem S8x512 .f32) (harg9 : arg9.IsWhole) (hc0 : ¬cond0_0 i)
    (x0 : Vec Ideal S256x3200 .f32) (x1 : Vec Ideal S128x512 .bf16) (x2 : Vec Ideal S1x512 .f32) (x3 : Vec Ideal S1x1024 .f32) (xs0 : Vec Ideal S512x256 .f32) (y : S256x1024.Idx) :
    out0_B_4 c i arg1 harg1 arg2 harg2 arg3 harg3 arg4 harg4 arg5 harg5 arg6 harg6 arg7 harg7 arg8 harg8 arg9 harg9 hc0 x0 x1 x2 x3 xs0 y = ogB x0 x3 (chainB x0 (gcB x0 x1 x2) xs0) y := by
  frame_out
  unfold gcB
  canon_tiles x h
  all_goals
    simp (disch := decide) only [↓View.readCov_cons_toLoadRect, ↓w_read, ↓g_read, ↓readCov_miss, ↓readCov_whole]
    generalize k0_pay13 (F := Ideal) _ _ _ = G
    simp only [k0_pay1, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, shapeCast_id]
    repeat rw [unit_ld]
    any_goals decide
    refine og_piece x0 x3 _ _ _ _ _ _ _ _ _ _ ?_ ?_ ?_ ?_ ?_ x y ?_ ?_
    any_goals first
      | decide
      | omega
    rfl

set_option maxHeartbeats 2000000 in
/-- At the first point likewise, from the zero state. -/
theorem outsA (c : Dev nD) (i : grid0.Coords) (arg1 : Memref sig .tc .vmem S256x3200 .f32) (harg1 : arg1.IsWhole) (arg2 : Memref sig .tc .vmem S128x512 .bf16) (harg2 : arg2.IsWhole)
    (arg3 : Memref sig .tc .vmem S1x512 .f32) (harg3 : arg3.IsWhole) (arg4 : Memref sig .tc .vmem S1x1024 .f32) (harg4 : arg4.IsWhole) (arg5 : Memref sig .tc .vmem S256x1024 .bf16) (harg5 : arg5.IsWhole)
    (arg6 : Memref sig .tc .vmem S4x512x256 .f32) (harg6 : arg6.IsWhole) (arg7 : Memref sig .tc .vmem S512x256 .f32) (harg7 : arg7.IsWhole) (arg8 : Memref sig .tc .vmem S256x512 .f32) (harg8 : arg8.IsWhole)
    (arg9 : Memref sig .tc .vmem S8x512 .f32) (harg9 : arg9.IsWhole) (hc0 : cond0_0 i)
    (x0 : Vec Ideal S256x3200 .f32) (x1 : Vec Ideal S128x512 .bf16) (x2 : Vec Ideal S1x512 .f32) (x3 : Vec Ideal S1x1024 .f32) (y : S256x1024.Idx) :
    out0_A_4 c i arg1 harg1 arg2 harg2 arg3 harg3 arg4 harg4 arg5 harg5 arg6 harg6 arg7 harg7 arg8 harg8 arg9 harg9 hc0 x0 x1 x2 x3 y = ogB x0 x3 (chainB x0 (gcB x0 x1 x2) (k0_pay2 (F := Ideal))) y := by
  frame_out
  unfold gcB
  canon_tiles x h
  all_goals
    simp (disch := decide) only [↓View.readCov_cons_toLoadRect, ↓w_read, ↓g_read, ↓readCov_miss, ↓readCov_whole]
    generalize k0_pay13 (F := Ideal) _ _ _ = G
    simp only [k0_pay1, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, shapeCast_id]
    repeat rw [unit_ld]
    any_goals decide
    refine og_piece x0 x3 _ _ _ _ _ _ _ _ _ _ ?_ ?_ ?_ ?_ ?_ x y ?_ ?_
    any_goals first
      | decide
      | omega
    rfl

end Cert.Kernel3Ideal.Gla
-- ==== Proof.GlaRun.lean ====
module

public import proofs.«01_k».proof.Proof.GlaValues
public import proofs.«01_k».proof.Proof.GlaPoints
public import proofs.«01_k».proof.Proof.GlaMaths
public import Idealize.ShloMosaic.Lib.Pipeline.ValueKit
public import proofs.«01_k».proof.Proof.Gen.Kernel3Ideal.Value
public import Idealize.ShloMosaic.Lib.Pipeline.CanonAppend
public import Idealize.ShloMosaic.Lib.Pointwise

/-!
# The gated linear attention call as the kernel runs it

The arrays the kernel leaves after its sixteen grid points, on inputs whose queries, keys, values and gates are
real numbers: by induction on the points, each of which carries the state on to the next.
-/

@[expose] public section

set_option maxRecDepth 16384

noncomputable section

open Idealize.ShloMosaic Idealize.ShloMosaic.TcCoe Idealize.SL.Sem
open Idealize.ShloMosaic.Pipeline (Dat)

namespace Cert.Kernel3Ideal.Gla

open Cert.Kernel3Ideal Cert.Kernel3Ideal.Gen Cert.Gla

variable (m : (ℓ : Loc nD τ sig) → Buf (Elt Ideal) ℓ) (ρ : Dev nD → PrngReg)

/-- The projections the kernel reads. -/
abbrev projOf (c : Dev nD) : Rows 4096 3200 .f32 := m ((c : Thread nD τ).loc main_arg0)
/-- The gates' weight. -/
abbrev wg2Of (c : Dev nD) : Rows 16 512 .f32 := m ((c : Thread nD τ).loc main_arg1)
/-- The gates' bias. -/
abbrev bgOf (c : Dev nD) : Rows 1 512 .f32 := m ((c : Thread nD τ).loc main_arg2)
/-- The norm's gain. -/
abbrev gnOf (c : Dev nD) : Rows 1 1024 .f32 := m ((c : Thread nD τ).loc main_arg3)

/-- Grid point `t` reads block `t` of the projection and the whole of the gate matrix and of its bias. -/
theorem idx_read : ∀ t : Fin cfg0.N, win0_0.index t = ![t.val, 0] ∧ win0_1.index t = ![0, 0] ∧ win0_2.index t = ![0, 0]
    ∧ win0_3.index t = ![0, 0] := (by decide +kernel : ∀ t : Fin grid0.N, _)

/-- The block of the projection at point `t` is its rows `256 t` to `256 t + 255`. -/
theorem x0_eq (c : Dev nD) (t : Fin cfg0.N) (r : Fin 256) (j : Fin 3200) (i : Fin 4096) (hi : i.val = 256 * t.val + r.val) :
    (iblk m c 0 t : Vec Ideal S256x3200 .f32) (ix2 r j) = projOf m c (ix2 i j) := by
  blk_point [iblk, idx_read t]

/-- The gate matrix as the host pads it: 16 rows of the argument, then zeros. -/
theorem padded_eq (c : Dev nD) (r : Fin 128) (j : Fin 512) :
    (V m c main_v2 : FVec Ideal S128x512 .bf16) (ix2 r j) = if h : r.val < 16 then wg2Of m c (ix2 ⟨r.val, h⟩ j) else (0 : EReal) := by
  entry_read
  pointwise

/-- The block of the gate matrix is the padded matrix. -/
theorem x1_eq (c : Dev nD) (t : Fin cfg0.N) (r : Fin 128) (j : Fin 512) :
    (iblk m c 1 t : Vec Ideal S128x512 .bf16) (ix2 r j) = if h : r.val < 16 then wg2Of m c (ix2 ⟨r.val, h⟩ j) else (0 : EReal) := by
  refine Eq.trans ?_ (padded_eq m c r j)
  blk_point [iblk, idx_read t]

/-- The block of the bias is the bias. -/
theorem x2_eq (c : Dev nD) (t : Fin cfg0.N) (j : Fin 512) :
    (iblk m c 2 t : Vec Ideal S1x512 .f32) (ix2 0 j) = bgOf m c (ix2 0 j) := by
  blk_point [iblk, idx_read t]
/-- The block of the norm weights is the norm weights. -/
theorem x3_eq (c : Dev nD) (t : Fin cfg0.N) (j : Fin 1024) :
    (iblk m c 3 t : Vec Ideal S1x1024 .f32) (ix2 0 j) = gnOf m c (ix2 0 j) := by
  blk_point [iblk, idx_read t]

/-- A sum over 128 columns of which only the first 16 have a weight. -/
theorem sum_padded (f : Fin 128 → EReal) (w : Fin 16 → EReal) :
    (∑ c : Fin 128, f c * (if h : c.val < 16 then w ⟨c.val, h⟩ else (0 : EReal))) = ∑ c : Fin 16, f ⟨c.val, by omega⟩ * w c := by
  refine (Fin.sum_univ_add (a := 16) (b := 112) fun c => f c * (if h : c.val < 16 then w ⟨c.val, h⟩ else (0 : EReal))).trans ?_
  have h0 : ∀ i : Fin 112, f (Fin.natAdd 16 i) * (if h : (Fin.natAdd 16 i).val < 16 then w ⟨(Fin.natAdd 16 i).val, h⟩ else (0 : EReal)) = 0 := fun i => by
    rw [dif_neg (by simp), mul_zero]
  rw [Finset.sum_congr rfl fun i _ => h0 i, Finset.sum_const_zero, add_zero]
  refine Finset.sum_congr rfl fun i _ => ?_
  rw [dif_pos (by simp)]
  rfl

section
variable {m} {P Gt : ℕ → ℕ → ℝ} {c : Dev nD} (H : Real4 P Gt (projOf m c) (wg2Of m c) (bgOf m c))
include H

/-- The gates of a block of rows. -/
theorem gates_block (t : Fin cfg0.N) (y : S256x512.Idx) :
    (k0_pay3 (View.ld (iblk m c 0 t : Vec Ideal S256x3200 .f32) (Rect.unit ![0, 3072] ![256, 128] inb_S256x3200_S256x128_0_3072)) (iblk m c 1 t) (iblk m c 2 t) : FVec Ideal S256x512 .f32) y
      = (gate (Gt (256 * t.val + (y 0).val) (y 1).val) : EReal) := by
  have h0 : (y 0).val < 256 := (y 0).isLt
  have ht : t.val < 16 := lt_of_lt_of_eq t.isLt N_0
  refine lgate _ _ _ y _ ?_
  rw [← H.gates ⟨256 * t.val + (y 0).val, by omega⟩ (y 1), x2_eq m c t (y 1)]
  congr 1
  refine Eq.trans (Finset.sum_congr rfl fun j _ => ?_) (sum_padded (fun j => projOf m c (ix2 ⟨256 * t.val + (y 0).val, by omega⟩ ⟨3072 + j.val, by omega⟩)) (fun j => wg2Of m c (ix2 j (y 1))))
  rw [x1_eq m c t j (y 1)]
  congr 1
  rw [View.ld_apply, ← x0_eq m c t (y 0) ⟨3072 + j.val, by omega⟩ ⟨256 * t.val + (y 0).val, by omega⟩ rfl]
  congr 1
  idx_ext

/-- The queries, the keys and the values of a block of rows. -/
theorem qkv_block (t : Fin cfg0.N) (r : Fin 256) (j : Fin 3200) (hj : j.val < 2048) :
    (iblk m c 0 t : Vec Ideal S256x3200 .f32) (ix2 r j) = (P (256 * t.val + r.val) j.val : EReal) := by
  have ht : t.val < 16 := lt_of_lt_of_eq t.isLt N_0
  have hr := r.isLt
  exact (x0_eq m c t r j ⟨256 * t.val + r.val, by omega⟩ rfl).trans (H.qkv _ _ hj)

/-- The running sums of a block of rows. -/
theorem sums_block (t : Fin cfg0.N) (r : Fin 256) (k : Fin 512) :
    gcB (iblk m c 0 t) (iblk m c 1 t) (iblk m c 2 t) (ix2 r k) = (gc (fun i k => gate (Gt i k)) (4 * t.val + r.val / 64) (r.val % 64) k.val : EReal) :=
  gcB_apply _ _ _ (fun i k => gate (Gt i k)) t.val (gates_block H t) r k

/-- The chain of states of a block of rows, from the state before it. -/
theorem chain_block (t : Fin cfg0.N) (S : Vec Ideal S512x256 .f32)
    (hS : ∀ (k : Fin 512) (e : Fin 256), S (ix2 k e) = (St P (fun i k => gate (Gt i k)) (4 * t.val) k.val e.val : EReal)) (n : ℕ) (hn : n < 4) (k : Fin 512) (e : Fin 256) :
    chainB (iblk m c 0 t) (gcB (iblk m c 0 t) (iblk m c 1 t) (iblk m c 2 t)) S n (ix2 k e)
      = (St P (fun i k => gate (Gt i k)) (4 * t.val + n + 1) k.val e.val : EReal) :=
  chainB_coe (fun r j hj => qkv_block H t r j hj) (fun r k => sums_block H t r k) S hS n hn k e

/-- The outputs of a block of rows, from the state before it. -/
theorem og_block (t : Fin cfg0.N) (S : Vec Ideal S512x256 .f32)
    (hS : ∀ (k : Fin 512) (e : Fin 256), S (ix2 k e) = (St P (fun i k => gate (Gt i k)) (4 * t.val) k.val e.val : EReal))
    (r : Fin 256) (j : Fin 1024) (i : Fin 4096) (hi : i.val = 256 * t.val + r.val) :
    ogB (iblk m c 0 t) (iblk m c 3 t) (chainB (iblk m c 0 t) (gcB (iblk m c 0 t) (iblk m c 1 t) (iblk m c 2 t)) S) (ix2 r j)
      = ogs P (fun i k => gate (Gt i k)) (projOf m c) (gnOf m c) i j := by
  have ht : t.val < 16 := lt_of_lt_of_eq t.isLt N_0
  have hr := r.isLt
  have hj := j.isLt
  have ho : ∀ e : Fin 256, oB (iblk m c 0 t) (chainB (iblk m c 0 t) (gcB (iblk m c 0 t) (iblk m c 1 t) (iblk m c 2 t)) S (r.val / 64)) r (j.val / 256) e
      = (out P (fun i k => gate (Gt i k)) (i.val / 64) (i.val % 64) (j.val / 256) e.val : EReal) := fun e => by
    rw [oB_coe (b := t.val) (fun r j hj => qkv_block H t r j hj) _ r (j.val / 256) (by omega)
      (fun k e => chain_block H t S hS (r.val / 64) (by omega) k e) e]
    rw [show i.val / 64 = 4 * t.val + r.val / 64 by omega, show i.val % 64 = r.val % 64 by omega]
  have hx := x0_eq m c t r ⟨2048 + j.val, by omega⟩ i hi
  have hg := x3_eq m c t j
  generalize chainB (iblk m c 0 t) (gcB (iblk m c 0 t) (iblk m c 1 t) (iblk m c 2 t)) S = C at ho
  unfold ogB ogs
  show ((oB _ (C (r.val / 64)) r (j.val / 256) ⟨j.val % 256, _⟩ * Ideal.rsqrt (Ideal.div (∑ e : Fin 256, oB _ (C (r.val / 64)) r (j.val / 256) e * oB _ (C (r.val / 64)) r (j.val / 256) e) _ + _))
      * (show EReal from (iblk m c 3 t : Vec Ideal S1x1024 .f32) (ix2 0 j))) * ((show EReal from (iblk m c 0 t : Vec Ideal S256x3200 .f32) (ix2 r ⟨2048 + j.val, _⟩)) * Ideal.logistic ((iblk m c 0 t : Vec Ideal S256x3200 .f32) (ix2 r ⟨2048 + j.val, _⟩))) = _
  simp only [ho]
  rw [hx, hg]

end
/-- The block indices of the results' windows at grid point `t`. -/
theorem idx_written : ∀ t : Fin cfg0.N, win0_4.index t = ![t.val, 0] ∧ win0_5.index t = ![t.val, 0, 0] :=
  (by decide +kernel : ∀ t : Fin grid0.N, _)

section
variable {m} {P Gt : ℕ → ℕ → ℝ} {c : Dev nD} (H : Real4 P Gt (projOf m c) (wg2Of m c) (bgOf m c))
include H

/-- What a grid point leaves: its rows' outputs, its chunks' states, and the state carried on. -/
theorem point (n : ℕ) (hn : n < cfg0.N) :
    (∀ (r : Fin 256) (j : Fin 1024) (i : Fin 4096), i.val = 256 * n + r.val →
        (outsAt0 m c n hn).1 (ix2 r j) = ogs P (fun i k => gate (Gt i k)) (projOf m c) (gnOf m c) i j)
    ∧ (∀ (q : Fin 4) (k : Fin 512) (e : Fin 256),
        (outsAt0 m c n hn).2.1 (ix3 q k e) = (St P (fun i k => gate (Gt i k)) (4 * n + q.val + 1) k.val e.val : EReal))
    ∧ (∀ (k : Fin 512) (e : Fin 256),
        (outsAt0 m c n hn).2.2 (ix2 k e) = (St P (fun i k => gate (Gt i k)) (4 * (n + 1)) k.val e.val : EReal)) := by
  have hN : cfg0.N = 16 := N_0
  induction n with
  | zero =>
    have hS : ∀ (k : Fin 512) (e : Fin 256), (k0_pay2 (F := Ideal)) (ix2 k e) = (St P (fun i k => gate (Gt i k)) (4 * (⟨0, hn⟩ : Fin cfg0.N).val) k.val e.val : EReal) := fun k e => by
      pointwise [k0_pay2]
      simp [St, Ideal.ofBits_zero_f32]
    rw [outsAt0_A m c ⟨0, hn⟩ rfl]
    refine ⟨fun r j i hi => ?_, fun q k e => ?_, fun k e => ?_⟩
    · dsimp only; rw [outsA]; exact og_block H ⟨0, hn⟩ _ hS r j i hi
    · dsimp only; rw [statesA]; exact chain_block H ⟨0, hn⟩ _ hS q.val q.isLt k e
    · dsimp only; rw [soutA]; exact chain_block H ⟨0, hn⟩ _ hS 3 (by omega) k e
  | succ n ih =>
    obtain ⟨-, -, ih⟩ := ih (by omega)
    rw [outsAt0_B m c ⟨n + 1, hn⟩ (show ¬(n + 1) % 16 = 0 by omega)]
    refine ⟨fun r j i hi => ?_, fun q k e => ?_, fun k e => ?_⟩
    · dsimp only; rw [outsB]; exact og_block H ⟨n + 1, hn⟩ _ ih r j i hi
    · dsimp only; rw [statesB]; exact chain_block H ⟨n + 1, hn⟩ _ ih q.val q.isLt k e
    · dsimp only; rw [soutB]; exact chain_block H ⟨n + 1, hn⟩ _ ih 3 (by omega) k e

/-- The whole output. -/
theorem final_og : (dats m 0 c).arrAt 4 cfg0.N = (fun y => ogs P (fun i k => gate (Gt i k)) (projOf m c) (gnOf m c) (y 0) (y 1) : FVec Ideal S4096x1024 .bf16) := by
  refine (dats m 0 c).arrAt_eq_of_covers 4 _ (by decide +kernel) fun t _ y => ?_
  blk_simp
  rw [after0_4]
  have h := (point H t.val t.isLt).1 (y 0) (y 1) ((win0_4.blk t).view.emb y 0) (by blk_simp [idx_written t]; simp; ring)
  refine Eq.trans ?_ (h.trans ?_)
  · exact congrArg _ (by idx_ext)
  · congr 1; apply Fin.ext; blk_simp [idx_written t]

/-- The states after the chunks. -/
theorem final_states : (dats m 0 c).arrAt 5 cfg0.N = (fun y => ((St P (fun i k => gate (Gt i k)) ((y 0).val + 1) (y 1).val (y 2).val : ℝ) : EReal) : FVec Ideal S64x512x256 .f32) := by
  refine (dats m 0 c).arrAt_eq_of_covers 5 _ (by decide +kernel) fun t _ y => ?_
  blk_simp
  rw [after0_5]
  refine Eq.trans ?_ (((point H t.val t.isLt).2.1 (y 0) (y 1) (y 2)).trans ?_)
  · exact congrArg _ (by idx_ext)
  · rw [(idx_written t).2]
    have e0 : ((![t.val, 0, 0] : Fin 3 → ℕ) 0) * 4 + (y 0).val + 1 = 4 * t.val + (y 0).val + 1 := by simp; ring
    have e1 : ((![t.val, 0, 0] : Fin 3 → ℕ) 1) * 512 + (y 1).val = (y 1).val := by simp
    have e2 : ((![t.val, 0, 0] : Fin 3 → ℕ) 2) * 256 + (y 2).val = (y 2).val := by simp
    rw [e0, e1, e2]

end

/-- What the kernel leaves in its two results. -/
theorem values (m : (ℓ : Loc nD τ sig) → Buf (Elt Ideal) ℓ) (ρ : Dev nD → PrngReg) (PG : Dev nD → (ℕ → ℕ → ℝ) × (ℕ → ℕ → ℝ)) (H : ∀ c, Real4 (PG c).1 (PG c).2 (projOf m c) (wg2Of m c) (bgOf m c)) :
    θ_run defs (onTc (τ := τ) (main (F := Ideal))) ⟨m, fun _ => 0, ρ⟩ fun r => ∀ c : Dev nD,
      r.2.mem ((c : Thread nD τ).loc main_v3_0) = (fun y => ogs (PG c).1 (fun i k => gate ((PG c).2 i k)) (projOf m c) (gnOf m c) (y 0) (y 1) : FVec Ideal S4096x1024 .bf16)
      ∧ r.2.mem ((c : Thread nD τ).loc main_v3_1) = (fun y => ((St (PG c).1 (fun i k => gate ((PG c).2 i k)) ((y 0).val + 1) (y 1).val (y 2).val : ℝ) : EReal) : FVec Ideal S64x512x256 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨h4, h5, hk⟩ := h c
    exact ⟨h4.trans (final_og (H c)), h5.trans (final_states (H c)), hk⟩) (Value.run_blocks m ρ)

end Cert.Kernel3Ideal.Gla
-- ==== Proof.GlaReference.lean ====
module

public import proofs.«01_k».proof.Proof.Gen.Reference3Ideal.Run
public import proofs.«01_k».proof.Proof.GlaMaths
public import Idealize.ShloMosaic.Lib.Pipeline.ValueKit
public import Idealize.ShloMosaic.Lib.Pointwise
public import Idealize.ShloMosaic.Lib.WordCmp

/-!
# The gated linear attention reference

The host program read at an index, step by step: the running sums of the gates' logarithms within a chunk, what a chunk
adds to the state, the states before and after the chunks, the outputs, their norm and their gate. On real queries, keys,
values and gates its two results are the functions the kernel leaves.
-/

@[expose] public section

set_option maxRecDepth 16384

noncomputable section

open Idealize.ShloMosaic Idealize.ShloMosaic.TcCoe Idealize.SL.Sem

namespace Cert.Reference3Ideal.Gla

open Cert.Reference3Ideal Cert.Reference3Ideal.Gen Cert.Gla Cert.Reference3Ideal.Value

/-! ## Running sums -/

/-- Folding addition over a list. -/
theorem foldl_add {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

/-- The window's positions: one chunk, 64 rows, one column. -/
def windowIdx : Fin 64 ≃ (⟨3, ![1, 64, 1]⟩ : Shape).Idx where
  toFun t := ix3 0 t 0
  invFun i := i 1
  left_inv t := rfl
  right_inv i := by
    funext a
    match a with
    | ⟨0, _⟩ => exact Subsingleton.elim (α := Fin 1) _ _
    | ⟨1, _⟩ => rfl
    | ⟨2, _⟩ => exact Subsingleton.elim (α := Fin 1) _ _

/-- The host's running sum over the rows of each chunk. -/
theorem running (x : FVec Ideal S64x64x512 .f32) (f : ℕ → ℕ → ℕ → ℝ)
    (hx : ∀ (n : Fin 64) (s : Fin 64) (k : Fin 512), x (ix3 n s k) = (f n.val s.val k.val : EReal))
    (init : FVec Ideal S_ .f32) (hi : ∀ i, init i = (0 : EReal)) (n s : Fin 64) (k : Fin 512) :
    Host.reduceWindowAdd ![1, 64, 1] ![1, 1, 1] ![0, 63, 0] ![0, 0, 0] x init reduceWindows_S64x64x512_S64x64x512_w1s1p0_0_w64s1p63_0_w1s1p0_0 h_S_ (ix3 n s k)
      = ((∑ t ∈ Finset.range (s.val + 1), f n.val t k.val : ℝ) : EReal) := by
  have hs := s.isLt
  have hn := n.isLt
  have hk := k.isLt
  unfold Host.reduceWindowAdd
  rw [Ideal.hostReduceWindowAdd_def]
  unfold Ideal.hostReduceWindowAdd Host.reduceWindow
  dsimp only
  rw [foldl_add, hi, zero_add, ← Fin.sum_univ_def]
  have hw : ∀ (g : (⟨3, ![1, 64, 1]⟩ : Shape).Idx → ℝ), (g = fun w => if 63 ≤ s.val + (w 1).val then f n.val (s.val + (w 1).val - 63) k.val else 0) →
      ∑ i, ((g ((Shape.rowMajor ⟨3, ![1, 64, 1]⟩).symm i) : ℝ) : EReal)
        = ((∑ t : Fin 64, (if 63 ≤ s.val + t.val then f n.val (s.val + t.val - 63) k.val else 0) : ℝ) : EReal) := fun g hg => by
    rw [Equiv.sum_comp (Shape.rowMajor ⟨3, ![1, 64, 1]⟩).symm (fun w => ((g w : ℝ) : EReal)), ← Equiv.sum_comp windowIdx, coe_sum, hg]
    rfl
  refine Eq.trans (Finset.sum_congr rfl fun i _ => ?_) ((hw _ rfl).trans ?_)
  · let w := (Shape.rowMajor ⟨3, ![1, 64, 1]⟩).symm i
    show _ = ((if 63 ≤ s.val + (w 1).val then f n.val (s.val + (w 1).val - 63) k.val else 0 : ℝ) : EReal)
    have hw0 : (w 0).val = 0 := by have : (w 0).val < 1 := (w 0).isLt; omega
    have hw1 : (w 1).val < 64 := (w 1).isLt
    have hw2 : (w 2).val = 0 := by have : (w 2).val < 1 := (w 2).isLt; omega
    by_cases h : 63 ≤ s.val + (w 1).val
    · rw [if_pos h, dif_pos, ← hx n ⟨s.val + (w 1).val - 63, by omega⟩ k]
      · congr 1
        funext a
        match a with
        | ⟨0, _⟩ => apply Fin.ext; show n.val * 1 + (w 0).val - 0 = n.val; omega
        | ⟨1, _⟩ => apply Fin.ext; show s.val * 1 + (w 1).val - 63 = s.val + (w 1).val - 63; omega
        | ⟨2, _⟩ => apply Fin.ext; show k.val * 1 + (w 2).val - 0 = k.val; omega
      · intro a
        match a with
        | ⟨0, _⟩ => show 0 ≤ n.val * 1 + (w 0).val ∧ n.val * 1 + (w 0).val - 0 < 64; omega
        | ⟨1, _⟩ => show 63 ≤ s.val * 1 + (w 1).val ∧ s.val * 1 + (w 1).val - 63 < 64; omega
        | ⟨2, _⟩ => show 0 ≤ k.val * 1 + (w 2).val ∧ k.val * 1 + (w 2).val - 0 < 512; omega
    · rw [if_neg h, dif_neg]
      · rfl
      · intro hin
        have h1 : 63 ≤ s.val * 1 + (w 1).val := (hin 1).1
        omega
  congr 1
  rw [← Finset.sum_range (fun t => if 63 ≤ s.val + t then f n.val (s.val + t - 63) k.val else 0), ← Finset.sum_filter,
    show (Finset.range 64).filter (fun t => 63 ≤ s.val + t) = Finset.Ico (63 - s.val) 64 from by
      ext t; simp only [Finset.mem_filter, Finset.mem_range, Finset.mem_Ico]; omega, Finset.sum_Ico_eq_sum_range]
  refine Finset.sum_congr (by congr 1; omega) fun t _ => ?_
  congr 1
  omega

/-! ## The host's steps -/

variable (proj : FVec Ideal S4096x3200 .f32) (wg2 : FVec Ideal S16x512 .f32) (bg : FVec Ideal S1x512 .f32) (gn : FVec Ideal S1x1024 .f32)

/-- The gates' inputs. -/
def gateIn : FVec Ideal S4096x512 .f32 :=
  addf (Host.dotGeneral dot_S4096x16_S16x512_S4096x512_1_0_0_1_n_n none (extractStridedSlice S4096x16 ![0, 3072] proj slices_S4096x3200_S4096x16_0_3072) wg2)
    (broadcastInDim S4096x512 ![0, 1] bcast_S1x512_S4096x512_0_1 bg)

/-- The zero array. -/
abbrev zeros : FVec Ideal S4096x512 .f32 := broadcastInDim S4096x512 ![] bcast_S_S4096x512 (constant S_ .f32 0x00000000#32)

/-- The gates' logarithms of their inputs, as the host takes them. -/
def logGate (g : FVec Ideal S4096x512 .f32) : FVec Ideal S4096x512 .f32 :=
  Host.divf (Host.negf (select (cmpf .une (subf (Host.negf g) zeros) (subf (Host.negf g) zeros)) (addf (Host.negf g) zeros)
      (addf (maximumf (Host.negf g) zeros) (Host.log1p (Host.exp (Host.negf (Host.absf (subf (Host.negf g) zeros))))))))
    (broadcastInDim S4096x512 ![] bcast_S_S4096x512 (constant S_ .f32 0x41800000#32))

/-- The running sums of the gates' logarithms, by chunk, row, head and column. -/
def sums (la : FVec Ideal S4096x512 .f32) : FVec Ideal S64x64x4x128 .f32 :=
  shapeCast _ (Host.reduceWindowAdd ![1, 64, 1] ![1, 1, 1] ![0, 63, 0] ![0, 0, 0] (shapeCast _ la shapeCasts_S4096x512_S64x64x512 : FVec Ideal S64x64x512 .f32)
    (broadcastInDim S_ ![] bcast_S_S_ (constant S_ .f32 0x00000000#32)) reduceWindows_S64x64x512_S64x64x512_w1s1p0_0_w64s1p63_0_w1s1p0_0 h_S_) shapeCasts_S64x64x512_S64x64x4x128

/-- The chunks' whole sums. -/
def ends (G : FVec Ideal S64x64x4x128 .f32) : FVec Ideal S64x1x4x128 .f32 := extractStridedSlice S64x1x4x128 ![0, 63, 0, 0] G slices_S64x64x4x128_S64x1x4x128_0_63_0_0

/-- The chunks' whole sums without the unit axis. -/
def ends3 (E : FVec Ideal S64x1x4x128 .f32) : FVec Ideal S64x4x128 .f32 := shapeCast _ E shapeCasts_S64x1x4x128_S64x4x128

/-- The scaled queries. -/
def queries : FVec Ideal S64x64x4x128 .f32 :=
  mulf (shapeCast _ (extractStridedSlice S4096x512 ![0, 0] proj slices_S4096x3200_S4096x512_0_0) shapeCasts_S4096x512_S64x64x4x128)
    (broadcastInDim S64x64x4x128 ![] bcast_S_S64x64x4x128 (constant S_ .f32 0x3DB504F3#32))

/-- The values. -/
def vals : FVec Ideal S64x64x4x256 .f32 := shapeCast _ (extractStridedSlice S4096x1024 ![0, 1024] proj slices_S4096x3200_S4096x1024_0_1024) shapeCasts_S4096x1024_S64x64x4x256

/-- The decayed keys. -/
def keys (G : FVec Ideal S64x64x4x128 .f32) (E : FVec Ideal S64x1x4x128 .f32) : FVec Ideal S64x64x4x128 .f32 :=
  mulf (shapeCast _ (extractStridedSlice S4096x512 ![0, 512] proj slices_S4096x3200_S4096x512_0_512) shapeCasts_S4096x512_S64x64x4x128)
    (Host.exp (subf (broadcastInDim S64x64x4x128 ![0, 1, 2, 3] bcast_S64x1x4x128_S64x64x4x128_0_1_2_3 E) G))

/-- What each chunk adds to the state. -/
def adds (K : FVec Ideal S64x64x4x128 .f32) (W : FVec Ideal S64x64x4x256 .f32) : FVec Ideal S64x4x128x256 .f32 :=
  Host.dotGeneral dot_S64x64x4x128_S64x64x4x256_S64x4x128x256_1_1_3_3_02_02 none K W

/-- The sums over the chunks between two. -/
def between (E3 : FVec Ideal S64x4x128 .f32) : FVec Ideal S64x64x4x128 .f32 :=
  Host.dotGeneral dot_S64x64x64_S64x4x128_S64x64x4x128_2_0_01_12_n_n none
    (uitofp .f32 (andi (cmpi .slt (iotaInDim S64x64x64 32 1) (iotaInDim S64x64x64 32 2)) (cmpi .slt (iotaInDim S64x64x64 32 2) (iotaInDim S64x64x64 32 0)))) E3

/-- The decay between two chunks, nothing where the first is not earlier. -/
def decays (B : FVec Ideal S64x64x4x128 .f32) : FVec Ideal S64x64x4x128 .f32 :=
  select (broadcastInDim S64x64x4x128 ![0, 1, 2, 3] bcast_S64x64x1x1_S64x64x4x128_0_1_2_3 (cmpi .slt (iotaInDim S64x64x1x1 32 1) (iotaInDim S64x64x1x1 32 0)))
    (Host.exp B) (broadcastInDim S64x64x4x128 ![] bcast_S_S64x64x4x128 (id (constant S_ .f32 0x00000000#32)))

/-- The states before the chunks. -/
def before (A : FVec Ideal S64x4x128x256 .f32) (D : FVec Ideal S64x64x4x128 .f32) : FVec Ideal S64x4x128x256 .f32 :=
  transpose S64x4x128x256 [3, 0, 1, 2] (Host.dotGeneral dot_S64x4x128x256_S64x64x4x128_S4x128x256x64_0_1_3_0_12_23 none A D) transposes_S4x128x256x64_S64x4x128x256_3_0_1_2

/-- The states after the chunks. -/
def afters (E3 : FVec Ideal S64x4x128 .f32) (S A : FVec Ideal S64x4x128x256 .f32) : FVec Ideal S64x512x256 .f32 :=
  shapeCast _ (addf (mulf (broadcastInDim S64x4x128x256 ![0, 1, 2, 3] bcast_S64x4x128x1_S64x4x128x256_0_1_2_3
    (broadcastInDim S64x4x128x1 ![0, 1, 2] bcast_S64x4x128_S64x4x128x1_0_1_2 (Host.exp E3))) S) A) shapeCasts_S64x4x128x256_S64x512x256

/-- The outputs before the norm. -/
def outputs (Q K : FVec Ideal S64x64x4x128 .f32) (W : FVec Ideal S64x64x4x256 .f32) (E : FVec Ideal S64x1x4x128 .f32) (S : FVec Ideal S64x4x128x256 .f32) : FVec Ideal S64x4x64x256 .f32 :=
  addf (Host.dotGeneral dot_S64x4x64x64_S64x64x4x256_S64x4x64x256_3_1_2_3_01_02 none
      (Host.dotGeneral dot_S64x64x4x128_S64x64x4x128_S64x4x64x64_3_3_1_1_02_02 none Q K) W)
    (Host.dotGeneral dot_S64x64x4x128_S64x4x128x256_S64x4x64x256_3_2_1_3_02_01 none
      (mulf Q (broadcastInDim S64x64x4x128 ![0, 1, 2, 3] bcast_S64x1x4x128_S64x64x4x128_0_1_2_3 (Host.exp E))) S)

/-- The normed outputs as rows. -/
def normed (O : FVec Ideal S64x4x64x256 .f32) : FVec Ideal S4096x1024 .f32 :=
  shapeCast _ (transpose S64x64x4x256 [0, 2, 1, 3] (mulf O (broadcastInDim S64x4x64x256 ![0, 1, 2, 3] bcast_S64x4x64x1_S64x4x64x256_0_1_2_3
    (Host.rsqrt (addf (Host.divf (broadcastInDim S64x4x64x1 ![0, 1, 2] bcast_S64x4x64_S64x4x64x1_0_1_2
      (Host.reduceAdd (mulf O O) (constant S_ .f32 0x00000000#32) reducesTo_S64x4x64x256_S64x4x64_d3 h_S_))
        (broadcastInDim S64x4x64x1 ![] bcast_S_S64x4x64x1 (constant S_ .f32 0x43800000#32)))
      (broadcastInDim S64x4x64x1 ![] bcast_S_S64x4x64x1 (constant S_ .f32 0x358637BD#32)))))) transposes_S64x4x64x256_S64x64x4x256_0_2_1_3) shapeCasts_S64x64x4x256_S4096x1024

/-- The output of the normed rows: the gain and the output gate. -/
def gated (N : FVec Ideal S4096x1024 .f32) : FVec Ideal S4096x1024 .bf16 :=
  truncf .bf16 (mulf (mulf N (broadcastInDim S4096x1024 ![0, 1] bcast_S1x1024_S4096x1024_0_1 gn))
    (mulf (extractStridedSlice S4096x1024 ![0, 2048] proj slices_S4096x3200_S4096x1024_0_2048)
      (Host.divf (broadcastInDim S4096x1024 ![] bcast_S_S4096x1024 (constant S_ .f32 0x3F800000#32))
        (addf (broadcastInDim S4096x1024 ![] bcast_S_S4096x1024 (constant S_ .f32 0x3F800000#32))
          (Host.exp (Host.negf (extractStridedSlice S4096x1024 ![0, 2048] proj slices_S4096x3200_S4096x1024_0_2048))))))) bitsLt_bf16_f32

/-- All the running sums. -/
abbrev G_ := sums (logGate (gateIn proj wg2 bg))
/-- All the chunks' whole sums. -/
abbrev E_ := ends (G_ proj wg2 bg)
/-- All the decayed keys. -/
abbrev K_ := keys proj (G_ proj wg2 bg) (E_ proj wg2 bg)
/-- All that the chunks add. -/
abbrev A_ := adds (K_ proj wg2 bg) (vals proj)
/-- All the states before the chunks. -/
abbrev S_b := before (A_ proj wg2 bg) (decays (between (ends3 (E_ proj wg2 bg))))

/-- The second result's term. -/
theorem out1_term (m : (ℓ : Loc nD τ sig) → Buf (Elt Ideal) ℓ) (c : Dev nD) (h0 : m ((c.tc : Thread nD τ).loc main_arg0) = proj)
    (h1 : m ((c.tc : Thread nD τ).loc main_arg1) = wg2) (h2 : m ((c.tc : Thread nD τ).loc main_arg2) = bg) :
    res_out1 m c = afters (ends3 (E_ proj wg2 bg)) (S_b proj wg2 bg) (A_ proj wg2 bg) := by
  subst h0 h1 h2
  rfl

/-- The first result's term. -/
theorem out0_term (m : (ℓ : Loc nD τ sig) → Buf (Elt Ideal) ℓ) (c : Dev nD) (h0 : m ((c.tc : Thread nD τ).loc main_arg0) = proj)
    (h1 : m ((c.tc : Thread nD τ).loc main_arg1) = wg2) (h2 : m ((c.tc : Thread nD τ).loc main_arg2) = bg) (h3 : m ((c.tc : Thread nD τ).loc main_arg3) = gn) :
    res_out0 m c = gated proj gn (normed (outputs (queries proj) (K_ proj wg2 bg) (vals proj) (E_ proj wg2 bg) (S_b proj wg2 bg))) := by
  subst h0 h1 h2 h3
  rfl

/-- The order of two chunk numbers below 64, as the host takes it of words. -/
theorem slt64 (a b : Fin 64) : IntOp.cmpi CmpIPredicate.slt (BitVec.ofNat 32 a.val) (BitVec.ofNat 32 b.val) = BitVec.ofBool (decide (a < b)) := by
  rw [WordCmp.cmpi_slt_ofNat (by omega) (by omega)]
  rfl

/-- The f32 constant 16. -/
theorem sixteen : Ideal.ofBits .f32 0x41800000#32 = ((16 : ℝ) : EReal) := by
  simp [Ideal.ofBits, Ideal.ieee, -EReal.coe_mul]; norm_num

/-! ## The steps read at an index -/

/-- The gates' logarithms on real inputs. -/
theorem logGate_coe (g : FVec Ideal S4096x512 .f32) (Gt : ℕ → ℕ → ℝ) (hg : ∀ (i : Fin 4096) (k : Fin 512), g (ix2 i k) = (Gt i.val k.val : EReal)) (i : Fin 4096) (k : Fin 512) :
    logGate g (ix2 i k) = (gate (Gt i.val k.val) : EReal) := by
  pointwise [logGate]
  rw [hg, if_neg (not_not.mpr rfl), ← EReal.coe_neg, absf_coe, ← EReal.coe_neg]
  show Ideal.div (-(max _ 0 + Ideal.log (1 + _))) _ = _
  rw [log_one_add_exp, sixteen, ← EReal.coe_zero, ← EReal.coe_strictMono.monotone.map_max, ← EReal.coe_add, ← EReal.coe_neg, Ideal.div_coe, gate, abs_neg]
  · rw [show max (-Gt i.val k.val) 0 = -min (Gt i.val k.val) 0 by rcases le_total (Gt i.val k.val) 0 with h | h <;> simp [h]]
    rw [← EReal.coe_mul]
    congr 1
    ring
  all_goals norm_num

/-- The running sums within a chunk, of real logarithms. -/
theorem sums_coe (L : ℕ → ℕ → ℝ) (la : FVec Ideal S4096x512 .f32) (hla : ∀ (i : Fin 4096) (k : Fin 512), la (ix2 i k) = (L i.val k.val : EReal))
    (n s : Fin 64) (h : Fin 4) (d : Fin 128) : sums la (ix4 n s h d) = (gc L n.val s.val (128 * h.val + d.val) : EReal) := by
  have hr := running (shapeCast _ la shapeCasts_S4096x512_S64x64x512 : FVec Ideal S64x64x512 .f32) (fun n s k => L (64 * n + s) k) (fun n s k => by
      pointwise
      rw [hla]
      dsimp only
      congr 2; ring) (broadcastInDim S_ ![] bcast_S_S_ (constant S_ .f32 0x00000000#32)) (fun i => Ideal.ofBits_zero_f32) n s ⟨128 * h.val + d.val, by omega⟩
  unfold sums
  generalize Host.reduceWindowAdd (F := Ideal) (φ := .f32) (s := S64x64x512) (t := S64x64x512) (u := S_) ![1, 64, 1] ![1, 1, 1] ![0, 63, 0] ![0, 0, 0] _ _ _ _ = G at hr ⊢
  refine Eq.trans ?_ hr
  pointwise
  congr 1
  idx_ext

/-- What a chunk adds to the state, at an index. -/
theorem adds_apply (K : FVec Ideal S64x64x4x128 .f32) (W : FVec Ideal S64x64x4x256 .f32) (n : Fin 64) (h : Fin 4) (d : Fin 128) (e : Fin 256) :
    adds K W (ix4 n h d e) = ∑ s : Fin 64, K (ix4 n s h d) * W (ix4 n s h e) := by
  pointwise [adds]

/-- The logarithm of the decay between two chunks: the sum of the gates' logarithms of the chunks in between. -/
theorem between_apply (E : FVec Ideal S64x4x128 .f32) (n m : Fin 64) (h : Fin 4) (d : Fin 128) :
    between E (ix4 n m h d) = ∑ j : Fin 64, (((if m < j ∧ j < n then 1 else 0 : ℝ)) : EReal) * E (ix3 j h d)  := by
  pointwise [between]
  refine Finset.sum_congr rfl fun j _ => ?_
  rw [slt64, slt64]
  by_cases h1 : m < j <;> by_cases h2 : j < n <;> simp [h1, h2, IntOp.andi, FloatOps.uitofp]

/-- The decay from an earlier chunk to a later one, and zero for a chunk that is not earlier. -/
theorem decays_apply (E : FVec Ideal S64x64x4x128 .f32) (n m : Fin 64) (h : Fin 4) (d : Fin 128) :
    decays E (ix4 n m h d) = if m < n then Ideal.exp (E (ix4 n m h d)) else 0 := by
  pointwise [decays]
  rw [slt64]
  show Scalar.select _ _ (Ideal.ofBits .f32 0x00000000#32) = _
  rw [Ideal.ofBits_zero_f32]
  by_cases h1 : m < n <;> simp [h1, Scalar.select]

/-- The state before a chunk, at an index. -/
theorem before_apply (A : FVec Ideal S64x4x128x256 .f32) (D : FVec Ideal S64x64x4x128 .f32) (n : Fin 64) (h : Fin 4) (d : Fin 128) (e : Fin 256) :
    before A D (ix4 n h d e) = ∑ m : Fin 64, A (ix4 m h d e) * D (ix4 n m h d) := by
  pointwise [before]

/-- The state after a chunk, at an index. -/
theorem afters_apply (E3 : FVec Ideal S64x4x128 .f32) (S A : FVec Ideal S64x4x128x256 .f32) (n : Fin 64) (k : Fin 512) (e : Fin 256) :
    afters E3 S A (ix3 n k e) = Ideal.exp (E3 (ix3 n ⟨k.val / 128, by omega⟩ ⟨k.val % 128, by omega⟩)) * S (ix4 n ⟨k.val / 128, by omega⟩ ⟨k.val % 128, by omega⟩ e)
      + A (ix4 n ⟨k.val / 128, by omega⟩ ⟨k.val % 128, by omega⟩ e) := by
  pointwise [afters]

/-- The outputs of the attention, at an index. -/
theorem outputs_apply (Q K : FVec Ideal S64x64x4x128 .f32) (W : FVec Ideal S64x64x4x256 .f32) (E : FVec Ideal S64x1x4x128 .f32) (S : FVec Ideal S64x4x128x256 .f32)
    (n s : Fin 64) (h : Fin 4) (e : Fin 256) :
    outputs Q K W E S (ix4 n h s e) = (∑ t : Fin 64, (∑ d : Fin 128, Q (ix4 n s h d) * K (ix4 n t h d)) * W (ix4 n t h e))
      + ∑ d : Fin 128, (Q (ix4 n s h d) * Ideal.exp (E (ix4 n 0 h d))) * S (ix4 n h d e) := by
  pointwise [outputs]

/-- The normed outputs, at an index. -/
theorem normed_apply (O : FVec Ideal S64x4x64x256 .f32) (i : Fin 4096) (j : Fin 1024) :
    normed O (ix2 i j) = O (ix4 ⟨i.val / 64, by omega⟩ ⟨j.val / 256, by omega⟩ ⟨i.val % 64, by omega⟩ ⟨j.val % 256, by omega⟩)
      * Ideal.rsqrt (Ideal.div (∑ e : Fin 256, O (ix4 ⟨i.val / 64, by omega⟩ ⟨j.val / 256, by omega⟩ ⟨i.val % 64, by omega⟩ e)
        * O (ix4 ⟨i.val / 64, by omega⟩ ⟨j.val / 256, by omega⟩ ⟨i.val % 64, by omega⟩ e)) (Ideal.ofBits .f32 0x43800000#32) + Ideal.ofBits .f32 0x358637BD#32) := by
  pointwise [normed]

/-- The gated outputs, at an index. -/
theorem gated_apply (N : FVec Ideal S4096x1024 .f32) (i : Fin 4096) (j : Fin 1024) :
    gated proj gn N (ix2 i j) = N (ix2 i j) * gn (ix2 0 j) * (proj (ix2 i ⟨2048 + j.val, by omega⟩) * Ideal.logistic (proj (ix2 i ⟨2048 + j.val, by omega⟩))) := by
  pointwise [gated]
  rfl

section
variable {proj wg2 bg} {P Gt : ℕ → ℕ → ℝ} (H : Real4 P Gt proj wg2 bg)
include H

/-- The gates' inputs are the real numbers. -/
theorem gateIn_coe (i : Fin 4096) (k : Fin 512) : gateIn proj wg2 bg (ix2 i k) = (Gt i.val k.val : EReal) := by
  rw [← H.gates i k]
  pointwise [gateIn]

/-- The running sums are the real ones. -/
theorem G_coe (n s : Fin 64) (h : Fin 4) (d : Fin 128) :
    G_ proj wg2 bg (ix4 n s h d) = (gc (fun i k => gate (Gt i k)) n.val s.val (128 * h.val + d.val) : EReal) :=
  sums_coe (fun i k => gate (Gt i k)) _ (logGate_coe _ Gt (gateIn_coe H)) n s h d

/-- A chunk's last running sum is the real one. -/
theorem E_coe (n : Fin 64) (h : Fin 4) (d : Fin 128) :
    E_ proj wg2 bg (ix4 n 0 h d) = (gc (fun i k => gate (Gt i k)) n.val 63 (128 * h.val + d.val) : EReal) := by
  refine Eq.trans ?_ (G_coe H n 63 h d)
  unfold E_
  generalize G_ proj wg2 bg = G
  pointwise [ends]

/-- A chunk's last running sum, without the axis of length one. -/
theorem E3_coe (n : Fin 64) (h : Fin 4) (d : Fin 128) :
    ends3 (E_ proj wg2 bg) (ix3 n h d) = (gc (fun i k => gate (Gt i k)) n.val 63 (128 * h.val + d.val) : EReal) := by
  refine Eq.trans ?_ (E_coe H n h d)
  generalize E_ proj wg2 bg = G
  pointwise [ends3]

/-- The scaled queries are real. -/
theorem queries_coe (n s : Fin 64) (h : Fin 4) (d : Fin 128) :
    queries proj (ix4 n s h d) = ((P (64 * n.val + s.val) (128 * h.val + d.val) * scale : ℝ) : EReal) := by
  pointwise [queries]
  rw [H.qkv _ _ (by dsimp only; omega), scale_coe, ← EReal.coe_mul]
  dsimp only
  rw [mul_comm n.val, mul_comm h.val]

/-- The values are real. -/
theorem vals_coe (n s : Fin 64) (h : Fin 4) (e : Fin 256) :
    vals proj (ix4 n s h e) = (P (64 * n.val + s.val) (1024 + 256 * h.val + e.val) : EReal) := by
  pointwise [vals]
  rw [H.qkv _ _ (by dsimp only; omega)]
  dsimp only
  congr 2 <;> ring

/-- The decayed keys are the real ones. -/
theorem K_coe (n s : Fin 64) (h : Fin 4) (d : Fin 128) :
    K_ proj wg2 bg (ix4 n s h d) = (kd P (fun i k => gate (Gt i k)) n.val s.val (128 * h.val + d.val) : EReal) := by
  have hG := G_coe H n s h d
  have hE := E_coe H n h d
  unfold K_
  generalize E_ proj wg2 bg = E at hE ⊢
  generalize G_ proj wg2 bg = G at hG ⊢
  pointwise [keys]
  rw [hG, hE, ← EReal.coe_sub, exp_coe, H.qkv _ _ (by dsimp only; omega), ← EReal.coe_mul, kd]
  dsimp only
  congr 3 <;> ring

/-- What a chunk adds is real. -/
theorem A_coe (n : Fin 64) (h : Fin 4) (d : Fin 128) (e : Fin 256) :
    A_ proj wg2 bg (ix4 n h d e) = (kv P (fun i k => gate (Gt i k)) n.val (128 * h.val + d.val) e.val : EReal) := by
  have hk : (128 * h.val + d.val) / 128 = h.val := by omega
  unfold A_
  rw [adds_apply, kv, ← coe_sum]
  refine Finset.sum_congr rfl fun s _ => ?_
  rw [K_coe H, vals_coe H, ← EReal.coe_mul, hk]

/-- The state before a chunk is the real one. -/
theorem S_coe (n : Fin 64) (h : Fin 4) (d : Fin 128) (e : Fin 256) :
    S_b proj wg2 bg (ix4 n h d e) = (St P (fun i k => gate (Gt i k)) n.val (128 * h.val + d.val) e.val : EReal) := by
  unfold S_b
  rw [before_apply, St_masked, ← coe_sum]
  refine Finset.sum_congr rfl fun m _ => ?_
  rw [A_coe H, decays_apply, between_apply, EReal.coe_mul]
  congr 1
  split
  · rw [← exp_coe, ← coe_sum]
    congr 1
    refine Finset.sum_congr rfl fun j _ => ?_
    rw [E3_coe H, ← EReal.coe_mul]
  · rfl

/-- The outputs are the real ones: the state after the chunk, read by the query. -/
theorem O_coe (n s : Fin 64) (h : Fin 4) (e : Fin 256) :
    outputs (queries proj) (K_ proj wg2 bg) (vals proj) (E_ proj wg2 bg) (S_b proj wg2 bg) (ix4 n h s e)
      = (out P (fun i k => gate (Gt i k)) n.val s.val h.val e.val : EReal) := by
  rw [outputs_apply, ← out_split P _ n.val s.val h.val e.val h.isLt, EReal.coe_add, ← coe_sum, ← coe_sum]
  congr 1
  · refine Finset.sum_congr rfl fun t _ => ?_
    rw [vals_coe H, EReal.coe_mul, ← coe_sum]
    congr 1
    refine Finset.sum_congr rfl fun d _ => ?_
    rw [queries_coe H, K_coe H, ← EReal.coe_mul]
  · refine Finset.sum_congr rfl fun d _ => ?_
    rw [queries_coe H, E_coe H, S_coe H, exp_coe, ← EReal.coe_mul, ← EReal.coe_mul]

/-- The host's states after the chunks, at an index. -/
theorem states_coe (n : Fin 64) (k : Fin 512) (e : Fin 256) : afters (ends3 (E_ proj wg2 bg)) (S_b proj wg2 bg) (A_ proj wg2 bg) (ix3 n k e)
    = ((St P (fun i k => gate (Gt i k)) (n.val + 1) k.val e.val : ℝ) : EReal) := by
  have hk : 128 * (k.val / 128) + k.val % 128 = k.val := Nat.div_add_mod _ _
  rw [afters_apply, E3_coe H, S_coe H, A_coe H, exp_coe, ← EReal.coe_mul, ← EReal.coe_add]
  dsimp only
  rw [hk]
  rfl

/-- The host's states after the chunks. -/
theorem states_eq : afters (ends3 (E_ proj wg2 bg)) (S_b proj wg2 bg) (A_ proj wg2 bg)
    = fun y => ((St P (fun i k => gate (Gt i k)) ((y 0).val + 1) (y 1).val (y 2).val : ℝ) : EReal) := by
  funext y
  exact (congrArg _ (eq_ix3 y)).trans (states_coe H (y 0) (y 1) (y 2))

/-- The host's normed and gated outputs, at an index. -/
theorem og_coe (i : Fin 4096) (j : Fin 1024) :
    gated proj gn (normed (outputs (queries proj) (K_ proj wg2 bg) (vals proj) (E_ proj wg2 bg) (S_b proj wg2 bg))) (ix2 i j)
      = ogs P (fun i k => gate (Gt i k)) proj gn i j := by
  rw [gated_apply, normed_apply]
  simp only [O_coe H]
  rfl

/-- The host's normed and gated outputs. -/
theorem og_eq : gated proj gn (normed (outputs (queries proj) (K_ proj wg2 bg) (vals proj) (E_ proj wg2 bg) (S_b proj wg2 bg)))
    = fun y => ogs P (fun i k => gate (Gt i k)) proj gn (y 0) (y 1) := by
  funext y
  exact (congrArg _ (eq_ix2 y)).trans (og_coe gn H (y 0) (y 1))

end

end Cert.Reference3Ideal.Gla
-- ==== Proof.GlbMaths.lean ====
module

public import proofs.«01_k».proof.Proof.GlaMaths

/-!
# The gradient of the gated linear attention, in numbers

On real arguments every step of the gradient is a real number. Here are those numbers, in the order in which the
backward pass takes them, and the identities by which the gradient of the plain map is the same: the gradient of the
state is a recursion from the last chunk to the first, of which `Gn` is the closed form.
-/

@[expose] public section

noncomputable section

open Idealize.ShloMosaic

namespace Cert.Gla

/-! ## A sum decayed from later chunks -/

/-- The decay between chunks `m` and `n`: over the chunks strictly in between. -/
def decay (l : ℕ → ℝ) (n m : ℕ) : ℝ := Real.exp (∑ j ∈ Finset.Ico (m + 1) n, l j)

/-- What chunk `n` and the later ones add, each decayed back to the end of chunk `n`. -/
def later (l a : ℕ → ℝ) (n : ℕ) : ℝ := a n + ∑ i ∈ Finset.Ico (n + 1) 64, decay l i n * (Real.exp (l i) * a i)

/-- No chunk is later than the last. -/
theorem later_last (l a : ℕ → ℝ) : later l a 63 = a 63 := by simp [later]

/-- The recursion from the last chunk to the first. -/
theorem later_step (l a : ℕ → ℝ) (n : ℕ) (hn : n < 63) : later l a n = Real.exp (l (n + 1)) * later l a (n + 1) + a n := by
  have h : ∀ i ∈ Finset.Ico (n + 1 + 1) 64, decay l i n = Real.exp (l (n + 1)) * decay l i (n + 1) := fun i hi => by
    have := Finset.mem_Ico.mp hi
    rw [decay, decay, Finset.sum_eq_sum_Ico_succ_bot (by omega), Real.exp_add]
  rw [later, later, Finset.sum_eq_sum_Ico_succ_bot (by omega), Finset.sum_congr rfl fun i hi => by rw [h i hi], mul_add, Finset.mul_sum]
  have h1 : decay l (n + 1) n = 1 := by simp [decay]
  rw [h1, Finset.sum_congr rfl fun i _ => mul_assoc (Real.exp (l (n + 1))) (decay l i (n + 1)) (Real.exp (l i) * a i)]
  ring

/-- The decay over a chunk strictly in between splits at it. -/
theorem decay_split (l : ℕ → ℝ) (n j m : ℕ) (hm : m < j) (hj : j < n) : decay l n m = decay l n j * Real.exp (l j) * decay l j m := by
  rw [decay, decay, decay, ← Finset.sum_Ico_consecutive _ (show m + 1 ≤ j by omega) (show j ≤ n by omega), Finset.sum_eq_sum_Ico_succ_bot hj,
    Real.exp_add, Real.exp_add]
  ring

/-- The decay as a masked sum over all the chunks. -/
theorem decay_masked (l : ℕ → ℝ) (n m : Fin 64) :
    Real.exp (∑ j : Fin 64, (if m < j ∧ j < n then 1 else 0) * l j.val) = decay l n.val m.val := by
  have hn := n.isLt
  rw [decay]
  congr 1
  rw [show Finset.Ico (m.val + 1) n.val = (Finset.range 64).filter (fun j => m.val < j ∧ j < n.val) from by
      ext j; simp only [Finset.mem_Ico, Finset.mem_filter, Finset.mem_range]; omega, Finset.sum_filter,
      Finset.sum_range (fun j => if m.val < j ∧ j < n.val then l j else 0)]
  refine Finset.sum_congr rfl fun j _ => ?_
  simp only [Fin.lt_def]
  split <;> simp

/-- A sum over the later chunks as a masked sum over all of them. -/
theorem sum_later (f : ℕ → ℝ) (m : Fin 64) : ∑ n : Fin 64, (if m < n then f n.val else 0) = ∑ n ∈ Finset.Ico (m.val + 1) 64, f n := by
  rw [show Finset.Ico (m.val + 1) 64 = (Finset.range 64).filter (fun n => m.val < n) from by
      ext j; simp only [Finset.mem_Ico, Finset.mem_filter, Finset.mem_range]; omega, Finset.sum_filter,
      Finset.sum_range (fun n => if m.val < n then f n else 0)]
  rfl

/-- A sum over the earlier chunks as a masked sum over all of them. -/
theorem sum_earlier (f : ℕ → ℝ) (n : Fin 64) : ∑ m : Fin 64, (if m < n then f m.val else 0) = ∑ m ∈ Finset.range n.val, f m := by
  have hn := n.isLt
  rw [show Finset.range n.val = (Finset.range 64).filter (fun m => m < n.val) from by
      ext j; simp only [Finset.mem_filter, Finset.mem_range]; omega, Finset.sum_filter,
      Finset.sum_range (fun m => if m < n.val then f m else 0)]
  rfl

/-- The gradient of the chunks' sums that the state carries: what the later chunks send back times the state before the
chunk is the sum, over the pairs of chunks around it, of what the later one sends back to the earlier one. -/
theorem pairs (l a b : ℕ → ℝ) (j : Fin 64) :
    Real.exp (l j.val) * (later l a j.val - a j.val) * (∑ m ∈ Finset.range j.val, b m * decay l j.val m)
      = ∑ n : Fin 64, ∑ m : Fin 64, (if m < j ∧ j < n then decay l n.val m.val * ((Real.exp (l n.val) * a n.val) * b m.val) else 0) := by
  have h : ∀ n m : Fin 64, (if m < j ∧ j < n then decay l n.val m.val * ((Real.exp (l n.val) * a n.val) * b m.val) else 0)
      = (if j < n then decay l n.val j.val * (Real.exp (l n.val) * a n.val) else 0) * (if m < j then Real.exp (l j.val) * (b m.val * decay l j.val m.val) else 0) := fun n m => by
    by_cases h1 : m < j <;> by_cases h2 : j < n <;> simp only [h1, h2, and_self, and_false, false_and, if_true, if_false, mul_zero, zero_mul]
    rw [decay_split l n.val j.val m.val h1 h2]
    ring
  simp only [h, ← Finset.mul_sum, ← Finset.sum_mul]
  rw [sum_later (fun n => decay l n j.val * (Real.exp (l n) * a n)) j, sum_earlier (fun m => Real.exp (l j.val) * (b m * decay l j.val m)) j, later, ← Finset.mul_sum]
  ring

/-! ## The numbers of the backward pass -/

/-- The number added to the mean square before its root, the f32 number nearest 1/1000000. -/
def eps : ℝ := (Ideal.ofBits .f32 0x358637BD#32).toReal

/-- It is real. -/
theorem eps_coe : Ideal.ofBits .f32 0x358637BD#32 = (eps : EReal) := by
  refine (EReal.coe_toReal ?_ ?_).symm <;> simp [Ideal.ofBits, Ideal.ieee, -EReal.coe_mul]

/-- It is positive. -/
theorem eps_pos : 0 < eps := by
  have h : (0 : EReal) < (eps : EReal) := by
    rw [← eps_coe]
    simp [Ideal.ofBits, Ideal.ieee, -EReal.coe_mul]
  exact_mod_cast h

/-- The logistic function. -/
def sg (x : ℝ) : ℝ := 1 / (1 + Real.exp (-x))

/-- The derivative of log σ. -/
theorem sg_neg (x : ℝ) : 1 - sg x = Real.exp (-x) / (1 + Real.exp (-x)) := by
  have := Real.exp_pos (-x)
  rw [sg, eq_div_iff (by positivity), sub_mul, div_mul_cancel₀ _ (by positivity)]
  ring

section
variable (P L D : ℕ → ℕ → ℝ) (N : ℕ → ℝ)

/-- The mean square of a head's output, with the small number. -/
def msq (n s h : ℕ) : ℝ := (∑ e : Fin 256, out P L n s h e.val * out P L n s h e.val) / 256 + eps

/-- It is positive. -/
theorem msq_pos (n s h : ℕ) : 0 < msq P L n s h := by
  have h0 : 0 ≤ ∑ e : Fin 256, out P L n s h e.val * out P L n s h e.val := Finset.sum_nonneg fun e _ => mul_self_nonneg _
  have := eps_pos
  rw [msq]
  positivity

/-- One over its root. -/
def rs (n s h : ℕ) : ℝ := (√(msq P L n s h))⁻¹

/-- The square of one over the root. -/
theorem rs_sq (n s h : ℕ) : rs P L n s h * rs P L n s h = 1 / msq P L n s h := by
  rw [rs, ← mul_inv, Real.mul_self_sqrt (msq_pos P L n s h).le, one_div]

/-- The output gate of row `i`, column `j`. -/
def rg (i j : ℕ) : ℝ := P i (2048 + j)

/-- The gradient of a normed output before the gain. -/
def dt (i j : ℕ) : ℝ := D i j * (rg P i j * sg (rg P i j))

/-- The gradient of a normed output. -/
def don (n s h e : ℕ) : ℝ := dt P D (64 * n + s) (256 * h + e) * N (256 * h + e)

/-- The gradient of an output before the norm. -/
def dO (n s h e : ℕ) : ℝ := rs P L n s h * (don P D N n s h e - out P L n s h e * rs P L n s h *
  ((∑ c : Fin 256, don P D N n s h c.val * (out P L n s h c.val * rs P L n s h)) / 256))

/-- The same, as the derivative of a product with one over a root. -/
theorem dO_alt (n s h e : ℕ) : dO P L D N n s h e = don P D N n s h e * rs P L n s h
    + 2 * out P L n s h e * ((∑ c : Fin 256, don P D N n s h c.val * out P L n s h c.val) * (-(1 / 2) * (rs P L n s h / msq P L n s h)) / 256) := by
  have h1 : rs P L n s h / msq P L n s h = rs P L n s h * (rs P L n s h * rs P L n s h) := by rw [rs_sq]; ring
  have h2 : ∑ c : Fin 256, don P D N n s h c.val * (out P L n s h c.val * rs P L n s h) = (∑ c : Fin 256, don P D N n s h c.val * out P L n s h c.val) * rs P L n s h := by
    rw [Finset.sum_mul]
    exact Finset.sum_congr rfl fun c _ => by ring
  rw [dO, h1, h2]
  ring

/-- What chunk `n` sends back to the state after it. -/
def qdo (k e n : ℕ) : ℝ := ∑ s : Fin 64, P (64 * n + s.val) k * scale * dO P L D N n s.val (k / 128) e

/-- The sum of the gates' logarithms over chunk `n`. -/
def ge (k n : ℕ) : ℝ := gc L n 63 k

/-- The gradient of the state after chunk `n`. -/
def Gn (n k e : ℕ) : ℝ := later (ge L k) (qdo P L D N k e) n

/-- The gradient of a query. -/
def dqn (n s k : ℕ) : ℝ := (∑ e : Fin 256, dO P L D N n s (k / 128) e.val * St P L (n + 1) k e.val) * scale

/-- The gradient of a decayed key. -/
def dkd (n s k : ℕ) : ℝ := ∑ e : Fin 256, P (64 * n + s) (1024 + 256 * (k / 128) + e.val) * Gn P L D N n k e.val

/-- The gradient of a key. -/
def dkn (n s k : ℕ) : ℝ := dkd P L D N n s k * Real.exp (gc L n 63 k - gc L n s k)

/-- The gradient of a value. -/
def dvn (n s h e : ℕ) : ℝ := ∑ d : Fin 128, kd P L n s (128 * h + d.val) * Gn P L D N n (128 * h + d.val) e

/-- The gradient of the logarithm of a key's decay. -/
def dww (n s k : ℕ) : ℝ := dkd P L D N n s k * kd P L n s k

/-- The gradient of a chunk's sum of the gates' logarithms. -/
def dge (n k : ℕ) : ℝ := Real.exp (gc L n 63 k) * (∑ e : Fin 256, Gn P L D N n k e.val * St P L n k e.val) + ∑ s : Fin 64, dww P L D N n s.val k

/-- The gradient of the logarithm of a gate. -/
def dla (n s k : ℕ) : ℝ := dge P L D N n k - ∑ t ∈ Finset.Ico s 64, dww P L D N n t k

/-- The gradient of a gate's input, whose value is `g`. -/
def dgp (Gt : ℕ → ℕ → ℝ) (i k : ℕ) : ℝ := dla P L D N (i / 64) (i % 64) k * (1 / 16) * (1 - sg (Gt i k))

/-- The gradient of the gain. -/
def dgnn (j : ℕ) : ℝ := ∑ i : Fin 4096, dt P D i.val j * (out P L (i.val / 64) (i.val % 64) (j / 256) (j % 256) * rs P L (i.val / 64) (i.val % 64) (j / 256))

/-- The gradient of an output gate. -/
def drn (i j : ℕ) : ℝ := D i j * (out P L (i / 64) (i % 64) (j / 256) (j % 256) * rs P L (i / 64) (i % 64) (j / 256)) * N j
  * (sg (rg P i j) * (1 + rg P i j * (1 - sg (rg P i j))))

/-! ## The plain map's gradient -/

/-- What the chunks after chunk `m` send back, as a masked sum over all the chunks. -/
theorem dkv_masked (m : Fin 64) (k e : ℕ) :
    ∑ n : Fin 64, (if m < n then decay (ge L k) n.val m.val else 0) * (Real.exp (ge L k n.val) * qdo P L D N k e n.val)
      = Gn P L D N m.val k e - qdo P L D N k e m.val := by
  rw [Gn, later, add_sub_cancel_left, ← sum_later (fun i => decay (ge L k) i m.val * (Real.exp (ge L k i) * qdo P L D N k e i)) m]
  refine Finset.sum_congr rfl fun n _ => ?_
  split <;> simp

/-- The state before a chunk, in terms of the decays. -/
theorem St_decay (n k e : ℕ) : St P L n k e = ∑ m ∈ Finset.range n, kv P L m k e * decay (ge L k) n m := St_closed P L n k e

/-- The gradient of a query in two parts: from inside the chunk and from the state before it. -/
theorem dq_split (n s h d : ℕ) (hd : d < 128) :
    (∑ t : Fin 64, (∑ e : Fin 256, dO P L D N n s h e.val * P (64 * n + t.val) (1024 + 256 * h + e.val)) * kd P L n t.val (128 * h + d)
      + (∑ e : Fin 256, dO P L D N n s h e.val * St P L n (128 * h + d) e.val) * Real.exp (gc L n 63 (128 * h + d))) * scale
      = dqn P L D N n s (128 * h + d) := by
  have hk : (128 * h + d) / 128 = h := by omega
  simp only [dqn, hk, St, kv, mul_add, Finset.sum_add_distrib, Finset.mul_sum, Finset.sum_mul, add_mul]
  rw [Finset.sum_comm, add_comm]
  refine congrArg₂ (· + ·) (Finset.sum_congr rfl fun d _ => by ring) (Finset.sum_congr rfl fun d _ => Finset.sum_congr rfl fun t _ => by ring)

/-- The gradient of a decayed key in two parts. -/
theorem dkd_split (n t h d : ℕ) (hd : d < 128) :
    (∑ s : Fin 64, (∑ e : Fin 256, dO P L D N n s.val h e.val * P (64 * n + t) (1024 + 256 * h + e.val)) * (P (64 * n + s.val) (128 * h + d) * scale))
      + ∑ e : Fin 256, P (64 * n + t) (1024 + 256 * h + e.val) * (Gn P L D N n (128 * h + d) e.val - qdo P L D N (128 * h + d) e.val n)
      = dkd P L D N n t (128 * h + d) := by
  have hk : (128 * h + d) / 128 = h := by omega
  simp only [dkd, hk, mul_sub, Finset.sum_sub_distrib]
  have : (∑ s : Fin 64, (∑ e : Fin 256, dO P L D N n s.val h e.val * P (64 * n + t) (1024 + 256 * h + e.val)) * (P (64 * n + s.val) (128 * h + d) * scale))
      = ∑ e : Fin 256, P (64 * n + t) (1024 + 256 * h + e.val) * qdo P L D N (128 * h + d) e.val n := by
    simp only [qdo, hk, Finset.mul_sum, Finset.sum_mul]
    rw [Finset.sum_comm]
    exact Finset.sum_congr rfl fun e _ => Finset.sum_congr rfl fun s _ => by ring
  rw [this]
  ring

/-- The gradient of a value in two parts. -/
theorem dv_split (n t h e : ℕ) :
    (∑ s : Fin 64, (∑ d : Fin 128, P (64 * n + s.val) (128 * h + d.val) * scale * kd P L n t (128 * h + d.val)) * dO P L D N n s.val h e)
      + ∑ d : Fin 128, kd P L n t (128 * h + d.val) * (Gn P L D N n (128 * h + d.val) e - qdo P L D N (128 * h + d.val) e n)
      = dvn P L D N n t h e := by
  have hk : ∀ d : Fin 128, (128 * h + d.val) / 128 = h := fun d => by have := d.isLt; omega
  simp only [dvn, mul_sub, Finset.sum_sub_distrib]
  have : (∑ s : Fin 64, (∑ d : Fin 128, P (64 * n + s.val) (128 * h + d.val) * scale * kd P L n t (128 * h + d.val)) * dO P L D N n s.val h e)
      = ∑ d : Fin 128, kd P L n t (128 * h + d.val) * qdo P L D N (128 * h + d.val) e n := by
    simp only [qdo, hk, Finset.mul_sum, Finset.sum_mul]
    rw [Finset.sum_comm]
    exact Finset.sum_congr rfl fun d _ => Finset.sum_congr rfl fun s _ => by ring
  rw [this]
  ring

/-- The gradient of a chunk's sum in three parts: from the query's decay, from the decays between the chunks around it and
from the keys' decays. -/
theorem dge_split (j : Fin 64) (h d : ℕ) (hd : d < 128) :
    (∑ s : Fin 64, (∑ e : Fin 256, dO P L D N j.val s.val h e.val * St P L j.val (128 * h + d) e.val) * (P (64 * j.val + s.val) (128 * h + d) * scale)) * Real.exp (gc L j.val 63 (128 * h + d))
      + (∑ n : Fin 64, ∑ m : Fin 64, (if m < j ∧ j < n then decay (ge L (128 * h + d)) n.val m.val *
          (∑ e : Fin 256, (Real.exp (ge L (128 * h + d) n.val) * qdo P L D N (128 * h + d) e.val n.val) * kv P L m.val (128 * h + d) e.val) else 0))
      + ∑ s : Fin 64, dww P L D N j.val s.val (128 * h + d)
      = dge P L D N j.val (128 * h + d) := by
  have hk : (128 * h + d) / 128 = h := by omega
  have h1 : (∑ s : Fin 64, (∑ e : Fin 256, dO P L D N j.val s.val h e.val * St P L j.val (128 * h + d) e.val) * (P (64 * j.val + s.val) (128 * h + d) * scale))
      = ∑ e : Fin 256, qdo P L D N (128 * h + d) e.val j.val * St P L j.val (128 * h + d) e.val := by
    simp only [qdo, hk, Finset.sum_mul]
    rw [Finset.sum_comm]
    exact Finset.sum_congr rfl fun e _ => Finset.sum_congr rfl fun s _ => by ring
  have h2 : (∑ n : Fin 64, ∑ m : Fin 64, (if m < j ∧ j < n then decay (ge L (128 * h + d)) n.val m.val *
          (∑ e : Fin 256, (Real.exp (ge L (128 * h + d) n.val) * qdo P L D N (128 * h + d) e.val n.val) * kv P L m.val (128 * h + d) e.val) else 0))
      = ∑ e : Fin 256, Real.exp (ge L (128 * h + d) j.val) * (Gn P L D N j.val (128 * h + d) e.val - qdo P L D N (128 * h + d) e.val j.val) * St P L j.val (128 * h + d) e.val := by
    have hp : ∀ e : Fin 256, Real.exp (ge L (128 * h + d) j.val) * (Gn P L D N j.val (128 * h + d) e.val - qdo P L D N (128 * h + d) e.val j.val) * St P L j.val (128 * h + d) e.val
        = ∑ n : Fin 64, ∑ m : Fin 64, (if m < j ∧ j < n then decay (ge L (128 * h + d)) n.val m.val *
          ((Real.exp (ge L (128 * h + d) n.val) * qdo P L D N (128 * h + d) e.val n.val) * kv P L m.val (128 * h + d) e.val) else 0) := fun e => by
      rw [Gn, St_decay]
      exact pairs (ge L (128 * h + d)) (qdo P L D N (128 * h + d) e.val) (fun m => kv P L m (128 * h + d) e.val) j
    simp only [hp]
    rw [Finset.sum_comm (γ := Fin 256)]
    refine Finset.sum_congr rfl fun n _ => ?_
    rw [Finset.sum_comm]
    refine Finset.sum_congr rfl fun m _ => ?_
    split
    · rw [Finset.mul_sum]
    · simp
  rw [h1, h2, dge, ge, Finset.sum_mul, ← Finset.sum_add_distrib, Finset.mul_sum]
  congr 1
  exact Finset.sum_congr rfl fun e _ => by ring

/-- The gradient of a gate's logarithm: the running sum's gradient summed from its row to the chunk's end. -/
theorem dla_sum (n s k : ℕ) (hs : s < 64) :
    ∑ t ∈ Finset.Ico s 64, (-dww P L D N n t k + if t = 63 then dge P L D N n k else 0) = dla P L D N n s k := by
  rw [Finset.sum_add_distrib, Finset.sum_neg_distrib, Finset.sum_ite_eq' , if_pos (Finset.mem_Ico.mpr ⟨by omega, by omega⟩), dla]
  ring

/-! ## The results -/

/-- The gradient of a projection: of queries, keys, values, output gates and the low-rank gate's inputs, and zeros. -/
def dpN (Gt W : ℕ → ℕ → ℝ) (i j : ℕ) : ℝ :=
  if j < 512 then dqn P L D N (i / 64) (i % 64) j
  else if j < 1024 then dkn P L D N (i / 64) (i % 64) (j - 512)
  else if j < 2048 then dvn P L D N (i / 64) (i % 64) ((j - 1024) / 256) ((j - 1024) % 256)
  else if j < 3072 then drn P L D N i (j - 2048)
  else if j < 3088 then ∑ k : Fin 512, dgp P L D N Gt i k.val * W (j - 3072) k.val else 0

/-- The gradient of the gates' weight, with rows of zeros after its own. -/
def dwgN (Gt : ℕ → ℕ → ℝ) (c k : ℕ) : ℝ := if c < 16 then ∑ i : Fin 4096, dgp P L D N Gt i.val k * P i.val (3072 + c) else 0

/-- The gradient of the gates' bias. -/
def dbgN (Gt : ℕ → ℕ → ℝ) (k : ℕ) : ℝ := ∑ i : Fin 4096, dgp P L D N Gt i.val k

end

/-- The derivative of the logarithm of the logistic function, from the logarithm itself. -/
theorem exp_softplus (g : ℝ) : Real.exp (-g - (max (-g) 0 + Real.log (1 + Real.exp (-|g|)))) = 1 - sg g := by
  have h1 := Real.exp_pos (-g)
  have h2 := Real.exp_pos g
  have h3 : Real.exp g * Real.exp (-g) = 1 := by rw [← Real.exp_add]; simp
  rw [sg_neg]
  rcases le_total 0 g with h | h
  · rw [abs_of_nonneg h, max_eq_right (by linarith), zero_add, Real.exp_sub, Real.exp_log (by positivity)]
  · rw [abs_of_nonpos h, max_eq_left (by linarith), neg_neg, sub_add_eq_sub_sub, sub_self, zero_sub, Real.exp_neg, Real.exp_log (by positivity),
      inv_eq_one_div, div_eq_div_iff (by positivity) (by positivity)]
    linear_combination -h3

/-- One over the root of the mean square of real outputs. -/
theorem rs_coe (P L : ℕ → ℕ → ℝ) (n s h : ℕ) (o : Fin 256 → EReal) (ho : ∀ e, o e = (out P L n s h e.val : EReal)) :
    Ideal.rsqrt (Ideal.div (∑ e : Fin 256, o e * o e) (Ideal.ofBits .f32 0x43800000#32) + Ideal.ofBits .f32 0x358637BD#32) = (rs P L n s h : EReal)
    ∧ Ideal.div (∑ e : Fin 256, o e * o e) (Ideal.ofBits .f32 0x43800000#32) + Ideal.ofBits .f32 0x358637BD#32 = (msq P L n s h : EReal) := by
  have h256 : Ideal.ofBits .f32 0x43800000#32 = ((256 : ℝ) : EReal) := by
    simp [Ideal.ofBits, Ideal.ieee, -EReal.coe_mul]; norm_num
  have e : Ideal.div (∑ e : Fin 256, o e * o e) (Ideal.ofBits .f32 0x43800000#32) + Ideal.ofBits .f32 0x358637BD#32 = (msq P L n s h : EReal) := by
    simp only [ho, ← EReal.coe_mul]
    rw [coe_sum, h256, eps_coe, Ideal.div_coe (by norm_num), ← EReal.coe_mul, ← EReal.coe_add, msq]
    congr 2
    ring
  have := msq_pos P L n s h
  refine ⟨?_, e⟩
  rw [e, Ideal.rsqrt_coe, if_neg (by linarith), if_neg (by linarith), rs]

/-- The logistic function of a real number. -/
theorem logistic_coe (x : ℝ) : Ideal.logistic (x : EReal) = (sg x : EReal) := by
  have := Real.exp_pos (-x)
  show Ideal.div 1 (1 + Ideal.exp (-(x : EReal))) = _
  rw [← EReal.coe_neg, exp_coe, ← EReal.coe_one, ← EReal.coe_add, Ideal.div_coe (by positivity), ← EReal.coe_mul, sg, one_mul]

/-- What the claim takes for granted of the arguments: they are real, and the projections' last columns are zeros. -/
structure Real5 (P Gt D W : ℕ → ℕ → ℝ) (N : ℕ → ℝ) (proj : Rows 4096 3200 .f32) (dog : Rows 4096 1024 .f32) (wg2 : Rows 16 512 .f32)
    (bg : Rows 1 512 .f32) (gn : Rows 1 1024 .f32) : Prop where
  projs : ∀ (i : Fin 4096) (j : Fin 3200), proj (ix2 i j) = (P i.val j.val : EReal)
  zero : ∀ i j : ℕ, 3088 ≤ j → P i j = 0
  dogs : ∀ (i : Fin 4096) (j : Fin 1024), dog (ix2 i j) = (D i.val j.val : EReal)
  wg2s : ∀ (c : Fin 16) (k : Fin 512), wg2 (ix2 c k) = (W c.val k.val : EReal)
  gns : ∀ j : Fin 1024, gn (ix2 0 j) = (N j.val : EReal)
  gates : Real4 P Gt proj wg2 bg

end Cert.Gla

end
-- ==== Proof.GlbPadded.lean ====
module

public import proofs.«01_k».proof.Proof.GlbMaths

/-!
# Projections with columns of zeros added

The kernel's projections have 3200 columns, of which the last 112 are zero.
-/

@[expose] public section

noncomputable section

open Idealize.ShloMosaic

namespace Cert.Gla

/-- Projections with 112 columns of zeros added. -/
def padded (p : Rows 4096 3088 .f32) : Rows 4096 3200 .f32 := fun y => if h : (y 1).val < 3088 then p (ix2 (y 0) ⟨(y 1).val, h⟩) else (0 : EReal)

end Cert.Gla

end
-- ==== Proof.GlbFinite.lean ====
module

public import proofs.«01_k».proof.Pre_finite4
public import proofs.«01_k».proof.Proof.GlaFinite
public import proofs.«01_k».proof.Proof.GlbPadded

/-!
# What the precondition of the gated linear attention's gradient says

`finite4` is a conjunction of five tests that every entry of an argument is, in absolute value, below infinity, so all five
arguments are real.
-/

@[expose] public section

noncomputable section

open Idealize Idealize.ShloMosaic Cert.Gla

namespace Cert.Pre_finite4.Gla

open Cert.Pre_finite.Gla (real_of_lt at2 at2_coe sum_real)

/-- The relations between shapes that the precondition's operations take. -/
theorem facts : Cert.Pre_finite4.Facts where
  bcast_S_S4096x3088 := by decide
  reducesTo_S4096x3088_S_d0_1 := by decide
  h_S_ := by decide
  bcast_S_S4096x1024 := by decide
  reducesTo_S4096x1024_S_d0_1 := by decide
  bcast_S_S16x512 := by decide
  reducesTo_S16x512_S_d0_1 := by decide
  bcast_S_S1x512 := by decide
  reducesTo_S1x512_S_d0_1 := by decide
  bcast_S_S1x1024 := by decide
  reducesTo_S1x1024_S_d0_1 := by decide

instance : Cert.Pre_finite.Facts := Cert.Pre_finite.Gla.facts

variable [Cert.Pre_finite4.Facts]

/-- The five arrays of the precondition hold real numbers. -/
theorem reals (proj : FVec Ideal S4096x3088 .f32) (dog : FVec Ideal S4096x1024 .f32) (wg2 : FVec Ideal S16x512 .f32) (bg : FVec Ideal S1x512 .f32) (gn : FVec Ideal S1x1024 .f32)
    (h : fn (F := Ideal) proj dog wg2 bg gn = fun _ => 1#1) :
    (∀ i, proj i = ((proj i : EReal).toReal : EReal)) ∧ (∀ i, dog i = ((dog i : EReal).toReal : EReal)) ∧ (∀ i, wg2 i = ((wg2 i : EReal).toReal : EReal))
    ∧ (∀ i, bg i = ((bg i : EReal).toReal : EReal)) ∧ ∀ i, gn i = ((gn i : EReal).toReal : EReal) := by
  have e := congrFun h (fun d => d.elim0)
  dsimp only [fn, fn_part1] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  haveI : Subsingleton S_.Idx := ⟨fun a b => funext fun d => d.elim0⟩
  exact ⟨fun i => real_of_lt _ (Host.reduce_andi_all _ _ _ _ _ e0 i), fun i => real_of_lt _ (Host.reduce_andi_all _ _ _ _ _ e1 i),
    fun i => real_of_lt _ (Host.reduce_andi_all _ _ _ _ _ e2 i), fun i => real_of_lt _ (Host.reduce_andi_all _ _ _ _ _ e3 i),
    fun i => real_of_lt _ (Host.reduce_andi_all _ _ _ _ _ e4 i)⟩

/-- With zeros added the projections are still real. -/
theorem padded_real (proj : FVec Ideal S4096x3088 .f32) (h : ∀ i, proj i = ((proj i : EReal).toReal : EReal)) (i : Fin 4096) (j : Fin 3200) :
    padded proj (ix2 i j) = ((padded proj (ix2 i j) : EReal).toReal : EReal) := by
  unfold padded
  split
  · exact h _
  · rw [EReal.toReal_zero, EReal.coe_zero]

/-- The precondition gives real projections, gradients, weights, biases and gains, and real inputs to the gates. -/
theorem real5 (proj : FVec Ideal S4096x3088 .f32) (dog : FVec Ideal S4096x1024 .f32) (wg2 : FVec Ideal S16x512 .f32) (bg : FVec Ideal S1x512 .f32) (gn : FVec Ideal S1x1024 .f32)
    (h : fn (F := Ideal) proj dog wg2 bg gn = fun _ => 1#1) :
    Real5 (at2 fun i j => padded proj (ix2 i j)) (at2 fun i k => (∑ c : Fin 16, padded proj (ix2 (i : Fin 4096) ⟨3072 + c.val, by omega⟩) * wg2 (ix2 c (k : Fin 512))) + bg (ix2 0 k))
      (at2 fun i j => dog (ix2 i j)) (at2 fun i j => wg2 (ix2 i j)) (fun j => at2 (fun i j => gn (ix2 (i : Fin 1) j)) 0 j) (padded proj) dog wg2 bg gn := by
  obtain ⟨h0, h1, h2, h3, h4⟩ := reals proj dog wg2 bg gn h
  have hp := padded_real proj h0
  refine ⟨fun i j => at2_coe (fun i j => padded proj (ix2 i j)) i j (hp i j), fun i j hj => ?_, fun i j => at2_coe (fun i j => dog (ix2 i j)) i j (h1 _),
    fun i j => at2_coe (fun i j => wg2 (ix2 i j)) i j (h2 _), fun j => at2_coe (fun i j => gn (ix2 (i : Fin 1) j)) 0 j (h4 _),
    ⟨fun i j _ => at2_coe (fun i j => padded proj (ix2 i j)) i j (hp i j),
      fun i k => at2_coe (fun i k => (∑ c : Fin 16, padded proj (ix2 (i : Fin 4096) ⟨3072 + c.val, by omega⟩) * wg2 (ix2 c (k : Fin 512))) + bg (ix2 0 k)) i k (sum_real _ _ _ (fun c => hp i _) (fun c => h2 _) (h3 _))⟩⟩
  unfold at2
  split
  · rename_i hij
    have e : padded proj (ix2 ⟨i, hij.1⟩ ⟨j, hij.2⟩) = (0 : EReal) := dif_neg (show ¬j < 3088 by omega)
    exact (congrArg EReal.toReal e).trans EReal.toReal_zero
  · rfl

end Cert.Pre_finite4.Gla

end
-- ==== Proof.GlbBlocks.lean ====
module

public import proofs.«01_k».proof.Proof.Gen.Kernel4Ideal.Skeleton
public import Idealize.ShloMosaic.Lib.Pipeline.ValueKit
public import Idealize.ShloMosaic.Lib.Pipeline.CanonAppend
public import Idealize.ShloMosaic.Lib.Pointwise

/-!
# A block of the attention's gradient

One grid point of the backward call works on four chunks of 64 rows and four heads, a pair at a time: it loads the pair's
part of a block, computes, and stores the pair's part of another. Here are the functions of whole blocks of which those
parts are parts, each with the lemma that the pair's computation on parts is the part of the function.
-/

@[expose] public section

set_option maxRecDepth 16384

noncomputable section

open Idealize.ShloMosaic Idealize.ShloMosaic.TcCoe Idealize.SL.Sem

namespace Cert.Kernel4Ideal.Gla

open Cert.Kernel4Ideal Cert.Kernel4Ideal.Gen

/-! ## The parts of a block -/

/-- The columns of the queries. -/
def qF (x0 : Vec Ideal S256x3200 .f32) : Vec Ideal S256x512 .f32 := fun y =>
  x0 (ix2 (y 0) ⟨(y 1).val, by have : (y 1).val < 512 := (y 1).isLt; omega⟩)

/-- The columns of the keys. -/
def kF (x0 : Vec Ideal S256x3200 .f32) : Vec Ideal S256x512 .f32 := fun y =>
  x0 (ix2 (y 0) ⟨512 + (y 1).val, by have : (y 1).val < 512 := (y 1).isLt; omega⟩)

/-- The columns of the values. -/
def vF (x0 : Vec Ideal S256x3200 .f32) : Vec Ideal S256x1024 .f32 := fun y =>
  x0 (ix2 (y 0) ⟨1024 + (y 1).val, by have : (y 1).val < 1024 := (y 1).isLt; omega⟩)

/-- The columns of the output gates. -/
def rF (x0 : Vec Ideal S256x3200 .f32) : Vec Ideal S256x1024 .f32 := fun y =>
  x0 (ix2 (y 0) ⟨2048 + (y 1).val, by have : (y 1).val < 1024 := (y 1).isLt; omega⟩)

/-- The gain, the same in every row. -/
def gF (x6 : Vec Ideal S1x1024 .f32) : Vec Ideal S256x1024 .f32 := fun y => x6 (ix2 0 (y 1))

/-- The state after chunk `n` of a block of states. -/
def slF (x2 : Vec Ideal S4x512x256 .f32) (n : ℕ) : Vec Ideal S512x256 .f32 := fun y => x2 (ix3 ⟨n % 4, by omega⟩ (y 0) (y 1))

/-- The one state of a block of one. -/
def spF (x3 : Vec Ideal S1x512x256 .f32) : Vec Ideal S512x256 .f32 := fun y => x3 (ix3 0 (y 0) (y 1))

/-- Each head's 128 columns of a row times the head's rows of a state. -/
def nnF (Q : Vec Ideal S256x512 .bf16) (T : Vec Ideal S512x256 .bf16) : Vec Ideal S256x1024 .f32 := fun y =>
  ∑ d : Fin 128, Q (ix2 (y 0) ⟨128 * ((y 1).val / 256) + d.val, by have : (y 1).val < 1024 := (y 1).isLt; omega⟩)
    * T (ix2 ⟨128 * ((y 1).val / 256) + d.val, by have : (y 1).val < 1024 := (y 1).isLt; omega⟩ ⟨(y 1).val % 256, by omega⟩)

/-- Each head's 256 columns of a row times the head's rows of a state, along the rows. -/
def ntF (V : Vec Ideal S256x1024 .bf16) (T : Vec Ideal S512x256 .bf16) : Vec Ideal S256x512 .f32 := fun y =>
  ∑ e : Fin 256, V (ix2 (y 0) ⟨256 * ((y 1).val / 128) + e.val, by have : (y 1).val < 512 := (y 1).isLt; omega⟩) * T (ix2 (y 1) e)

/-- One over the root of each head's mean, with the small number. -/
def rsF (c d : Ideal .f32) (A : Vec Ideal S256x1024 .f32) : Vec Ideal S256x1024 .f32 := fun y =>
  Ideal.rsqrt (Ideal.div (∑ e : Fin 256, A (ix2 (y 0) ⟨256 * ((y 1).val / 256) + e.val, by have : (y 1).val < 1024 := (y 1).isLt; omega⟩))
    c + d)

/-- Each head's mean. -/
def meanF (c : Ideal .f32) (A : Vec Ideal S256x1024 .f32) : Vec Ideal S256x1024 .f32 := fun y =>
  Ideal.div (∑ e : Fin 256, A (ix2 (y 0) ⟨256 * ((y 1).val / 256) + e.val, by have : (y 1).val < 1024 := (y 1).isLt; omega⟩))
    c

/-- The sum of a chunk's rows. -/
def sumF (A : Vec Ideal S256x1024 .f32) (n : ℕ) : Vec Ideal S1x1024 .f32 := fun y =>
  ∑ s : Fin 64, A (ix2 ⟨64 * (n % 4) + s.val, by omega⟩ (y 1))

/-- A state with what a chunk sends back to it. -/
def stepF (Q : Vec Ideal S256x512 .bf16) (D : Vec Ideal S256x1024 .bf16) (n : ℕ) (S : Vec Ideal S512x256 .f32) : Vec Ideal S512x256 .f32 := fun y =>
  S y + ∑ s : Fin 64, Q (ix2 ⟨64 * (n % 4) + s.val, by omega⟩ (y 0))
    * D (ix2 ⟨64 * (n % 4) + s.val, by omega⟩ ⟨256 * ((y 0).val / 128) + (y 1).val, by
        have : (y 0).val < 512 := (y 0).isLt
        have : (y 1).val < 256 := (y 1).isLt
        omega⟩)

/-- A state decayed over a chunk. -/
def decF (g : Vec Ideal S8x512 .f32) (n : ℕ) (T : Vec Ideal S512x256 .f32) : Vec Ideal S512x256 .f32 := fun y =>
  Ideal.exp (g (ix2 ⟨n % 8, by omega⟩ (y 0))) * T y

/-- The gradient of a chunk's sum of the gates' logarithms: `T` are the products with the state before it, `W` the rows'. -/
def dgeF (g : Vec Ideal S8x512 .f32) (n : ℕ) (T : Vec Ideal S512x256 .f32) (W : Vec Ideal S256x512 .f32) : Vec Ideal S8x512 .f32 := fun y =>
  Ideal.exp (g (ix2 ⟨n % 8, by omega⟩ (y 1))) * (∑ e : Fin 256, T (ix2 (y 1) e)) + ∑ s : Fin 64, W (ix2 ⟨64 * (n % 4) + s.val, by omega⟩ (y 1))

/-- A chunk's row minus the chunk's rows. -/
def lastF (g : Vec Ideal S8x512 .f32) (n : ℕ) (R : Vec Ideal S256x512 .f32) : Vec Ideal S256x512 .f32 := fun y =>
  g (ix2 ⟨n % 8, by omega⟩ (y 1)) - R y

/-- The decay from each row of a block to the end of its chunk, of the running sums `G` of the gates' logarithms. -/
def wB (G : Vec Ideal S256x512 .f32) : Vec Ideal S256x512 .f32 := fun y =>
  Ideal.exp (G (ix2 ⟨64 * ((y 0).val / 64) + 63, by have : (y 0).val < 256 := (y 0).isLt; omega⟩ (y 1)) - G y)

/-- The running sums at the chunks' last rows, one row for each chunk of the block (and four unused rows). -/
def geB (G : Vec Ideal S256x512 .f32) : Vec Ideal S8x512 .f32 := fun y =>
  G (ix2 ⟨64 * ((y 0).val % 4) + 63, by omega⟩ (y 1))

/-- A block whose chunks' rows are those of four functions. -/
def rows4 (W0 W1 W2 W3 : Vec Ideal S256x512 .f32) : Vec Ideal S256x512 .f32 := fun y =>
  if (y 0).val < 64 then W0 y else if (y 0).val < 128 then W1 y else if (y 0).val < 192 then W2 y else W3 y

/-! ## Loads of the columns -/

section
variable (n h : ℕ)

/-- A load of a head's queries. -/
theorem q_ld (x0 : Vec Ideal S256x3200 .f32) (inb : ∀ i, (![n, h] : Fin S256x3200.rank → ℕ) i + (![64, 128] : Fin S256x3200.rank → ℕ) i ≤ S256x3200.size i)
    (inb' : ∀ i, (![n, h] : Fin S256x512.rank → ℕ) i + (![64, 128] : Fin S256x512.rank → ℕ) i ≤ S256x512.size i) :
    (View.ld x0 (Rect.unit ![n, h] ![64, 128] inb) : FVec Ideal S64x128 .f32) = View.ld (qF x0) (Rect.unit ![n, h] ![64, 128] inb') := by
  funext x
  simp only [qF]
  refine congrArg x0 ?_
  funext a
  fin_cases a <;> rfl

/-- A load of a head's keys. -/
theorem k_ld (x0 : Vec Ideal S256x3200 .f32) (inb : ∀ i, (![n, h] : Fin S256x3200.rank → ℕ) i + (![64, 128] : Fin S256x3200.rank → ℕ) i ≤ S256x3200.size i)
    (hh : 512 ≤ h) (inb' : ∀ i, (![n, h - 512] : Fin S256x512.rank → ℕ) i + (![64, 128] : Fin S256x512.rank → ℕ) i ≤ S256x512.size i) :
    (View.ld x0 (Rect.unit ![n, h] ![64, 128] inb) : FVec Ideal S64x128 .f32) = View.ld (kF x0) (Rect.unit ![n, h - 512] ![64, 128] inb') := by
  funext x
  simp only [kF]
  refine congrArg x0 ?_
  funext a
  fin_cases a <;> refine Fin.ext ?_ <;> simp <;> omega

/-- A load of a head's values. -/
theorem v_ld (x0 : Vec Ideal S256x3200 .f32) (inb : ∀ i, (![n, h] : Fin S256x3200.rank → ℕ) i + (![64, 256] : Fin S256x3200.rank → ℕ) i ≤ S256x3200.size i)
    (hh : 1024 ≤ h) (inb' : ∀ i, (![n, h - 1024] : Fin S256x1024.rank → ℕ) i + (![64, 256] : Fin S256x1024.rank → ℕ) i ≤ S256x1024.size i) :
    (View.ld x0 (Rect.unit ![n, h] ![64, 256] inb) : FVec Ideal S64x256 .f32) = View.ld (vF x0) (Rect.unit ![n, h - 1024] ![64, 256] inb') := by
  funext x
  simp only [vF]
  refine congrArg x0 ?_
  funext a
  fin_cases a <;> refine Fin.ext ?_ <;> simp <;> omega

/-- A load of a head's output gates. -/
theorem r_ld (x0 : Vec Ideal S256x3200 .f32) (inb : ∀ i, (![n, h] : Fin S256x3200.rank → ℕ) i + (![64, 256] : Fin S256x3200.rank → ℕ) i ≤ S256x3200.size i)
    (hh : 2048 ≤ h) (inb' : ∀ i, (![n, h - 2048] : Fin S256x1024.rank → ℕ) i + (![64, 256] : Fin S256x1024.rank → ℕ) i ≤ S256x1024.size i) :
    (View.ld x0 (Rect.unit ![n, h] ![64, 256] inb) : FVec Ideal S64x256 .f32) = View.ld (rF x0) (Rect.unit ![n, h - 2048] ![64, 256] inb') := by
  funext x
  simp only [rF]
  refine congrArg x0 ?_
  funext a
  fin_cases a <;> refine Fin.ext ?_ <;> simp <;> omega

/-- A load of a head's rows of one of the four states. -/
theorem sl_ld (x2 : Vec Ideal S4x512x256 .f32) (inb : ∀ i, (![n, h, 0] : Fin S4x512x256.rank → ℕ) i + (![1, 128, 256] : Fin S4x512x256.rank → ℕ) i ≤ S4x512x256.size i)
    (hn : n < 4) (inb' : ∀ i, (![h, 0] : Fin S512x256.rank → ℕ) i + (![128, 256] : Fin S512x256.rank → ℕ) i ≤ S512x256.size i) :
    (shapeCast S128x256 (View.ld x2 (Rect.unit ![n, h, 0] ![1, 128, 256] inb)) shapeCasts_S1x128x256_S128x256 : FVec Ideal S128x256 .f32)
      = View.ld (slF x2 n) (Rect.unit ![h, 0] ![128, 256] inb') := by
  funext x
  have e : ∀ g : FVec Ideal S1x128x256 .f32, shapeCast S128x256 g shapeCasts_S1x128x256_S128x256 x = g (ix3 0 (x 0) (x 1)) := fun g => by
    pointwise
  refine (e _).trans ?_
  simp only [slF]
  have hm : n % 4 = n := Nat.mod_eq_of_lt hn
  refine congrArg x2 ?_
  funext a
  fin_cases a <;> refine Fin.ext ?_ <;> simp [hm]

/-- A load of a head's rows of the one state. -/
theorem sp_ld (x3 : Vec Ideal S1x512x256 .f32) (inb : ∀ i, (![0, h, 0] : Fin S1x512x256.rank → ℕ) i + (![1, 128, 256] : Fin S1x512x256.rank → ℕ) i ≤ S1x512x256.size i)
    (inb' : ∀ i, (![h, 0] : Fin S512x256.rank → ℕ) i + (![128, 256] : Fin S512x256.rank → ℕ) i ≤ S512x256.size i) :
    (shapeCast S128x256 (View.ld x3 (Rect.unit ![0, h, 0] ![1, 128, 256] inb)) shapeCasts_S1x128x256_S128x256 : FVec Ideal S128x256 .f32)
      = View.ld (spF x3) (Rect.unit ![h, 0] ![128, 256] inb') := by
  funext x
  have e : ∀ g : FVec Ideal S1x128x256 .f32, shapeCast S128x256 g shapeCasts_S1x128x256_S128x256 x = g (ix3 0 (x 0) (x 1)) := fun g => by
    pointwise
  refine (e _).trans ?_
  simp only [spF]
  refine congrArg x3 ?_
  funext a
  fin_cases a <;> refine Fin.ext ?_ <;> simp

end

/-! ## Elementwise steps -/

section
variable (n h : ℕ) (inb : ∀ i, (![n, h] : Fin S256x1024.rank → ℕ) i + (![64, 256] : Fin S256x1024.rank → ℕ) i ≤ S256x1024.size i)
  (A B : FVec Ideal S256x1024 .f32)

theorem mul_ld : (mulf (View.ld (Val := Elt Ideal) (e' := .f32) A (Rect.unit ![n, h] ![64, 256] inb)) (View.ld (Val := Elt Ideal) (e' := .f32) B (Rect.unit ![n, h] ![64, 256] inb)) : FVec Ideal S64x256 .f32)
    = View.ld (Val := Elt Ideal) (e' := .f32) (mulf A B : FVec Ideal S256x1024 .f32) (Rect.unit ![n, h] ![64, 256] inb) := rfl

theorem sub_ld : (subf (View.ld (Val := Elt Ideal) (e' := .f32) A (Rect.unit ![n, h] ![64, 256] inb)) (View.ld (Val := Elt Ideal) (e' := .f32) B (Rect.unit ![n, h] ![64, 256] inb)) : FVec Ideal S64x256 .f32)
    = View.ld (Val := Elt Ideal) (e' := .f32) (subf A B : FVec Ideal S256x1024 .f32) (Rect.unit ![n, h] ![64, 256] inb) := rfl

theorem csub_ld (c : Ideal .f32) : (subf (broadcast S64x256 c) (View.ld (Val := Elt Ideal) (e' := .f32) B (Rect.unit ![n, h] ![64, 256] inb)) : FVec Ideal S64x256 .f32)
    = View.ld (Val := Elt Ideal) (e' := .f32) (subf (broadcast S256x1024 c) B : FVec Ideal S256x1024 .f32) (Rect.unit ![n, h] ![64, 256] inb) := rfl

theorem cadd_ld (c : Ideal .f32) : (addf (broadcast S64x256 c) (View.ld (Val := Elt Ideal) (e' := .f32) B (Rect.unit ![n, h] ![64, 256] inb)) : FVec Ideal S64x256 .f32)
    = View.ld (Val := Elt Ideal) (e' := .f32) (addf (broadcast S256x1024 c) B : FVec Ideal S256x1024 .f32) (Rect.unit ![n, h] ![64, 256] inb) := rfl

theorem logistic_ld : (logistic (View.ld (Val := Elt Ideal) (e' := .f32) A (Rect.unit ![n, h] ![64, 256] inb)) : FVec Ideal S64x256 .f32)
    = View.ld (Val := Elt Ideal) (e' := .f32) (logistic A : FVec Ideal S256x1024 .f32) (Rect.unit ![n, h] ![64, 256] inb) := rfl

theorem trunc_ld : (truncf FTy.bf16 (View.ld (Val := Elt Ideal) (e' := .f32) A (Rect.unit ![n, h] ![64, 256] inb) : FVec Ideal S64x256 .f32) bitsLt_bf16_f32 : FVec Ideal S64x256 .bf16)
    = View.ld (Val := Elt Ideal) (e' := .bf16) (truncf FTy.bf16 (A : FVec Ideal S256x1024 .f32) bitsLt_bf16_f32 : FVec Ideal S256x1024 .bf16) (Rect.unit ![n, h] ![64, 256] inb) := rfl

/-- A product with the gain's row. -/
theorem gain_ld (x6 : Vec Ideal S1x1024 .f32) (inb6 : ∀ i, (![0, h] : Fin S1x1024.rank → ℕ) i + (![1, 256] : Fin S1x1024.rank → ℕ) i ≤ S1x1024.size i) :
    (mulf (View.ld (Val := Elt Ideal) (e' := .f32) A (Rect.unit ![n, h] ![64, 256] inb)) (broadcastTo S64x256 (View.ld (Val := Elt Ideal) (e' := .f32) x6 (Rect.unit ![0, h] ![1, 256] inb6)) broadcasts_S1x256_S64x256) : FVec Ideal S64x256 .f32)
    = View.ld (Val := Elt Ideal) (e' := .f32) (mulf A (gF x6) : FVec Ideal S256x1024 .f32) (Rect.unit ![n, h] ![64, 256] inb) := by
  funext x
  have e : ∀ g : FVec Ideal S1x256 .f32, broadcastTo S64x256 g broadcasts_S1x256_S64x256 x = g (ix2 0 (x 1)) := fun g => by
    pointwise
  refine congrArg₂ (· * ·) rfl ((e _).trans ?_)
  simp only [gF]
  refine congrArg x6 ?_
  funext a
  fin_cases a <;> refine Fin.ext ?_ <;> simp

end

section
variable (n h : ℕ) (inb : ∀ i, (![n, h] : Fin S256x512.rank → ℕ) i + (![64, 128] : Fin S256x512.rank → ℕ) i ≤ S256x512.size i)
  (A B : FVec Ideal S256x512 .f32)

theorem mul_ld2 : (mulf (View.ld (Val := Elt Ideal) (e' := .f32) A (Rect.unit ![n, h] ![64, 128] inb)) (View.ld (Val := Elt Ideal) (e' := .f32) B (Rect.unit ![n, h] ![64, 128] inb)) : FVec Ideal S64x128 .f32)
    = View.ld (Val := Elt Ideal) (e' := .f32) (mulf A B : FVec Ideal S256x512 .f32) (Rect.unit ![n, h] ![64, 128] inb) := rfl

theorem mulc_ld2 (c : Ideal .f32) : (mulf (View.ld (Val := Elt Ideal) (e' := .f32) A (Rect.unit ![n, h] ![64, 128] inb)) (broadcast S64x128 c) : FVec Ideal S64x128 .f32)
    = View.ld (Val := Elt Ideal) (e' := .f32) (mulf A (broadcast S256x512 c) : FVec Ideal S256x512 .f32) (Rect.unit ![n, h] ![64, 128] inb) := rfl

theorem trunc_ld2 : (truncf FTy.bf16 (View.ld (Val := Elt Ideal) (e' := .f32) A (Rect.unit ![n, h] ![64, 128] inb) : FVec Ideal S64x128 .f32) bitsLt_bf16_f32 : FVec Ideal S64x128 .bf16)
    = View.ld (Val := Elt Ideal) (e' := .bf16) (truncf FTy.bf16 (A : FVec Ideal S256x512 .f32) bitsLt_bf16_f32 : FVec Ideal S256x512 .bf16) (Rect.unit ![n, h] ![64, 128] inb) := rfl

end

section
variable (h : ℕ) (inb : ∀ i, (![h, 0] : Fin S512x256.rank → ℕ) i + (![128, 256] : Fin S512x256.rank → ℕ) i ≤ S512x256.size i)
  (A B : FVec Ideal S512x256 .f32)

theorem mul_ld3 : (mulf (View.ld (Val := Elt Ideal) (e' := .f32) A (Rect.unit ![h, 0] ![128, 256] inb)) (View.ld (Val := Elt Ideal) (e' := .f32) B (Rect.unit ![h, 0] ![128, 256] inb)) : FVec Ideal S128x256 .f32)
    = View.ld (Val := Elt Ideal) (e' := .f32) (mulf A B : FVec Ideal S512x256 .f32) (Rect.unit ![h, 0] ![128, 256] inb) := rfl

theorem trunc_ld3 : (truncf FTy.bf16 (View.ld (Val := Elt Ideal) (e' := .f32) A (Rect.unit ![h, 0] ![128, 256] inb) : FVec Ideal S128x256 .f32) bitsLt_bf16_f32 : FVec Ideal S128x256 .bf16)
    = View.ld (Val := Elt Ideal) (e' := .bf16) (truncf FTy.bf16 (A : FVec Ideal S512x256 .f32) bitsLt_bf16_f32 : FVec Ideal S512x256 .bf16) (Rect.unit ![h, 0] ![128, 256] inb) := rfl

/-- The state before the block, or zero before the first. -/
theorem sel_ld (b : BitVec 1) (c : Ideal .f32) : (Scalar.select b (View.ld (Val := Elt Ideal) (e' := .f32) A (Rect.unit ![h, 0] ![128, 256] inb)) (broadcast S128x256 c) : FVec Ideal S128x256 .f32)
    = View.ld (Val := Elt Ideal) (e' := .f32) (Scalar.select b A (broadcast S512x256 c) : Vec Ideal S512x256 .f32) (Rect.unit ![h, 0] ![128, 256] inb) := by
  unfold Scalar.select
  split <;> rfl

end

/-! ## Products and sums -/

/-- The products of a chunk and a head with the state. -/
theorem nn_ld (Q : FVec Ideal S256x512 .bf16) (T : FVec Ideal S512x256 .bf16) (n h : ℕ)
    (inbq : ∀ i, (![n, h] : Fin S256x512.rank → ℕ) i + (![64, 128] : Fin S256x512.rank → ℕ) i ≤ S256x512.size i)
    (inbs : ∀ i, (![h, 0] : Fin S512x256.rank → ℕ) i + (![128, 256] : Fin S512x256.rank → ℕ) i ≤ S512x256.size i)
    (hh : h % 128 = 0)
    (inb : ∀ i, (![n, 2 * h] : Fin S256x1024.rank → ℕ) i + (![64, 256] : Fin S256x1024.rank → ℕ) i ≤ S256x1024.size i) :
    (matmul (φ₁ := .bf16) (φ₂ := .bf16) dot_S64x128_S128x256_S64x256_1_0_0_1_n_n none (View.ld (Val := Elt Ideal) (e' := .bf16) Q (Rect.unit ![n, h] ![64, 128] inbq) : FVec Ideal S64x128 .bf16)
      (View.ld (Val := Elt Ideal) (e' := .bf16) T (Rect.unit ![h, 0] ![128, 256] inbs) : FVec Ideal S128x256 .bf16) (constant S64x256 FTy.f32 0#32) : FVec Ideal S64x256 .f32)
    = View.ld (Val := Elt Ideal) (e' := .f32) (nnF Q T) (Rect.unit ![n, 2 * h] ![64, 256] inb) := by
  funext x
  have e : ∀ (q : FVec Ideal S64x128 .bf16) (s : FVec Ideal S128x256 .bf16), (matmul (φ₁ := .bf16) (φ₂ := .bf16) dot_S64x128_S128x256_S64x256_1_0_0_1_n_n none q s (constant S64x256 FTy.f32 0#32) : FVec Ideal S64x256 .f32) x
      = ∑ d : Fin 128, q (ix2 (x 0) d) * s (ix2 d (x 1)) := fun q s => by pointwise
  refine (e _ _).trans ?_
  have hx1 : (x 1).val < 256 := (x 1).isLt
  simp only [nnF]
  refine Finset.sum_congr rfl fun d _ => congrArg₂ (· * ·) (congrArg Q ?_) (congrArg T ?_)
  all_goals
    funext a
    fin_cases a <;> refine Fin.ext ?_ <;> simp <;> omega

/-- The products of a chunk and a head with the state's rows. -/
theorem nt_ld (V : FVec Ideal S256x1024 .bf16) (T : FVec Ideal S512x256 .bf16) (n h h2 : ℕ)
    (inbv : ∀ i, (![n, h2] : Fin S256x1024.rank → ℕ) i + (![64, 256] : Fin S256x1024.rank → ℕ) i ≤ S256x1024.size i)
    (inbs : ∀ i, (![h, 0] : Fin S512x256.rank → ℕ) i + (![128, 256] : Fin S512x256.rank → ℕ) i ≤ S512x256.size i)
    (hh : h % 128 = 0) (h2h : h2 = 2 * h)
    (inb : ∀ i, (![n, h] : Fin S256x512.rank → ℕ) i + (![64, 128] : Fin S256x512.rank → ℕ) i ≤ S256x512.size i) :
    (matmul (φ₁ := .bf16) (φ₂ := .bf16) dot_S64x256_S128x256_S64x128_1_1_0_0_n_n none (View.ld (Val := Elt Ideal) (e' := .bf16) V (Rect.unit ![n, h2] ![64, 256] inbv) : FVec Ideal S64x256 .bf16)
      (View.ld (Val := Elt Ideal) (e' := .bf16) T (Rect.unit ![h, 0] ![128, 256] inbs) : FVec Ideal S128x256 .bf16) (constant S64x128 FTy.f32 0#32) : FVec Ideal S64x128 .f32)
    = View.ld (Val := Elt Ideal) (e' := .f32) (ntF V T) (Rect.unit ![n, h] ![64, 128] inb) := by
  subst h2h
  funext x
  have e : ∀ (q : FVec Ideal S64x256 .bf16) (s : FVec Ideal S128x256 .bf16), (matmul (φ₁ := .bf16) (φ₂ := .bf16) dot_S64x256_S128x256_S64x128_1_1_0_0_n_n none q s (constant S64x128 FTy.f32 0#32) : FVec Ideal S64x128 .f32) x
      = ∑ d : Fin 256, q (ix2 (x 0) d) * s (ix2 (x 1) d) := fun q s => by pointwise
  refine (e _ _).trans ?_
  have hx1 : (x 1).val < 128 := (x 1).isLt
  simp only [ntF]
  refine Finset.sum_congr rfl fun d _ => congrArg₂ (· * ·) (congrArg V ?_) (congrArg T ?_)
  all_goals
    funext a
    fin_cases a <;> refine Fin.ext ?_ <;> simp <;> omega

/-- A head's state with what a chunk sends back to it. -/
theorem step_ld (Q : FVec Ideal S256x512 .bf16) (D : FVec Ideal S256x1024 .bf16) (S : FVec Ideal S512x256 .f32) (n h h2 : ℕ)
    (inbq : ∀ i, (![n, h] : Fin S256x512.rank → ℕ) i + (![64, 128] : Fin S256x512.rank → ℕ) i ≤ S256x512.size i)
    (inbd : ∀ i, (![n, h2] : Fin S256x1024.rank → ℕ) i + (![64, 256] : Fin S256x1024.rank → ℕ) i ≤ S256x1024.size i)
    (inbs : ∀ i, (![h, 0] : Fin S512x256.rank → ℕ) i + (![128, 256] : Fin S512x256.rank → ℕ) i ≤ S512x256.size i)
    (hn : 64 * (n / 64 % 4) = n) (hh : h % 128 = 0) (h2h : h2 = 2 * h) :
    (addf (View.ld (Val := Elt Ideal) (e' := .f32) S (Rect.unit ![h, 0] ![128, 256] inbs)) (matmul (φ₁ := .bf16) (φ₂ := .bf16) dot_S64x128_S64x256_S128x256_0_0_1_1_n_n none (View.ld (Val := Elt Ideal) (e' := .bf16) Q (Rect.unit ![n, h] ![64, 128] inbq) : FVec Ideal S64x128 .bf16)
      (View.ld (Val := Elt Ideal) (e' := .bf16) D (Rect.unit ![n, h2] ![64, 256] inbd) : FVec Ideal S64x256 .bf16) (constant S128x256 FTy.f32 0#32)) : FVec Ideal S128x256 .f32)
    = View.ld (Val := Elt Ideal) (e' := .f32) (stepF Q D (n / 64) S) (Rect.unit ![h, 0] ![128, 256] inbs) := by
  subst h2h
  funext x
  have e : ∀ (q : FVec Ideal S64x128 .bf16) (s : FVec Ideal S64x256 .bf16), (matmul (φ₁ := .bf16) (φ₂ := .bf16) dot_S64x128_S64x256_S128x256_0_0_1_1_n_n none q s (constant S128x256 FTy.f32 0#32) : FVec Ideal S128x256 .f32) x
      = ∑ d : Fin 64, q (ix2 d (x 0)) * s (ix2 d (x 1)) := fun q s => by pointwise
  refine (congrArg₂ (· + ·) rfl (e _ _)).trans ?_
  have hx0 : (x 0).val < 128 := (x 0).isLt
  have hx1 : (x 1).val < 256 := (x 1).isLt
  simp only [stepF]
  refine congrArg₂ (· + ·) rfl (Finset.sum_congr rfl fun d _ => congrArg₂ (· * ·) (congrArg Q ?_) (congrArg D ?_))
  all_goals
    funext a
    fin_cases a <;> refine Fin.ext ?_ <;> simp <;> omega

/-- A head's state decayed over a chunk. -/
theorem dec_ld (g : FVec Ideal S8x512 .f32) (T : FVec Ideal S512x256 .f32) (n h : ℕ)
    (inbg : ∀ i, (![n, h] : Fin S8x512.rank → ℕ) i + (![1, 128] : Fin S8x512.rank → ℕ) i ≤ S8x512.size i)
    (inbs : ∀ i, (![h, 0] : Fin S512x256.rank → ℕ) i + (![128, 256] : Fin S512x256.rank → ℕ) i ≤ S512x256.size i) (hn : n % 8 = n) :
    (mulf (exp (concatenate S128x256 1 [⟨S128x128, transpose S128x128 [1, 0] (broadcastTo S128x128 (shapeCast S1x128 (View.ld (Val := Elt Ideal) (e' := .f32) g (Rect.unit ![n, h] ![1, 128] inbg)) shapeCasts_S1x128_S1x128) broadcasts_S1x128_S128x128) transposes_S128x128_p1_0_S128x128⟩, ⟨S128x128, transpose S128x128 [1, 0] (broadcastTo S128x128 (shapeCast S1x128 (View.ld (Val := Elt Ideal) (e' := .f32) g (Rect.unit ![n, h] ![1, 128] inbg)) shapeCasts_S1x128_S1x128) broadcasts_S1x128_S128x128) transposes_S128x128_p1_0_S128x128⟩] concatenates_S128x128_S128x128_S128x256_d1))
      (View.ld (Val := Elt Ideal) (e' := .f32) T (Rect.unit ![h, 0] ![128, 256] inbs)) : FVec Ideal S128x256 .f32)
    = View.ld (Val := Elt Ideal) (e' := .f32) (decF g n T) (Rect.unit ![h, 0] ![128, 256] inbs) := by
  funext x
  have e : ∀ (row : FVec Ideal S1x128 .f32) (t : FVec Ideal S128x256 .f32), (mulf (exp (concatenate S128x256 1 [⟨S128x128, transpose S128x128 [1, 0] (broadcastTo S128x128 (shapeCast S1x128 row shapeCasts_S1x128_S1x128) broadcasts_S1x128_S128x128) transposes_S128x128_p1_0_S128x128⟩, ⟨S128x128, transpose S128x128 [1, 0] (broadcastTo S128x128 (shapeCast S1x128 row shapeCasts_S1x128_S1x128) broadcasts_S1x128_S128x128) transposes_S128x128_p1_0_S128x128⟩] concatenates_S128x128_S128x128_S128x256_d1))
      t : FVec Ideal S128x256 .f32) x = Ideal.exp (row (ix2 0 (x 0))) * t x := fun row t => by
    pointwise
    split <;> rfl
  refine (e _ _).trans ?_
  simp only [decF]
  refine congrArg₂ (· * ·) (congrArg (fun j => Ideal.exp (g j)) ?_) rfl
  funext a
  fin_cases a <;> refine Fin.ext ?_ <;> simp [hn]

/-- One over the root of a head's mean, spread over the head's columns. -/
theorem rs_ld (c d : Ideal .f32) (A : FVec Ideal S256x1024 .f32) (n h : ℕ)
    (inb : ∀ i, (![n, h] : Fin S256x1024.rank → ℕ) i + (![64, 256] : Fin S256x1024.rank → ℕ) i ≤ S256x1024.size i) (hh : h % 256 = 0) :
    (broadcastTo S64x256 (rsqrt (addf (divf (shapeCast S64x1 (multiReduction .add [1] S64 (View.ld (Val := Elt Ideal) (e' := .f32) A (Rect.unit ![n, h] ![64, 256] inb) : FVec Ideal S64x256 .f32) 0x00000000#32 reduces_S64x256_S64 (.inl rfl) rfl) shapeCasts_S64_S64x1)
      (broadcast S64x1 c)) (broadcast S64x1 d))) broadcasts_S64x1_S64x256 : FVec Ideal S64x256 .f32)
    = View.ld (Val := Elt Ideal) (e' := .f32) (rsF c d A) (Rect.unit ![n, h] ![64, 256] inb) := by
  funext x
  have e : ∀ a : FVec Ideal S64x256 .f32, (broadcastTo S64x256 (rsqrt (addf (divf (shapeCast S64x1 (multiReduction .add [1] S64 a 0x00000000#32 reduces_S64x256_S64 (.inl rfl) rfl) shapeCasts_S64_S64x1)
      (broadcast S64x1 c)) (broadcast S64x1 d))) broadcasts_S64x1_S64x256 : FVec Ideal S64x256 .f32) x
      = Ideal.rsqrt (Ideal.div (∑ e : Fin 256, a (ix2 (x 0) e)) c + d) := fun a => by
    pointwise
  refine (e _).trans ?_
  have hx1 : (x 1).val < 256 := (x 1).isLt
  simp only [rsF]
  refine congrArg (fun s => Ideal.rsqrt (Ideal.div s _ + _)) (Finset.sum_congr rfl fun k _ => congrArg A ?_)
  funext a
  fin_cases a <;> refine Fin.ext ?_ <;> simp <;> omega

/-- A head's mean, spread over the head's columns. -/
theorem mean_ld (c : Ideal .f32) (A : FVec Ideal S256x1024 .f32) (n h : ℕ)
    (inb : ∀ i, (![n, h] : Fin S256x1024.rank → ℕ) i + (![64, 256] : Fin S256x1024.rank → ℕ) i ≤ S256x1024.size i) (hh : h % 256 = 0) :
    (broadcastTo S64x256 (divf (shapeCast S64x1 (multiReduction .add [1] S64 (View.ld (Val := Elt Ideal) (e' := .f32) A (Rect.unit ![n, h] ![64, 256] inb) : FVec Ideal S64x256 .f32) 0x00000000#32 reduces_S64x256_S64 (.inl rfl) rfl) shapeCasts_S64_S64x1)
      (broadcast S64x1 c)) broadcasts_S64x1_S64x256 : FVec Ideal S64x256 .f32)
    = View.ld (Val := Elt Ideal) (e' := .f32) (meanF c A) (Rect.unit ![n, h] ![64, 256] inb) := by
  funext x
  have e : ∀ a : FVec Ideal S64x256 .f32, (broadcastTo S64x256 (divf (shapeCast S64x1 (multiReduction .add [1] S64 a 0x00000000#32 reduces_S64x256_S64 (.inl rfl) rfl) shapeCasts_S64_S64x1)
      (broadcast S64x1 c)) broadcasts_S64x1_S64x256 : FVec Ideal S64x256 .f32) x
      = Ideal.div (∑ e : Fin 256, a (ix2 (x 0) e)) c := fun a => by
    pointwise
  refine (e _).trans ?_
  have hx1 : (x 1).val < 256 := (x 1).isLt
  simp only [meanF]
  refine congrArg (fun s => Ideal.div s _) (Finset.sum_congr rfl fun k _ => congrArg A ?_)
  funext a
  fin_cases a <;> refine Fin.ext ?_ <;> simp <;> omega

/-- A chunk's rows added to a row. -/
theorem sum_ld (A : FVec Ideal S256x1024 .f32) (P : FVec Ideal S1x1024 .f32) (n h : ℕ)
    (inb : ∀ i, (![n, h] : Fin S256x1024.rank → ℕ) i + (![64, 256] : Fin S256x1024.rank → ℕ) i ≤ S256x1024.size i)
    (inbp : ∀ i, (![0, h] : Fin S1x1024.rank → ℕ) i + (![1, 256] : Fin S1x1024.rank → ℕ) i ≤ S1x1024.size i) (hn : 64 * (n / 64 % 4) = n) :
    (addf (View.ld (Val := Elt Ideal) (e' := .f32) P (Rect.unit ![0, h] ![1, 256] inbp)) (shapeCast S1x256 (multiReduction .add [0] S256 (View.ld (Val := Elt Ideal) (e' := .f32) A (Rect.unit ![n, h] ![64, 256] inb) : FVec Ideal S64x256 .f32) 0x00000000#32 reduces_S64x256_S256 (.inl rfl) rfl) shapeCasts_S256_S1x256) : FVec Ideal S1x256 .f32)
    = View.ld (Val := Elt Ideal) (e' := .f32) (addf P (sumF A (n / 64)) : FVec Ideal S1x1024 .f32) (Rect.unit ![0, h] ![1, 256] inbp) := by
  funext x
  have e : ∀ a : FVec Ideal S64x256 .f32, (shapeCast S1x256 (multiReduction .add [0] S256 a 0x00000000#32 reduces_S64x256_S256 (.inl rfl) rfl) shapeCasts_S256_S1x256 : FVec Ideal S1x256 .f32) x
      = ∑ s : Fin 64, a (ix2 s (x 1)) := fun a => by
    pointwise
  refine (congrArg₂ (· + ·) rfl (e _)).trans ?_
  refine congrArg₂ (· + ·) rfl ?_
  simp only [sumF]
  refine Finset.sum_congr rfl fun d _ => congrArg A ?_
  funext a
  fin_cases a <;> refine Fin.ext ?_ <;> simp <;> omega

/-- The gradient of a chunk's sum of the gates' logarithms, over a head's columns. -/
theorem dge_ld (g : FVec Ideal S8x512 .f32) (T : FVec Ideal S512x256 .f32) (W : FVec Ideal S256x512 .f32) (c n h : ℕ)
    (inbg : ∀ i, (![c, h] : Fin S8x512.rank → ℕ) i + (![1, 128] : Fin S8x512.rank → ℕ) i ≤ S8x512.size i)
    (inbs : ∀ i, (![h, 0] : Fin S512x256.rank → ℕ) i + (![128, 256] : Fin S512x256.rank → ℕ) i ≤ S512x256.size i)
    (inbw : ∀ i, (![n, h] : Fin S256x512.rank → ℕ) i + (![64, 128] : Fin S256x512.rank → ℕ) i ≤ S256x512.size i) (hc : c < 4) (hn : n = 64 * c) :
    (addf (mulf (exp (View.ld (Val := Elt Ideal) (e' := .f32) g (Rect.unit ![c, h] ![1, 128] inbg) : FVec Ideal S1x128 .f32)) (extractStridedSlice S1x128 ![0, 0] (transpose S128x128 [1, 0] (broadcastTo S128x128
        (shapeCast S128x1 (multiReduction .add [1] S128 (View.ld (Val := Elt Ideal) (e' := .f32) T (Rect.unit ![h, 0] ![128, 256] inbs) : FVec Ideal S128x256 .f32) 0x00000000#32 reduces_S128x256_S128 (.inl rfl) rfl) shapeCasts_S128_S128x1)
        broadcasts_S128x1_S128x128) transposes_S128x128_p1_0_S128x128) slices_S128x128_o0_0_S1x128))
      (shapeCast S1x128 (multiReduction .add [0] S128 (View.ld (Val := Elt Ideal) (e' := .f32) W (Rect.unit ![n, h] ![64, 128] inbw) : FVec Ideal S64x128 .f32) 0x00000000#32 reduces_S64x128_S128 (.inl rfl) rfl) shapeCasts_S128_S1x128) : FVec Ideal S1x128 .f32)
    = View.ld (Val := Elt Ideal) (e' := .f32) (dgeF g c T W) (Rect.unit ![c, h] ![1, 128] inbg) := by
  subst hn
  funext x
  have e : ∀ (r : FVec Ideal S1x128 .f32) (t : FVec Ideal S128x256 .f32) (w : FVec Ideal S64x128 .f32), (addf (mulf (exp r) (extractStridedSlice S1x128 ![0, 0] (transpose S128x128 [1, 0] (broadcastTo S128x128
        (shapeCast S128x1 (multiReduction .add [1] S128 t 0x00000000#32 reduces_S128x256_S128 (.inl rfl) rfl) shapeCasts_S128_S128x1)
        broadcasts_S128x1_S128x128) transposes_S128x128_p1_0_S128x128) slices_S128x128_o0_0_S1x128))
      (shapeCast S1x128 (multiReduction .add [0] S128 w 0x00000000#32 reduces_S64x128_S128 (.inl rfl) rfl) shapeCasts_S128_S1x128) : FVec Ideal S1x128 .f32) x
      = Ideal.exp (r x) * (∑ e : Fin 256, t (ix2 (x 1) e)) + ∑ s : Fin 64, w (ix2 s (x 1)) := fun r t w => by
    pointwise
  refine (e _ _ _).trans ?_
  have hx0 : (x 0).val < 1 := (x 0).isLt
  have h4 : c % 4 = c := Nat.mod_eq_of_lt hc
  have h8 : c % 8 = c := Nat.mod_eq_of_lt (by omega)
  simp only [dgeF]
  refine congrArg₂ (· + ·) (congrArg₂ (· * ·) (congrArg (fun j => Ideal.exp (g j)) ?_) (Finset.sum_congr rfl fun d _ => congrArg T ?_)) (Finset.sum_congr rfl fun d _ => congrArg W ?_)
  all_goals
    funext a
    fin_cases a <;> refine Fin.ext ?_ <;> simp [h4, h8] <;> omega

/-- A chunk's row minus the chunk's rows, over all the columns. -/
theorem last_ld (g : FVec Ideal S8x512 .f32) (R : FVec Ideal S256x512 .f32) (c n : ℕ)
    (inbg : ∀ i, (![c, 0] : Fin S8x512.rank → ℕ) i + (![1, 512] : Fin S8x512.rank → ℕ) i ≤ S8x512.size i)
    (sl : S256x512.Slices ![n, 0] S64x512)
    (inb : ∀ i, (![n, 0] : Fin S256x512.rank → ℕ) i + (![64, 512] : Fin S256x512.rank → ℕ) i ≤ S256x512.size i) (hc : c % 8 = c) :
    (subf (broadcastTo S64x512 (View.ld (Val := Elt Ideal) (e' := .f32) g (Rect.unit ![c, 0] ![1, 512] inbg)) broadcasts_S1x512_S64x512) (extractStridedSlice S64x512 ![n, 0] R sl) : FVec Ideal S64x512 .f32)
    = View.ld (Val := Elt Ideal) (e' := .f32) (lastF g c R) (Rect.unit ![n, 0] ![64, 512] inb) := by
  funext x
  have e : ∀ r : FVec Ideal S1x512 .f32, (subf (broadcastTo S64x512 r broadcasts_S1x512_S64x512) (extractStridedSlice S64x512 ![n, 0] R sl) : FVec Ideal S64x512 .f32) x
      = r (ix2 0 (x 1)) - extractStridedSlice S64x512 ![n, 0] R sl x := fun r => by pointwise
  refine (e _).trans ?_
  simp only [lastF]
  refine congrArg₂ (· - ·) (congrArg g ?_) (congrArg R ?_)
  all_goals
    funext a
    fin_cases a <;> refine Fin.ext ?_ <;> simp [hc]

/-! ## Reads of what was stored -/

/-- A load of the state whose box is disjoint from the last store's rectangle reads the earlier stores. -/
theorem state_miss (v : View sig .tc .vmem S512x256 .f32) (r : Rect S512x256) (w : r.shape.Idx → Elt Ideal .f32)
    (L : List (View.Piece (Elt Ideal) S512x256 .f32)) (B : LoadRect S512x256)
    (h : LoadRect.disj r B = true) : v.readCov ((⟨r, w⟩ : View.Piece (Elt Ideal) S512x256 .f32) :: L) B = v.readCov L B :=
  View.readCov_cons_of_disjoint v ⟨r, w⟩ L B (Finset.disjoint_right.mpr fun i hi => by
    obtain ⟨j, rfl⟩ := B.exists_idx_of_mem hi
    exact LoadRect.idx_not_mem_of_disj h j)

/-- A load of the gain's gradient whose box is disjoint from the last store's rectangle reads the earlier stores. -/
theorem gain_miss (v : View sig .tc .vmem S1x1024 .f32) (r : Rect S1x1024) (w : r.shape.Idx → Elt Ideal .f32)
    (L : List (View.Piece (Elt Ideal) S1x1024 .f32)) (B : LoadRect S1x1024)
    (h : LoadRect.disj r B = true) : v.readCov ((⟨r, w⟩ : View.Piece (Elt Ideal) S1x1024 .f32) :: L) B = v.readCov L B :=
  View.readCov_cons_of_disjoint v ⟨r, w⟩ L B (Finset.disjoint_right.mpr fun i hi => by
    obtain ⟨j, rfl⟩ := B.exists_idx_of_mem hi
    exact LoadRect.idx_not_mem_of_disj h j)

/-- A load of the chunks' rows whose box is disjoint from the last store's rectangle reads the earlier stores. -/
theorem row_miss (v : View sig .tc .vmem S8x512 .f32) (r : Rect S8x512) (w : r.shape.Idx → Elt Ideal .f32)
    (L : List (View.Piece (Elt Ideal) S8x512 .f32)) (B : LoadRect S8x512)
    (h : LoadRect.disj r B = true) : v.readCov ((⟨r, w⟩ : View.Piece (Elt Ideal) S8x512 .f32) :: L) B = v.readCov L B :=
  View.readCov_cons_of_disjoint v ⟨r, w⟩ L B (Finset.disjoint_right.mpr fun i hi => by
    obtain ⟨j, rfl⟩ := B.exists_idx_of_mem hi
    exact LoadRect.idx_not_mem_of_disj h j)

/-- A load of the decays reads `wB` of the running sums. -/
theorem w_read (v : View sig .tc .vmem S256x512 .f32) (a : FVec Ideal S256x256 .bf16) (b : FVec Ideal S256x512 .bf16)
    (d e : FVec Ideal S256x512 .f32) (off sz : Fin S256x512.rank → ℕ) (inb : ∀ i, off i + sz i ≤ S256x512.size i) :
    v.readCov [⟨Rect.unit ![192, 0] ![64, 512] inb_S256x512_S64x512_192_0, k0_pay31 (k0_pay19 a b d e) (k0_pay29 a b d e)⟩,
      ⟨Rect.unit ![128, 0] ![64, 512] inb_S256x512_S64x512_128_0, k0_pay28 a b d e⟩,
      ⟨Rect.unit ![64, 0] ![64, 512] inb_S256x512_S64x512_64_0, k0_pay25 a b d e⟩,
      ⟨Rect.unit ![0, 0] ![64, 512] inb_S256x512_S64x512_0_0, k0_pay22 a b d e⟩]
      (Rect.unit off sz inb).toLoadRect = View.ld (wB (k0_pay19 a b d e)) (Rect.unit off sz inb) := by
  rw [View.readCov_eq_canon']
  funext x
  show View.canon _ ((Rect.unit off sz inb).idx x) = wB _ ((Rect.unit off sz inb).idx x)
  generalize (Rect.unit off sz inb).idx x = y
  canon_tiles i h
  all_goals
    simp only [k0_pay31, k0_pay29, k0_pay28, k0_pay26, k0_pay25, k0_pay23, k0_pay22, k0_pay20, wB]
    generalize k0_pay19 a b d e = G
    pointwise
    refine congrArg₂ (fun p q => Ideal.exp (G p - G q)) ?_ ?_ <;>
      · funext k
        fin_cases k <;> refine Fin.ext ?_ <;> simp <;> omega

/-- A row among the first four is in one of the four one-row pieces. -/
theorem rows_cover (p3 p2 p1 p0 : S1x512.Idx → Elt Ideal .f32) (y : S8x512.Idx) (hy : (y 0).val < 4) :
    ∃ p ∈ ([⟨Rect.unit ![3, 0] ![1, 512] inb_S8x512_S1x512_3_0, p3⟩, ⟨Rect.unit ![2, 0] ![1, 512] inb_S8x512_S1x512_2_0, p2⟩,
      ⟨Rect.unit ![1, 0] ![1, 512] inb_S8x512_S1x512_1_0, p1⟩, ⟨Rect.unit ![0, 0] ![1, 512] inb_S8x512_S1x512_0_0, p0⟩] :
        List (View.Piece (Elt Ideal) S8x512 .f32)), y ∈ p.1.set := by
  have hy1 : (y 1).val < 512 := (y 1).isLt
  have hm : ∀ (n : ℕ) (inb : ∀ i, (![n, 0] : Fin 2 → ℕ) i + (![1, 512] : Fin 2 → ℕ) i ≤ S8x512.size i), (y 0).val = n →
      y ∈ (Rect.unit (s := S8x512) ![n, 0] ![1, 512] inb).set := fun n inb e => by
    refine (Rect.unit (s := S8x512) ![n, 0] ![1, 512] inb).mem_set.mpr fun i => ?_
    fin_cases i
    · exact ⟨0, Nat.one_pos, by simpa using e⟩
    · exact ⟨(y 1).val, hy1, by simp⟩
  have : (y 0).val = 3 ∨ (y 0).val = 2 ∨ (y 0).val = 1 ∨ (y 0).val = 0 := by omega
  rcases this with e | e | e | e
  · exact ⟨_, .head _, hm 3 inb_S8x512_S1x512_3_0 e⟩
  · exact ⟨_, .tail _ (.head _), hm 2 inb_S8x512_S1x512_2_0 e⟩
  · exact ⟨_, .tail _ (.tail _ (.head _)), hm 1 inb_S8x512_S1x512_1_0 e⟩
  · exact ⟨_, .tail _ (.tail _ (.tail _ (.head _))), hm 0 inb_S8x512_S1x512_0_0 e⟩

/-- A load of the chunks' last running sums reads `geB`. -/
theorem g_read (v : View sig .tc .vmem S8x512 .f32) (a : FVec Ideal S256x256 .bf16) (b : FVec Ideal S256x512 .bf16)
    (d e : FVec Ideal S256x512 .f32) (off sz : Fin S8x512.rank → ℕ) (inb : ∀ i, off i + sz i ≤ S8x512.size i)
    (h : off 0 + sz 0 ≤ 4) :
    v.readCov [⟨Rect.unit ![3, 0] ![1, 512] inb_S8x512_S1x512_3_0, k0_pay30 (k0_pay29 a b d e)⟩,
      ⟨Rect.unit ![2, 0] ![1, 512] inb_S8x512_S1x512_2_0, k0_pay27 a b d e⟩,
      ⟨Rect.unit ![1, 0] ![1, 512] inb_S8x512_S1x512_1_0, k0_pay24 a b d e⟩,
      ⟨Rect.unit ![0, 0] ![1, 512] inb_S8x512_S1x512_0_0, k0_pay21 a b d e⟩]
      (Rect.unit off sz inb).toLoadRect = View.ld (geB (k0_pay19 a b d e)) (Rect.unit off sz inb) := by
  rw [View.readCov_eq_canon']
  funext x
  have hx : ((Rect.unit off sz inb).idx x 0).val < 4 := by
    have h1 := Rect.idx_unit_val off sz inb x 0
    have h2 : (x 0).val < sz 0 := (x 0).isLt
    omega
  show View.canon _ ((Rect.unit off sz inb).idx x) = geB _ ((Rect.unit off sz inb).idx x)
  generalize (Rect.unit off sz inb).idx x = y at hx
  canon_tiles i h using rows_cover _ _ _ _ y hx
  all_goals
    simp only [k0_pay30, k0_pay29, k0_pay27, k0_pay26, k0_pay24, k0_pay23, k0_pay21, k0_pay20, geB]
    generalize k0_pay19 a b d e = G
    pointwise
    refine congrArg G ?_
    · funext k
      fin_cases k <;> refine Fin.ext ?_ <;> simp <;> omega

/-- A load of a part of the state whose last store filled it whole reads what was stored. -/
theorem readCov_whole (v : View sig .tc .vmem S512x256 .f32) (w : Vec Ideal S512x256 .f32) (L : List (View.Piece (Elt Ideal) S512x256 .f32))
    (off sz : Fin S512x256.rank → ℕ) (inb : ∀ i, off i + sz i ≤ S512x256.size i) :
    v.readCov ((⟨Rect.unit (s := S512x256) ![0, 0] ![512, 256] inb_S512x256_S512x256_0_0, w⟩ : View.Piece (Elt Ideal) S512x256 .f32) :: L)
      (Rect.unit off sz inb).toLoadRect = View.ld w (Rect.unit off sz inb) := by
  rw [View.readCov_eq_canon']
  funext x
  show View.canon _ ((Rect.unit off sz inb).idx x) = w ((Rect.unit off sz inb).idx x)
  generalize (Rect.unit off sz inb).idx x = y
  have e : (Rect.unit (s := S512x256) ![0, 0] ![512, 256] inb_S512x256_S512x256_0_0).idx y = y := by
    funext k
    refine Fin.ext ((Rect.idx_unit_val _ _ _ _ _).trans ?_)
    fin_cases k <;> exact Nat.zero_add _
  have h := View.canon_cons_emb (Rect.unit (s := S512x256) ![0, 0] ![512, 256] inb_S512x256_S512x256_0_0) w L y
  exact (congrArg (View.canon _) e.symm).trans h

/-- Every index of the state lies in one of the four heads' parts. -/
theorem heads_cover (p3 p2 p1 p0 : S128x256.Idx → Elt Ideal .f32) (y : S512x256.Idx) :
    ∃ p ∈ ([⟨Rect.unit ![384, 0] ![128, 256] inb_S512x256_S128x256_384_0, p3⟩, ⟨Rect.unit ![256, 0] ![128, 256] inb_S512x256_S128x256_256_0, p2⟩,
      ⟨Rect.unit ![128, 0] ![128, 256] inb_S512x256_S128x256_128_0, p1⟩, ⟨Rect.unit ![0, 0] ![128, 256] inb_S512x256_S128x256_0_0, p0⟩] :
        List (View.Piece (Elt Ideal) S512x256 .f32)), y ∈ p.1.set := by
  have hy0 : (y 0).val < 512 := (y 0).isLt
  have hy1 : (y 1).val < 256 := (y 1).isLt
  have hm : ∀ (n : ℕ) (inb : ∀ i, (![n, 0] : Fin 2 → ℕ) i + (![128, 256] : Fin 2 → ℕ) i ≤ S512x256.size i), n ≤ (y 0).val → (y 0).val < n + 128 →
      y ∈ (Rect.unit (s := S512x256) ![n, 0] ![128, 256] inb).set := fun n inb h1 h2 => by
    refine (Rect.unit (s := S512x256) ![n, 0] ![128, 256] inb).mem_set.mpr fun i => ?_
    fin_cases i
    · exact ⟨(y 0).val - n, by show _ < 128; omega, by show (y 0).val = n + 1 * ((y 0).val - n); omega⟩
    · exact ⟨(y 1).val, hy1, by simp⟩
  have : 384 ≤ (y 0).val ∨ 256 ≤ (y 0).val ∧ (y 0).val < 384 ∨ 128 ≤ (y 0).val ∧ (y 0).val < 256 ∨ (y 0).val < 128 := by omega
  rcases this with e | e | e | e
  · exact ⟨_, .head _, hm 384 inb_S512x256_S128x256_384_0 e (by omega)⟩
  · exact ⟨_, .tail _ (.head _), hm 256 inb_S512x256_S128x256_256_0 e.1 e.2⟩
  · exact ⟨_, .tail _ (.tail _ (.head _)), hm 128 inb_S512x256_S128x256_128_0 e.1 e.2⟩
  · exact ⟨_, .tail _ (.tail _ (.tail _ (.head _))), hm 0 inb_S512x256_S128x256_0_0 (Nat.zero_le _) (by omega)⟩

/-! ## The block's numbers -/

section

variable (G : FVec Ideal S256x512 .f32) (x0 : FVec Ideal S256x3200 .f32) (x1 : FVec Ideal S256x1024 .f32) (x2 : FVec Ideal S4x512x256 .f32)
  (x3 : FVec Ideal S1x512x256 .f32) (x6 : FVec Ideal S1x1024 .f32) (b : BitVec 1) (xs0 : FVec Ideal S512x256 .f32) (n : ℕ)

/-- The scaled queries. -/
def qB : FVec Ideal S256x512 .bf16 := truncf .bf16 (mulf (qF x0) (broadcast S256x512 (FloatOps.ofBits (F := Ideal) .f32 0x3DB504F3#32))) bitsLt_bf16_f32

/-- The state after chunk `n`. -/
def sB : FVec Ideal S512x256 .bf16 := truncf .bf16 (slF x2 n) bitsLt_bf16_f32

/-- The unnormalised outputs, with chunk `n`'s state. -/
def oB : FVec Ideal S256x1024 .f32 := nnF (qB x0) (sB x2 n)

/-- One over the roots of their mean squares. -/
def rsB : FVec Ideal S256x1024 .f32 :=
  rsF (FloatOps.ofBits (F := Ideal) .f32 0x43800000#32) (FloatOps.ofBits (F := Ideal) .f32 0x358637BD#32) (mulf (oB x0 x2 n) (oB x0 x2 n))

/-- The normalised outputs. -/
def onB : FVec Ideal S256x1024 .f32 := mulf (oB x0 x2 n) (rsB x0 x2 n)

/-- The gradient of the gain's products. -/
def dtB : FVec Ideal S256x1024 .f32 := mulf x1 (mulf (rF x0) (logistic (rF x0)))

/-- The gradient of the normalised outputs. -/
def donB : FVec Ideal S256x1024 .f32 := mulf (dtB x0 x1) (gF x6)

/-- The gradient of the unnormalised outputs. -/
def doB : FVec Ideal S256x1024 .bf16 :=
  truncf .bf16 (mulf (rsB x0 x2 n) (subf (donB x0 x1 x6) (mulf (onB x0 x2 n)
    (meanF (FloatOps.ofBits (F := Ideal) .f32 0x43800000#32) (mulf (donB x0 x1 x6) (onB x0 x2 n)))))) bitsLt_bf16_f32

/-- The gradient of the output gates. -/
def drB : FVec Ideal S256x1024 .bf16 :=
  truncf .bf16 (mulf (mulf (mulf x1 (onB x0 x2 n)) (gF x6)) (mulf (logistic (rF x0))
    (addf (broadcast S256x1024 (FloatOps.ofBits (F := Ideal) .f32 0x3F800000#32)) (mulf (rF x0)
      (subf (broadcast S256x1024 (FloatOps.ofBits (F := Ideal) .f32 0x3F800000#32)) (logistic (rF x0))))))) bitsLt_bf16_f32

/-- The gradient of the queries. -/
def dqB : FVec Ideal S256x512 .bf16 :=
  truncf .bf16 (mulf (ntF (doB x0 x1 x2 x6 n) (sB x2 n)) (broadcast S256x512 (FloatOps.ofBits (F := Ideal) .f32 0x3DB504F3#32))) bitsLt_bf16_f32

/-- The gradient of the gain, after `n` chunks from the first. -/
def dgnB (P : FVec Ideal S1x1024 .f32) : ℕ → FVec Ideal S1x1024 .f32
  | 0 => P
  | k + 1 => addf (dgnB P k) (sumF (mulf (dtB x0 x1) (onB x0 x2 k)) k)

/-- The gradient of the state after chunk `3 - n`, the later chunks' included. -/
def GB : ℕ → FVec Ideal S512x256 .f32
  | 0 => stepF (qB x0) (doB x0 x1 x2 x6 3) 3 xs0
  | k + 1 => stepF (qB x0) (doB x0 x1 x2 x6 (2 - k)) (2 - k) (decF (geB G) (3 - k) (GB k))

/-- The decayed keys. -/
def kdB : FVec Ideal S256x512 .f32 := mulf (kF x0) (wB G)

/-- The gradient of the decayed keys, with chunk `n`'s state's. -/
def dkdB : FVec Ideal S256x512 .f32 := ntF (truncf (s := S256x1024) (φ := .f32) .bf16 (vF x0) bitsLt_bf16_f32 : FVec Ideal S256x1024 .bf16) (truncf .bf16 (GB G x0 x1 x2 x6 xs0 (3 - n)) bitsLt_bf16_f32)

/-- The gradient of the values. -/
def dvB : FVec Ideal S256x1024 .bf16 :=
  truncf .bf16 (nnF (truncf .bf16 (kdB G x0) bitsLt_bf16_f32) (truncf .bf16 (GB G x0 x1 x2 x6 xs0 (3 - n)) bitsLt_bf16_f32)) bitsLt_bf16_f32

/-- The gradient of the keys. -/
def dkB : FVec Ideal S256x512 .bf16 := truncf .bf16 (mulf (dkdB G x0 x1 x2 x6 xs0 n) (wB G)) bitsLt_bf16_f32

/-- The gradient of the logarithms of the keys' decays. -/
def dwwB : FVec Ideal S256x512 .f32 := mulf (dkdB G x0 x1 x2 x6 xs0 n) (kdB G x0)

/-- The state before chunk `n`. -/
def bfB : FVec Ideal S512x256 .f32 :=
  if n = 0 then Scalar.select b (spF x3) (broadcast S512x256 (FloatOps.ofBits (F := Ideal) .f32 0x00000000#32)) else slF x2 (n - 1)

/-- The gradient of the chunks' sums of the gates' logarithms. -/
def dgeB : FVec Ideal S8x512 .f32 := dgeF (geB G) n (mulf (GB G x0 x1 x2 x6 xs0 (3 - n)) (bfB x2 x3 b n)) (dwwB G x0 x1 x2 x6 xs0 n)

/-- All the chunks' gradients of the logarithms of the keys' decays. -/
def dwwA : FVec Ideal S256x512 .f32 :=
  rows4 (dwwB G x0 x1 x2 x6 xs0 0) (dwwB G x0 x1 x2 x6 xs0 1) (dwwB G x0 x1 x2 x6 xs0 2) (dwwB G x0 x1 x2 x6 xs0 3)

/-- A function of chunks whose row for each of four chunks is the row of one of four. -/
def row4 (D0 D1 D2 D3 : FVec Ideal S8x512 .f32) : FVec Ideal S8x512 .f32 := fun y =>
  if (y 0).val = 0 then D0 y else if (y 0).val = 1 then D1 y else if (y 0).val = 2 then D2 y else D3 y

/-- All the chunks' sums' gradients. -/
def dgeA : FVec Ideal S8x512 .f32 :=
  row4 (dgeB G x0 x1 x2 x3 x6 b xs0 0) (dgeB G x0 x1 x2 x3 x6 b xs0 1) (dgeB G x0 x1 x2 x3 x6 b xs0 2) (dgeB G x0 x1 x2 x3 x6 b xs0 3)

end

/-- A load of the whole of what sixteen pieces of chunks and heads filled. -/
theorem dww_read (v : View sig .tc .vmem S256x512 .f32) (W0 W1 W2 W3 : FVec Ideal S256x512 .f32) :
    v.readCov [
      ⟨Rect.unit ![0, 384] ![64, 128] inb_S256x512_S64x128_0_384, View.ld (Val := Elt Ideal) (e' := .f32) W0 (Rect.unit ![0, 384] ![64, 128] inb_S256x512_S64x128_0_384)⟩,
      ⟨Rect.unit ![0, 256] ![64, 128] inb_S256x512_S64x128_0_256, View.ld (Val := Elt Ideal) (e' := .f32) W0 (Rect.unit ![0, 256] ![64, 128] inb_S256x512_S64x128_0_256)⟩,
      ⟨Rect.unit ![0, 128] ![64, 128] inb_S256x512_S64x128_0_128, View.ld (Val := Elt Ideal) (e' := .f32) W0 (Rect.unit ![0, 128] ![64, 128] inb_S256x512_S64x128_0_128)⟩,
      ⟨Rect.unit ![0, 0] ![64, 128] inb_S256x512_S64x128_0_0, View.ld (Val := Elt Ideal) (e' := .f32) W0 (Rect.unit ![0, 0] ![64, 128] inb_S256x512_S64x128_0_0)⟩,
      ⟨Rect.unit ![64, 384] ![64, 128] inb_S256x512_S64x128_64_384, View.ld (Val := Elt Ideal) (e' := .f32) W1 (Rect.unit ![64, 384] ![64, 128] inb_S256x512_S64x128_64_384)⟩,
      ⟨Rect.unit ![64, 256] ![64, 128] inb_S256x512_S64x128_64_256, View.ld (Val := Elt Ideal) (e' := .f32) W1 (Rect.unit ![64, 256] ![64, 128] inb_S256x512_S64x128_64_256)⟩,
      ⟨Rect.unit ![64, 128] ![64, 128] inb_S256x512_S64x128_64_128, View.ld (Val := Elt Ideal) (e' := .f32) W1 (Rect.unit ![64, 128] ![64, 128] inb_S256x512_S64x128_64_128)⟩,
      ⟨Rect.unit ![64, 0] ![64, 128] inb_S256x512_S64x128_64_0, View.ld (Val := Elt Ideal) (e' := .f32) W1 (Rect.unit ![64, 0] ![64, 128] inb_S256x512_S64x128_64_0)⟩,
      ⟨Rect.unit ![128, 384] ![64, 128] inb_S256x512_S64x128_128_384, View.ld (Val := Elt Ideal) (e' := .f32) W2 (Rect.unit ![128, 384] ![64, 128] inb_S256x512_S64x128_128_384)⟩,
      ⟨Rect.unit ![128, 256] ![64, 128] inb_S256x512_S64x128_128_256, View.ld (Val := Elt Ideal) (e' := .f32) W2 (Rect.unit ![128, 256] ![64, 128] inb_S256x512_S64x128_128_256)⟩,
      ⟨Rect.unit ![128, 128] ![64, 128] inb_S256x512_S64x128_128_128, View.ld (Val := Elt Ideal) (e' := .f32) W2 (Rect.unit ![128, 128] ![64, 128] inb_S256x512_S64x128_128_128)⟩,
      ⟨Rect.unit ![128, 0] ![64, 128] inb_S256x512_S64x128_128_0, View.ld (Val := Elt Ideal) (e' := .f32) W2 (Rect.unit ![128, 0] ![64, 128] inb_S256x512_S64x128_128_0)⟩,
      ⟨Rect.unit ![192, 384] ![64, 128] inb_S256x512_S64x128_192_384, View.ld (Val := Elt Ideal) (e' := .f32) W3 (Rect.unit ![192, 384] ![64, 128] inb_S256x512_S64x128_192_384)⟩,
      ⟨Rect.unit ![192, 256] ![64, 128] inb_S256x512_S64x128_192_256, View.ld (Val := Elt Ideal) (e' := .f32) W3 (Rect.unit ![192, 256] ![64, 128] inb_S256x512_S64x128_192_256)⟩,
      ⟨Rect.unit ![192, 128] ![64, 128] inb_S256x512_S64x128_192_128, View.ld (Val := Elt Ideal) (e' := .f32) W3 (Rect.unit ![192, 128] ![64, 128] inb_S256x512_S64x128_192_128)⟩,
      ⟨Rect.unit ![192, 0] ![64, 128] inb_S256x512_S64x128_192_0, View.ld (Val := Elt Ideal) (e' := .f32) W3 (Rect.unit ![192, 0] ![64, 128] inb_S256x512_S64x128_192_0)⟩]
      (Rect.unit (s := S256x512) ![0, 0] ![256, 512] inb_S256x512_S256x512_0_0).toLoadRect = rows4 W0 W1 W2 W3 := by
  rw [View.readCov_eq_canon']
  funext x
  have e : (Rect.unit (s := S256x512) ![0, 0] ![256, 512] inb_S256x512_S256x512_0_0).idx x = x := by
    funext k
    refine Fin.ext ((Rect.idx_unit_val _ _ _ _ _).trans ?_)
    fin_cases k <;> exact Nat.zero_add _
  show View.canon _ ((Rect.unit (s := S256x512) ![0, 0] ![256, 512] inb_S256x512_S256x512_0_0).idx x) = rows4 W0 W1 W2 W3 x
  rw [e]
  canon_tiles i h
  all_goals
    have hi : (i 0).val < 64 := (i 0).isLt
    simp only [rows4, View.ld]
    repeat' split
    all_goals first
      | (exfalso; omega)
      | (apply congrArg; funext k; fin_cases k <;> refine Fin.ext ?_ <;> simp <;> omega)

/-- A load of one of four rows that sixteen pieces of chunks and heads filled. -/
theorem dge_read (v : View sig .tc .vmem S8x512 .f32) (D0 D1 D2 D3 : FVec Ideal S8x512 .f32) (n : ℕ) (inb : ∀ i, (![n, 0] : Fin S8x512.rank → ℕ) i + (![1, 512] : Fin S8x512.rank → ℕ) i ≤ S8x512.size i) (h : n < 4) :
    v.readCov [
      ⟨Rect.unit ![0, 384] ![1, 128] inb_S8x512_S1x128_0_384, View.ld (Val := Elt Ideal) (e' := .f32) D0 (Rect.unit ![0, 384] ![1, 128] inb_S8x512_S1x128_0_384)⟩,
      ⟨Rect.unit ![0, 256] ![1, 128] inb_S8x512_S1x128_0_256, View.ld (Val := Elt Ideal) (e' := .f32) D0 (Rect.unit ![0, 256] ![1, 128] inb_S8x512_S1x128_0_256)⟩,
      ⟨Rect.unit ![0, 128] ![1, 128] inb_S8x512_S1x128_0_128, View.ld (Val := Elt Ideal) (e' := .f32) D0 (Rect.unit ![0, 128] ![1, 128] inb_S8x512_S1x128_0_128)⟩,
      ⟨Rect.unit ![0, 0] ![1, 128] inb_S8x512_S1x128_0_0, View.ld (Val := Elt Ideal) (e' := .f32) D0 (Rect.unit ![0, 0] ![1, 128] inb_S8x512_S1x128_0_0)⟩,
      ⟨Rect.unit ![1, 384] ![1, 128] inb_S8x512_S1x128_1_384, View.ld (Val := Elt Ideal) (e' := .f32) D1 (Rect.unit ![1, 384] ![1, 128] inb_S8x512_S1x128_1_384)⟩,
      ⟨Rect.unit ![1, 256] ![1, 128] inb_S8x512_S1x128_1_256, View.ld (Val := Elt Ideal) (e' := .f32) D1 (Rect.unit ![1, 256] ![1, 128] inb_S8x512_S1x128_1_256)⟩,
      ⟨Rect.unit ![1, 128] ![1, 128] inb_S8x512_S1x128_1_128, View.ld (Val := Elt Ideal) (e' := .f32) D1 (Rect.unit ![1, 128] ![1, 128] inb_S8x512_S1x128_1_128)⟩,
      ⟨Rect.unit ![1, 0] ![1, 128] inb_S8x512_S1x128_1_0, View.ld (Val := Elt Ideal) (e' := .f32) D1 (Rect.unit ![1, 0] ![1, 128] inb_S8x512_S1x128_1_0)⟩,
      ⟨Rect.unit ![2, 384] ![1, 128] inb_S8x512_S1x128_2_384, View.ld (Val := Elt Ideal) (e' := .f32) D2 (Rect.unit ![2, 384] ![1, 128] inb_S8x512_S1x128_2_384)⟩,
      ⟨Rect.unit ![2, 256] ![1, 128] inb_S8x512_S1x128_2_256, View.ld (Val := Elt Ideal) (e' := .f32) D2 (Rect.unit ![2, 256] ![1, 128] inb_S8x512_S1x128_2_256)⟩,
      ⟨Rect.unit ![2, 128] ![1, 128] inb_S8x512_S1x128_2_128, View.ld (Val := Elt Ideal) (e' := .f32) D2 (Rect.unit ![2, 128] ![1, 128] inb_S8x512_S1x128_2_128)⟩,
      ⟨Rect.unit ![2, 0] ![1, 128] inb_S8x512_S1x128_2_0, View.ld (Val := Elt Ideal) (e' := .f32) D2 (Rect.unit ![2, 0] ![1, 128] inb_S8x512_S1x128_2_0)⟩,
      ⟨Rect.unit ![3, 384] ![1, 128] inb_S8x512_S1x128_3_384, View.ld (Val := Elt Ideal) (e' := .f32) D3 (Rect.unit ![3, 384] ![1, 128] inb_S8x512_S1x128_3_384)⟩,
      ⟨Rect.unit ![3, 256] ![1, 128] inb_S8x512_S1x128_3_256, View.ld (Val := Elt Ideal) (e' := .f32) D3 (Rect.unit ![3, 256] ![1, 128] inb_S8x512_S1x128_3_256)⟩,
      ⟨Rect.unit ![3, 128] ![1, 128] inb_S8x512_S1x128_3_128, View.ld (Val := Elt Ideal) (e' := .f32) D3 (Rect.unit ![3, 128] ![1, 128] inb_S8x512_S1x128_3_128)⟩,
      ⟨Rect.unit ![3, 0] ![1, 128] inb_S8x512_S1x128_3_0, View.ld (Val := Elt Ideal) (e' := .f32) D3 (Rect.unit ![3, 0] ![1, 128] inb_S8x512_S1x128_3_0)⟩]
      (Rect.unit (s := S8x512) ![n, 0] ![1, 512] inb).toLoadRect = View.ld (row4 D0 D1 D2 D3) (Rect.unit (s := S8x512) ![n, 0] ![1, 512] inb) := by
  rw [View.readCov_eq_canon']
  funext x
  have hx : ((Rect.unit (s := S8x512) ![n, 0] ![1, 512] inb).idx x 0).val < 4 := by
    have h1 := Rect.idx_unit_val (s := S8x512) ![n, 0] ![1, 512] inb x 0
    have h2 : (x 0).val < 1 := (x 0).isLt
    have h3 : (![n, 0] : Fin 2 → ℕ) 0 = n := rfl
    omega
  show (View.canon _ ((Rect.unit (s := S8x512) ![n, 0] ![1, 512] inb).idx x) : Elt Ideal .f32) = row4 D0 D1 D2 D3 ((Rect.unit (s := S8x512) ![n, 0] ![1, 512] inb).idx x)
  generalize (Rect.unit (s := S8x512) ![n, 0] ![1, 512] inb).idx x = y at hx
  have hc : ∃ p ∈ [(⟨Rect.unit ![0, 384] ![1, 128] inb_S8x512_S1x128_0_384, View.ld (Val := Elt Ideal) (e' := .f32) D0 (Rect.unit ![0, 384] ![1, 128] inb_S8x512_S1x128_0_384)⟩ : View.Piece (Elt Ideal) S8x512 .f32),
      (⟨Rect.unit ![0, 256] ![1, 128] inb_S8x512_S1x128_0_256, View.ld (Val := Elt Ideal) (e' := .f32) D0 (Rect.unit ![0, 256] ![1, 128] inb_S8x512_S1x128_0_256)⟩ : View.Piece (Elt Ideal) S8x512 .f32),
      (⟨Rect.unit ![0, 128] ![1, 128] inb_S8x512_S1x128_0_128, View.ld (Val := Elt Ideal) (e' := .f32) D0 (Rect.unit ![0, 128] ![1, 128] inb_S8x512_S1x128_0_128)⟩ : View.Piece (Elt Ideal) S8x512 .f32),
      (⟨Rect.unit ![0, 0] ![1, 128] inb_S8x512_S1x128_0_0, View.ld (Val := Elt Ideal) (e' := .f32) D0 (Rect.unit ![0, 0] ![1, 128] inb_S8x512_S1x128_0_0)⟩ : View.Piece (Elt Ideal) S8x512 .f32),
      (⟨Rect.unit ![1, 384] ![1, 128] inb_S8x512_S1x128_1_384, View.ld (Val := Elt Ideal) (e' := .f32) D1 (Rect.unit ![1, 384] ![1, 128] inb_S8x512_S1x128_1_384)⟩ : View.Piece (Elt Ideal) S8x512 .f32),
      (⟨Rect.unit ![1, 256] ![1, 128] inb_S8x512_S1x128_1_256, View.ld (Val := Elt Ideal) (e' := .f32) D1 (Rect.unit ![1, 256] ![1, 128] inb_S8x512_S1x128_1_256)⟩ : View.Piece (Elt Ideal) S8x512 .f32),
      (⟨Rect.unit ![1, 128] ![1, 128] inb_S8x512_S1x128_1_128, View.ld (Val := Elt Ideal) (e' := .f32) D1 (Rect.unit ![1, 128] ![1, 128] inb_S8x512_S1x128_1_128)⟩ : View.Piece (Elt Ideal) S8x512 .f32),
      (⟨Rect.unit ![1, 0] ![1, 128] inb_S8x512_S1x128_1_0, View.ld (Val := Elt Ideal) (e' := .f32) D1 (Rect.unit ![1, 0] ![1, 128] inb_S8x512_S1x128_1_0)⟩ : View.Piece (Elt Ideal) S8x512 .f32),
      (⟨Rect.unit ![2, 384] ![1, 128] inb_S8x512_S1x128_2_384, View.ld (Val := Elt Ideal) (e' := .f32) D2 (Rect.unit ![2, 384] ![1, 128] inb_S8x512_S1x128_2_384)⟩ : View.Piece (Elt Ideal) S8x512 .f32),
      (⟨Rect.unit ![2, 256] ![1, 128] inb_S8x512_S1x128_2_256, View.ld (Val := Elt Ideal) (e' := .f32) D2 (Rect.unit ![2, 256] ![1, 128] inb_S8x512_S1x128_2_256)⟩ : View.Piece (Elt Ideal) S8x512 .f32),
      (⟨Rect.unit ![2, 128] ![1, 128] inb_S8x512_S1x128_2_128, View.ld (Val := Elt Ideal) (e' := .f32) D2 (Rect.unit ![2, 128] ![1, 128] inb_S8x512_S1x128_2_128)⟩ : View.Piece (Elt Ideal) S8x512 .f32),
      (⟨Rect.unit ![2, 0] ![1, 128] inb_S8x512_S1x128_2_0, View.ld (Val := Elt Ideal) (e' := .f32) D2 (Rect.unit ![2, 0] ![1, 128] inb_S8x512_S1x128_2_0)⟩ : View.Piece (Elt Ideal) S8x512 .f32),
      (⟨Rect.unit ![3, 384] ![1, 128] inb_S8x512_S1x128_3_384, View.ld (Val := Elt Ideal) (e' := .f32) D3 (Rect.unit ![3, 384] ![1, 128] inb_S8x512_S1x128_3_384)⟩ : View.Piece (Elt Ideal) S8x512 .f32),
      (⟨Rect.unit ![3, 256] ![1, 128] inb_S8x512_S1x128_3_256, View.ld (Val := Elt Ideal) (e' := .f32) D3 (Rect.unit ![3, 256] ![1, 128] inb_S8x512_S1x128_3_256)⟩ : View.Piece (Elt Ideal) S8x512 .f32),
      (⟨Rect.unit ![3, 128] ![1, 128] inb_S8x512_S1x128_3_128, View.ld (Val := Elt Ideal) (e' := .f32) D3 (Rect.unit ![3, 128] ![1, 128] inb_S8x512_S1x128_3_128)⟩ : View.Piece (Elt Ideal) S8x512 .f32),
      (⟨Rect.unit ![3, 0] ![1, 128] inb_S8x512_S1x128_3_0, View.ld (Val := Elt Ideal) (e' := .f32) D3 (Rect.unit ![3, 0] ![1, 128] inb_S8x512_S1x128_3_0)⟩ : View.Piece (Elt Ideal) S8x512 .f32)], y ∈ p.1.set := by
    have hy1 : (y 1).val < 512 := (y 1).isLt
    have hm : ∀ (n h : ℕ) (inb : ∀ i, (![n, h] : Fin 2 → ℕ) i + (![1, 128] : Fin 2 → ℕ) i ≤ S8x512.size i), (y 0).val = n → h ≤ (y 1).val → (y 1).val < h + 128 →
        y ∈ (Rect.unit (s := S8x512) ![n, h] ![1, 128] inb).set := fun n h inb e h1 h2 => by
      refine (Rect.unit (s := S8x512) ![n, h] ![1, 128] inb).mem_set.mpr fun i => ?_
      fin_cases i
      · exact ⟨0, Nat.one_pos, by simpa using e⟩
      · exact ⟨(y 1).val - h, by show _ < 128; omega, by show (y 1).val = h + 1 * ((y 1).val - h); omega⟩
    have c0 : (y 0).val = 0 ∨ (y 0).val = 1 ∨ (y 0).val = 2 ∨ (y 0).val = 3 := by omega
    have c1 : (384 ≤ (y 1).val ∧ (y 1).val < 384 + 128) ∨ (256 ≤ (y 1).val ∧ (y 1).val < 256 + 128) ∨ (128 ≤ (y 1).val ∧ (y 1).val < 128 + 128)
        ∨ (0 ≤ (y 1).val ∧ (y 1).val < 0 + 128) := by omega
    rcases c0 with e | e | e | e <;> rcases c1 with f | f | f | f
    · exact ⟨_, .head _, hm 0 384 inb_S8x512_S1x128_0_384 e f.1 f.2⟩
    · exact ⟨_, .tail _ (.head _), hm 0 256 inb_S8x512_S1x128_0_256 e f.1 f.2⟩
    · exact ⟨_, .tail _ (.tail _ (.head _)), hm 0 128 inb_S8x512_S1x128_0_128 e f.1 f.2⟩
    · exact ⟨_, .tail _ (.tail _ (.tail _ (.head _))), hm 0 0 inb_S8x512_S1x128_0_0 e f.1 f.2⟩
    · exact ⟨_, .tail _ (.tail _ (.tail _ (.tail _ (.head _)))), hm 1 384 inb_S8x512_S1x128_1_384 e f.1 f.2⟩
    · exact ⟨_, .tail _ (.tail _ (.tail _ (.tail _ (.tail _ (.head _))))), hm 1 256 inb_S8x512_S1x128_1_256 e f.1 f.2⟩
    · exact ⟨_, .tail _ (.tail _ (.tail _ (.tail _ (.tail _ (.tail _ (.head _)))))), hm 1 128 inb_S8x512_S1x128_1_128 e f.1 f.2⟩
    · exact ⟨_, .tail _ (.tail _ (.tail _ (.tail _ (.tail _ (.tail _ (.tail _ (.head _))))))), hm 1 0 inb_S8x512_S1x128_1_0 e f.1 f.2⟩
    · exact ⟨_, .tail _ (.tail _ (.tail _ (.tail _ (.tail _ (.tail _ (.tail _ (.tail _ (.head _)))))))), hm 2 384 inb_S8x512_S1x128_2_384 e f.1 f.2⟩
    · exact ⟨_, .tail _ (.tail _ (.tail _ (.tail _ (.tail _ (.tail _ (.tail _ (.tail _ (.tail _ (.head _))))))))), hm 2 256 inb_S8x512_S1x128_2_256 e f.1 f.2⟩
    · exact ⟨_, .tail _ (.tail _ (.tail _ (.tail _ (.tail _ (.tail _ (.tail _ (.tail _ (.tail _ (.tail _ (.head _)))))))))), hm 2 128 inb_S8x512_S1x128_2_128 e f.1 f.2⟩
    · exact ⟨_, .tail _ (.tail _ (.tail _ (.tail _ (.tail _ (.tail _ (.tail _ (.tail _ (.tail _ (.tail _ (.tail _ (.head _))))))))))), hm 2 0 inb_S8x512_S1x128_2_0 e f.1 f.2⟩
    · exact ⟨_, .tail _ (.tail _ (.tail _ (.tail _ (.tail _ (.tail _ (.tail _ (.tail _ (.tail _ (.tail _ (.tail _ (.tail _ (.head _)))))))))))), hm 3 384 inb_S8x512_S1x128_3_384 e f.1 f.2⟩
    · exact ⟨_, .tail _ (.tail _ (.tail _ (.tail _ (.tail _ (.tail _ (.tail _ (.tail _ (.tail _ (.tail _ (.tail _ (.tail _ (.tail _ (.head _))))))))))))), hm 3 256 inb_S8x512_S1x128_3_256 e f.1 f.2⟩
    · exact ⟨_, .tail _ (.tail _ (.tail _ (.tail _ (.tail _ (.tail _ (.tail _ (.tail _ (.tail _ (.tail _ (.tail _ (.tail _ (.tail _ (.tail _ (.head _)))))))))))))), hm 3 128 inb_S8x512_S1x128_3_128 e f.1 f.2⟩
    · exact ⟨_, .tail _ (.tail _ (.tail _ (.tail _ (.tail _ (.tail _ (.tail _ (.tail _ (.tail _ (.tail _ (.tail _ (.tail _ (.tail _ (.tail _ (.tail _ (.head _))))))))))))))), hm 3 0 inb_S8x512_S1x128_3_0 e f.1 f.2⟩
  canon_tiles i h using hc
  all_goals
    have hi : (i 0).val < 1 := (i 0).isLt
    simp only [row4, View.ld]
    repeat' split
    all_goals first
      | (exfalso; omega)
      | (apply congrArg; funext k; fin_cases k <;> refine Fin.ext ?_ <;> simp <;> omega)

/-- Every index of the gain lies in one of the four heads' parts. -/
theorem gains_cover (p3 p2 p1 p0 : S1x256.Idx → Elt Ideal .f32) (y : S1x1024.Idx) :
    ∃ p ∈ ([⟨Rect.unit ![0, 768] ![1, 256] inb_S1x1024_S1x256_0_768, p3⟩, ⟨Rect.unit ![0, 512] ![1, 256] inb_S1x1024_S1x256_0_512, p2⟩,
      ⟨Rect.unit ![0, 256] ![1, 256] inb_S1x1024_S1x256_0_256, p1⟩, ⟨Rect.unit ![0, 0] ![1, 256] inb_S1x1024_S1x256_0_0, p0⟩] :
        List (View.Piece (Elt Ideal) S1x1024 .f32)), y ∈ p.1.set := by
  have hy0 : (y 0).val < 1 := (y 0).isLt
  have hy1 : (y 1).val < 1024 := (y 1).isLt
  have hm : ∀ (n : ℕ) (inb : ∀ i, (![0, n] : Fin 2 → ℕ) i + (![1, 256] : Fin 2 → ℕ) i ≤ S1x1024.size i), n ≤ (y 1).val → (y 1).val < n + 256 →
      y ∈ (Rect.unit (s := S1x1024) ![0, n] ![1, 256] inb).set := fun n inb h1 h2 => by
    refine (Rect.unit (s := S1x1024) ![0, n] ![1, 256] inb).mem_set.mpr fun i => ?_
    fin_cases i
    · exact ⟨(y 0).val, hy0, by simp⟩
    · exact ⟨(y 1).val - n, by show _ < 256; omega, by show (y 1).val = n + 1 * ((y 1).val - n); omega⟩
  have : 768 ≤ (y 1).val ∨ 512 ≤ (y 1).val ∧ (y 1).val < 768 ∨ 256 ≤ (y 1).val ∧ (y 1).val < 512 ∨ (y 1).val < 256 := by omega
  rcases this with e | e | e | e
  · exact ⟨_, .head _, hm 768 inb_S1x1024_S1x256_0_768 e (by omega)⟩
  · exact ⟨_, .tail _ (.head _), hm 512 inb_S1x1024_S1x256_0_512 e.1 e.2⟩
  · exact ⟨_, .tail _ (.tail _ (.head _)), hm 256 inb_S1x1024_S1x256_0_256 e.1 e.2⟩
  · exact ⟨_, .tail _ (.tail _ (.tail _ (.head _))), hm 0 inb_S1x1024_S1x256_0_0 (Nat.zero_le _) (by omega)⟩

/-- A load of a part of the gain's gradient whose last store filled it whole reads what was stored. -/
theorem gain_whole (v : View sig .tc .vmem S1x1024 .f32) (w : Vec Ideal S1x1024 .f32) (L : List (View.Piece (Elt Ideal) S1x1024 .f32))
    (off sz : Fin S1x1024.rank → ℕ) (inb : ∀ i, off i + sz i ≤ S1x1024.size i) :
    v.readCov ((⟨Rect.unit (s := S1x1024) ![0, 0] ![1, 1024] inb_S1x1024_S1x1024_0_0, w⟩ : View.Piece (Elt Ideal) S1x1024 .f32) :: L)
      (Rect.unit off sz inb).toLoadRect = View.ld w (Rect.unit off sz inb) := by
  rw [View.readCov_eq_canon']
  funext x
  show View.canon _ ((Rect.unit off sz inb).idx x) = w ((Rect.unit off sz inb).idx x)
  generalize (Rect.unit off sz inb).idx x = y
  have e : (Rect.unit (s := S1x1024) ![0, 0] ![1, 1024] inb_S1x1024_S1x1024_0_0).idx y = y := by
    funext k
    refine Fin.ext ((Rect.idx_unit_val _ _ _ _ _).trans ?_)
    fin_cases k <;> exact Nat.zero_add _
  have h := View.canon_cons_emb (Rect.unit (s := S1x1024) ![0, 0] ![1, 1024] inb_S1x1024_S1x1024_0_0) w L y
  exact (congrArg (View.canon _) e.symm).trans h

/-- The chunks' rows minus a block's rows, each from its chunk's. -/
def dlaF (D : FVec Ideal S8x512 .f32) (R : FVec Ideal S256x512 .f32) : FVec Ideal S256x512 .f32 := fun y =>
  D (ix2 ⟨(y 0).val / 64, by have : (y 0).val < 256 := (y 0).isLt; omega⟩ (y 1)) - R y

/-- A load of the whole of what four pieces of chunks filled. -/
theorem dla_read (v : View sig .tc .vmem S256x512 .f32) (D : FVec Ideal S8x512 .f32) (R : FVec Ideal S256x512 .f32) (L : List (View.Piece (Elt Ideal) S256x512 .f32)) :
    v.readCov ((⟨Rect.unit ![192, 0] ![64, 512] inb_S256x512_S64x512_192_0, View.ld (Val := Elt Ideal) (e' := .f32) (lastF D 3 R) (Rect.unit ![192, 0] ![64, 512] inb_S256x512_S64x512_192_0)⟩ : View.Piece (Elt Ideal) S256x512 .f32) ::
      ⟨Rect.unit ![128, 0] ![64, 512] inb_S256x512_S64x512_128_0, View.ld (Val := Elt Ideal) (e' := .f32) (lastF D 2 R) (Rect.unit ![128, 0] ![64, 512] inb_S256x512_S64x512_128_0)⟩ ::
      ⟨Rect.unit ![64, 0] ![64, 512] inb_S256x512_S64x512_64_0, View.ld (Val := Elt Ideal) (e' := .f32) (lastF D 1 R) (Rect.unit ![64, 0] ![64, 512] inb_S256x512_S64x512_64_0)⟩ ::
      ⟨Rect.unit ![0, 0] ![64, 512] inb_S256x512_S64x512_0_0, View.ld (Val := Elt Ideal) (e' := .f32) (lastF D 0 R) (Rect.unit ![0, 0] ![64, 512] inb_S256x512_S64x512_0_0)⟩ :: L)
      (Rect.unit (s := S256x512) ![0, 0] ![256, 512] inb_S256x512_S256x512_0_0).toLoadRect = dlaF D R := by
  rw [View.readCov_eq_canon']
  funext x
  have e : (Rect.unit (s := S256x512) ![0, 0] ![256, 512] inb_S256x512_S256x512_0_0).idx x = x := by
    funext k
    refine Fin.ext ((Rect.idx_unit_val _ _ _ _ _).trans ?_)
    fin_cases k <;> exact Nat.zero_add _
  show (View.canon _ ((Rect.unit (s := S256x512) ![0, 0] ![256, 512] inb_S256x512_S256x512_0_0).idx x) : Elt Ideal .f32) = dlaF D R x
  rw [e]
  have hx0 : (x 0).val < 256 := (x 0).isLt
  have hx1 : (x 1).val < 512 := (x 1).isLt
  have hm : ∀ (n : ℕ) (inb : ∀ i, (![n, 0] : Fin 2 → ℕ) i + (![64, 512] : Fin 2 → ℕ) i ≤ S256x512.size i), n ≤ (x 0).val → (x 0).val < n + 64 →
      x ∈ (Rect.unit (s := S256x512) ![n, 0] ![64, 512] inb).set := fun n inb h1 h2 => by
    refine (Rect.unit (s := S256x512) ![n, 0] ![64, 512] inb).mem_set.mpr fun i => ?_
    fin_cases i
    · exact ⟨(x 0).val - n, by show _ < 64; omega, by show (x 0).val = n + 1 * ((x 0).val - n); omega⟩
    · exact ⟨(x 1).val, hx1, by simp⟩
  refine View.canon_append_of_pieces _ L [_, _, _, _] ?_ x ?_
  · refine List.forall_mem_cons.mpr ⟨?_, List.forall_mem_cons.mpr ⟨?_, List.forall_mem_cons.mpr ⟨?_, List.forall_mem_cons.mpr ⟨?_, fun _ h => absurd h List.not_mem_nil⟩⟩⟩⟩
    all_goals
      intro z
      have hz : (z 0).val < 64 := (z 0).isLt
      refine congrArg₂ (fun p q => D p - R q) ?_ rfl
      funext k
      fin_cases k <;> refine Fin.ext ?_ <;> simp <;> omega
  · have : 192 ≤ (x 0).val ∨ 128 ≤ (x 0).val ∧ (x 0).val < 192 ∨ 64 ≤ (x 0).val ∧ (x 0).val < 128 ∨ (x 0).val < 64 := by omega
    rcases this with e | e | e | e
    · exact ⟨_, .head _, hm 192 inb_S256x512_S64x512_192_0 e (by omega)⟩
    · exact ⟨_, .tail _ (.head _), hm 128 inb_S256x512_S64x512_128_0 e.1 e.2⟩
    · exact ⟨_, .tail _ (.tail _ (.head _)), hm 64 inb_S256x512_S64x512_64_0 e.1 e.2⟩
    · exact ⟨_, .tail _ (.tail _ (.tail _ (.head _))), hm 0 inb_S256x512_S64x512_0_0 (Nat.zero_le _) (by omega)⟩

/-- The columns of the low-rank gate. -/
def glF (x0 : FVec Ideal S256x3200 .f32) : FVec Ideal S256x128 .f32 :=
  View.ld (Val := Elt Ideal) (e' := .f32) x0 (Rect.unit (s := S256x3200) ![0, 3072] ![256, 128] inb_S256x3200_S256x128_0_3072)

/-- The running sums of the gates' logarithms. -/
def gcB (x0 : FVec Ideal S256x3200 .f32) (x4 : FVec Ideal S128x512 .bf16) (x5 : FVec Ideal S1x512 .f32) : FVec Ideal S256x512 .f32 :=
  k0_pay19 (k0_pay12 (iota Kind.tc S256x256 32 [0] iota_S256x256_d0_w32) (iota Kind.tc S256x256 32 [1] iota_S256x256_d1_w32) (64#32) k0_pay10 k0_pay11 1#32)
    (k0_pay16 (k0_pay9 (glF x0) x4 x5))
    (k0_pay17 (k0_pay9 (glF x0) x4 x5) (iota Kind.tc S256x256 32 [0] iota_S256x256_d0_w32) (iota Kind.tc S256x256 32 [1] iota_S256x256_d1_w32) (64#32) k0_pay10 k0_pay11 1#32)
    (k0_pay18 (k0_pay9 (glF x0) x4 x5) (iota Kind.tc S256x256 32 [0] iota_S256x256_d0_w32) (iota Kind.tc S256x256 32 [1] iota_S256x256_d1_w32) (64#32) k0_pay10 k0_pay11 1#32)

/-- The sums over the rows before in a chunk. -/
def revB (W : FVec Ideal S256x512 .f32) : FVec Ideal S256x512 .f32 :=
  k0_pay460 (iota Kind.tc S256x256 32 [0] iota_S256x256_d0_w32) (iota Kind.tc S256x256 32 [1] iota_S256x256_d1_w32) k0_pay457 (64#32) k0_pay458 k0_pay459 W

/-- Whether the grid point is not the last. -/
def bI (i : grid0.Coords) : BitVec 1 := Scalar.cmpi .slt (BitVec.ofNat 32 (i 0).val) 15#32

section

variable (i : grid0.Coords) (x0 : FVec Ideal S256x3200 .f32) (x1 : FVec Ideal S256x1024 .f32) (x2 : FVec Ideal S4x512x256 .f32)
  (x3 : FVec Ideal S1x512x256 .f32) (x4 : FVec Ideal S128x512 .bf16) (x5 : FVec Ideal S1x512 .f32) (x6 : FVec Ideal S1x1024 .f32)
  (xs0 : FVec Ideal S512x256 .f32)

/-- The gradient of the gates' logarithms. -/
def dlaB : FVec Ideal S256x512 .f32 :=
  dlaF (dgeA (gcB x0 x4 x5) x0 x1 x2 x3 x6 (bI i) xs0) (revB (dwwA (gcB x0 x4 x5) x0 x1 x2 x6 xs0))

/-- The gradient of the gates before their sigmoid. -/
def dgpB : FVec Ideal S256x512 .f32 := k0_pay465 (k0_pay8 (glF x0) x4 x5) (dlaB i x0 x1 x2 x3 x4 x5 x6 xs0)

/-- What the point adds to the gate matrix's gradient. -/
def dwgB : FVec Ideal S128x512 .f32 :=
  k0_pay469 (k0_pay7 (glF x0)) (k0_pay466 (k0_pay8 (glF x0) x4 x5) (dlaB i x0 x1 x2 x3 x4 x5 x6 xs0))

/-- The gradient of the low-rank gate's columns. -/
def dglB : FVec Ideal S256x128 .bf16 := k0_pay467 (k0_pay8 (glF x0) x4 x5) (dlaB i x0 x1 x2 x3 x4 x5 x6 xs0) x4

end

/-- A block of gradients of projections, from its columns' functions, those of the first four chunk by chunk. -/
def dpF (Q K : ℕ → FVec Ideal S256x512 .bf16) (V R : ℕ → FVec Ideal S256x1024 .bf16) (L : FVec Ideal S256x128 .bf16) : FVec Ideal S256x3200 .bf16 := fun y =>
  if h0 : (y 1).val < 512 then Q ((y 0).val / 64) (ix2 (y 0) ⟨(y 1).val, h0⟩)
  else if h1 : (y 1).val < 1024 then K ((y 0).val / 64) (ix2 (y 0) ⟨(y 1).val - 512, by omega⟩)
  else if h2 : (y 1).val < 2048 then V ((y 0).val / 64) (ix2 (y 0) ⟨(y 1).val - 1024, by omega⟩)
  else if h3 : (y 1).val < 3072 then R ((y 0).val / 64) (ix2 (y 0) ⟨(y 1).val - 2048, by omega⟩)
  else L (ix2 (y 0) ⟨(y 1).val - 3072, by have : (y 1).val < 3200 := (y 1).isLt; omega⟩)

end Cert.Kernel4Ideal.Gla
-- ==== Proof.GlbValues.lean ====
module

public import proofs.«01_k».proof.Proof.GlbBlocks
public import proofs.«01_k».proof.Proof.GlbMaths
public import proofs.«01_k».proof.Proof.GlaValues
public import Idealize.ShloMosaic.Lib.Pipeline.ValueKit
public import Idealize.ShloMosaic.Lib.Pipeline.CanonAppend
public import Idealize.ShloMosaic.Lib.Pointwise

/-!
# A block of the attention's gradient, on real numbers

On real arguments the functions of a block of rows are the numbers of Proof/GlbMaths.lean: the recurrence over the chunks
from the last to the first, the products with the states before and after each chunk, and the sums over the rows from one
to the end of its chunk.
-/

@[expose] public section

set_option maxRecDepth 16384

noncomputable section

open Idealize.ShloMosaic Idealize.ShloMosaic.TcCoe Idealize.SL.Sem

namespace Cert.Kernel4Ideal.Gla

open Cert.Kernel4Ideal Cert.Kernel4Ideal.Gen Cert.Gla
open Cert.Kernel3Ideal.Gla (div64 sge256 eq4)

/-- What the block's functions are given: block `b` of the arguments, the states after its chunks and before it, and what
the later blocks send back. -/
structure Blk (P Gt D W : ℕ → ℕ → ℝ) (N : ℕ → ℝ) (b : ℕ) (x0 : FVec Ideal S256x3200 .f32) (x1 : FVec Ideal S256x1024 .f32) (x2 : FVec Ideal S4x512x256 .f32)
    (x3 : FVec Ideal S1x512x256 .f32) (x4 : FVec Ideal S128x512 .bf16) (x5 : FVec Ideal S1x512 .f32) (x6 : FVec Ideal S1x1024 .f32)
    (xs0 : FVec Ideal S512x256 .f32) (bit : BitVec 1) : Prop where
  lt : b < 16
  zero : ∀ i j : ℕ, 3088 ≤ j → P i j = 0
  proj : ∀ (r : Fin 256) (j : Fin 3200), x0 (ix2 r j) = (P (256 * b + r.val) j.val : EReal)
  dog : ∀ (r : Fin 256) (j : Fin 1024), x1 (ix2 r j) = (D (256 * b + r.val) j.val : EReal)
  states : ∀ (n : Fin 4) (k : Fin 512) (e : Fin 256), x2 (ix3 n k e) = (St P (fun i k => gate (Gt i k)) (4 * b + n.val + 1) k.val e.val : EReal)
  first : b ≠ 0 → ∀ (k : Fin 512) (e : Fin 256), x3 (ix3 0 k e) = (St P (fun i k => gate (Gt i k)) (4 * b) k.val e.val : EReal)
  bits : bit = BitVec.ofBool (decide (b ≠ 0))
  wg2 : ∀ (c : Fin 128) (k : Fin 512), x4 (ix2 c k) = ((if c.val < 16 then W c.val k.val else 0 : ℝ) : EReal)
  gates : ∀ (r : Fin 256) (k : Fin 512), (∑ c : Fin 128, x0 (ix2 r ⟨3072 + c.val, by omega⟩) * x4 (ix2 c k)) + x5 (ix2 0 k) = (Gt (256 * b + r.val) k.val : EReal)
  gain : ∀ j : Fin 1024, x6 (ix2 0 j) = (N j.val : EReal)
  carried : ∀ (k : Fin 512) (e : Fin 256), xs0 (ix2 k e)
    = ((if b = 15 then 0 else Real.exp (ge (fun i k => gate (Gt i k)) k.val (4 * b + 4)) * Gn P (fun i k => gate (Gt i k)) D N (4 * b + 4) k.val e.val : ℝ) : EReal)

/-! ## Sums over the rows from one to the end of its chunk -/

/-- The kernel's triangle within the chunks, the other way round, times the rows of a block. -/
theorem rev_masked (f : ℕ → ℝ) (r : Fin 256) :
    ∑ j : Fin 256, (if j.val / 64 = r.val / 64 ∧ r.val ≤ j.val then (1 : ℝ) else 0) * f j.val
      = ∑ t ∈ Finset.Ico (r.val % 64) 64, f (64 * (r.val / 64) + t) := by
  have hr := r.isLt
  have h1 : ∑ j : Fin 256, (if j.val / 64 = r.val / 64 ∧ r.val ≤ j.val then (1 : ℝ) else 0) * f j.val
      = ∑ j ∈ Finset.Ico r.val (64 * (r.val / 64) + 64), f j := by
    rw [show Finset.Ico r.val (64 * (r.val / 64) + 64) = (Finset.range 256).filter (fun j => j / 64 = r.val / 64 ∧ r.val ≤ j) from by
      ext j; simp only [Finset.mem_Ico, Finset.mem_filter, Finset.mem_range]; omega, Finset.sum_filter,
      Finset.sum_range (fun j => if j / 64 = r.val / 64 ∧ r.val ≤ j then f j else 0)]
    refine Finset.sum_congr rfl fun j _ => ?_
    split <;> simp
  rw [h1, Finset.sum_Ico_eq_sum_range, Finset.sum_Ico_eq_sum_range]
  refine Finset.sum_congr (by congr 1; omega) fun t _ => ?_
  congr 1
  omega

/-- The kernel's triangle from a row to the end of its chunk, times the three parts of real rows, of which the second and
the third vanish. -/
theorem rev_coe (X : FVec Ideal S256x512 .f32) (f : ℕ → ℕ → ℝ) (hX : ∀ (r : Fin 256) (k : Fin 512), X (ix2 r k) = (f r.val k.val : EReal)) (r : Fin 256) (k : Fin 512) :
    revB X (ix2 r k) = ((∑ t ∈ Finset.Ico (r.val % 64) 64, f (64 * (r.val / 64) + t) k.val : ℝ) : EReal) := by
  have ht : ∀ r j : Fin 256, FloatOps.sitofp (F := Ideal) .f32 (BitVec.setWidth 32 (IntOp.andi
      (IntOp.cmpi CmpIPredicate.eq (BitVec.ofNat 32 (r.val / 64)) (BitVec.ofNat 32 (j.val / 64)))
      (IntOp.cmpi CmpIPredicate.sge (BitVec.ofNat 32 j.val) (BitVec.ofNat 32 r.val))))
      = (((if j.val / 64 = r.val / 64 ∧ r.val ≤ j.val then 1 else 0 : ℝ)) : EReal) := fun r j => by
    have h4 := eq4 ⟨r.val / 64, by omega⟩ ⟨j.val / 64, by omega⟩
    rw [sge256 j r, h4]
    by_cases h1 : j.val / 64 = r.val / 64 <;> by_cases h2 : r.val ≤ j.val <;>
      simp [h1, h2, IntOp.andi, FloatOps.sitofp]
  have hz : ∀ r : ℝ, (r : EReal) - r = 0 := fun r => by rw [← EReal.coe_sub, sub_self, EReal.coe_zero]
  have hX' : ∀ r : Fin 256, X (ix2 r k) = (f r.val k.val : EReal) := fun r => hX r k
  rw [← rev_masked (fun j => f j k.val) r]
  pointwise [revB, k0_pay460, k0_pay457, k0_pay458, k0_pay459]
  simp only [div64, ht, hX', hz, sub_zero, mul_zero, Finset.sum_const_zero, add_zero, ← EReal.coe_mul]
  rw [coe_sum]

/-- A sum over a block's rows, chunk by chunk. -/
theorem sum_256 (g : ℕ → ℝ) : ∑ r : Fin 256, g r.val = ∑ s : Fin 64, g s.val + ∑ s : Fin 64, g (64 + s.val) + ∑ s : Fin 64, g (128 + s.val) + ∑ s : Fin 64, g (192 + s.val) := by
  have h3 : ∑ r ∈ Finset.range 256, g r = ∑ r ∈ Finset.range 192, g r + ∑ s ∈ Finset.range 64, g (192 + s) := Finset.sum_range_add g 192 64
  have h2 : ∑ r ∈ Finset.range 192, g r = ∑ r ∈ Finset.range 128, g r + ∑ s ∈ Finset.range 64, g (128 + s) := Finset.sum_range_add g 128 64
  have h1 : ∑ r ∈ Finset.range 128, g r = ∑ r ∈ Finset.range 64, g r + ∑ s ∈ Finset.range 64, g (64 + s) := Finset.sum_range_add g 64 64
  rw [h2, h1] at h3
  simpa only [Finset.sum_range] using h3

/-- The floor division by 64 of a row number below 256, with the sign of 64 as a word. -/
theorem div64' : ∀ r : Fin 256, Scalar.select
    (IntOp.andi
      (IntOp.cmpi CmpIPredicate.ne
        (IntOp.subi (BitVec.setWidth 32 (IntOp.cmpi CmpIPredicate.sgt (BitVec.ofNat 32 r.val) 0#32))
          (BitVec.setWidth 32 (IntOp.cmpi CmpIPredicate.slt (BitVec.ofNat 32 r.val) 0#32))) 1#32)
      (IntOp.cmpi CmpIPredicate.ne (IntOp.remsi ArithUnit.vector (BitVec.ofNat 32 r.val) 64#32) 0#32))
    (IntOp.subi (IntOp.divsi ArithUnit.vector (BitVec.ofNat 32 r.val) 64#32) 1#32)
    (IntOp.divsi ArithUnit.vector (BitVec.ofNat 32 r.val) 64#32) = BitVec.ofNat 32 (r.val / 64) := div64

/-! ## The functions of a block -/

section
variable {P Gt D W : ℕ → ℕ → ℝ} {N : ℕ → ℝ} {b : ℕ} {x0 : FVec Ideal S256x3200 .f32} {x1 : FVec Ideal S256x1024 .f32} {x2 : FVec Ideal S4x512x256 .f32}
  {x3 : FVec Ideal S1x512x256 .f32} {x4 : FVec Ideal S128x512 .bf16} {x5 : FVec Ideal S1x512 .f32} {x6 : FVec Ideal S1x1024 .f32}
  {xs0 : FVec Ideal S512x256 .f32} {bit : BitVec 1} (H : Blk P Gt D W N b x0 x1 x2 x3 x4 x5 x6 xs0 bit)
include H

/-- The gates' inputs. -/
theorem pre_coe (r : Fin 256) (k : Fin 512) : (k0_pay8 (glF x0) x4 x5 : FVec Ideal S256x512 .f32) (ix2 r k) = (Gt (256 * b + r.val) k.val : EReal) := by
  rw [← H.gates r k]
  pointwise [k0_pay8, k0_pay7, glF]

/-- The gates' logarithms. -/
theorem lg_coe (r : Fin 256) (k : Fin 512) : (k0_pay9 (glF x0) x4 x5 : FVec Ideal S256x512 .f32) (ix2 r k) = (gate (Gt (256 * b + r.val) k.val) : EReal) := by
  have hp := pre_coe H r k
  unfold k0_pay9
  generalize (k0_pay8 (glF x0) x4 x5 : FVec Ideal S256x512 .f32) = A at hp
  pointwise
  rw [hp, absf_coe, ← EReal.coe_zero, ← EReal.coe_sub, log_one_add_exp, sixteenth, ← EReal.coe_strictMono.monotone.map_min, ← EReal.coe_sub, ← EReal.coe_mul, gate, zero_sub]
  norm_num [div_eq_mul_inv]

/-- The running sums of the gates' logarithms. -/
theorem G_coe (r : Fin 256) (k : Fin 512) : gcB x0 x4 x5 (ix2 r k) = (gc (fun i k => gate (Gt i k)) (4 * b + r.val / 64) (r.val % 64) k.val : EReal) := by
  have ht : ∀ r j : Fin 256, FloatOps.sitofp (F := Ideal) .f32 (BitVec.setWidth 32 (IntOp.andi
      (IntOp.cmpi CmpIPredicate.eq (BitVec.ofNat 32 (r.val / 64)) (BitVec.ofNat 32 (j.val / 64)))
      (IntOp.cmpi CmpIPredicate.sge (BitVec.ofNat 32 r.val) (BitVec.ofNat 32 j.val))))
      = (((if j.val / 64 = r.val / 64 ∧ j.val ≤ r.val then 1 else 0 : ℝ)) : EReal) := fun r j => by
    have h4 := eq4 ⟨r.val / 64, by omega⟩ ⟨j.val / 64, by omega⟩
    rw [sge256 r j, h4]
    by_cases h1 : j.val / 64 = r.val / 64 <;> by_cases h2 : j.val ≤ r.val <;>
      simp [h1, h2, IntOp.andi, FloatOps.sitofp]
  have hz : ∀ r : ℝ, (r : EReal) - r = 0 := fun r => by rw [← EReal.coe_sub, sub_self, EReal.coe_zero]
  have hL := fun r => lg_coe H r k
  unfold gcB k0_pay18 k0_pay17 k0_pay16
  generalize (k0_pay9 (glF x0) x4 x5 : FVec Ideal S256x512 .f32) = la at hL
  rw [← gc_masked (fun i k => gate (Gt i k)) b r]
  pointwise [k0_pay19, k0_pay18, k0_pay17, k0_pay16, k0_pay15, k0_pay14, k0_pay13, k0_pay12, k0_pay11, k0_pay10]
  simp only [div64', div64, ht, hL, hz, sub_zero, mul_zero, Finset.sum_const_zero, add_zero, ← EReal.coe_mul]
  rw [coe_sum]

/-- The decays to the ends of the chunks. -/
theorem w_coe (r : Fin 256) (k : Fin 512) : wB (gcB x0 x4 x5) (ix2 r k)
    = (Real.exp (gc (fun i k => gate (Gt i k)) (4 * b + r.val / 64) 63 k.val - gc (fun i k => gate (Gt i k)) (4 * b + r.val / 64) (r.val % 64) k.val) : EReal) := by
  have hr := r.isLt
  show Ideal.exp (gcB x0 x4 x5 (ix2 ⟨64 * (r.val / 64) + 63, _⟩ k) - gcB x0 x4 x5 (ix2 r k)) = _
  rw [G_coe H, G_coe H, ← EReal.coe_sub, exp_coe]
  dsimp only
  rw [show (64 * (r.val / 64) + 63) / 64 = r.val / 64 by omega, show (64 * (r.val / 64) + 63) % 64 = 63 by omega]

/-- The chunks' sums. -/
theorem ge_coe (q : Fin 8) (k : Fin 512) : geB (gcB x0 x4 x5) (ix2 q k) = (ge (fun i k => gate (Gt i k)) k.val (4 * b + q.val % 4) : EReal) := by
  show gcB x0 x4 x5 (ix2 ⟨64 * (q.val % 4) + 63, _⟩ k) = _
  rw [G_coe H]
  dsimp only
  rw [show (64 * (q.val % 4) + 63) / 64 = q.val % 4 by omega, show (64 * (q.val % 4) + 63) % 64 = 63 by omega, ge]

/-- The queries. -/
theorem q_coe (r : Fin 256) (k : Fin 512) : qB x0 (ix2 r k) = ((P (256 * b + r.val) k.val * scale : ℝ) : EReal) := by
  show x0 (ix2 r ⟨k.val, _⟩) * Ideal.ofBits .f32 0x3DB504F3#32 = _
  rw [H.proj, scale_coe, ← EReal.coe_mul]

/-- The states after the chunks. -/
theorem s_coe (n : ℕ) (hn : n < 4) (k : Fin 512) (e : Fin 256) : sB x2 n (ix2 k e) = (St P (fun i k => gate (Gt i k)) (4 * b + n + 1) k.val e.val : EReal) := by
  show x2 (ix3 ⟨n % 4, _⟩ k e) = _
  rw [H.states]
  dsimp only
  rw [Nat.mod_eq_of_lt hn]

/-- The outputs. -/
theorem o_coe (n : ℕ) (hn : n < 4) (r : Fin 256) (hr : r.val / 64 = n) (j : Fin 1024) :
    oB x0 x2 n (ix2 r j) = (out P (fun i k => gate (Gt i k)) (4 * b + n) (r.val % 64) (j.val / 256) (j.val % 256) : EReal) := by
  have := r.isLt
  show ∑ d : Fin 128, qB x0 (ix2 r ⟨128 * (j.val / 256) + d.val, _⟩) * sB x2 n (ix2 ⟨128 * (j.val / 256) + d.val, _⟩ ⟨j.val % 256, _⟩) = _
  simp only [q_coe H, s_coe H n hn, ← EReal.coe_mul, coe_sum]
  rw [out, show 64 * (4 * b + n) + r.val % 64 = 256 * b + r.val by omega]

/-- One over the roots of the mean squares. -/
theorem rs_coe' (n : ℕ) (hn : n < 4) (r : Fin 256) (hr : r.val / 64 = n) (j : Fin 1024) :
    rsB x0 x2 n (ix2 r j) = (rs P (fun i k => gate (Gt i k)) (4 * b + n) (r.val % 64) (j.val / 256) : EReal) := by
  have hj := j.isLt
  refine (rs_coe P (fun i k => gate (Gt i k)) (4 * b + n) (r.val % 64) (j.val / 256) (fun e => oB x0 x2 n (ix2 r ⟨256 * (j.val / 256) + e.val, by omega⟩)) fun e => ?_).1
  rw [o_coe H n hn r hr]
  dsimp only
  rw [show (256 * (j.val / 256) + e.val) / 256 = j.val / 256 by omega, show (256 * (j.val / 256) + e.val) % 256 = e.val by omega]

/-- The normed outputs. -/
theorem on_coe (n : ℕ) (hn : n < 4) (r : Fin 256) (hr : r.val / 64 = n) (j : Fin 1024) :
    onB x0 x2 n (ix2 r j) = ((out P (fun i k => gate (Gt i k)) (4 * b + n) (r.val % 64) (j.val / 256) (j.val % 256) * rs P (fun i k => gate (Gt i k)) (4 * b + n) (r.val % 64) (j.val / 256) : ℝ) : EReal) := by
  show oB x0 x2 n (ix2 r j) * rsB x0 x2 n (ix2 r j) = _
  rw [o_coe H n hn r hr, rs_coe' H n hn r hr, ← EReal.coe_mul]

/-- The output gates' logistic functions. -/
theorem lr_coe (r : Fin 256) (j : Fin 1024) : (logistic (rF x0 : FVec Ideal S256x1024 .f32) : FVec Ideal S256x1024 .f32) (ix2 r j) = (sg (rg P (256 * b + r.val) j.val) : EReal) := by
  show Ideal.logistic (x0 (ix2 r ⟨2048 + j.val, _⟩)) = _
  rw [H.proj, logistic_coe]
  rfl

/-- The gradient of the gain's products. -/
theorem dt_coe (r : Fin 256) (j : Fin 1024) : dtB x0 x1 (ix2 r j) = (dt P D (256 * b + r.val) j.val : EReal) := by
  show x1 (ix2 r j) * (x0 (ix2 r ⟨2048 + j.val, _⟩) * (logistic (rF x0 : FVec Ideal S256x1024 .f32) : FVec Ideal S256x1024 .f32) (ix2 r j)) = _
  rw [lr_coe H, H.proj, H.dog, ← EReal.coe_mul, ← EReal.coe_mul]
  rfl

/-- The gradient of the normed outputs. -/
theorem don_coe (n : ℕ) (r : Fin 256) (hr : r.val / 64 = n) (j : Fin 1024) :
    donB x0 x1 x6 (ix2 r j) = (don P D N (4 * b + n) (r.val % 64) (j.val / 256) (j.val % 256) : EReal) := by
  show dtB x0 x1 (ix2 r j) * x6 (ix2 0 j) = _
  rw [dt_coe H, H.gain, ← EReal.coe_mul, don, show 64 * (4 * b + n) + r.val % 64 = 256 * b + r.val by omega, Nat.div_add_mod]

/-- The gradient of the outputs. -/
theorem do_coe (n : ℕ) (hn : n < 4) (r : Fin 256) (hr : r.val / 64 = n) (j : Fin 1024) :
    doB x0 x1 x2 x6 n (ix2 r j) = (dO P (fun i k => gate (Gt i k)) D N (4 * b + n) (r.val % 64) (j.val / 256) (j.val % 256) : EReal) := by
  have hj := j.isLt
  have h256 : Ideal.ofBits .f32 0x43800000#32 = ((256 : ℝ) : EReal) := by
    simp [Ideal.ofBits, Ideal.ieee, -EReal.coe_mul]; norm_num
  show rsB x0 x2 n (ix2 r j) * (donB x0 x1 x6 (ix2 r j) - onB x0 x2 n (ix2 r j)
    * Ideal.div (∑ e : Fin 256, donB x0 x1 x6 (ix2 r ⟨256 * (j.val / 256) + e.val, _⟩) * onB x0 x2 n (ix2 r ⟨256 * (j.val / 256) + e.val, _⟩)) (Ideal.ofBits .f32 0x43800000#32)) = _
  simp only [on_coe H n hn r hr, don_coe H n r hr, rs_coe' H n hn r hr, h256]
  simp only [show ∀ e : Fin 256, (256 * (j.val / 256) + e.val) / 256 = j.val / 256 from fun e => by omega,
    show ∀ e : Fin 256, (256 * (j.val / 256) + e.val) % 256 = e.val from fun e => by omega]
  simp only [← EReal.coe_mul, coe_sum]
  rw [Ideal.div_coe (by norm_num), ← EReal.coe_mul, ← EReal.coe_mul, ← EReal.coe_sub, ← EReal.coe_mul, dO]
  congr 1
  ring

/-- The gradient of the output gates. -/
theorem dr_coe (n : ℕ) (hn : n < 4) (r : Fin 256) (hr : r.val / 64 = n) (j : Fin 1024) : drB x0 x1 x2 x6 n (ix2 r j) = (drn P (fun i k => gate (Gt i k)) D N (256 * b + r.val) j.val : EReal) := by
  have h1 : Ideal.ofBits .f32 0x3F800000#32 = ((1 : ℝ) : EReal) := by
    simp [Ideal.ofBits, Ideal.ieee, -EReal.coe_mul]; norm_num
  show x1 (ix2 r j) * onB x0 x2 n (ix2 r j) * x6 (ix2 0 j) * ((logistic (rF x0 : FVec Ideal S256x1024 .f32) : FVec Ideal S256x1024 .f32) (ix2 r j) * (Ideal.ofBits .f32 0x3F800000#32
    + x0 (ix2 r ⟨2048 + j.val, _⟩) * (Ideal.ofBits .f32 0x3F800000#32 - (logistic (rF x0 : FVec Ideal S256x1024 .f32) : FVec Ideal S256x1024 .f32) (ix2 r j)))) = _
  rw [lr_coe H, on_coe H n hn r hr, H.dog, H.gain, H.proj, h1]
  simp only [← EReal.coe_mul, ← EReal.coe_sub, ← EReal.coe_add]
  rw [drn, show (256 * b + r.val) / 64 = 4 * b + n by omega, show (256 * b + r.val) % 64 = r.val % 64 by omega]
  rfl

/-- The gradient of the queries. -/
theorem dq_coe (n : ℕ) (hn : n < 4) (r : Fin 256) (hr : r.val / 64 = n) (k : Fin 512) : dqB x0 x1 x2 x6 n (ix2 r k) = (dqn P (fun i k => gate (Gt i k)) D N (4 * b + n) (r.val % 64) k.val : EReal) := by
  have hk := k.isLt
  show (∑ e : Fin 256, doB x0 x1 x2 x6 n (ix2 r ⟨256 * (k.val / 128) + e.val, _⟩) * sB x2 n (ix2 k e)) * Ideal.ofBits .f32 0x3DB504F3#32 = _
  simp only [do_coe H n hn r hr, s_coe H n hn, scale_coe, show ∀ e : Fin 256, (256 * (k.val / 128) + e.val) / 256 = k.val / 128 from fun e => by omega,
    show ∀ e : Fin 256, (256 * (k.val / 128) + e.val) % 256 = e.val from fun e => by omega, ← EReal.coe_mul, coe_sum]
  rfl

/-- What a chunk sends back to the state after it. -/
theorem step_coe (n : ℕ) (hn : n < 4) (S : FVec Ideal S512x256 .f32) (g : ℝ) (k : Fin 512) (e : Fin 256) (hS : S (ix2 k e) = (g : EReal)) :
    stepF (qB x0) (doB x0 x1 x2 x6 n) n S (ix2 k e) = ((g + qdo P (fun i k => gate (Gt i k)) D N k.val e.val (4 * b + n) : ℝ) : EReal) := by
  have hk := k.isLt
  have he := e.isLt
  have hm : n % 4 = n := Nat.mod_eq_of_lt hn
  show S (ix2 k e) + ∑ s : Fin 64, qB x0 (ix2 ⟨64 * (n % 4) + s.val, _⟩ k) * doB x0 x1 x2 x6 n (ix2 ⟨64 * (n % 4) + s.val, _⟩ ⟨256 * (k.val / 128) + e.val, _⟩) = _
  rw [hS, qdo, EReal.coe_add, ← coe_sum]
  congr 1
  refine Finset.sum_congr rfl fun s _ => ?_
  have hs := s.isLt
  rw [q_coe H, do_coe H n hn _ (by dsimp only; omega), ← EReal.coe_mul]
  dsimp only
  rw [show (256 * (k.val / 128) + e.val) / 256 = k.val / 128 by omega, show (256 * (k.val / 128) + e.val) % 256 = e.val by omega,
    show (64 * (n % 4) + s.val) % 64 = s.val by omega, show 256 * b + (64 * (n % 4) + s.val) = 64 * (4 * b + n) + s.val by omega]

/-- The gradients of the states. -/
theorem GB_coe (n : ℕ) (hn : n < 4) (k : Fin 512) (e : Fin 256) : GB (gcB x0 x4 x5) x0 x1 x2 x6 xs0 n (ix2 k e) = (Gn P (fun i k => gate (Gt i k)) D N (4 * b + 3 - n) k.val e.val : EReal) := by
  have hb := H.lt
  induction n generalizing k e with
  | zero =>
    refine (step_coe H 3 (by omega) xs0 _ k e (H.carried k e)).trans ?_
    congr 1
    simp only [Gn]
    split_ifs with h
    · subst h
      exact (zero_add _).trans (later_last _ _).symm
    · rw [Nat.sub_zero, later_step _ _ (4 * b + 3) (by omega)]
  | succ n ih =>
    have hs : decF (geB (gcB x0 x4 x5)) (3 - n) (GB (gcB x0 x4 x5) x0 x1 x2 x6 xs0 n) (ix2 k e)
        = ((Real.exp (ge (fun i k => gate (Gt i k)) k.val (4 * b + (3 - n))) * Gn P (fun i k => gate (Gt i k)) D N (4 * b + 3 - n) k.val e.val : ℝ) : EReal) := by
      show Ideal.exp (geB (gcB x0 x4 x5) (ix2 ⟨(3 - n) % 8, _⟩ k)) * GB (gcB x0 x4 x5) x0 x1 x2 x6 xs0 n (ix2 k e) = _
      rw [ih (by omega), ge_coe H, exp_coe, ← EReal.coe_mul]
      dsimp only
      rw [show (3 - n) % 8 % 4 = 3 - n by omega]
    refine (step_coe H (2 - n) (by omega) _ _ k e hs).trans ?_
    congr 1
    rw [show 4 * b + 3 - (n + 1) = 4 * b + (2 - n) by omega]
    simp only [Gn]
    rw [later_step _ _ (4 * b + (2 - n)) (by omega), show 4 * b + (2 - n) + 1 = 4 * b + (3 - n) by omega, show 4 * b + 3 - n = 4 * b + (3 - n) by omega]

/-- The same, by chunk. -/
theorem Gn_coe (n : ℕ) (hn : n < 4) (k : Fin 512) (e : Fin 256) : GB (gcB x0 x4 x5) x0 x1 x2 x6 xs0 (3 - n) (ix2 k e) = (Gn P (fun i k => gate (Gt i k)) D N (4 * b + n) k.val e.val : EReal) := by
  rw [GB_coe H (3 - n) (by omega), show 4 * b + 3 - (3 - n) = 4 * b + n by omega]

/-- The state's gradient carried on to the block before. -/
theorem carried_coe (k : Fin 512) (e : Fin 256) : decF (geB (gcB x0 x4 x5)) 0 (GB (gcB x0 x4 x5) x0 x1 x2 x6 xs0 3) (ix2 k e)
    = ((Real.exp (ge (fun i k => gate (Gt i k)) k.val (4 * b)) * Gn P (fun i k => gate (Gt i k)) D N (4 * b) k.val e.val : ℝ) : EReal) := by
  show Ideal.exp (geB (gcB x0 x4 x5) (ix2 ⟨0 % 8, _⟩ k)) * GB (gcB x0 x4 x5) x0 x1 x2 x6 xs0 3 (ix2 k e) = _
  rw [show GB (gcB x0 x4 x5) x0 x1 x2 x6 xs0 3 (ix2 k e) = _ from Gn_coe H 0 (by omega) k e, ge_coe H, exp_coe, ← EReal.coe_mul]
  rfl

/-- The decayed keys. -/
theorem kd_coe (r : Fin 256) (k : Fin 512) : kdB (gcB x0 x4 x5) x0 (ix2 r k) = (kd P (fun i k => gate (Gt i k)) (4 * b + r.val / 64) (r.val % 64) k.val : EReal) := by
  show x0 (ix2 r ⟨512 + k.val, _⟩) * wB (gcB x0 x4 x5) (ix2 r k) = _
  rw [H.proj, w_coe H, ← EReal.coe_mul, kd, show 64 * (4 * b + r.val / 64) + r.val % 64 = 256 * b + r.val by omega]

/-- The gradient of the decayed keys. -/
theorem dkd_coe (n : ℕ) (hn : n < 4) (r : Fin 256) (hr : r.val / 64 = n) (k : Fin 512) :
    dkdB (gcB x0 x4 x5) x0 x1 x2 x6 xs0 n (ix2 r k) = (dkd P (fun i k => gate (Gt i k)) D N (4 * b + n) (r.val % 64) k.val : EReal) := by
  have hk := k.isLt
  unfold dkdB ntF
  refine (Finset.sum_congr rfl fun e _ => congrArg₂ (· * ·) (H.proj r ⟨1024 + (256 * (k.val / 128) + e.val), by omega⟩) (Gn_coe H n hn k e)).trans ?_
  simp only [← EReal.coe_mul, coe_sum]
  rw [dkd, show 64 * (4 * b + n) + r.val % 64 = 256 * b + r.val by omega]
  simp only [add_assoc]

/-- The gradient of the values. -/
theorem dv_coe (n : ℕ) (hn : n < 4) (r : Fin 256) (hr : r.val / 64 = n) (j : Fin 1024) :
    dvB (gcB x0 x4 x5) x0 x1 x2 x6 xs0 n (ix2 r j) = (dvn P (fun i k => gate (Gt i k)) D N (4 * b + n) (r.val % 64) (j.val / 256) (j.val % 256) : EReal) := by
  have hj := j.isLt
  show ∑ d : Fin 128, kdB (gcB x0 x4 x5) x0 (ix2 r ⟨128 * (j.val / 256) + d.val, _⟩)
    * GB (gcB x0 x4 x5) x0 x1 x2 x6 xs0 (3 - n) (ix2 ⟨128 * (j.val / 256) + d.val, _⟩ ⟨j.val % 256, _⟩) = _
  simp only [kd_coe H, Gn_coe H n hn, ← EReal.coe_mul, coe_sum]
  rw [dvn, hr]

/-- The gradient of the keys. -/
theorem dk_coe (n : ℕ) (hn : n < 4) (r : Fin 256) (hr : r.val / 64 = n) (k : Fin 512) :
    dkB (gcB x0 x4 x5) x0 x1 x2 x6 xs0 n (ix2 r k) = (dkn P (fun i k => gate (Gt i k)) D N (4 * b + n) (r.val % 64) k.val : EReal) := by
  show dkdB (gcB x0 x4 x5) x0 x1 x2 x6 xs0 n (ix2 r k) * wB (gcB x0 x4 x5) (ix2 r k) = _
  rw [dkd_coe H n hn r hr, w_coe H, ← EReal.coe_mul, dkn, hr]

/-- The gradient of the logarithms of the keys' decays. -/
theorem dww_coe (n : ℕ) (hn : n < 4) (r : Fin 256) (hr : r.val / 64 = n) (k : Fin 512) :
    dwwB (gcB x0 x4 x5) x0 x1 x2 x6 xs0 n (ix2 r k) = (dww P (fun i k => gate (Gt i k)) D N (4 * b + n) (r.val % 64) k.val : EReal) := by
  show dkdB (gcB x0 x4 x5) x0 x1 x2 x6 xs0 n (ix2 r k) * kdB (gcB x0 x4 x5) x0 (ix2 r k) = _
  rw [dkd_coe H n hn r hr, kd_coe H, ← EReal.coe_mul, dww, hr]

/-- The state before a chunk. -/
theorem bf_coe (n : ℕ) (hn : n < 4) (k : Fin 512) (e : Fin 256) : bfB x2 x3 bit n (ix2 k e) = (St P (fun i k => gate (Gt i k)) (4 * b + n) k.val e.val : EReal) := by
  unfold bfB
  split_ifs with h
  · subst h
    rw [H.bits]
    by_cases h0 : b = 0
    · subst h0
      show Ideal.ofBits .f32 0x00000000#32 = _
      rw [Ideal.ofBits_zero_f32]
      simp [St]
    · rw [show BitVec.ofBool (decide (b ≠ 0)) = 1#1 by simp [h0]]
      exact H.first h0 k e
  · refine (H.states ⟨(n - 1) % 4, by omega⟩ k e).trans ?_
    dsimp only
    rw [show 4 * b + (n - 1) % 4 + 1 = 4 * b + n by omega]

/-- The gradient of a chunk's sum. -/
theorem dge_coe (n : ℕ) (hn : n < 4) (q : Fin 8) (k : Fin 512) : dgeB (gcB x0 x4 x5) x0 x1 x2 x3 x6 bit xs0 n (ix2 q k) = (dge P (fun i k => gate (Gt i k)) D N (4 * b + n) k.val : EReal) := by
  show Ideal.exp (geB (gcB x0 x4 x5) (ix2 ⟨n % 8, _⟩ k)) * (∑ e : Fin 256, GB (gcB x0 x4 x5) x0 x1 x2 x6 xs0 (3 - n) (ix2 k e) * bfB x2 x3 bit n (ix2 k e))
    + ∑ s : Fin 64, dwwB (gcB x0 x4 x5) x0 x1 x2 x6 xs0 n (ix2 ⟨64 * (n % 4) + s.val, _⟩ k) = _
  have hw : ∀ s : Fin 64, dwwB (gcB x0 x4 x5) x0 x1 x2 x6 xs0 n (ix2 ⟨64 * (n % 4) + s.val, by omega⟩ k) = (dww P (fun i k => gate (Gt i k)) D N (4 * b + n) s.val k.val : EReal) := fun s => by
    rw [dww_coe H n hn _ (by dsimp only; omega)]
    dsimp only
    rw [show (64 * (n % 4) + s.val) % 64 = s.val by omega]
  simp only [hw, ge_coe H, Gn_coe H n hn, bf_coe H n hn, exp_coe, ← EReal.coe_mul, coe_sum, ← EReal.coe_add]
  rw [show n % 8 % 4 = n by omega, dge, ge]

/-- The gradients of the logarithms of the keys' decays of all the block's chunks. -/
theorem dwwA_coe (r : Fin 256) (k : Fin 512) : dwwA (gcB x0 x4 x5) x0 x1 x2 x6 xs0 (ix2 r k) = (dww P (fun i k => gate (Gt i k)) D N (4 * b + r.val / 64) (r.val % 64) k.val : EReal) := by
  have hr := r.isLt
  show (if r.val < 64 then dwwB _ x0 x1 x2 x6 xs0 0 (ix2 r k) else if r.val < 128 then dwwB _ x0 x1 x2 x6 xs0 1 (ix2 r k)
    else if r.val < 192 then dwwB _ x0 x1 x2 x6 xs0 2 (ix2 r k) else dwwB _ x0 x1 x2 x6 xs0 3 (ix2 r k)) = _
  split_ifs
  · rw [show r.val / 64 = 0 by omega]; exact dww_coe H 0 (by omega) r (by omega) k
  · rw [show r.val / 64 = 1 by omega]; exact dww_coe H 1 (by omega) r (by omega) k
  · rw [show r.val / 64 = 2 by omega]; exact dww_coe H 2 (by omega) r (by omega) k
  · rw [show r.val / 64 = 3 by omega]; exact dww_coe H 3 (by omega) r (by omega) k

/-- The gradients of the sums of all the block's chunks. -/
theorem dgeA_coe (q : Fin 8) (hq : q.val < 4) (k : Fin 512) : dgeA (gcB x0 x4 x5) x0 x1 x2 x3 x6 bit xs0 (ix2 q k) = (dge P (fun i k => gate (Gt i k)) D N (4 * b + q.val) k.val : EReal) := by
  show (if q.val = 0 then dgeB _ x0 x1 x2 x3 x6 bit xs0 0 (ix2 q k) else if q.val = 1 then dgeB _ x0 x1 x2 x3 x6 bit xs0 1 (ix2 q k)
    else if q.val = 2 then dgeB _ x0 x1 x2 x3 x6 bit xs0 2 (ix2 q k) else dgeB _ x0 x1 x2 x3 x6 bit xs0 3 (ix2 q k)) = _
  split_ifs
  · rw [show q.val = 0 by omega]; exact dge_coe H 0 (by omega) q k
  · rw [show q.val = 1 by omega]; exact dge_coe H 1 (by omega) q k
  · rw [show q.val = 2 by omega]; exact dge_coe H 2 (by omega) q k
  · rw [show q.val = 3 by omega]; exact dge_coe H 3 (by omega) q k

end

section
variable {P Gt D W : ℕ → ℕ → ℝ} {N : ℕ → ℝ} {b : ℕ} {x0 : FVec Ideal S256x3200 .f32} {x1 : FVec Ideal S256x1024 .f32} {x2 : FVec Ideal S4x512x256 .f32}
  {x3 : FVec Ideal S1x512x256 .f32} {x4 : FVec Ideal S128x512 .bf16} {x5 : FVec Ideal S1x512 .f32} {x6 : FVec Ideal S1x1024 .f32}
  {xs0 : FVec Ideal S512x256 .f32} {i : grid0.Coords} (H : Blk P Gt D W N b x0 x1 x2 x3 x4 x5 x6 xs0 (bI i))
include H

/-- The gradient of the gates' logarithms. -/
theorem dla_coe (r : Fin 256) (k : Fin 512) : dlaB i x0 x1 x2 x3 x4 x5 x6 xs0 (ix2 r k) = (dla P (fun i k => gate (Gt i k)) D N (4 * b + r.val / 64) (r.val % 64) k.val : EReal) := by
  have hr := r.isLt
  show dgeA (gcB x0 x4 x5) x0 x1 x2 x3 x6 (bI i) xs0 (ix2 ⟨r.val / 64, _⟩ k) - revB (dwwA (gcB x0 x4 x5) x0 x1 x2 x6 xs0) (ix2 r k) = _
  rw [dgeA_coe H _ (by dsimp only; omega), rev_coe _ (fun r k => dww P (fun i k => gate (Gt i k)) D N (4 * b + r / 64) (r % 64) k) (dwwA_coe H), ← EReal.coe_sub, dla]
  congr 2
  refine Finset.sum_congr rfl fun t ht => ?_
  have := (Finset.mem_Ico.mp ht).2
  rw [show (64 * (r.val / 64) + t) / 64 = r.val / 64 by omega, show (64 * (r.val / 64) + t) % 64 = t by omega]

/-- The gradient of the gates' inputs. -/
theorem dgp_coe (r : Fin 256) (k : Fin 512) : dgpB i x0 x1 x2 x3 x4 x5 x6 xs0 (ix2 r k) = (dgp P (fun i k => gate (Gt i k)) D N Gt (256 * b + r.val) k.val : EReal) := by
  have h1 : Ideal.ofBits .f32 0x3F800000#32 = ((1 : ℝ) : EReal) := by
    simp [Ideal.ofBits, Ideal.ieee, -EReal.coe_mul]; norm_num
  show dlaB i x0 x1 x2 x3 x4 x5 x6 xs0 (ix2 r k) * Ideal.ofBits .f32 0x3D800000#32 * (Ideal.ofBits .f32 0x3F800000#32
    - Ideal.logistic ((k0_pay8 (glF x0) x4 x5 : FVec Ideal S256x512 .f32) (ix2 r k))) = _
  rw [dla_coe H, pre_coe H, logistic_coe, sixteenth, h1, ← EReal.coe_sub, ← EReal.coe_mul, ← EReal.coe_mul, dgp,
    show (256 * b + r.val) / 64 = 4 * b + r.val / 64 by omega, show (256 * b + r.val) % 64 = r.val % 64 by omega]

/-- What the block adds to the gradient of the gates' weight. -/
theorem dwg_coe (c : Fin 128) (k : Fin 512) : dwgB i x0 x1 x2 x3 x4 x5 x6 xs0 (ix2 c k)
    = ((∑ r : Fin 256, dgp P (fun i k => gate (Gt i k)) D N Gt (256 * b + r.val) k.val * P (256 * b + r.val) (3072 + c.val) : ℝ) : EReal) := by
  have hg : ∀ r : Fin 256, (k0_pay466 (k0_pay8 (glF x0) x4 x5) (dlaB i x0 x1 x2 x3 x4 x5 x6 xs0) : FVec Ideal S256x512 .bf16) (ix2 r k)
      = (dgp P (fun i k => gate (Gt i k)) D N Gt (256 * b + r.val) k.val : EReal) := fun r => dgp_coe H r k
  have hl : ∀ r : Fin 256, (k0_pay7 (glF x0) : FVec Ideal S256x128 .bf16) (ix2 r c) = (P (256 * b + r.val) (3072 + c.val) : EReal) := fun r => by
    refine Eq.trans ?_ (H.proj r ⟨3072 + c.val, by omega⟩)
    pointwise [k0_pay7, glF]
  unfold dwgB
  generalize (k0_pay466 (k0_pay8 (glF x0) x4 x5) (dlaB i x0 x1 x2 x3 x4 x5 x6 xs0) : FVec Ideal S256x512 .bf16) = A at hg
  generalize (k0_pay7 (glF x0) : FVec Ideal S256x128 .bf16) = B at hl
  pointwise [k0_pay469]
  simp only [hg, hl, ← EReal.coe_mul, coe_sum]
  simp only [mul_comm]

/-- What the block adds to the gradient of the gates' bias. -/
theorem dbg_coe (X : FVec Ideal S1x512 .f32) (k : Fin 512) : (k0_pay2 (dgpB i x0 x1 x2 x3 x4 x5 x6 xs0) X : FVec Ideal S1x512 .f32) (ix2 0 k)
    = X (ix2 0 k) + ((∑ r : Fin 256, dgp P (fun i k => gate (Gt i k)) D N Gt (256 * b + r.val) k.val : ℝ) : EReal) := by
  have hg := fun r => dgp_coe H r k
  generalize dgpB i x0 x1 x2 x3 x4 x5 x6 xs0 = A at hg
  rw [← coe_sum]
  simp only [← hg]
  pointwise [k0_pay2]

/-- The gradient of the low-rank gate's inputs. -/
theorem dgl_coe (r : Fin 256) (c : Fin 128) : dglB i x0 x1 x2 x3 x4 x5 x6 xs0 (ix2 r c)
    = ((if c.val < 16 then ∑ k : Fin 512, dgp P (fun i k => gate (Gt i k)) D N Gt (256 * b + r.val) k.val * W c.val k.val else 0 : ℝ) : EReal) := by
  have hg : ∀ k : Fin 512, (k0_pay466 (k0_pay8 (glF x0) x4 x5) (dlaB i x0 x1 x2 x3 x4 x5 x6 xs0) : FVec Ideal S256x512 .bf16) (ix2 r k)
      = (dgp P (fun i k => gate (Gt i k)) D N Gt (256 * b + r.val) k.val : EReal) := fun k => dgp_coe H r k
  have hw := H.wg2 c
  unfold dglB k0_pay467
  generalize (k0_pay466 (k0_pay8 (glF x0) x4 x5) (dlaB i x0 x1 x2 x3 x4 x5 x6 xs0) : FVec Ideal S256x512 .bf16) = A at hg
  pointwise
  simp only [hg, hw, ← EReal.coe_mul, coe_sum]
  congr 1
  split_ifs
  · rfl
  · simp

/-- The block's gradient of the projections. -/
theorem dp_coe (r : Fin 256) (j : Fin 3200) : dpF (dqB x0 x1 x2 x6) (dkB (gcB x0 x4 x5) x0 x1 x2 x6 xs0) (dvB (gcB x0 x4 x5) x0 x1 x2 x6 xs0) (drB x0 x1 x2 x6)
      (dglB i x0 x1 x2 x3 x4 x5 x6 xs0) (ix2 r j) = (dpN P (fun i k => gate (Gt i k)) D N Gt W (256 * b + r.val) j.val : EReal) := by
  have hr := r.isLt
  have h1 : (256 * b + r.val) / 64 = 4 * b + r.val / 64 := by omega
  have h2 : (256 * b + r.val) % 64 = r.val % 64 := by omega
  rw [dpN, h1, h2]
  show (if h0 : j.val < 512 then dqB x0 x1 x2 x6 (r.val / 64) (ix2 r ⟨j.val, h0⟩)
    else if h1 : j.val < 1024 then dkB (gcB x0 x4 x5) x0 x1 x2 x6 xs0 (r.val / 64) (ix2 r ⟨j.val - 512, _⟩)
    else if h2 : j.val < 2048 then dvB (gcB x0 x4 x5) x0 x1 x2 x6 xs0 (r.val / 64) (ix2 r ⟨j.val - 1024, _⟩)
    else if h3 : j.val < 3072 then drB x0 x1 x2 x6 (r.val / 64) (ix2 r ⟨j.val - 2048, _⟩)
    else dglB i x0 x1 x2 x3 x4 x5 x6 xs0 (ix2 r ⟨j.val - 3072, _⟩)) = _
  by_cases h0 : j.val < 512
  · rw [dif_pos h0, if_pos h0]; exact dq_coe H (r.val / 64) (by omega) r rfl ⟨j.val, h0⟩
  rw [dif_neg h0, if_neg h0]
  by_cases h1 : j.val < 1024
  · rw [dif_pos h1, if_pos h1]; exact dk_coe H (r.val / 64) (by omega) r rfl ⟨j.val - 512, by omega⟩
  rw [dif_neg h1, if_neg h1]
  by_cases h2 : j.val < 2048
  · rw [dif_pos h2, if_pos h2]; exact dv_coe H (r.val / 64) (by omega) r rfl ⟨j.val - 1024, by omega⟩
  rw [dif_neg h2, if_neg h2]
  by_cases h3 : j.val < 3072
  · rw [dif_pos h3, if_pos h3]; exact dr_coe H (r.val / 64) (by omega) r rfl ⟨j.val - 2048, by omega⟩
  rw [dif_neg h3, if_neg h3, dgl_coe H]
  dsimp only
  by_cases h4 : j.val < 3088
  · rw [if_pos (by omega), if_pos h4]
  · rw [if_neg (by omega), if_neg h4]

/-- What the block adds to the gradient of the gain. -/
theorem dgn_coe (X : FVec Ideal S1x1024 .f32) (j : Fin 1024) : dgnB x0 x1 x2 X 4 (ix2 0 j)
    = X (ix2 0 j) + ((∑ r : Fin 256, dt P D (256 * b + r.val) j.val * (out P (fun i k => gate (Gt i k)) ((256 * b + r.val) / 64) ((256 * b + r.val) % 64) (j.val / 256) (j.val % 256)
      * rs P (fun i k => gate (Gt i k)) ((256 * b + r.val) / 64) ((256 * b + r.val) % 64) (j.val / 256)) : ℝ) : EReal) := by
  let f : ℕ → ℝ := fun i => dt P D i j.val * (out P (fun i k => gate (Gt i k)) (i / 64) (i % 64) (j.val / 256) (j.val % 256) * rs P (fun i k => gate (Gt i k)) (i / 64) (i % 64) (j.val / 256))
  have hs : ∀ n < 4, sumF (mulf (dtB x0 x1) (onB x0 x2 n)) n (ix2 0 j) = ((∑ s : Fin 64, f (256 * b + (64 * n + s.val)) : ℝ) : EReal) := fun n hn => by
    show ∑ s : Fin 64, dtB x0 x1 (ix2 ⟨64 * (n % 4) + s.val, _⟩ j) * onB x0 x2 n (ix2 ⟨64 * (n % 4) + s.val, _⟩ j) = _
    rw [← coe_sum]
    refine Finset.sum_congr rfl fun s _ => ?_
    rw [dt_coe H, on_coe H n hn _ (by dsimp only; omega), ← EReal.coe_mul]
    dsimp only [f]
    rw [show (256 * b + (64 * n + s.val)) / 64 = 4 * b + n by omega, show (256 * b + (64 * n + s.val)) % 64 = (64 * (n % 4) + s.val) % 64 by omega,
      Nat.mod_eq_of_lt hn]
  have h4 : ∑ r : Fin 256, f (256 * b + r.val) = ∑ s : Fin 64, f (256 * b + (64 * 0 + s.val)) + ∑ s : Fin 64, f (256 * b + (64 * 1 + s.val))
      + ∑ s : Fin 64, f (256 * b + (64 * 2 + s.val)) + ∑ s : Fin 64, f (256 * b + (64 * 3 + s.val)) := by
    refine (sum_256 (fun r => f (256 * b + r))).trans ?_
    simp only [Nat.mul_zero, Nat.zero_add, Nat.mul_one]
  show X (ix2 0 j) + sumF (mulf (dtB x0 x1) (onB x0 x2 0)) 0 (ix2 0 j) + sumF (mulf (dtB x0 x1) (onB x0 x2 1)) 1 (ix2 0 j)
    + sumF (mulf (dtB x0 x1) (onB x0 x2 2)) 2 (ix2 0 j) + sumF (mulf (dtB x0 x1) (onB x0 x2 3)) 3 (ix2 0 j) = _
  rw [hs 0 (by omega), hs 1 (by omega), hs 2 (by omega), hs 3 (by omega)]
  simp only [add_assoc, ← EReal.coe_add]
  congr 2
  refine Eq.trans ?_ h4.symm
  simp only [add_assoc]

end

end Cert.Kernel4Ideal.Gla

end
-- ==== Proof.GlbProj.lean ====
module

public import proofs.«01_k».proof.Proof.GlbBlocks
public import Idealize.ShloMosaic.Lib.Pipeline.ValueKit
public import Idealize.ShloMosaic.Lib.Pipeline.CanonAppend
public import Idealize.ShloMosaic.Lib.Pointwise

/-!
# The pieces of a block of gradients of projections

A grid point stores the gradients of the queries, keys, values and output gates pair by pair, and those of the low-rank gate
whole: 65 pieces, which together are the block.
-/

@[expose] public section

set_option maxRecDepth 16384

noncomputable section

open Idealize.ShloMosaic Idealize.ShloMosaic.TcCoe Idealize.SL.Sem
open Idealize.ShloMosaic.Pipeline (Dat)

namespace Cert.Kernel4Ideal.Gla

open Cert.Kernel4Ideal Cert.Kernel4Ideal.Gen

/-- The 65 pieces of a block of gradients of projections. -/
def dpL (Q K : ℕ → FVec Ideal S256x512 .bf16) (V R : ℕ → FVec Ideal S256x1024 .bf16) (L : FVec Ideal S256x128 .bf16) : List (View.Piece (Elt Ideal) S256x3200 .bf16) := [
      ⟨Rect.unit ![0, 3072] ![256, 128] inb_S256x3200_S256x128_0_3072, L⟩,
      ⟨Rect.unit ![0, 896] ![64, 128] inb_S256x3200_S64x128_0_896, View.ld (Val := Elt Ideal) (e' := .bf16) (K 0) (Rect.unit (s := S256x512) ![0, 384] ![64, 128] (by decide))⟩,
      ⟨Rect.unit ![0, 1792] ![64, 256] inb_S256x3200_S64x256_0_1792, View.ld (Val := Elt Ideal) (e' := .bf16) (V 0) (Rect.unit (s := S256x1024) ![0, 768] ![64, 256] (by decide))⟩,
      ⟨Rect.unit ![0, 768] ![64, 128] inb_S256x3200_S64x128_0_768, View.ld (Val := Elt Ideal) (e' := .bf16) (K 0) (Rect.unit (s := S256x512) ![0, 256] ![64, 128] (by decide))⟩,
      ⟨Rect.unit ![0, 1536] ![64, 256] inb_S256x3200_S64x256_0_1536, View.ld (Val := Elt Ideal) (e' := .bf16) (V 0) (Rect.unit (s := S256x1024) ![0, 512] ![64, 256] (by decide))⟩,
      ⟨Rect.unit ![0, 640] ![64, 128] inb_S256x3200_S64x128_0_640, View.ld (Val := Elt Ideal) (e' := .bf16) (K 0) (Rect.unit (s := S256x512) ![0, 128] ![64, 128] (by decide))⟩,
      ⟨Rect.unit ![0, 1280] ![64, 256] inb_S256x3200_S64x256_0_1280, View.ld (Val := Elt Ideal) (e' := .bf16) (V 0) (Rect.unit (s := S256x1024) ![0, 256] ![64, 256] (by decide))⟩,
      ⟨Rect.unit ![0, 512] ![64, 128] inb_S256x3200_S64x128_0_512, View.ld (Val := Elt Ideal) (e' := .bf16) (K 0) (Rect.unit (s := S256x512) ![0, 0] ![64, 128] (by decide))⟩,
      ⟨Rect.unit ![0, 1024] ![64, 256] inb_S256x3200_S64x256_0_1024, View.ld (Val := Elt Ideal) (e' := .bf16) (V 0) (Rect.unit (s := S256x1024) ![0, 0] ![64, 256] (by decide))⟩,
      ⟨Rect.unit ![64, 896] ![64, 128] inb_S256x3200_S64x128_64_896, View.ld (Val := Elt Ideal) (e' := .bf16) (K 1) (Rect.unit (s := S256x512) ![64, 384] ![64, 128] (by decide))⟩,
      ⟨Rect.unit ![64, 1792] ![64, 256] inb_S256x3200_S64x256_64_1792, View.ld (Val := Elt Ideal) (e' := .bf16) (V 1) (Rect.unit (s := S256x1024) ![64, 768] ![64, 256] (by decide))⟩,
      ⟨Rect.unit ![64, 768] ![64, 128] inb_S256x3200_S64x128_64_768, View.ld (Val := Elt Ideal) (e' := .bf16) (K 1) (Rect.unit (s := S256x512) ![64, 256] ![64, 128] (by decide))⟩,
      ⟨Rect.unit ![64, 1536] ![64, 256] inb_S256x3200_S64x256_64_1536, View.ld (Val := Elt Ideal) (e' := .bf16) (V 1) (Rect.unit (s := S256x1024) ![64, 512] ![64, 256] (by decide))⟩,
      ⟨Rect.unit ![64, 640] ![64, 128] inb_S256x3200_S64x128_64_640, View.ld (Val := Elt Ideal) (e' := .bf16) (K 1) (Rect.unit (s := S256x512) ![64, 128] ![64, 128] (by decide))⟩,
      ⟨Rect.unit ![64, 1280] ![64, 256] inb_S256x3200_S64x256_64_1280, View.ld (Val := Elt Ideal) (e' := .bf16) (V 1) (Rect.unit (s := S256x1024) ![64, 256] ![64, 256] (by decide))⟩,
      ⟨Rect.unit ![64, 512] ![64, 128] inb_S256x3200_S64x128_64_512, View.ld (Val := Elt Ideal) (e' := .bf16) (K 1) (Rect.unit (s := S256x512) ![64, 0] ![64, 128] (by decide))⟩,
      ⟨Rect.unit ![64, 1024] ![64, 256] inb_S256x3200_S64x256_64_1024, View.ld (Val := Elt Ideal) (e' := .bf16) (V 1) (Rect.unit (s := S256x1024) ![64, 0] ![64, 256] (by decide))⟩,
      ⟨Rect.unit ![128, 896] ![64, 128] inb_S256x3200_S64x128_128_896, View.ld (Val := Elt Ideal) (e' := .bf16) (K 2) (Rect.unit (s := S256x512) ![128, 384] ![64, 128] (by decide))⟩,
      ⟨Rect.unit ![128, 1792] ![64, 256] inb_S256x3200_S64x256_128_1792, View.ld (Val := Elt Ideal) (e' := .bf16) (V 2) (Rect.unit (s := S256x1024) ![128, 768] ![64, 256] (by decide))⟩,
      ⟨Rect.unit ![128, 768] ![64, 128] inb_S256x3200_S64x128_128_768, View.ld (Val := Elt Ideal) (e' := .bf16) (K 2) (Rect.unit (s := S256x512) ![128, 256] ![64, 128] (by decide))⟩,
      ⟨Rect.unit ![128, 1536] ![64, 256] inb_S256x3200_S64x256_128_1536, View.ld (Val := Elt Ideal) (e' := .bf16) (V 2) (Rect.unit (s := S256x1024) ![128, 512] ![64, 256] (by decide))⟩,
      ⟨Rect.unit ![128, 640] ![64, 128] inb_S256x3200_S64x128_128_640, View.ld (Val := Elt Ideal) (e' := .bf16) (K 2) (Rect.unit (s := S256x512) ![128, 128] ![64, 128] (by decide))⟩,
      ⟨Rect.unit ![128, 1280] ![64, 256] inb_S256x3200_S64x256_128_1280, View.ld (Val := Elt Ideal) (e' := .bf16) (V 2) (Rect.unit (s := S256x1024) ![128, 256] ![64, 256] (by decide))⟩,
      ⟨Rect.unit ![128, 512] ![64, 128] inb_S256x3200_S64x128_128_512, View.ld (Val := Elt Ideal) (e' := .bf16) (K 2) (Rect.unit (s := S256x512) ![128, 0] ![64, 128] (by decide))⟩,
      ⟨Rect.unit ![128, 1024] ![64, 256] inb_S256x3200_S64x256_128_1024, View.ld (Val := Elt Ideal) (e' := .bf16) (V 2) (Rect.unit (s := S256x1024) ![128, 0] ![64, 256] (by decide))⟩,
      ⟨Rect.unit ![192, 896] ![64, 128] inb_S256x3200_S64x128_192_896, View.ld (Val := Elt Ideal) (e' := .bf16) (K 3) (Rect.unit (s := S256x512) ![192, 384] ![64, 128] (by decide))⟩,
      ⟨Rect.unit ![192, 1792] ![64, 256] inb_S256x3200_S64x256_192_1792, View.ld (Val := Elt Ideal) (e' := .bf16) (V 3) (Rect.unit (s := S256x1024) ![192, 768] ![64, 256] (by decide))⟩,
      ⟨Rect.unit ![192, 768] ![64, 128] inb_S256x3200_S64x128_192_768, View.ld (Val := Elt Ideal) (e' := .bf16) (K 3) (Rect.unit (s := S256x512) ![192, 256] ![64, 128] (by decide))⟩,
      ⟨Rect.unit ![192, 1536] ![64, 256] inb_S256x3200_S64x256_192_1536, View.ld (Val := Elt Ideal) (e' := .bf16) (V 3) (Rect.unit (s := S256x1024) ![192, 512] ![64, 256] (by decide))⟩,
      ⟨Rect.unit ![192, 640] ![64, 128] inb_S256x3200_S64x128_192_640, View.ld (Val := Elt Ideal) (e' := .bf16) (K 3) (Rect.unit (s := S256x512) ![192, 128] ![64, 128] (by decide))⟩,
      ⟨Rect.unit ![192, 1280] ![64, 256] inb_S256x3200_S64x256_192_1280, View.ld (Val := Elt Ideal) (e' := .bf16) (V 3) (Rect.unit (s := S256x1024) ![192, 256] ![64, 256] (by decide))⟩,
      ⟨Rect.unit ![192, 512] ![64, 128] inb_S256x3200_S64x128_192_512, View.ld (Val := Elt Ideal) (e' := .bf16) (K 3) (Rect.unit (s := S256x512) ![192, 0] ![64, 128] (by decide))⟩,
      ⟨Rect.unit ![192, 1024] ![64, 256] inb_S256x3200_S64x256_192_1024, View.ld (Val := Elt Ideal) (e' := .bf16) (V 3) (Rect.unit (s := S256x1024) ![192, 0] ![64, 256] (by decide))⟩,
      ⟨Rect.unit ![192, 384] ![64, 128] inb_S256x3200_S64x128_192_384, View.ld (Val := Elt Ideal) (e' := .bf16) (Q 3) (Rect.unit (s := S256x512) ![192, 384] ![64, 128] (by decide))⟩,
      ⟨Rect.unit ![192, 256] ![64, 128] inb_S256x3200_S64x128_192_256, View.ld (Val := Elt Ideal) (e' := .bf16) (Q 3) (Rect.unit (s := S256x512) ![192, 256] ![64, 128] (by decide))⟩,
      ⟨Rect.unit ![192, 128] ![64, 128] inb_S256x3200_S64x128_192_128, View.ld (Val := Elt Ideal) (e' := .bf16) (Q 3) (Rect.unit (s := S256x512) ![192, 128] ![64, 128] (by decide))⟩,
      ⟨Rect.unit ![192, 0] ![64, 128] inb_S256x3200_S64x128_192_0, View.ld (Val := Elt Ideal) (e' := .bf16) (Q 3) (Rect.unit (s := S256x512) ![192, 0] ![64, 128] (by decide))⟩,
      ⟨Rect.unit ![128, 384] ![64, 128] inb_S256x3200_S64x128_128_384, View.ld (Val := Elt Ideal) (e' := .bf16) (Q 2) (Rect.unit (s := S256x512) ![128, 384] ![64, 128] (by decide))⟩,
      ⟨Rect.unit ![128, 256] ![64, 128] inb_S256x3200_S64x128_128_256, View.ld (Val := Elt Ideal) (e' := .bf16) (Q 2) (Rect.unit (s := S256x512) ![128, 256] ![64, 128] (by decide))⟩,
      ⟨Rect.unit ![128, 128] ![64, 128] inb_S256x3200_S64x128_128_128, View.ld (Val := Elt Ideal) (e' := .bf16) (Q 2) (Rect.unit (s := S256x512) ![128, 128] ![64, 128] (by decide))⟩,
      ⟨Rect.unit ![128, 0] ![64, 128] inb_S256x3200_S64x128_128_0, View.ld (Val := Elt Ideal) (e' := .bf16) (Q 2) (Rect.unit (s := S256x512) ![128, 0] ![64, 128] (by decide))⟩,
      ⟨Rect.unit ![64, 384] ![64, 128] inb_S256x3200_S64x128_64_384, View.ld (Val := Elt Ideal) (e' := .bf16) (Q 1) (Rect.unit (s := S256x512) ![64, 384] ![64, 128] (by decide))⟩,
      ⟨Rect.unit ![64, 256] ![64, 128] inb_S256x3200_S64x128_64_256, View.ld (Val := Elt Ideal) (e' := .bf16) (Q 1) (Rect.unit (s := S256x512) ![64, 256] ![64, 128] (by decide))⟩,
      ⟨Rect.unit ![64, 128] ![64, 128] inb_S256x3200_S64x128_64_128, View.ld (Val := Elt Ideal) (e' := .bf16) (Q 1) (Rect.unit (s := S256x512) ![64, 128] ![64, 128] (by decide))⟩,
      ⟨Rect.unit ![64, 0] ![64, 128] inb_S256x3200_S64x128_64_0, View.ld (Val := Elt Ideal) (e' := .bf16) (Q 1) (Rect.unit (s := S256x512) ![64, 0] ![64, 128] (by decide))⟩,
      ⟨Rect.unit ![0, 384] ![64, 128] inb_S256x3200_S64x128_0_384, View.ld (Val := Elt Ideal) (e' := .bf16) (Q 0) (Rect.unit (s := S256x512) ![0, 384] ![64, 128] (by decide))⟩,
      ⟨Rect.unit ![0, 256] ![64, 128] inb_S256x3200_S64x128_0_256, View.ld (Val := Elt Ideal) (e' := .bf16) (Q 0) (Rect.unit (s := S256x512) ![0, 256] ![64, 128] (by decide))⟩,
      ⟨Rect.unit ![0, 128] ![64, 128] inb_S256x3200_S64x128_0_128, View.ld (Val := Elt Ideal) (e' := .bf16) (Q 0) (Rect.unit (s := S256x512) ![0, 128] ![64, 128] (by decide))⟩,
      ⟨Rect.unit ![0, 0] ![64, 128] inb_S256x3200_S64x128_0_0, View.ld (Val := Elt Ideal) (e' := .bf16) (Q 0) (Rect.unit (s := S256x512) ![0, 0] ![64, 128] (by decide))⟩,
      ⟨Rect.unit ![192, 2816] ![64, 256] inb_S256x3200_S64x256_192_2816, View.ld (Val := Elt Ideal) (e' := .bf16) (R 3) (Rect.unit (s := S256x1024) ![192, 768] ![64, 256] (by decide))⟩,
      ⟨Rect.unit ![192, 2560] ![64, 256] inb_S256x3200_S64x256_192_2560, View.ld (Val := Elt Ideal) (e' := .bf16) (R 3) (Rect.unit (s := S256x1024) ![192, 512] ![64, 256] (by decide))⟩,
      ⟨Rect.unit ![192, 2304] ![64, 256] inb_S256x3200_S64x256_192_2304, View.ld (Val := Elt Ideal) (e' := .bf16) (R 3) (Rect.unit (s := S256x1024) ![192, 256] ![64, 256] (by decide))⟩,
      ⟨Rect.unit ![192, 2048] ![64, 256] inb_S256x3200_S64x256_192_2048, View.ld (Val := Elt Ideal) (e' := .bf16) (R 3) (Rect.unit (s := S256x1024) ![192, 0] ![64, 256] (by decide))⟩,
      ⟨Rect.unit ![128, 2816] ![64, 256] inb_S256x3200_S64x256_128_2816, View.ld (Val := Elt Ideal) (e' := .bf16) (R 2) (Rect.unit (s := S256x1024) ![128, 768] ![64, 256] (by decide))⟩,
      ⟨Rect.unit ![128, 2560] ![64, 256] inb_S256x3200_S64x256_128_2560, View.ld (Val := Elt Ideal) (e' := .bf16) (R 2) (Rect.unit (s := S256x1024) ![128, 512] ![64, 256] (by decide))⟩,
      ⟨Rect.unit ![128, 2304] ![64, 256] inb_S256x3200_S64x256_128_2304, View.ld (Val := Elt Ideal) (e' := .bf16) (R 2) (Rect.unit (s := S256x1024) ![128, 256] ![64, 256] (by decide))⟩,
      ⟨Rect.unit ![128, 2048] ![64, 256] inb_S256x3200_S64x256_128_2048, View.ld (Val := Elt Ideal) (e' := .bf16) (R 2) (Rect.unit (s := S256x1024) ![128, 0] ![64, 256] (by decide))⟩,
      ⟨Rect.unit ![64, 2816] ![64, 256] inb_S256x3200_S64x256_64_2816, View.ld (Val := Elt Ideal) (e' := .bf16) (R 1) (Rect.unit (s := S256x1024) ![64, 768] ![64, 256] (by decide))⟩,
      ⟨Rect.unit ![64, 2560] ![64, 256] inb_S256x3200_S64x256_64_2560, View.ld (Val := Elt Ideal) (e' := .bf16) (R 1) (Rect.unit (s := S256x1024) ![64, 512] ![64, 256] (by decide))⟩,
      ⟨Rect.unit ![64, 2304] ![64, 256] inb_S256x3200_S64x256_64_2304, View.ld (Val := Elt Ideal) (e' := .bf16) (R 1) (Rect.unit (s := S256x1024) ![64, 256] ![64, 256] (by decide))⟩,
      ⟨Rect.unit ![64, 2048] ![64, 256] inb_S256x3200_S64x256_64_2048, View.ld (Val := Elt Ideal) (e' := .bf16) (R 1) (Rect.unit (s := S256x1024) ![64, 0] ![64, 256] (by decide))⟩,
      ⟨Rect.unit ![0, 2816] ![64, 256] inb_S256x3200_S64x256_0_2816, View.ld (Val := Elt Ideal) (e' := .bf16) (R 0) (Rect.unit (s := S256x1024) ![0, 768] ![64, 256] (by decide))⟩,
      ⟨Rect.unit ![0, 2560] ![64, 256] inb_S256x3200_S64x256_0_2560, View.ld (Val := Elt Ideal) (e' := .bf16) (R 0) (Rect.unit (s := S256x1024) ![0, 512] ![64, 256] (by decide))⟩,
      ⟨Rect.unit ![0, 2304] ![64, 256] inb_S256x3200_S64x256_0_2304, View.ld (Val := Elt Ideal) (e' := .bf16) (R 0) (Rect.unit (s := S256x1024) ![0, 256] ![64, 256] (by decide))⟩,
      ⟨Rect.unit ![0, 2048] ![64, 256] inb_S256x3200_S64x256_0_2048, View.ld (Val := Elt Ideal) (e' := .bf16) (R 0) (Rect.unit (s := S256x1024) ![0, 0] ![64, 256] (by decide))⟩]

/-- They cover the block. -/
theorem dp_cover (Q K : ℕ → FVec Ideal S256x512 .bf16) (V R : ℕ → FVec Ideal S256x1024 .bf16) (L : FVec Ideal S256x128 .bf16) (y : S256x3200.Idx) :
    ∃ p ∈ dpL Q K V R L, y ∈ p.1.set := by
  have hy0 : (y 0).val < 256 := (y 0).isLt
  have hy1 : (y 1).val < 3200 := (y 1).isLt
  have hm : ∀ (r n w : ℕ) (inb : ∀ i, (![r, n] : Fin 2 → ℕ) i + (![64, w] : Fin 2 → ℕ) i ≤ S256x3200.size i), r ≤ (y 0).val ∧ (y 0).val < r + 64 → n ≤ (y 1).val ∧ (y 1).val < n + w →
      y ∈ (Rect.unit (s := S256x3200) ![r, n] ![64, w] inb).set := fun r n w inb h1 h2 => by
    refine (Rect.unit (s := S256x3200) ![r, n] ![64, w] inb).mem_set.mpr fun i => ?_
    fin_cases i
    · exact ⟨(y 0).val - r, by show _ < 64; omega, by show (y 0).val = r + 1 * ((y 0).val - r); omega⟩
    · exact ⟨(y 1).val - n, by show _ < w; omega, by show (y 1).val = n + 1 * ((y 1).val - n); omega⟩
  have hl : 3072 ≤ (y 1).val → y ∈ (Rect.unit (s := S256x3200) ![0, 3072] ![256, 128] inb_S256x3200_S256x128_0_3072).set := fun h2 => by
    refine (Rect.unit (s := S256x3200) ![0, 3072] ![256, 128] inb_S256x3200_S256x128_0_3072).mem_set.mpr fun i => ?_
    fin_cases i
    · exact ⟨(y 0).val, hy0, by simp⟩
    · exact ⟨(y 1).val - 3072, by show _ < 128; omega, by show (y 1).val = 3072 + 1 * ((y 1).val - 3072); omega⟩
  have c0 : (0 ≤ (y 0).val ∧ (y 0).val < 0 + 64) ∨ (64 ≤ (y 0).val ∧ (y 0).val < 64 + 64) ∨ (128 ≤ (y 0).val ∧ (y 0).val < 128 + 64) ∨ (192 ≤ (y 0).val ∧ (y 0).val < 192 + 64) := by omega
  have c1 : (0 ≤ (y 1).val ∧ (y 1).val < 0 + 128) ∨
      (128 ≤ (y 1).val ∧ (y 1).val < 128 + 128) ∨
      (256 ≤ (y 1).val ∧ (y 1).val < 256 + 128) ∨
      (384 ≤ (y 1).val ∧ (y 1).val < 384 + 128) ∨
      (512 ≤ (y 1).val ∧ (y 1).val < 512 + 128) ∨
      (640 ≤ (y 1).val ∧ (y 1).val < 640 + 128) ∨
      (768 ≤ (y 1).val ∧ (y 1).val < 768 + 128) ∨
      (896 ≤ (y 1).val ∧ (y 1).val < 896 + 128) ∨
      (1024 ≤ (y 1).val ∧ (y 1).val < 1024 + 256) ∨
      (1280 ≤ (y 1).val ∧ (y 1).val < 1280 + 256) ∨
      (1536 ≤ (y 1).val ∧ (y 1).val < 1536 + 256) ∨
      (1792 ≤ (y 1).val ∧ (y 1).val < 1792 + 256) ∨
      (2048 ≤ (y 1).val ∧ (y 1).val < 2048 + 256) ∨
      (2304 ≤ (y 1).val ∧ (y 1).val < 2304 + 256) ∨
      (2560 ≤ (y 1).val ∧ (y 1).val < 2560 + 256) ∨
      (2816 ≤ (y 1).val ∧ (y 1).val < 2816 + 256) ∨ 3072 ≤ (y 1).val := by omega
  rcases c1 with f | f | f | f | f | f | f | f | f | f | f | f | f | f | f | f | f
  · rcases c0 with e | e | e | e
    · exact ⟨_, List.mem_of_getElem? (i := 48) rfl, hm 0 0 128 inb_S256x3200_S64x128_0_0 e f⟩
    · exact ⟨_, List.mem_of_getElem? (i := 44) rfl, hm 64 0 128 inb_S256x3200_S64x128_64_0 e f⟩
    · exact ⟨_, List.mem_of_getElem? (i := 40) rfl, hm 128 0 128 inb_S256x3200_S64x128_128_0 e f⟩
    · exact ⟨_, List.mem_of_getElem? (i := 36) rfl, hm 192 0 128 inb_S256x3200_S64x128_192_0 e f⟩
  · rcases c0 with e | e | e | e
    · exact ⟨_, List.mem_of_getElem? (i := 47) rfl, hm 0 128 128 inb_S256x3200_S64x128_0_128 e f⟩
    · exact ⟨_, List.mem_of_getElem? (i := 43) rfl, hm 64 128 128 inb_S256x3200_S64x128_64_128 e f⟩
    · exact ⟨_, List.mem_of_getElem? (i := 39) rfl, hm 128 128 128 inb_S256x3200_S64x128_128_128 e f⟩
    · exact ⟨_, List.mem_of_getElem? (i := 35) rfl, hm 192 128 128 inb_S256x3200_S64x128_192_128 e f⟩
  · rcases c0 with e | e | e | e
    · exact ⟨_, List.mem_of_getElem? (i := 46) rfl, hm 0 256 128 inb_S256x3200_S64x128_0_256 e f⟩
    · exact ⟨_, List.mem_of_getElem? (i := 42) rfl, hm 64 256 128 inb_S256x3200_S64x128_64_256 e f⟩
    · exact ⟨_, List.mem_of_getElem? (i := 38) rfl, hm 128 256 128 inb_S256x3200_S64x128_128_256 e f⟩
    · exact ⟨_, List.mem_of_getElem? (i := 34) rfl, hm 192 256 128 inb_S256x3200_S64x128_192_256 e f⟩
  · rcases c0 with e | e | e | e
    · exact ⟨_, List.mem_of_getElem? (i := 45) rfl, hm 0 384 128 inb_S256x3200_S64x128_0_384 e f⟩
    · exact ⟨_, List.mem_of_getElem? (i := 41) rfl, hm 64 384 128 inb_S256x3200_S64x128_64_384 e f⟩
    · exact ⟨_, List.mem_of_getElem? (i := 37) rfl, hm 128 384 128 inb_S256x3200_S64x128_128_384 e f⟩
    · exact ⟨_, List.mem_of_getElem? (i := 33) rfl, hm 192 384 128 inb_S256x3200_S64x128_192_384 e f⟩
  · rcases c0 with e | e | e | e
    · exact ⟨_, List.mem_of_getElem? (i := 7) rfl, hm 0 512 128 inb_S256x3200_S64x128_0_512 e f⟩
    · exact ⟨_, List.mem_of_getElem? (i := 15) rfl, hm 64 512 128 inb_S256x3200_S64x128_64_512 e f⟩
    · exact ⟨_, List.mem_of_getElem? (i := 23) rfl, hm 128 512 128 inb_S256x3200_S64x128_128_512 e f⟩
    · exact ⟨_, List.mem_of_getElem? (i := 31) rfl, hm 192 512 128 inb_S256x3200_S64x128_192_512 e f⟩
  · rcases c0 with e | e | e | e
    · exact ⟨_, List.mem_of_getElem? (i := 5) rfl, hm 0 640 128 inb_S256x3200_S64x128_0_640 e f⟩
    · exact ⟨_, List.mem_of_getElem? (i := 13) rfl, hm 64 640 128 inb_S256x3200_S64x128_64_640 e f⟩
    · exact ⟨_, List.mem_of_getElem? (i := 21) rfl, hm 128 640 128 inb_S256x3200_S64x128_128_640 e f⟩
    · exact ⟨_, List.mem_of_getElem? (i := 29) rfl, hm 192 640 128 inb_S256x3200_S64x128_192_640 e f⟩
  · rcases c0 with e | e | e | e
    · exact ⟨_, List.mem_of_getElem? (i := 3) rfl, hm 0 768 128 inb_S256x3200_S64x128_0_768 e f⟩
    · exact ⟨_, List.mem_of_getElem? (i := 11) rfl, hm 64 768 128 inb_S256x3200_S64x128_64_768 e f⟩
    · exact ⟨_, List.mem_of_getElem? (i := 19) rfl, hm 128 768 128 inb_S256x3200_S64x128_128_768 e f⟩
    · exact ⟨_, List.mem_of_getElem? (i := 27) rfl, hm 192 768 128 inb_S256x3200_S64x128_192_768 e f⟩
  · rcases c0 with e | e | e | e
    · exact ⟨_, List.mem_of_getElem? (i := 1) rfl, hm 0 896 128 inb_S256x3200_S64x128_0_896 e f⟩
    · exact ⟨_, List.mem_of_getElem? (i := 9) rfl, hm 64 896 128 inb_S256x3200_S64x128_64_896 e f⟩
    · exact ⟨_, List.mem_of_getElem? (i := 17) rfl, hm 128 896 128 inb_S256x3200_S64x128_128_896 e f⟩
    · exact ⟨_, List.mem_of_getElem? (i := 25) rfl, hm 192 896 128 inb_S256x3200_S64x128_192_896 e f⟩
  · rcases c0 with e | e | e | e
    · exact ⟨_, List.mem_of_getElem? (i := 8) rfl, hm 0 1024 256 inb_S256x3200_S64x256_0_1024 e f⟩
    · exact ⟨_, List.mem_of_getElem? (i := 16) rfl, hm 64 1024 256 inb_S256x3200_S64x256_64_1024 e f⟩
    · exact ⟨_, List.mem_of_getElem? (i := 24) rfl, hm 128 1024 256 inb_S256x3200_S64x256_128_1024 e f⟩
    · exact ⟨_, List.mem_of_getElem? (i := 32) rfl, hm 192 1024 256 inb_S256x3200_S64x256_192_1024 e f⟩
  · rcases c0 with e | e | e | e
    · exact ⟨_, List.mem_of_getElem? (i := 6) rfl, hm 0 1280 256 inb_S256x3200_S64x256_0_1280 e f⟩
    · exact ⟨_, List.mem_of_getElem? (i := 14) rfl, hm 64 1280 256 inb_S256x3200_S64x256_64_1280 e f⟩
    · exact ⟨_, List.mem_of_getElem? (i := 22) rfl, hm 128 1280 256 inb_S256x3200_S64x256_128_1280 e f⟩
    · exact ⟨_, List.mem_of_getElem? (i := 30) rfl, hm 192 1280 256 inb_S256x3200_S64x256_192_1280 e f⟩
  · rcases c0 with e | e | e | e
    · exact ⟨_, List.mem_of_getElem? (i := 4) rfl, hm 0 1536 256 inb_S256x3200_S64x256_0_1536 e f⟩
    · exact ⟨_, List.mem_of_getElem? (i := 12) rfl, hm 64 1536 256 inb_S256x3200_S64x256_64_1536 e f⟩
    · exact ⟨_, List.mem_of_getElem? (i := 20) rfl, hm 128 1536 256 inb_S256x3200_S64x256_128_1536 e f⟩
    · exact ⟨_, List.mem_of_getElem? (i := 28) rfl, hm 192 1536 256 inb_S256x3200_S64x256_192_1536 e f⟩
  · rcases c0 with e | e | e | e
    · exact ⟨_, List.mem_of_getElem? (i := 2) rfl, hm 0 1792 256 inb_S256x3200_S64x256_0_1792 e f⟩
    · exact ⟨_, List.mem_of_getElem? (i := 10) rfl, hm 64 1792 256 inb_S256x3200_S64x256_64_1792 e f⟩
    · exact ⟨_, List.mem_of_getElem? (i := 18) rfl, hm 128 1792 256 inb_S256x3200_S64x256_128_1792 e f⟩
    · exact ⟨_, List.mem_of_getElem? (i := 26) rfl, hm 192 1792 256 inb_S256x3200_S64x256_192_1792 e f⟩
  · rcases c0 with e | e | e | e
    · exact ⟨_, List.mem_of_getElem? (i := 64) rfl, hm 0 2048 256 inb_S256x3200_S64x256_0_2048 e f⟩
    · exact ⟨_, List.mem_of_getElem? (i := 60) rfl, hm 64 2048 256 inb_S256x3200_S64x256_64_2048 e f⟩
    · exact ⟨_, List.mem_of_getElem? (i := 56) rfl, hm 128 2048 256 inb_S256x3200_S64x256_128_2048 e f⟩
    · exact ⟨_, List.mem_of_getElem? (i := 52) rfl, hm 192 2048 256 inb_S256x3200_S64x256_192_2048 e f⟩
  · rcases c0 with e | e | e | e
    · exact ⟨_, List.mem_of_getElem? (i := 63) rfl, hm 0 2304 256 inb_S256x3200_S64x256_0_2304 e f⟩
    · exact ⟨_, List.mem_of_getElem? (i := 59) rfl, hm 64 2304 256 inb_S256x3200_S64x256_64_2304 e f⟩
    · exact ⟨_, List.mem_of_getElem? (i := 55) rfl, hm 128 2304 256 inb_S256x3200_S64x256_128_2304 e f⟩
    · exact ⟨_, List.mem_of_getElem? (i := 51) rfl, hm 192 2304 256 inb_S256x3200_S64x256_192_2304 e f⟩
  · rcases c0 with e | e | e | e
    · exact ⟨_, List.mem_of_getElem? (i := 62) rfl, hm 0 2560 256 inb_S256x3200_S64x256_0_2560 e f⟩
    · exact ⟨_, List.mem_of_getElem? (i := 58) rfl, hm 64 2560 256 inb_S256x3200_S64x256_64_2560 e f⟩
    · exact ⟨_, List.mem_of_getElem? (i := 54) rfl, hm 128 2560 256 inb_S256x3200_S64x256_128_2560 e f⟩
    · exact ⟨_, List.mem_of_getElem? (i := 50) rfl, hm 192 2560 256 inb_S256x3200_S64x256_192_2560 e f⟩
  · rcases c0 with e | e | e | e
    · exact ⟨_, List.mem_of_getElem? (i := 61) rfl, hm 0 2816 256 inb_S256x3200_S64x256_0_2816 e f⟩
    · exact ⟨_, List.mem_of_getElem? (i := 57) rfl, hm 64 2816 256 inb_S256x3200_S64x256_64_2816 e f⟩
    · exact ⟨_, List.mem_of_getElem? (i := 53) rfl, hm 128 2816 256 inb_S256x3200_S64x256_128_2816 e f⟩
    · exact ⟨_, List.mem_of_getElem? (i := 49) rfl, hm 192 2816 256 inb_S256x3200_S64x256_192_2816 e f⟩
  · exact ⟨_, List.mem_of_getElem? (i := 0) rfl, hl f⟩

set_option maxHeartbeats 1000000 in
/-- They are the block. -/
theorem dp_canon (Q K : ℕ → FVec Ideal S256x512 .bf16) (V R : ℕ → FVec Ideal S256x1024 .bf16) (L : FVec Ideal S256x128 .bf16) (y : S256x3200.Idx) :
    View.canon (dpL Q K V R L) y = dpF Q K V R L y := by
  have hq : ∀ (r : ℕ) (f : ℕ → FVec Ideal S256x512 .bf16) (a b : S256x512.Idx) (n : ℕ), n = r → a = b → f r a = f n b := by
    rintro r f a b n rfl rfl
    rfl
  have hv : ∀ (r : ℕ) (f : ℕ → FVec Ideal S256x1024 .bf16) (a b : S256x1024.Idx) (n : ℕ), n = r → a = b → f r a = f n b := by
    rintro r f a b n rfl rfl
    rfl
  have hc := dp_cover Q K V R L y
  unfold dpL at hc ⊢
  canon_tiles i h using hc
  all_goals
    simp only [dpF, View.ld]
    repeat' split
    all_goals try (exfalso; omega)
    all_goals first
      | refine hq _ _ _ _ _ (by omega) ?_
      | refine hv _ _ _ _ _ (by omega) ?_
      | refine congrArg L ?_
    all_goals
      funext k
      fin_cases k <;> refine Fin.ext ?_ <;> simp <;> omega

end Cert.Kernel4Ideal.Gla
-- ==== Proof.GlbPointsA.lean ====
module

public import proofs.«01_k».proof.Proof.Gen.Kernel4Ideal.Value
public import proofs.«01_k».proof.Proof.GlbProj
public import Idealize.ShloMosaic.Lib.Pipeline.ValueKit
public import Idealize.ShloMosaic.Lib.Pipeline.CanonAppend
public import Idealize.ShloMosaic.Lib.Pointwise

/-!
# The first grid point of the attention's gradient

It starts from zero.
-/

@[expose] public section

set_option maxRecDepth 16384

noncomputable section

open Idealize.ShloMosaic Idealize.ShloMosaic.TcCoe Idealize.SL.Sem
open Idealize.ShloMosaic.Pipeline (Dat)

namespace Cert.Kernel4Ideal.Gla

open Cert.Kernel4Ideal Cert.Kernel4Ideal.Gen

set_option maxHeartbeats 4000000 in
/-- At the first point the carried gradient of the state becomes the block's first chunk's, decayed. -/
theorem ptStateA  (c : Dev nD) (i : grid0.Coords) (arg1 : Memref sig .tc .vmem S256x3200 .f32) (harg1 : arg1.IsWhole) (arg2 : Memref sig .tc .vmem S256x1024 .f32) (harg2 : arg2.IsWhole) (arg3 : Memref sig .tc .vmem S4x512x256 .f32) (harg3 : arg3.IsWhole) (arg4 : Memref sig .tc .vmem S1x512x256 .f32) (harg4 : arg4.IsWhole) (arg5 : Memref sig .tc .vmem S128x512 .bf16) (harg5 : arg5.IsWhole) (arg6 : Memref sig .tc .vmem S1x512 .f32) (harg6 : arg6.IsWhole) (arg7 : Memref sig .tc .vmem S1x1024 .f32) (harg7 : arg7.IsWhole) (arg8 : Memref sig .tc .vmem S256x3200 .bf16) (harg8 : arg8.IsWhole) (arg9 : Memref sig .tc .vmem S128x512 .f32) (harg9 : arg9.IsWhole) (arg10 : Memref sig .tc .vmem S1x512 .f32) (harg10 : arg10.IsWhole) (arg11 : Memref sig .tc .vmem S1x1024 .f32) (harg11 : arg11.IsWhole) (arg12 : Memref sig .tc .vmem S512x256 .f32) (harg12 : arg12.IsWhole) (arg13 : Memref sig .tc .vmem S256x512 .f32) (harg13 : arg13.IsWhole) (arg14 : Memref sig .tc .vmem S8x512 .f32) (harg14 : arg14.IsWhole) (arg15 : Memref sig .tc .vmem S256x512 .f32) (harg15 : arg15.IsWhole) (arg16 : Memref sig .tc .vmem S8x512 .f32) (harg16 : arg16.IsWhole) (hc0 : cond0_0 i)
    (x0 : Vec Ideal S256x3200 .f32) (x1 : Vec Ideal S256x1024 .f32) (x2 : Vec Ideal S4x512x256 .f32) (x3 : Vec Ideal S1x512x256 .f32) (x4 : Vec Ideal S128x512 .bf16) (x5 : Vec Ideal S1x512 .f32) (x6 : Vec Ideal S1x1024 .f32) (y : S512x256.Idx) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 y = decF (geB (gcB x0 x4 x5)) 0 (GB (gcB x0 x4 x5) x0 x1 x2 x6 (k0_pay3 (F := Ideal)) 3) y := by
  frame_out
  simp (disch := decide) only [↓View.readCov_cons_toLoadRect, ↓w_read, ↓g_read, ↓state_miss, ↓gain_miss, ↓readCov_whole, ↓gain_whole]
  generalize hG : k0_pay19 (F := Ideal) _ _ _ _ = G
  simp only [k0_pay1, k0_pay2, k0_pay3, k0_pay4, k0_pay5, k0_pay6, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay461, k0_pay462, k0_pay463, k0_pay464, k0_pay468, shapeCast_id]
  simp -index (disch := decide) only [q_ld, k_ld, v_ld, r_ld, sl_ld, sp_ld, mul_ld, sub_ld, csub_ld, cadd_ld, logistic_ld, trunc_ld, gain_ld, mul_ld2, mulc_ld2, trunc_ld2, mul_ld3, trunc_ld3, sel_ld, nn_ld, nt_ld, step_ld, dec_ld, rs_ld, mean_ld, sum_ld, dge_ld, last_ld, Nat.reduceSub, Nat.reduceMul, Nat.reduceDiv, dww_read, dge_read, dla_read]
  subst hG
  change View.canon ([_, _, _, _] ++ _) y = _
  refine View.canon_append_of_pieces _ _ _ ?_ y (heads_cover _ _ _ _ y)
  refine List.forall_mem_cons.mpr ⟨?_, List.forall_mem_cons.mpr ⟨?_, List.forall_mem_cons.mpr ⟨?_, List.forall_mem_cons.mpr ⟨?_, fun _ h => absurd h List.not_mem_nil⟩⟩⟩⟩
  all_goals exact fun _ => rfl

set_option maxHeartbeats 4000000 in
/-- At the first point the gain's gradient has the block's four chunks' sums added. -/
theorem ptGainA  (c : Dev nD) (i : grid0.Coords) (arg1 : Memref sig .tc .vmem S256x3200 .f32) (harg1 : arg1.IsWhole) (arg2 : Memref sig .tc .vmem S256x1024 .f32) (harg2 : arg2.IsWhole) (arg3 : Memref sig .tc .vmem S4x512x256 .f32) (harg3 : arg3.IsWhole) (arg4 : Memref sig .tc .vmem S1x512x256 .f32) (harg4 : arg4.IsWhole) (arg5 : Memref sig .tc .vmem S128x512 .bf16) (harg5 : arg5.IsWhole) (arg6 : Memref sig .tc .vmem S1x512 .f32) (harg6 : arg6.IsWhole) (arg7 : Memref sig .tc .vmem S1x1024 .f32) (harg7 : arg7.IsWhole) (arg8 : Memref sig .tc .vmem S256x3200 .bf16) (harg8 : arg8.IsWhole) (arg9 : Memref sig .tc .vmem S128x512 .f32) (harg9 : arg9.IsWhole) (arg10 : Memref sig .tc .vmem S1x512 .f32) (harg10 : arg10.IsWhole) (arg11 : Memref sig .tc .vmem S1x1024 .f32) (harg11 : arg11.IsWhole) (arg12 : Memref sig .tc .vmem S512x256 .f32) (harg12 : arg12.IsWhole) (arg13 : Memref sig .tc .vmem S256x512 .f32) (harg13 : arg13.IsWhole) (arg14 : Memref sig .tc .vmem S8x512 .f32) (harg14 : arg14.IsWhole) (arg15 : Memref sig .tc .vmem S256x512 .f32) (harg15 : arg15.IsWhole) (arg16 : Memref sig .tc .vmem S8x512 .f32) (harg16 : arg16.IsWhole) (hc0 : cond0_0 i)
    (x0 : Vec Ideal S256x3200 .f32) (x1 : Vec Ideal S256x1024 .f32) (x2 : Vec Ideal S4x512x256 .f32) (x3 : Vec Ideal S1x512x256 .f32) (x4 : Vec Ideal S128x512 .bf16) (x5 : Vec Ideal S1x512 .f32) (x6 : Vec Ideal S1x1024 .f32) (y : S1x1024.Idx) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 y = dgnB x0 x1 x2 (k0_pay6 (F := Ideal)) 4 y := by
  frame_out
  simp (disch := decide) only [↓View.readCov_cons_toLoadRect, ↓w_read, ↓g_read, ↓state_miss, ↓gain_miss, ↓readCov_whole, ↓gain_whole]
  generalize hG : k0_pay19 (F := Ideal) _ _ _ _ = G
  simp only [k0_pay1, k0_pay2, k0_pay3, k0_pay4, k0_pay5, k0_pay6, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay461, k0_pay462, k0_pay463, k0_pay464, k0_pay468, shapeCast_id]
  simp -index (disch := decide) only [q_ld, k_ld, v_ld, r_ld, sl_ld, sp_ld, mul_ld, sub_ld, csub_ld, cadd_ld, logistic_ld, trunc_ld, gain_ld, mul_ld2, mulc_ld2, trunc_ld2, mul_ld3, trunc_ld3, sel_ld, nn_ld, nt_ld, step_ld, dec_ld, rs_ld, mean_ld, sum_ld, dge_ld, last_ld, Nat.reduceSub, Nat.reduceMul, Nat.reduceDiv, dww_read, dge_read, dla_read]
  change View.canon ([_, _, _, _] ++ _) y = _
  refine View.canon_append_of_pieces _ _ _ ?_ y (gains_cover _ _ _ _ y)
  refine List.forall_mem_cons.mpr ⟨?_, List.forall_mem_cons.mpr ⟨?_, List.forall_mem_cons.mpr ⟨?_, List.forall_mem_cons.mpr ⟨?_, fun _ h => absurd h List.not_mem_nil⟩⟩⟩⟩
  all_goals exact fun _ => rfl

set_option maxHeartbeats 4000000 in
/-- At the first point the gate matrix's gradient has the block's product added. -/
theorem ptGateA  (c : Dev nD) (i : grid0.Coords) (arg1 : Memref sig .tc .vmem S256x3200 .f32) (harg1 : arg1.IsWhole) (arg2 : Memref sig .tc .vmem S256x1024 .f32) (harg2 : arg2.IsWhole) (arg3 : Memref sig .tc .vmem S4x512x256 .f32) (harg3 : arg3.IsWhole) (arg4 : Memref sig .tc .vmem S1x512x256 .f32) (harg4 : arg4.IsWhole) (arg5 : Memref sig .tc .vmem S128x512 .bf16) (harg5 : arg5.IsWhole) (arg6 : Memref sig .tc .vmem S1x512 .f32) (harg6 : arg6.IsWhole) (arg7 : Memref sig .tc .vmem S1x1024 .f32) (harg7 : arg7.IsWhole) (arg8 : Memref sig .tc .vmem S256x3200 .bf16) (harg8 : arg8.IsWhole) (arg9 : Memref sig .tc .vmem S128x512 .f32) (harg9 : arg9.IsWhole) (arg10 : Memref sig .tc .vmem S1x512 .f32) (harg10 : arg10.IsWhole) (arg11 : Memref sig .tc .vmem S1x1024 .f32) (harg11 : arg11.IsWhole) (arg12 : Memref sig .tc .vmem S512x256 .f32) (harg12 : arg12.IsWhole) (arg13 : Memref sig .tc .vmem S256x512 .f32) (harg13 : arg13.IsWhole) (arg14 : Memref sig .tc .vmem S8x512 .f32) (harg14 : arg14.IsWhole) (arg15 : Memref sig .tc .vmem S256x512 .f32) (harg15 : arg15.IsWhole) (arg16 : Memref sig .tc .vmem S8x512 .f32) (harg16 : arg16.IsWhole) (hc0 : cond0_0 i)
    (x0 : Vec Ideal S256x3200 .f32) (x1 : Vec Ideal S256x1024 .f32) (x2 : Vec Ideal S4x512x256 .f32) (x3 : Vec Ideal S1x512x256 .f32) (x4 : Vec Ideal S128x512 .bf16) (x5 : Vec Ideal S1x512 .f32) (x6 : Vec Ideal S1x1024 .f32) (y : S128x512.Idx) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 y = (addf (k0_pay4 (F := Ideal)) (dwgB i x0 x1 x2 x3 x4 x5 x6 (k0_pay3 (F := Ideal))) : FVec Ideal S128x512 .f32) y := by
  frame_out
  simp (disch := decide) only [↓View.readCov_cons_toLoadRect, ↓w_read, ↓g_read, ↓state_miss, ↓gain_miss, ↓readCov_whole, ↓gain_whole]
  generalize hG : k0_pay19 (F := Ideal) _ _ _ _ = G
  simp only [k0_pay1, k0_pay2, k0_pay3, k0_pay4, k0_pay5, k0_pay6, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay461, k0_pay462, k0_pay463, k0_pay464, k0_pay468, shapeCast_id]
  simp -index (disch := decide) only [q_ld, k_ld, v_ld, r_ld, sl_ld, sp_ld, mul_ld, sub_ld, csub_ld, cadd_ld, logistic_ld, trunc_ld, gain_ld, mul_ld2, mulc_ld2, trunc_ld2, mul_ld3, trunc_ld3, sel_ld, nn_ld, nt_ld, step_ld, dec_ld, rs_ld, mean_ld, sum_ld, dge_ld, last_ld, Nat.reduceSub, Nat.reduceMul, Nat.reduceDiv, dww_read, dge_read, dla_read]
  subst hG
  exact rfl

set_option maxHeartbeats 4000000 in
/-- At the first point the gate bias's gradient has the block's rows' sum added. -/
theorem ptBiasA  (c : Dev nD) (i : grid0.Coords) (arg1 : Memref sig .tc .vmem S256x3200 .f32) (harg1 : arg1.IsWhole) (arg2 : Memref sig .tc .vmem S256x1024 .f32) (harg2 : arg2.IsWhole) (arg3 : Memref sig .tc .vmem S4x512x256 .f32) (harg3 : arg3.IsWhole) (arg4 : Memref sig .tc .vmem S1x512x256 .f32) (harg4 : arg4.IsWhole) (arg5 : Memref sig .tc .vmem S128x512 .bf16) (harg5 : arg5.IsWhole) (arg6 : Memref sig .tc .vmem S1x512 .f32) (harg6 : arg6.IsWhole) (arg7 : Memref sig .tc .vmem S1x1024 .f32) (harg7 : arg7.IsWhole) (arg8 : Memref sig .tc .vmem S256x3200 .bf16) (harg8 : arg8.IsWhole) (arg9 : Memref sig .tc .vmem S128x512 .f32) (harg9 : arg9.IsWhole) (arg10 : Memref sig .tc .vmem S1x512 .f32) (harg10 : arg10.IsWhole) (arg11 : Memref sig .tc .vmem S1x1024 .f32) (harg11 : arg11.IsWhole) (arg12 : Memref sig .tc .vmem S512x256 .f32) (harg12 : arg12.IsWhole) (arg13 : Memref sig .tc .vmem S256x512 .f32) (harg13 : arg13.IsWhole) (arg14 : Memref sig .tc .vmem S8x512 .f32) (harg14 : arg14.IsWhole) (arg15 : Memref sig .tc .vmem S256x512 .f32) (harg15 : arg15.IsWhole) (arg16 : Memref sig .tc .vmem S8x512 .f32) (harg16 : arg16.IsWhole) (hc0 : cond0_0 i)
    (x0 : Vec Ideal S256x3200 .f32) (x1 : Vec Ideal S256x1024 .f32) (x2 : Vec Ideal S4x512x256 .f32) (x3 : Vec Ideal S1x512x256 .f32) (x4 : Vec Ideal S128x512 .bf16) (x5 : Vec Ideal S1x512 .f32) (x6 : Vec Ideal S1x1024 .f32) (y : S1x512.Idx) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 y = k0_pay2 (F := Ideal) (dgpB i x0 x1 x2 x3 x4 x5 x6 (k0_pay3 (F := Ideal))) (k0_pay5 (F := Ideal)) y := by
  frame_out
  simp (disch := decide) only [↓View.readCov_cons_toLoadRect, ↓w_read, ↓g_read, ↓state_miss, ↓gain_miss, ↓readCov_whole, ↓gain_whole]
  generalize hG : k0_pay19 (F := Ideal) _ _ _ _ = G
  simp only [k0_pay1, k0_pay2, k0_pay3, k0_pay4, k0_pay5, k0_pay6, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay461, k0_pay462, k0_pay463, k0_pay464, k0_pay468, shapeCast_id]
  simp -index (disch := decide) only [q_ld, k_ld, v_ld, r_ld, sl_ld, sp_ld, mul_ld, sub_ld, csub_ld, cadd_ld, logistic_ld, trunc_ld, gain_ld, mul_ld2, mulc_ld2, trunc_ld2, mul_ld3, trunc_ld3, sel_ld, nn_ld, nt_ld, step_ld, dec_ld, rs_ld, mean_ld, sum_ld, dge_ld, last_ld, Nat.reduceSub, Nat.reduceMul, Nat.reduceDiv, dww_read, dge_read, dla_read]
  subst hG
  exact rfl

end Cert.Kernel4Ideal.Gla
-- ==== Proof.GlbPointsB.lean ====
module

public import proofs.«01_k».proof.Proof.Gen.Kernel4Ideal.Value
public import proofs.«01_k».proof.Proof.GlbProj
public import Idealize.ShloMosaic.Lib.Pipeline.ValueKit
public import Idealize.ShloMosaic.Lib.Pipeline.CanonAppend
public import Idealize.ShloMosaic.Lib.Pointwise

/-!
# A later grid point of the attention's gradient

It starts from what the point before it left.
-/

@[expose] public section

set_option maxRecDepth 16384

noncomputable section

open Idealize.ShloMosaic Idealize.ShloMosaic.TcCoe Idealize.SL.Sem
open Idealize.ShloMosaic.Pipeline (Dat)

namespace Cert.Kernel4Ideal.Gla

open Cert.Kernel4Ideal Cert.Kernel4Ideal.Gen

set_option maxHeartbeats 4000000 in
/-- At a later point the carried gradient of the state becomes the block's first chunk's, decayed. -/
theorem ptStateB  (c : Dev nD) (i : grid0.Coords) (arg1 : Memref sig .tc .vmem S256x3200 .f32) (harg1 : arg1.IsWhole) (arg2 : Memref sig .tc .vmem S256x1024 .f32) (harg2 : arg2.IsWhole) (arg3 : Memref sig .tc .vmem S4x512x256 .f32) (harg3 : arg3.IsWhole) (arg4 : Memref sig .tc .vmem S1x512x256 .f32) (harg4 : arg4.IsWhole) (arg5 : Memref sig .tc .vmem S128x512 .bf16) (harg5 : arg5.IsWhole) (arg6 : Memref sig .tc .vmem S1x512 .f32) (harg6 : arg6.IsWhole) (arg7 : Memref sig .tc .vmem S1x1024 .f32) (harg7 : arg7.IsWhole) (arg8 : Memref sig .tc .vmem S256x3200 .bf16) (harg8 : arg8.IsWhole) (arg9 : Memref sig .tc .vmem S128x512 .f32) (harg9 : arg9.IsWhole) (arg10 : Memref sig .tc .vmem S1x512 .f32) (harg10 : arg10.IsWhole) (arg11 : Memref sig .tc .vmem S1x1024 .f32) (harg11 : arg11.IsWhole) (arg12 : Memref sig .tc .vmem S512x256 .f32) (harg12 : arg12.IsWhole) (arg13 : Memref sig .tc .vmem S256x512 .f32) (harg13 : arg13.IsWhole) (arg14 : Memref sig .tc .vmem S8x512 .f32) (harg14 : arg14.IsWhole) (arg15 : Memref sig .tc .vmem S256x512 .f32) (harg15 : arg15.IsWhole) (arg16 : Memref sig .tc .vmem S8x512 .f32) (harg16 : arg16.IsWhole) (hc0 : ¬cond0_0 i)
    (x0 : Vec Ideal S256x3200 .f32) (x1 : Vec Ideal S256x1024 .f32) (x2 : Vec Ideal S4x512x256 .f32) (x3 : Vec Ideal S1x512x256 .f32) (x4 : Vec Ideal S128x512 .bf16) (x5 : Vec Ideal S1x512 .f32) (x6 : Vec Ideal S1x1024 .f32) (xo8 : Vec Ideal S128x512 .f32) (xo9 : Vec Ideal S1x512 .f32) (xo10 : Vec Ideal S1x1024 .f32) (xs0 : Vec Ideal S512x256 .f32) (y : S512x256.Idx) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 xo8 xo9 xo10 xs0 y = decF (geB (gcB x0 x4 x5)) 0 (GB (gcB x0 x4 x5) x0 x1 x2 x6 xs0 3) y := by
  frame_out
  simp (disch := decide) only [↓View.readCov_cons_toLoadRect, ↓w_read, ↓g_read, ↓state_miss, ↓gain_miss, ↓readCov_whole, ↓gain_whole]
  generalize hG : k0_pay19 (F := Ideal) _ _ _ _ = G
  simp only [k0_pay1, k0_pay2, k0_pay3, k0_pay4, k0_pay5, k0_pay6, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay461, k0_pay462, k0_pay463, k0_pay464, k0_pay468, shapeCast_id]
  simp -index (disch := decide) only [q_ld, k_ld, v_ld, r_ld, sl_ld, sp_ld, mul_ld, sub_ld, csub_ld, cadd_ld, logistic_ld, trunc_ld, gain_ld, mul_ld2, mulc_ld2, trunc_ld2, mul_ld3, trunc_ld3, sel_ld, nn_ld, nt_ld, step_ld, dec_ld, rs_ld, mean_ld, sum_ld, dge_ld, last_ld, Nat.reduceSub, Nat.reduceMul, Nat.reduceDiv, dww_read, dge_read, dla_read]
  subst hG
  change View.canon ([_, _, _, _] ++ _) y = _
  refine View.canon_append_of_pieces _ _ _ ?_ y (heads_cover _ _ _ _ y)
  refine List.forall_mem_cons.mpr ⟨?_, List.forall_mem_cons.mpr ⟨?_, List.forall_mem_cons.mpr ⟨?_, List.forall_mem_cons.mpr ⟨?_, fun _ h => absurd h List.not_mem_nil⟩⟩⟩⟩
  all_goals exact fun _ => rfl

set_option maxHeartbeats 4000000 in
/-- At a later point the gain's gradient has the block's four chunks' sums added. -/
theorem ptGainB  (c : Dev nD) (i : grid0.Coords) (arg1 : Memref sig .tc .vmem S256x3200 .f32) (harg1 : arg1.IsWhole) (arg2 : Memref sig .tc .vmem S256x1024 .f32) (harg2 : arg2.IsWhole) (arg3 : Memref sig .tc .vmem S4x512x256 .f32) (harg3 : arg3.IsWhole) (arg4 : Memref sig .tc .vmem S1x512x256 .f32) (harg4 : arg4.IsWhole) (arg5 : Memref sig .tc .vmem S128x512 .bf16) (harg5 : arg5.IsWhole) (arg6 : Memref sig .tc .vmem S1x512 .f32) (harg6 : arg6.IsWhole) (arg7 : Memref sig .tc .vmem S1x1024 .f32) (harg7 : arg7.IsWhole) (arg8 : Memref sig .tc .vmem S256x3200 .bf16) (harg8 : arg8.IsWhole) (arg9 : Memref sig .tc .vmem S128x512 .f32) (harg9 : arg9.IsWhole) (arg10 : Memref sig .tc .vmem S1x512 .f32) (harg10 : arg10.IsWhole) (arg11 : Memref sig .tc .vmem S1x1024 .f32) (harg11 : arg11.IsWhole) (arg12 : Memref sig .tc .vmem S512x256 .f32) (harg12 : arg12.IsWhole) (arg13 : Memref sig .tc .vmem S256x512 .f32) (harg13 : arg13.IsWhole) (arg14 : Memref sig .tc .vmem S8x512 .f32) (harg14 : arg14.IsWhole) (arg15 : Memref sig .tc .vmem S256x512 .f32) (harg15 : arg15.IsWhole) (arg16 : Memref sig .tc .vmem S8x512 .f32) (harg16 : arg16.IsWhole) (hc0 : ¬cond0_0 i)
    (x0 : Vec Ideal S256x3200 .f32) (x1 : Vec Ideal S256x1024 .f32) (x2 : Vec Ideal S4x512x256 .f32) (x3 : Vec Ideal S1x512x256 .f32) (x4 : Vec Ideal S128x512 .bf16) (x5 : Vec Ideal S1x512 .f32) (x6 : Vec Ideal S1x1024 .f32) (xo8 : Vec Ideal S128x512 .f32) (xo9 : Vec Ideal S1x512 .f32) (xo10 : Vec Ideal S1x1024 .f32) (xs0 : Vec Ideal S512x256 .f32) (y : S1x1024.Idx) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 xo8 xo9 xo10 xs0 y = dgnB x0 x1 x2 xo10 4 y := by
  frame_out
  simp (disch := decide) only [↓View.readCov_cons_toLoadRect, ↓w_read, ↓g_read, ↓state_miss, ↓gain_miss, ↓readCov_whole, ↓gain_whole]
  generalize hG : k0_pay19 (F := Ideal) _ _ _ _ = G
  simp only [k0_pay1, k0_pay2, k0_pay3, k0_pay4, k0_pay5, k0_pay6, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay461, k0_pay462, k0_pay463, k0_pay464, k0_pay468, shapeCast_id]
  simp -index (disch := decide) only [q_ld, k_ld, v_ld, r_ld, sl_ld, sp_ld, mul_ld, sub_ld, csub_ld, cadd_ld, logistic_ld, trunc_ld, gain_ld, mul_ld2, mulc_ld2, trunc_ld2, mul_ld3, trunc_ld3, sel_ld, nn_ld, nt_ld, step_ld, dec_ld, rs_ld, mean_ld, sum_ld, dge_ld, last_ld, Nat.reduceSub, Nat.reduceMul, Nat.reduceDiv, dww_read, dge_read, dla_read]
  change View.canon ([_, _, _, _] ++ _) y = _
  refine View.canon_append_of_pieces _ _ _ ?_ y (gains_cover _ _ _ _ y)
  refine List.forall_mem_cons.mpr ⟨?_, List.forall_mem_cons.mpr ⟨?_, List.forall_mem_cons.mpr ⟨?_, List.forall_mem_cons.mpr ⟨?_, fun _ h => absurd h List.not_mem_nil⟩⟩⟩⟩
  all_goals exact fun _ => rfl

set_option maxHeartbeats 4000000 in
/-- At a later point the gate matrix's gradient has the block's product added. -/
theorem ptGateB  (c : Dev nD) (i : grid0.Coords) (arg1 : Memref sig .tc .vmem S256x3200 .f32) (harg1 : arg1.IsWhole) (arg2 : Memref sig .tc .vmem S256x1024 .f32) (harg2 : arg2.IsWhole) (arg3 : Memref sig .tc .vmem S4x512x256 .f32) (harg3 : arg3.IsWhole) (arg4 : Memref sig .tc .vmem S1x512x256 .f32) (harg4 : arg4.IsWhole) (arg5 : Memref sig .tc .vmem S128x512 .bf16) (harg5 : arg5.IsWhole) (arg6 : Memref sig .tc .vmem S1x512 .f32) (harg6 : arg6.IsWhole) (arg7 : Memref sig .tc .vmem S1x1024 .f32) (harg7 : arg7.IsWhole) (arg8 : Memref sig .tc .vmem S256x3200 .bf16) (harg8 : arg8.IsWhole) (arg9 : Memref sig .tc .vmem S128x512 .f32) (harg9 : arg9.IsWhole) (arg10 : Memref sig .tc .vmem S1x512 .f32) (harg10 : arg10.IsWhole) (arg11 : Memref sig .tc .vmem S1x1024 .f32) (harg11 : arg11.IsWhole) (arg12 : Memref sig .tc .vmem S512x256 .f32) (harg12 : arg12.IsWhole) (arg13 : Memref sig .tc .vmem S256x512 .f32) (harg13 : arg13.IsWhole) (arg14 : Memref sig .tc .vmem S8x512 .f32) (harg14 : arg14.IsWhole) (arg15 : Memref sig .tc .vmem S256x512 .f32) (harg15 : arg15.IsWhole) (arg16 : Memref sig .tc .vmem S8x512 .f32) (harg16 : arg16.IsWhole) (hc0 : ¬cond0_0 i)
    (x0 : Vec Ideal S256x3200 .f32) (x1 : Vec Ideal S256x1024 .f32) (x2 : Vec Ideal S4x512x256 .f32) (x3 : Vec Ideal S1x512x256 .f32) (x4 : Vec Ideal S128x512 .bf16) (x5 : Vec Ideal S1x512 .f32) (x6 : Vec Ideal S1x1024 .f32) (xo8 : Vec Ideal S128x512 .f32) (xo9 : Vec Ideal S1x512 .f32) (xo10 : Vec Ideal S1x1024 .f32) (xs0 : Vec Ideal S512x256 .f32) (y : S128x512.Idx) :
    out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 xo8 xo9 xo10 xs0 y = (addf xo8 (dwgB i x0 x1 x2 x3 x4 x5 x6 xs0) : FVec Ideal S128x512 .f32) y := by
  frame_out
  simp (disch := decide) only [↓View.readCov_cons_toLoadRect, ↓w_read, ↓g_read, ↓state_miss, ↓gain_miss, ↓readCov_whole, ↓gain_whole]
  generalize hG : k0_pay19 (F := Ideal) _ _ _ _ = G
  simp only [k0_pay1, k0_pay2, k0_pay3, k0_pay4, k0_pay5, k0_pay6, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay461, k0_pay462, k0_pay463, k0_pay464, k0_pay468, shapeCast_id]
  simp -index (disch := decide) only [q_ld, k_ld, v_ld, r_ld, sl_ld, sp_ld, mul_ld, sub_ld, csub_ld, cadd_ld, logistic_ld, trunc_ld, gain_ld, mul_ld2, mulc_ld2, trunc_ld2, mul_ld3, trunc_ld3, sel_ld, nn_ld, nt_ld, step_ld, dec_ld, rs_ld, mean_ld, sum_ld, dge_ld, last_ld, Nat.reduceSub, Nat.reduceMul, Nat.reduceDiv, dww_read, dge_read, dla_read]
  subst hG
  exact rfl

set_option maxHeartbeats 4000000 in
/-- At a later point the gate bias's gradient has the block's rows' sum added. -/
theorem ptBiasB  (c : Dev nD) (i : grid0.Coords) (arg1 : Memref sig .tc .vmem S256x3200 .f32) (harg1 : arg1.IsWhole) (arg2 : Memref sig .tc .vmem S256x1024 .f32) (harg2 : arg2.IsWhole) (arg3 : Memref sig .tc .vmem S4x512x256 .f32) (harg3 : arg3.IsWhole) (arg4 : Memref sig .tc .vmem S1x512x256 .f32) (harg4 : arg4.IsWhole) (arg5 : Memref sig .tc .vmem S128x512 .bf16) (harg5 : arg5.IsWhole) (arg6 : Memref sig .tc .vmem S1x512 .f32) (harg6 : arg6.IsWhole) (arg7 : Memref sig .tc .vmem S1x1024 .f32) (harg7 : arg7.IsWhole) (arg8 : Memref sig .tc .vmem S256x3200 .bf16) (harg8 : arg8.IsWhole) (arg9 : Memref sig .tc .vmem S128x512 .f32) (harg9 : arg9.IsWhole) (arg10 : Memref sig .tc .vmem S1x512 .f32) (harg10 : arg10.IsWhole) (arg11 : Memref sig .tc .vmem S1x1024 .f32) (harg11 : arg11.IsWhole) (arg12 : Memref sig .tc .vmem S512x256 .f32) (harg12 : arg12.IsWhole) (arg13 : Memref sig .tc .vmem S256x512 .f32) (harg13 : arg13.IsWhole) (arg14 : Memref sig .tc .vmem S8x512 .f32) (harg14 : arg14.IsWhole) (arg15 : Memref sig .tc .vmem S256x512 .f32) (harg15 : arg15.IsWhole) (arg16 : Memref sig .tc .vmem S8x512 .f32) (harg16 : arg16.IsWhole) (hc0 : ¬cond0_0 i)
    (x0 : Vec Ideal S256x3200 .f32) (x1 : Vec Ideal S256x1024 .f32) (x2 : Vec Ideal S4x512x256 .f32) (x3 : Vec Ideal S1x512x256 .f32) (x4 : Vec Ideal S128x512 .bf16) (x5 : Vec Ideal S1x512 .f32) (x6 : Vec Ideal S1x1024 .f32) (xo8 : Vec Ideal S128x512 .f32) (xo9 : Vec Ideal S1x512 .f32) (xo10 : Vec Ideal S1x1024 .f32) (xs0 : Vec Ideal S512x256 .f32) (y : S1x512.Idx) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 xo8 xo9 xo10 xs0 y = k0_pay2 (F := Ideal) (dgpB i x0 x1 x2 x3 x4 x5 x6 xs0) xo9 y := by
  frame_out
  simp (disch := decide) only [↓View.readCov_cons_toLoadRect, ↓w_read, ↓g_read, ↓state_miss, ↓gain_miss, ↓readCov_whole, ↓gain_whole]
  generalize hG : k0_pay19 (F := Ideal) _ _ _ _ = G
  simp only [k0_pay1, k0_pay2, k0_pay3, k0_pay4, k0_pay5, k0_pay6, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay461, k0_pay462, k0_pay463, k0_pay464, k0_pay468, shapeCast_id]
  simp -index (disch := decide) only [q_ld, k_ld, v_ld, r_ld, sl_ld, sp_ld, mul_ld, sub_ld, csub_ld, cadd_ld, logistic_ld, trunc_ld, gain_ld, mul_ld2, mulc_ld2, trunc_ld2, mul_ld3, trunc_ld3, sel_ld, nn_ld, nt_ld, step_ld, dec_ld, rs_ld, mean_ld, sum_ld, dge_ld, last_ld, Nat.reduceSub, Nat.reduceMul, Nat.reduceDiv, dww_read, dge_read, dla_read]
  subst hG
  exact rfl

end Cert.Kernel4Ideal.Gla
-- ==== Proof.GlbPointsC.lean ====
module

public import proofs.«01_k».proof.Proof.Gen.Kernel4Ideal.Value
public import proofs.«01_k».proof.Proof.GlbProj
public import Idealize.ShloMosaic.Lib.Pipeline.ValueKit
public import Idealize.ShloMosaic.Lib.Pipeline.CanonAppend
public import Idealize.ShloMosaic.Lib.Pointwise

/-!
# The first grid point of the attention's gradient, its projections' part

The state it starts from is zero.
-/

@[expose] public section

set_option maxRecDepth 16384

noncomputable section

open Idealize.ShloMosaic Idealize.ShloMosaic.TcCoe Idealize.SL.Sem
open Idealize.ShloMosaic.Pipeline (Dat)

namespace Cert.Kernel4Ideal.Gla

open Cert.Kernel4Ideal Cert.Kernel4Ideal.Gen

set_option maxHeartbeats 16000000 in
/-- At the first point the block of gradients of the projections has its columns' functions. -/
theorem ptProjA  (c : Dev nD) (i : grid0.Coords) (arg1 : Memref sig .tc .vmem S256x3200 .f32) (harg1 : arg1.IsWhole) (arg2 : Memref sig .tc .vmem S256x1024 .f32) (harg2 : arg2.IsWhole) (arg3 : Memref sig .tc .vmem S4x512x256 .f32) (harg3 : arg3.IsWhole) (arg4 : Memref sig .tc .vmem S1x512x256 .f32) (harg4 : arg4.IsWhole) (arg5 : Memref sig .tc .vmem S128x512 .bf16) (harg5 : arg5.IsWhole) (arg6 : Memref sig .tc .vmem S1x512 .f32) (harg6 : arg6.IsWhole) (arg7 : Memref sig .tc .vmem S1x1024 .f32) (harg7 : arg7.IsWhole) (arg8 : Memref sig .tc .vmem S256x3200 .bf16) (harg8 : arg8.IsWhole) (arg9 : Memref sig .tc .vmem S128x512 .f32) (harg9 : arg9.IsWhole) (arg10 : Memref sig .tc .vmem S1x512 .f32) (harg10 : arg10.IsWhole) (arg11 : Memref sig .tc .vmem S1x1024 .f32) (harg11 : arg11.IsWhole) (arg12 : Memref sig .tc .vmem S512x256 .f32) (harg12 : arg12.IsWhole) (arg13 : Memref sig .tc .vmem S256x512 .f32) (harg13 : arg13.IsWhole) (arg14 : Memref sig .tc .vmem S8x512 .f32) (harg14 : arg14.IsWhole) (arg15 : Memref sig .tc .vmem S256x512 .f32) (harg15 : arg15.IsWhole) (arg16 : Memref sig .tc .vmem S8x512 .f32) (harg16 : arg16.IsWhole) (hc0 : cond0_0 i)
    (x0 : Vec Ideal S256x3200 .f32) (x1 : Vec Ideal S256x1024 .f32) (x2 : Vec Ideal S4x512x256 .f32) (x3 : Vec Ideal S1x512x256 .f32) (x4 : Vec Ideal S128x512 .bf16) (x5 : Vec Ideal S1x512 .f32) (x6 : Vec Ideal S1x1024 .f32) (y : S256x3200.Idx) :
    out0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 y = dpF (dqB x0 x1 x2 x6) (dkB (gcB x0 x4 x5) x0 x1 x2 x6 (k0_pay3 (F := Ideal))) (dvB (gcB x0 x4 x5) x0 x1 x2 x6 (k0_pay3 (F := Ideal))) (drB x0 x1 x2 x6) (dglB i x0 x1 x2 x3 x4 x5 x6 (k0_pay3 (F := Ideal))) y := by
  frame_out
  simp (disch := decide) only [↓View.readCov_cons_toLoadRect, ↓w_read, ↓g_read, ↓state_miss, ↓gain_miss, ↓readCov_whole, ↓gain_whole]
  generalize hZ : k0_pay3 (F := Ideal) = Z
  generalize hG : k0_pay19 (F := Ideal) _ _ _ _ = G
  simp only [k0_pay1, k0_pay2, k0_pay4, k0_pay5, k0_pay6, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay461, k0_pay462, k0_pay463, k0_pay464, k0_pay468, shapeCast_id]
  simp -index (disch := decide) only [q_ld, k_ld, v_ld, r_ld, sl_ld, sp_ld, mul_ld, sub_ld, csub_ld, cadd_ld, logistic_ld, trunc_ld, gain_ld, mul_ld2, mulc_ld2, trunc_ld2, mul_ld3, trunc_ld3, sel_ld, nn_ld, nt_ld, step_ld, dec_ld, rs_ld, mean_ld, sum_ld, dge_ld, last_ld, Nat.reduceSub, Nat.reduceMul, Nat.reduceDiv, dww_read, dge_read, dla_read]
  subst hG
  exact dp_canon (dqB x0 x1 x2 x6) (dkB (gcB x0 x4 x5) x0 x1 x2 x6 Z) (dvB (gcB x0 x4 x5) x0 x1 x2 x6 Z) (drB x0 x1 x2 x6) (dglB i x0 x1 x2 x3 x4 x5 x6 Z) y

end Cert.Kernel4Ideal.Gla
-- ==== Proof.GlbPointsD.lean ====
module

public import proofs.«01_k».proof.Proof.Gen.Kernel4Ideal.Value
public import proofs.«01_k».proof.Proof.GlbProj
public import Idealize.ShloMosaic.Lib.Pipeline.ValueKit
public import Idealize.ShloMosaic.Lib.Pipeline.CanonAppend
public import Idealize.ShloMosaic.Lib.Pointwise

/-!
# A later grid point of the attention's gradient, its projections' part

The state it starts from is what the point before it left.
-/

@[expose] public section

set_option maxRecDepth 16384

noncomputable section

open Idealize.ShloMosaic Idealize.ShloMosaic.TcCoe Idealize.SL.Sem
open Idealize.ShloMosaic.Pipeline (Dat)

namespace Cert.Kernel4Ideal.Gla

open Cert.Kernel4Ideal Cert.Kernel4Ideal.Gen

set_option maxHeartbeats 16000000 in
/-- At a later point the block of gradients of the projections has its columns' functions. -/
theorem ptProjB  (c : Dev nD) (i : grid0.Coords) (arg1 : Memref sig .tc .vmem S256x3200 .f32) (harg1 : arg1.IsWhole) (arg2 : Memref sig .tc .vmem S256x1024 .f32) (harg2 : arg2.IsWhole) (arg3 : Memref sig .tc .vmem S4x512x256 .f32) (harg3 : arg3.IsWhole) (arg4 : Memref sig .tc .vmem S1x512x256 .f32) (harg4 : arg4.IsWhole) (arg5 : Memref sig .tc .vmem S128x512 .bf16) (harg5 : arg5.IsWhole) (arg6 : Memref sig .tc .vmem S1x512 .f32) (harg6 : arg6.IsWhole) (arg7 : Memref sig .tc .vmem S1x1024 .f32) (harg7 : arg7.IsWhole) (arg8 : Memref sig .tc .vmem S256x3200 .bf16) (harg8 : arg8.IsWhole) (arg9 : Memref sig .tc .vmem S128x512 .f32) (harg9 : arg9.IsWhole) (arg10 : Memref sig .tc .vmem S1x512 .f32) (harg10 : arg10.IsWhole) (arg11 : Memref sig .tc .vmem S1x1024 .f32) (harg11 : arg11.IsWhole) (arg12 : Memref sig .tc .vmem S512x256 .f32) (harg12 : arg12.IsWhole) (arg13 : Memref sig .tc .vmem S256x512 .f32) (harg13 : arg13.IsWhole) (arg14 : Memref sig .tc .vmem S8x512 .f32) (harg14 : arg14.IsWhole) (arg15 : Memref sig .tc .vmem S256x512 .f32) (harg15 : arg15.IsWhole) (arg16 : Memref sig .tc .vmem S8x512 .f32) (harg16 : arg16.IsWhole) (hc0 : ¬cond0_0 i)
    (x0 : Vec Ideal S256x3200 .f32) (x1 : Vec Ideal S256x1024 .f32) (x2 : Vec Ideal S4x512x256 .f32) (x3 : Vec Ideal S1x512x256 .f32) (x4 : Vec Ideal S128x512 .bf16) (x5 : Vec Ideal S1x512 .f32) (x6 : Vec Ideal S1x1024 .f32) (xo8 : Vec Ideal S128x512 .f32) (xo9 : Vec Ideal S1x512 .f32) (xo10 : Vec Ideal S1x1024 .f32) (xs0 : Vec Ideal S512x256 .f32) (y : S256x3200.Idx) :
    out0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 xo8 xo9 xo10 xs0 y = dpF (dqB x0 x1 x2 x6) (dkB (gcB x0 x4 x5) x0 x1 x2 x6 xs0) (dvB (gcB x0 x4 x5) x0 x1 x2 x6 xs0) (drB x0 x1 x2 x6) (dglB i x0 x1 x2 x3 x4 x5 x6 xs0) y := by
  frame_out
  simp (disch := decide) only [↓View.readCov_cons_toLoadRect, ↓w_read, ↓g_read, ↓state_miss, ↓gain_miss, ↓readCov_whole, ↓gain_whole]
  generalize hG : k0_pay19 (F := Ideal) _ _ _ _ = G
  simp only [k0_pay1, k0_pay2, k0_pay3, k0_pay4, k0_pay5, k0_pay6, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay461, k0_pay462, k0_pay463, k0_pay464, k0_pay468, shapeCast_id]
  simp -index (disch := decide) only [q_ld, k_ld, v_ld, r_ld, sl_ld, sp_ld, mul_ld, sub_ld, csub_ld, cadd_ld, logistic_ld, trunc_ld, gain_ld, mul_ld2, mulc_ld2, trunc_ld2, mul_ld3, trunc_ld3, sel_ld, nn_ld, nt_ld, step_ld, dec_ld, rs_ld, mean_ld, sum_ld, dge_ld, last_ld, Nat.reduceSub, Nat.reduceMul, Nat.reduceDiv, dww_read, dge_read, dla_read]
  subst hG
  exact dp_canon (dqB x0 x1 x2 x6) (dkB (gcB x0 x4 x5) x0 x1 x2 x6 xs0) (dvB (gcB x0 x4 x5) x0 x1 x2 x6 xs0) (drB x0 x1 x2 x6) (dglB i x0 x1 x2 x3 x4 x5 x6 xs0) y

end Cert.Kernel4Ideal.Gla
-- ==== Proof.GlbHost.lean ====
module

public import proofs.«01_k».proof.Proof.GlaReference
public import proofs.«01_k».proof.Proof.GlbMaths
public import proofs.«01_k».proof.Proof.Gen.Kernel4Ideal.Value
public import Idealize.ShloMosaic.Lib.Pipeline.ValueKit
public import Idealize.ShloMosaic.Lib.Pointwise

/-!
# What the host gives the attention's gradient

The states after the chunks, which the kernel reads: the host computes them as the reference does, with a masked sum
where the reference multiplies by a mask. On real inputs they are the real states.
-/

@[expose] public section

set_option maxRecDepth 16384

noncomputable section

open Idealize.ShloMosaic Idealize.ShloMosaic.TcCoe Idealize.SL.Sem

namespace Cert.Kernel4Ideal.Gla

open Cert.Kernel4Ideal Cert.Kernel4Ideal.Gen Cert.Gla
open Cert.Reference3Ideal.Gla (logGate sums ends ends3 adds decays before afters logGate_coe sums_coe adds_apply decays_apply before_apply afters_apply slt64)

/-- A column of the projection that the gates are made of. -/
abbrev gcol (c : Fin 16) : Fin 3088 := ⟨3072 + c.val, by omega⟩

variable (proj : FVec Ideal S4096x3088 .f32) (wg2 : FVec Ideal S16x512 .f32) (bg : FVec Ideal S1x512 .f32)

/-- The gates' inputs. -/
def gateInH : FVec Ideal S4096x512 .f32 :=
  addf (Host.dotGeneral dot_S4096x16_S16x512_S4096x512_1_0_0_1_n_n none (extractStridedSlice S4096x16 ![0, 3072] proj slices_S4096x3088_S4096x16_0_3072) wg2)
    (broadcastInDim S4096x512 ![0, 1] bcast_S1x512_S4096x512_0_1 bg)

/-- The values. -/
def valsH : FVec Ideal S64x64x4x256 .f32 := shapeCast _ (extractStridedSlice S4096x1024 ![0, 1024] proj slices_S4096x3088_S4096x1024_0_1024) shapeCasts_S4096x1024_S64x64x4x256

/-- The decayed keys. -/
def keysH (G : FVec Ideal S64x64x4x128 .f32) (E : FVec Ideal S64x1x4x128 .f32) : FVec Ideal S64x64x4x128 .f32 :=
  mulf (shapeCast _ (extractStridedSlice S4096x512 ![0, 512] proj slices_S4096x3088_S4096x512_0_512) shapeCasts_S4096x512_S64x64x4x128)
    (Host.exp (subf (broadcastInDim S64x64x4x128 ![0, 1, 2, 3] bcast_S64x1x4x128_S64x64x4x128_0_1_2_3 E) G))

/-- The sums over the chunks between two. -/
def betweenH (E3 : FVec Ideal S64x4x128 .f32) : FVec Ideal S64x64x4x128 .f32 :=
  Host.reduceAdd (select (broadcastInDim S64x64x64x4x128 ![0, 1, 2, 3, 4] bcast_S64x64x64x1x1_S64x64x64x4x128_0_1_2_3_4
      (andi (cmpi .slt (iotaInDim S64x64x64x1x1 32 1) (iotaInDim S64x64x64x1x1 32 2)) (cmpi .slt (iotaInDim S64x64x64x1x1 32 2) (iotaInDim S64x64x64x1x1 32 0))))
      (broadcastInDim S64x64x64x4x128 ![2, 3, 4] bcast_S64x4x128_S64x64x64x4x128_2_3_4 E3)
      (broadcastInDim S64x64x64x4x128 ![] bcast_S_S64x64x64x4x128 (id (constant S_ .f32 0x00000000#32))))
    (constant S_ .f32 0x00000000#32) reducesTo_S64x64x64x4x128_S64x64x4x128_d2 h_S_

/-- All the running sums. -/
abbrev GH := sums (logGate (gateInH proj wg2 bg))
/-- All the chunks' whole sums. -/
abbrev EH := ends (GH proj wg2 bg)
/-- All that the chunks add. -/
abbrev AH := adds (keysH proj (GH proj wg2 bg) (EH proj wg2 bg)) (valsH proj)
/-- All the states before the chunks. -/
abbrev SH := before (AH proj wg2 bg) (decays (betweenH (ends3 (EH proj wg2 bg))))

/-- The states' term. -/
theorem states_term (m : (ℓ : Loc nD τ sig) → Buf (Elt Ideal) ℓ) (c : Dev nD) (h0 : m ((c : Thread nD τ).loc main_arg0) = proj)
    (h1 : m ((c : Thread nD τ).loc main_arg2) = wg2) (h2 : m ((c : Thread nD τ).loc main_arg3) = bg) :
    (V m c main_v43 : FVec Ideal S64x512x256 .f32) = afters (ends3 (EH proj wg2 bg)) (SH proj wg2 bg) (AH proj wg2 bg) := by
  subst h0 h1 h2
  entry_read
  rfl

/-- The logarithm of the decay between two chunks: the sum over the chunks in between. -/
theorem betweenH_apply (E : FVec Ideal S64x4x128 .f32) (n m : Fin 64) (h : Fin 4) (d : Fin 128) :
    betweenH E (ix4 n m h d) = ∑ j : Fin 64, if m < j ∧ j < n then E (ix3 j h d) else 0 := by
  pointwise [betweenH]
  refine Finset.sum_congr rfl fun j _ => ?_
  rw [slt64, slt64]
  show Scalar.select _ _ (Ideal.ofBits .f32 0x00000000#32) = _
  rw [Ideal.ofBits_zero_f32]
  by_cases h1 : m < j <;> by_cases h2 : j < n <;> simp [h1, h2, IntOp.andi, Scalar.select]

section
variable {proj wg2 bg} {P Gt : ℕ → ℕ → ℝ} (hP : ∀ (i : Fin 4096) (j : Fin 3088), proj (ix2 i j) = (P i.val j.val : EReal))
  (hG : ∀ (i : Fin 4096) (k : Fin 512), (∑ c : Fin 16, proj (ix2 i (gcol c)) * wg2 (ix2 c k)) + bg (ix2 0 k) = (Gt i.val k.val : EReal))

include hG

/-- The gates' inputs are the real numbers. -/
theorem gateInH_coe (i : Fin 4096) (k : Fin 512) : gateInH proj wg2 bg (ix2 i k) = (Gt i.val k.val : EReal) := by
  rw [← hG i k]
  pointwise [gateInH]

/-- The running sums are the real ones. -/
theorem GH_coe (n s : Fin 64) (h : Fin 4) (d : Fin 128) :
    GH proj wg2 bg (ix4 n s h d) = (gc (fun i k => gate (Gt i k)) n.val s.val (128 * h.val + d.val) : EReal) :=
  sums_coe (fun i k => gate (Gt i k)) _ (logGate_coe _ Gt (gateInH_coe hG)) n s h d

/-- A chunk's last running sum is the real one. -/
theorem EH_coe (n : Fin 64) (h : Fin 4) (d : Fin 128) :
    EH proj wg2 bg (ix4 n 0 h d) = (gc (fun i k => gate (Gt i k)) n.val 63 (128 * h.val + d.val) : EReal) := by
  refine Eq.trans ?_ (GH_coe hG n 63 h d)
  unfold EH
  generalize GH proj wg2 bg = G
  pointwise [ends]

/-- A chunk's last running sum, without the axis of length one. -/
theorem EH3_coe (n : Fin 64) (h : Fin 4) (d : Fin 128) :
    ends3 (EH proj wg2 bg) (ix3 n h d) = (gc (fun i k => gate (Gt i k)) n.val 63 (128 * h.val + d.val) : EReal) := by
  refine Eq.trans ?_ (EH_coe hG n h d)
  generalize EH proj wg2 bg = G
  pointwise [ends3]

include hP

/-- The decayed keys are the real ones. -/
theorem KH_coe (n s : Fin 64) (h : Fin 4) (d : Fin 128) :
    keysH proj (GH proj wg2 bg) (EH proj wg2 bg) (ix4 n s h d) = (kd P (fun i k => gate (Gt i k)) n.val s.val (128 * h.val + d.val) : EReal) := by
  have hGG := GH_coe hG n s h d
  have hE := EH_coe hG n h d
  generalize EH proj wg2 bg = E at hE ⊢
  generalize GH proj wg2 bg = G at hGG ⊢
  pointwise [keysH]
  rw [hGG, hE, ← EReal.coe_sub, exp_coe, hP, ← EReal.coe_mul, kd]
  dsimp only
  congr 3 <;> ring

omit hG in
/-- The values are real. -/
theorem WH_coe (n s : Fin 64) (h : Fin 4) (e : Fin 256) :
    valsH proj (ix4 n s h e) = (P (64 * n.val + s.val) (1024 + 256 * h.val + e.val) : EReal) := by
  pointwise [valsH]
  rw [hP]
  dsimp only
  congr 2 <;> ring

/-- What a chunk adds is real. -/
theorem AH_coe (n : Fin 64) (h : Fin 4) (d : Fin 128) (e : Fin 256) :
    AH proj wg2 bg (ix4 n h d e) = (kv P (fun i k => gate (Gt i k)) n.val (128 * h.val + d.val) e.val : EReal) := by
  have hk : (128 * h.val + d.val) / 128 = h.val := by omega
  unfold AH
  rw [adds_apply, kv, ← coe_sum]
  refine Finset.sum_congr rfl fun s _ => ?_
  rw [KH_coe hP hG, WH_coe hP, ← EReal.coe_mul, hk]

/-- The state before a chunk is the real one. -/
theorem SH_coe (n : Fin 64) (h : Fin 4) (d : Fin 128) (e : Fin 256) :
    SH proj wg2 bg (ix4 n h d e) = (St P (fun i k => gate (Gt i k)) n.val (128 * h.val + d.val) e.val : EReal) := by
  unfold SH
  rw [before_apply, St_masked, ← coe_sum]
  refine Finset.sum_congr rfl fun m _ => ?_
  rw [AH_coe hP hG, decays_apply, betweenH_apply, EReal.coe_mul]
  congr 1
  split
  · rw [← exp_coe, ← coe_sum]
    congr 1
    refine Finset.sum_congr rfl fun j _ => ?_
    rw [EH3_coe hG]
    split <;> simp
  · rfl

/-- The host's states after the chunks, at an index. -/
theorem statesH_coe (n : Fin 64) (k : Fin 512) (e : Fin 256) : afters (ends3 (EH proj wg2 bg)) (SH proj wg2 bg) (AH proj wg2 bg) (ix3 n k e)
    = ((St P (fun i k => gate (Gt i k)) (n.val + 1) k.val e.val : ℝ) : EReal) := by
  have hk : 128 * (k.val / 128) + k.val % 128 = k.val := Nat.div_add_mod _ _
  rw [afters_apply, EH3_coe hG, SH_coe hP hG, AH_coe hP hG, exp_coe, ← EReal.coe_mul, ← EReal.coe_add]
  dsimp only
  rw [hk]
  rfl

end

end Cert.Kernel4Ideal.Gla

end
-- ==== Proof.GlbRun.lean ====
module

public import proofs.«01_k».proof.Proof.GlbValues
public import proofs.«01_k».proof.Proof.GlbPointsA
public import proofs.«01_k».proof.Proof.GlbPointsB
public import proofs.«01_k».proof.Proof.GlbPointsC
public import proofs.«01_k».proof.Proof.GlbPointsD
public import proofs.«01_k».proof.Proof.GlbHost
public import proofs.«01_k».proof.Proof.GlbPadded
public import proofs.«01_k».proof.Proof.GlaRun

/-!
# The gradient of the gated linear attention as the kernel runs it

The arrays the kernel leaves after its sixteen grid points, on real arguments: by induction on the points, which take the
blocks of rows from the last to the first, carry the gradient of the state on, and add to the gradients of the gates' weight
and bias and of the gain.
-/

@[expose] public section

set_option maxRecDepth 16384

noncomputable section

open Idealize.ShloMosaic Idealize.ShloMosaic.TcCoe Idealize.SL.Sem
open Idealize.ShloMosaic.Pipeline (Dat)

namespace Cert.Kernel4Ideal.Gla

open Cert.Kernel4Ideal Cert.Kernel4Ideal.Gen Cert.Gla
open Cert.Kernel3Ideal.Gla (sum_padded)

variable (m : (ℓ : Loc nD τ sig) → Buf (Elt Ideal) ℓ) (ρ : Dev nD → PrngReg)

/-- The projections the kernel is given. -/
abbrev projOf (c : Dev nD) : Rows 4096 3088 .f32 := m ((c : Thread nD τ).loc main_arg0)
/-- The gradient of the outputs. -/
abbrev dogOf (c : Dev nD) : Rows 4096 1024 .f32 := m ((c : Thread nD τ).loc main_arg1)
/-- The gates' weight. -/
abbrev wg2Of (c : Dev nD) : Rows 16 512 .f32 := m ((c : Thread nD τ).loc main_arg2)
/-- The gates' bias. -/
abbrev bgOf (c : Dev nD) : Rows 1 512 .f32 := m ((c : Thread nD τ).loc main_arg3)
/-- The norm's gain. -/
abbrev gnOf (c : Dev nD) : Rows 1 1024 .f32 := m ((c : Thread nD τ).loc main_arg4)

/-- Grid point `t` reads block `15 - t` of the projections, of the outputs' gradient and of the states, the state before the
block, and the whole of the gates' weight and bias and of the gain. -/
theorem idx_read : ∀ t : Fin cfg0.N, win0_0.index t = ![15 - t.val, 0] ∧ win0_1.index t = ![15 - t.val, 0] ∧ win0_2.index t = ![15 - t.val, 0, 0]
    ∧ win0_3.index t = ![4 * (15 - t.val) - 1, 0, 0] ∧ win0_4.index t = ![0, 0] ∧ win0_5.index t = ![0, 0] ∧ win0_6.index t = ![0, 0] :=
  (by decide +kernel : ∀ t : Fin grid0.N, _)

/-- Whether there is a block before it. -/
theorem bits_eq : ∀ t : Fin cfg0.N, bI (grid0.coords t) = BitVec.ofBool (decide (15 - t.val ≠ 0)) :=
  (by decide +kernel : ∀ t : Fin grid0.N, bI (grid0.coords t) = BitVec.ofBool (decide (15 - t.val ≠ 0)))

/-- The projections the kernel reads, at an index. -/
theorem pad_eq (c : Dev nD) (i : Fin 4096) (j : Fin 3200) :
    (V m c main_v45 : FVec Ideal S4096x3200 .f32) (ix2 i j) = padded (projOf m c) (ix2 i j) := by
  have e : (V m c main_v45 : FVec Ideal S4096x3200 .f32) = concatenate S4096x3200 1 [⟨S4096x3088, projOf m c⟩, ⟨S4096x112, broadcastInDim S4096x112 ![] bcast_S_S4096x112 (constant (F := Ideal) S_ .f32 0x00000000#32)⟩] concatenates_S4096x3088_S4096x112_S4096x3200_d1 := by
    entry_read
    rfl
  rw [e]
  unfold padded
  pointwise

/-- The gates' weight as the host pads it: 16 rows of the argument, then zeros. -/
theorem wpad_eq (c : Dev nD) (r : Fin 128) (j : Fin 512) :
    (V m c main_v48 : FVec Ideal S128x512 .bf16) (ix2 r j) = if h : r.val < 16 then wg2Of m c (ix2 ⟨r.val, h⟩ j) else (0 : EReal) := by
  have e : (V m c main_v48 : FVec Ideal S128x512 .bf16) = truncf .bf16 (concatenate S128x512 0 [⟨S16x512, wg2Of m c⟩, ⟨S112x512, broadcastInDim S112x512 ![] bcast_S_S112x512 (constant (F := Ideal) S_ .f32 0x00000000#32)⟩] concatenates_S16x512_S112x512_S128x512_d0) bitsLt_bf16_f32 := by
    entry_read
    rfl
  rw [e]
  pointwise

/-- The block of projections at point `t`. -/
theorem x0_eq (c : Dev nD) (t : Fin cfg0.N) (r : Fin 256) (j : Fin 3200) (i : Fin 4096) (hi : i.val = 256 * (15 - t.val) + r.val) :
    (iblk m c 0 t : Vec Ideal S256x3200 .f32) (ix2 r j) = padded (projOf m c) (ix2 i j) := by
  refine Eq.trans ?_ (pad_eq m c i j)
  blk_point [iblk, idx_read t]

/-- The block of the outputs' gradient. -/
theorem x1_eq (c : Dev nD) (t : Fin cfg0.N) (r : Fin 256) (j : Fin 1024) (i : Fin 4096) (hi : i.val = 256 * (15 - t.val) + r.val) :
    (iblk m c 1 t : Vec Ideal S256x1024 .f32) (ix2 r j) = dogOf m c (ix2 i j) := by
  blk_point [iblk, idx_read t]

/-- The states after the block's chunks. -/
theorem x2_eq (c : Dev nD) (t : Fin cfg0.N) (n : Fin 4) (k : Fin 512) (e : Fin 256) (i : Fin 64) (hi : i.val = 4 * (15 - t.val) + n.val) :
    (iblk m c 2 t : Vec Ideal S4x512x256 .f32) (ix3 n k e) = (V m c main_v43 : FVec Ideal S64x512x256 .f32) (ix3 i k e) := by
  blk_point [iblk, idx_read t]

/-- The state before the block. -/
theorem x3_eq (c : Dev nD) (t : Fin cfg0.N) (k : Fin 512) (e : Fin 256) (i : Fin 64) (hi : i.val = 4 * (15 - t.val) - 1) :
    (iblk m c 3 t : Vec Ideal S1x512x256 .f32) (ix3 0 k e) = (V m c main_v43 : FVec Ideal S64x512x256 .f32) (ix3 i k e) := by
  blk_point [iblk, idx_read t]

/-- The gates' weight. -/
theorem x4_eq (c : Dev nD) (t : Fin cfg0.N) (r : Fin 128) (j : Fin 512) :
    (iblk m c 4 t : Vec Ideal S128x512 .bf16) (ix2 r j) = if h : r.val < 16 then wg2Of m c (ix2 ⟨r.val, h⟩ j) else (0 : EReal) := by
  refine Eq.trans ?_ (wpad_eq m c r j)
  blk_point [iblk, idx_read t]

/-- The gates' bias. -/
theorem x5_eq (c : Dev nD) (t : Fin cfg0.N) (j : Fin 512) :
    (iblk m c 5 t : Vec Ideal S1x512 .f32) (ix2 0 j) = bgOf m c (ix2 0 j) := by
  blk_point [iblk, idx_read t]

/-- The norm's gain. -/
theorem x6_eq (c : Dev nD) (t : Fin cfg0.N) (j : Fin 1024) :
    (iblk m c 6 t : Vec Ideal S1x1024 .f32) (ix2 0 j) = gnOf m c (ix2 0 j) := by
  blk_point [iblk, idx_read t]

section
variable {m} {P Gt D W : ℕ → ℕ → ℝ} {N : ℕ → ℝ} {c : Dev nD} (H : Real5 P Gt D W N (padded (projOf m c)) (dogOf m c) (wg2Of m c) (bgOf m c) (gnOf m c))
include H

/-- The projections are real. -/
theorem projs_coe (i : Fin 4096) (j : Fin 3088) : projOf m c (ix2 i j) = (P i.val j.val : EReal) := by
  rw [← H.projs i ⟨j.val, by omega⟩]
  have hj := j.isLt
  show _ = if h : j.val < 3088 then projOf m c (ix2 i ⟨j.val, h⟩) else (0 : EReal)
  rw [dif_pos hj]

/-- The gates' inputs are real. -/
theorem gates_coe (i : Fin 4096) (k : Fin 512) : (∑ l : Fin 16, projOf m c (ix2 i (gcol l)) * wg2Of m c (ix2 l k)) + bgOf m c (ix2 0 k) = (Gt i.val k.val : EReal) := by
  rw [← H.gates.gates i k]
  refine congrArg (fun z : EReal => z + bgOf m c (ix2 0 k)) (Finset.sum_congr rfl fun l _ => congrArg (fun z : EReal => z * wg2Of m c (ix2 l k)) ?_)
  rw [projs_coe H, H.projs]

/-- The states the host computes are the real ones. -/
theorem states_coe (n : Fin 64) (k : Fin 512) (e : Fin 256) :
    (V m c main_v43 : FVec Ideal S64x512x256 .f32) (ix3 n k e) = (St P (fun i k => gate (Gt i k)) (n.val + 1) k.val e.val : EReal) := by
  rw [states_term (projOf m c) (wg2Of m c) (bgOf m c) m c rfl rfl rfl]
  exact statesH_coe (projs_coe H) (gates_coe H) n k e

/-- What a grid point reads: its block of rows, on real numbers, with the carried gradient of the state. -/
theorem blk (t : Fin cfg0.N) (xs0 : Vec Ideal S512x256 .f32) (hx : ∀ (k : Fin 512) (e : Fin 256), xs0 (ix2 k e)
      = ((if 15 - t.val = 15 then 0 else Real.exp (ge (fun i k => gate (Gt i k)) k.val (4 * (15 - t.val) + 4)) * Gn P (fun i k => gate (Gt i k)) D N (4 * (15 - t.val) + 4) k.val e.val : ℝ) : EReal)) :
    Blk P Gt D W N (15 - t.val) (iblk m c 0 t) (iblk m c 1 t) (iblk m c 2 t) (iblk m c 3 t) (iblk m c 4 t) (iblk m c 5 t) (iblk m c 6 t) xs0 (bI (grid0.coords t)) where
  lt := by omega
  zero := H.zero
  proj r j := (x0_eq m c t r j ⟨256 * (15 - t.val) + r.val, by omega⟩ rfl).trans (H.projs _ _)
  dog r j := (x1_eq m c t r j ⟨256 * (15 - t.val) + r.val, by omega⟩ rfl).trans (H.dogs _ _)
  states n k e := (x2_eq m c t n k e ⟨4 * (15 - t.val) + n.val, by omega⟩ rfl).trans (states_coe H _ k e)
  first h k e := by
    refine (x3_eq m c t k e ⟨4 * (15 - t.val) - 1, by omega⟩ rfl).trans ((states_coe H _ k e).trans ?_)
    rw [show 4 * (15 - t.val) - 1 + 1 = 4 * (15 - t.val) by omega]
  bits := bits_eq t
  wg2 l k := by
    rw [x4_eq m c t l k]
    by_cases h : l.val < 16
    · rw [dif_pos h, if_pos h]; exact H.wg2s ⟨l.val, h⟩ k
    · rw [dif_neg h, if_neg h]; exact EReal.coe_zero.symm
  gates r k := by
    rw [← H.gates.gates ⟨256 * (15 - t.val) + r.val, by omega⟩ k, x5_eq m c t k]
    refine congrArg (fun z : EReal => z + bgOf m c (ix2 0 k)) ?_
    refine Eq.trans (Finset.sum_congr rfl fun l _ => ?_) (sum_padded (fun l => padded (projOf m c) (ix2 ⟨256 * (15 - t.val) + r.val, by omega⟩ ⟨3072 + l.val, by omega⟩)) (fun l => wg2Of m c (ix2 l k)))
    exact congrArg₂ (fun a b : EReal => a * b) (x0_eq m c t r ⟨3072 + l.val, by omega⟩ ⟨256 * (15 - t.val) + r.val, by omega⟩ rfl) (x4_eq m c t l k)
  gain j := (x6_eq m c t j).trans (H.gns j)
  carried := hx

end

/-- A sum over the rows from a block on: the later blocks' rows and the block's. -/
theorem tail_step (f : ℕ → ℝ) (b : ℕ) (hb : b < 16) :
    ∑ i ∈ Finset.Ico (256 * b) 4096, f i = ∑ i ∈ Finset.Ico (256 * (b + 1)) 4096, f i + ∑ r : Fin 256, f (256 * b + r.val) := by
  rw [← Finset.sum_Ico_consecutive f (show 256 * b ≤ 256 * (b + 1) by omega) (show 256 * (b + 1) ≤ 4096 by omega), add_comm, Finset.sum_Ico_eq_sum_range f (256 * b),
    show 256 * (b + 1) - 256 * b = 256 by omega, Finset.sum_range]

/-- A running sum over the rows from a block on, with the block's added. -/
theorem tail_coe (f : ℕ → ℝ) (b : ℕ) (hb : b < 16) (x : EReal) (hx : x = ((∑ i ∈ Finset.Ico (256 * (b + 1)) 4096, f i : ℝ) : EReal)) :
    x + ((∑ r : Fin 256, f (256 * b + r.val) : ℝ) : EReal) = ((∑ i ∈ Finset.Ico (256 * b) 4096, f i : ℝ) : EReal) := by
  rw [hx, ← EReal.coe_add, ← tail_step f b hb]

/-- Nothing lies beyond the last block. -/
theorem tail_none (f : ℕ → ℝ) : (0 : EReal) = ((∑ i ∈ Finset.Ico (256 * (15 + 1)) 4096, f i : ℝ) : EReal) := by
  simp

/-- The whole of the rows. -/
theorem tail_all (f : ℕ → ℝ) : ∑ i ∈ Finset.Ico (256 * 0) 4096, f i = ∑ i : Fin 4096, f i.val := by
  rw [Nat.mul_zero, ← Finset.range_eq_Ico, Finset.sum_range]

section
variable {m} {P Gt D W : ℕ → ℕ → ℝ} {N : ℕ → ℝ} {c : Dev nD} (H : Real5 P Gt D W N (padded (projOf m c)) (dogOf m c) (wg2Of m c) (bgOf m c) (gnOf m c))

/-- What a grid point leaves: its rows' gradients, the sums over the rows so far, and the gradient of the state carried on. -/
structure After (P Gt D W : ℕ → ℕ → ℝ) (N : ℕ → ℝ) (b : ℕ) (o : Vec Ideal S256x3200 .bf16 × Vec Ideal S128x512 .f32 × Vec Ideal S1x512 .f32 × Vec Ideal S1x1024 .f32 × Vec Ideal S512x256 .f32) : Prop where
  rows : ∀ (r : Fin 256) (j : Fin 3200), o.1 (ix2 r j) = (dpN P (fun i k => gate (Gt i k)) D N Gt W (256 * b + r.val) j.val : EReal)
  weight : ∀ (l : Fin 128) (k : Fin 512), o.2.1 (ix2 l k) = ((∑ i ∈ Finset.Ico (256 * b) 4096, dgp P (fun i k => gate (Gt i k)) D N Gt i k.val * P i (3072 + l.val) : ℝ) : EReal)
  bias : ∀ k : Fin 512, o.2.2.1 (ix2 0 k) = ((∑ i ∈ Finset.Ico (256 * b) 4096, dgp P (fun i k => gate (Gt i k)) D N Gt i k.val : ℝ) : EReal)
  gain : ∀ j : Fin 1024, o.2.2.2.1 (ix2 0 j) = ((∑ i ∈ Finset.Ico (256 * b) 4096, dt P D i j.val * (out P (fun i k => gate (Gt i k)) (i / 64) (i % 64) (j.val / 256) (j.val % 256)
    * rs P (fun i k => gate (Gt i k)) (i / 64) (i % 64) (j.val / 256)) : ℝ) : EReal)
  state : ∀ (k : Fin 512) (e : Fin 256), o.2.2.2.2 (ix2 k e) = ((Real.exp (ge (fun i k => gate (Gt i k)) k.val (4 * b)) * Gn P (fun i k => gate (Gt i k)) D N (4 * b) k.val e.val : ℝ) : EReal)

include H

/-- What a grid point leaves. -/
theorem point (n : ℕ) (hn : n < cfg0.N) : After P Gt D W N (15 - n) (outsAt0 m c n hn) := by
  have hN : cfg0.N = 16 := N_0
  induction n with
  | zero =>
    have B := blk H ⟨0, hn⟩ (k0_pay3 (F := Ideal)) fun k e => by
      rw [if_pos (show 15 - (⟨0, hn⟩ : Fin cfg0.N).val = 15 from rfl)]
      pointwise [k0_pay3]
      simp
    rw [outsAt0_A m c ⟨0, hn⟩ rfl]
    refine ⟨fun r j => ?_, fun l k => ?_, fun k => ?_, fun j => ?_, fun k e => ?_⟩
    · dsimp only; rw [ptProjA]; exact dp_coe B r j
    · dsimp only; rw [ptGateA]
      refine Eq.trans (congrArg₂ (fun a b : EReal => a + b) ?_ (dwg_coe B l k)) (tail_coe (fun i => dgp P (fun i k => gate (Gt i k)) D N Gt i k.val * P i (3072 + l.val)) 15 (by omega) 0 (tail_none _))
      exact Ideal.ofBits_zero_f32
    · dsimp only; rw [ptBiasA]
      refine (dbg_coe B _ k).trans (tail_coe (fun i => dgp P (fun i k => gate (Gt i k)) D N Gt i k.val) 15 (by omega) _ (Eq.trans ?_ (tail_none _)))
      exact Ideal.ofBits_zero_f32
    · dsimp only; rw [ptGainA]
      refine (dgn_coe B _ j).trans (tail_coe (fun i => dt P D i j.val * (out P (fun i k => gate (Gt i k)) (i / 64) (i % 64) (j.val / 256) (j.val % 256)
        * rs P (fun i k => gate (Gt i k)) (i / 64) (i % 64) (j.val / 256))) 15 (by omega) _ (Eq.trans ?_ (tail_none _)))
      exact Ideal.ofBits_zero_f32
    · dsimp only; rw [ptStateA]; exact carried_coe B k e
  | succ n ih =>
    have ih := ih (by omega)
    have e0 : 15 - (n + 1) + 1 = 15 - n := by omega
    have B := blk H ⟨n + 1, hn⟩ (outsAt0 m c n (by omega)).2.2.2.2 fun k e => by
      rw [if_neg (show ¬15 - (n + 1) = 15 by omega), show 4 * (15 - (n + 1)) + 4 = 4 * (15 - n) by omega]
      exact ih.state k e
    rw [outsAt0_B m c ⟨n + 1, hn⟩ (show ¬(n + 1) % 16 = 0 by omega)]
    refine ⟨fun r j => ?_, fun l k => ?_, fun k => ?_, fun j => ?_, fun k e => ?_⟩
    · dsimp only; rw [ptProjB]; exact dp_coe B r j
    · dsimp only; rw [ptGateB]
      exact Eq.trans (congrArg₂ (fun a b : EReal => a + b) (ih.weight l k) (dwg_coe B l k))
        (tail_coe (fun i => dgp P (fun i k => gate (Gt i k)) D N Gt i k.val * P i (3072 + l.val)) (15 - (n + 1)) (by omega) _ (by rw [e0]))
    · dsimp only; rw [ptBiasB]
      exact (dbg_coe B _ k).trans (tail_coe (fun i => dgp P (fun i k => gate (Gt i k)) D N Gt i k.val) (15 - (n + 1)) (by omega) _ (by rw [e0]; exact ih.bias k))
    · dsimp only; rw [ptGainB]
      exact (dgn_coe B _ j).trans (tail_coe (fun i => dt P D i j.val * (out P (fun i k => gate (Gt i k)) (i / 64) (i % 64) (j.val / 256) (j.val % 256)
        * rs P (fun i k => gate (Gt i k)) (i / 64) (i % 64) (j.val / 256))) (15 - (n + 1)) (by omega) _ (by rw [e0]; exact ih.gain j))
    · dsimp only; rw [ptStateB]; exact carried_coe B k e

end

/-- The block indices of the results' windows at grid point `t`. -/
theorem idx_written : ∀ t : Fin cfg0.N, win0_7.index t = ![15 - t.val, 0] ∧ win0_8.index t = ![0, 0] ∧ win0_9.index t = ![0, 0] ∧ win0_10.index t = ![0, 0] :=
  (by decide +kernel : ∀ t : Fin grid0.N, _)

/-- The sums are written back after the last point only. -/
theorem flush_last : ∀ t : Fin cfg0.N, ((cfg0.win 8).flush t = true → t.val = 15) ∧ ((cfg0.win 9).flush t = true → t.val = 15) ∧ ((cfg0.win 10).flush t = true → t.val = 15) :=
  (by decide +kernel : ∀ t : Fin grid0.N, _)

section
variable {m} {P Gt D W : ℕ → ℕ → ℝ} {N : ℕ → ℝ} {c : Dev nD} (H : Real5 P Gt D W N (padded (projOf m c)) (dogOf m c) (wg2Of m c) (bgOf m c) (gnOf m c))
include H

/-- The gradient of the projections. -/
theorem final_proj : (dats m 0 c).arrAt 7 cfg0.N = (fun y => (dpN P (fun i k => gate (Gt i k)) D N Gt W (y 0).val (y 1).val : EReal) : FVec Ideal S4096x3200 .bf16) := by
  refine (dats m 0 c).arrAt_eq_of_covers 7 _ (by decide +kernel) fun t _ y => ?_
  blk_simp
  rw [after0_7]
  refine Eq.trans ?_ (((point H t.val t.isLt).rows (y 0) (y 1)).trans ?_)
  · exact congrArg _ (by idx_ext)
  · rw [(idx_written t).1]
    have e0 : ((![15 - t.val, 0] : Fin 2 → ℕ) 0) * 256 + (y 0).val = 256 * (15 - t.val) + (y 0).val := by simp; ring
    have e1 : ((![15 - t.val, 0] : Fin 2 → ℕ) 1) * 3200 + (y 1).val = (y 1).val := by simp
    rw [e0, e1]

/-- The gradient of the gates' weight. -/
theorem final_weight : (dats m 0 c).arrAt 8 cfg0.N = (fun y => (dwgN P (fun i k => gate (Gt i k)) D N Gt (y 0).val (y 1).val : EReal) : FVec Ideal S128x512 .f32) := by
  refine (dats m 0 c).arrAt_eq_of_covers 8 _ (by decide +kernel) fun t hf y => ?_
  have ht := (flush_last t).1 hf
  blk_simp
  rw [after0_8]
  refine Eq.trans ?_ (((point H t.val t.isLt).weight (y 0) (y 1)).trans ?_)
  · exact congrArg _ (by idx_ext)
  · rw [(idx_written t).2.1, ht]
    have e0 : ((![0, 0] : Fin 2 → ℕ) 0) * 128 + (y 0).val = (y 0).val := by simp
    have e1 : ((![0, 0] : Fin 2 → ℕ) 1) * 512 + (y 1).val = (y 1).val := by simp
    rw [e0, e1, dwgN]
    split
    · rw [tail_all]
    · rw [EReal.coe_zero, EReal.coe_eq_zero]
      exact Finset.sum_eq_zero fun i _ => by rw [H.zero i _ (by omega), mul_zero]

/-- The gradient of the gates' bias. -/
theorem final_bias : (dats m 0 c).arrAt 9 cfg0.N = (fun y => (dbgN P (fun i k => gate (Gt i k)) D N Gt (y 1).val : EReal) : FVec Ideal S1x512 .f32) := by
  refine (dats m 0 c).arrAt_eq_of_covers 9 _ (by decide +kernel) fun t hf y => ?_
  have ht := (flush_last t).2.1 hf
  have hy : (y 0).val = 0 := by have : (y 0).val < 1 := (y 0).isLt; omega
  blk_simp
  rw [after0_9]
  refine Eq.trans ?_ (((point H t.val t.isLt).bias (y 1)).trans ?_)
  · exact congrArg _ (by idx_ext)
  · rw [(idx_written t).2.2.1, ht]
    have e1 : ((![0, 0] : Fin 2 → ℕ) 1) * 512 + (y 1).val = (y 1).val := by simp
    rw [e1, dbgN, tail_all]

/-- The gradient of the gain. -/
theorem final_gain : (dats m 0 c).arrAt 10 cfg0.N = (fun y => (dgnn P (fun i k => gate (Gt i k)) D (y 1).val : EReal) : FVec Ideal S1x1024 .f32) := by
  refine (dats m 0 c).arrAt_eq_of_covers 10 _ (by decide +kernel) fun t hf y => ?_
  have ht := (flush_last t).2.2 hf
  have hy : (y 0).val = 0 := by have : (y 0).val < 1 := (y 0).isLt; omega
  blk_simp
  rw [after0_10]
  refine Eq.trans ?_ (((point H t.val t.isLt).gain (y 1)).trans ?_)
  · exact congrArg _ (by idx_ext)
  · rw [(idx_written t).2.2.2, ht]
    have e1 : ((![0, 0] : Fin 2 → ℕ) 1) * 1024 + (y 1).val = (y 1).val := by simp
    rw [e1, dgnn, tail_all]

end

/-- What the kernel leaves in its four results. -/
theorem values (m : (ℓ : Loc nD τ sig) → Buf (Elt Ideal) ℓ) (ρ : Dev nD → PrngReg) (P Gt D W : Dev nD → ℕ → ℕ → ℝ) (N : Dev nD → ℕ → ℝ)
    (H : ∀ c, Real5 (P c) (Gt c) (D c) (W c) (N c) (padded (projOf m c)) (dogOf m c) (wg2Of m c) (bgOf m c) (gnOf m c)) :
    θ_run defs (onTc (τ := τ) (main (F := Ideal))) ⟨m, fun _ => 0, ρ⟩ fun r => ∀ c : Dev nD,
      r.2.mem ((c : Thread nD τ).loc main_v49_0) = (fun y => (dpN (P c) (fun i k => gate (Gt c i k)) (D c) (N c) (Gt c) (W c) (y 0).val (y 1).val : EReal) : FVec Ideal S4096x3200 .bf16)
      ∧ r.2.mem ((c : Thread nD τ).loc main_v49_1) = (fun y => (dwgN (P c) (fun i k => gate (Gt c i k)) (D c) (N c) (Gt c) (y 0).val (y 1).val : EReal) : FVec Ideal S128x512 .f32)
      ∧ r.2.mem ((c : Thread nD τ).loc main_v49_2) = (fun y => (dbgN (P c) (fun i k => gate (Gt c i k)) (D c) (N c) (Gt c) (y 1).val : EReal) : FVec Ideal S1x512 .f32)
      ∧ r.2.mem ((c : Thread nD τ).loc main_v49_3) = (fun y => (dgnn (P c) (fun i k => gate (Gt c i k)) (D c) (y 1).val : EReal) : FVec Ideal S1x1024 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
    obtain ⟨h7, h8, h9, h10, hk⟩ := h c
    exact ⟨h7.trans (final_proj (H c)), h8.trans (final_weight (H c)), h9.trans (final_bias (H c)), h10.trans (final_gain (H c)), hk⟩) (Value.run_blocks m ρ)

end Cert.Kernel4Ideal.Gla

end
-- ==== Proof.GlbSteps.lean ====
module

public import proofs.«01_k».proof.Proof.Gen.Reference4Ideal.Run
public import proofs.«01_k».proof.Proof.GlaReference
public import proofs.«01_k».proof.Proof.GlbMaths
public import Idealize.ShloMosaic.Lib.Pipeline.ValueKit
public import Idealize.ShloMosaic.Lib.Pointwise
public import Idealize.ShloMosaic.Lib.WordCmp

/-!
# The steps of the reference's gradient of the gated linear attention

The host program's backward pass, step by step, each step a function of arrays read at an index. The forward part is
that of Proof/GlaReference.lean.
-/

@[expose] public section

set_option maxRecDepth 16384

noncomputable section

open Idealize.ShloMosaic Idealize.ShloMosaic.TcCoe Idealize.SL.Sem

namespace Cert.Reference4Ideal.Gla

open Cert.Reference4Ideal Cert.Reference4Ideal.Gen Cert.Gla
open Cert.Reference3Ideal.Gla (G_ E_ K_ A_ S_b ends3 queries vals between decays outputs normed logGate gateIn slt64)

/-! ## The steps -/

/-- The mean squares of the outputs, with the small number. -/
def means (O : FVec Ideal S64x4x64x256 .f32) : FVec Ideal S64x4x64x1 .f32 :=
  addf (Host.divf (broadcastInDim S64x4x64x1 ![0, 1, 2] bcast_S64x4x64_S64x4x64x1_0_1_2 (Host.reduceAdd (mulf O O) (constant S_ .f32 0x00000000#32) reducesTo_S64x4x64x256_S64x4x64_d3 h_S_))
    (broadcastInDim S64x4x64x1 ![] bcast_S_S64x4x64x1 (constant S_ .f32 0x43800000#32))) (broadcastInDim S64x4x64x1 ![] bcast_S_S64x4x64x1 (constant S_ .f32 0x358637BD#32))

/-- The output gates. -/
def gates (proj : FVec Ideal S4096x3200 .f32) : FVec Ideal S4096x1024 .f32 := extractStridedSlice S4096x1024 ![0, 2048] proj slices_S4096x3200_S4096x1024_0_2048

/-- The logistic function of the output gates. -/
def sigs (R : FVec Ideal S4096x1024 .f32) : FVec Ideal S4096x1024 .f32 :=
  Host.divf (broadcastInDim S4096x1024 ![] bcast_S_S4096x1024 (constant S_ .f32 0x3F800000#32)) (addf (broadcastInDim S4096x1024 ![] bcast_S_S4096x1024 (constant S_ .f32 0x3F800000#32)) (Host.exp (Host.negf R)))

/-- The gradient of the gain's products. -/
def dts (dog R s : FVec Ideal S4096x1024 .f32) : FVec Ideal S4096x1024 .f32 := mulf dog (mulf R s)

/-- The gradient of the gain. -/
def dgains (N T : FVec Ideal S4096x1024 .f32) : FVec Ideal S1x1024 .f32 :=
  shapeCast _ (Host.reduceAdd (mulf N T) (constant S_ .f32 0x00000000#32) reducesTo_S4096x1024_S1024_d0 h_S_) shapeCasts_S1024_S1x1024

/-- The products of the normed outputs, the gain and the gradient that comes in. -/
def prods (N dog : FVec Ideal S4096x1024 .f32) (gn : FVec Ideal S1x1024 .f32) : FVec Ideal S4096x1024 .f32 :=
  mulf (mulf N (broadcastInDim S4096x1024 ![0, 1] bcast_S1x1024_S4096x1024_0_1 gn)) dog

/-- The gradient of the output gates. -/
def drs (R s T : FVec Ideal S4096x1024 .f32) : FVec Ideal S4096x1024 .f32 :=
  addf (mulf T s) (mulf (mulf R T) (mulf s (subf (broadcastInDim S4096x1024 ![] bcast_S_S4096x1024 (constant S_ .f32 0x3F800000#32)) s)))

/-- The gradient of the normed outputs, by chunk and head. -/
def dons (T : FVec Ideal S4096x1024 .f32) (gn : FVec Ideal S1x1024 .f32) : FVec Ideal S64x4x64x256 .f32 :=
  transpose S64x4x64x256 [0, 2, 1, 3] (shapeCast _ (mulf T (broadcastInDim S4096x1024 ![0, 1] bcast_S1x1024_S4096x1024_0_1 gn)) shapeCasts_S4096x1024_S64x64x4x256) transposes_S64x64x4x256_S64x4x64x256_0_2_1_3

/-- The gradient of the outputs' squares. -/
def dsqs (O N : FVec Ideal S64x4x64x256 .f32) (M : FVec Ideal S64x4x64x1 .f32) : FVec Ideal S64x4x64x256 .f32 :=
  broadcastInDim S64x4x64x256 ![0, 1, 2] bcast_S64x4x64_S64x4x64x256_0_1_2 (Host.reduceAdd (Host.divf (mulf (shapeCast _ (Host.reduceAdd (mulf O N) (constant S_ .f32 0x00000000#32) reducesTo_S64x4x64x256_S64x4x64_d3 h_S_) shapeCasts_S64x4x64_S64x4x64x1)
    (mulf (broadcastInDim S64x4x64x1 ![] bcast_S_S64x4x64x1 (constant S_ .f32 0xBF000000#32)) (Host.divf (Host.rsqrt M) M))) (broadcastInDim S64x4x64x1 ![] bcast_S_S64x4x64x1 (constant S_ .f32 0x43800000#32))) (constant S_ .f32 0x00000000#32) reducesTo_S64x4x64x1_S64x4x64_d3 h_S_)

/-- The gradient of the outputs. -/
def dos (O N C : FVec Ideal S64x4x64x256 .f32) (M : FVec Ideal S64x4x64x1 .f32) : FVec Ideal S64x4x64x256 .f32 :=
  addf (addf (mulf N (broadcastInDim S64x4x64x256 ![0, 1, 2, 3] bcast_S64x4x64x1_S64x4x64x256_0_1_2_3 (Host.rsqrt M))) (mulf O C)) (mulf C O)

/-- The queries decayed over their chunk. -/
def qdec (Q : FVec Ideal S64x64x4x128 .f32) (E : FVec Ideal S64x1x4x128 .f32) : FVec Ideal S64x64x4x128 .f32 :=
  mulf Q (broadcastInDim S64x64x4x128 ![0, 1, 2, 3] bcast_S64x1x4x128_S64x64x4x128_0_1_2_3 (Host.exp E))

/-- The gradient of the decayed queries. -/
def dqds (X : FVec Ideal S64x4x64x256 .f32) (S : FVec Ideal S64x4x128x256 .f32) : FVec Ideal S64x64x4x128 .f32 :=
  transpose S64x64x4x128 [0, 2, 1, 3] (Host.dotGeneral dot_S64x4x64x256_S64x4x128x256_S64x4x64x128_3_3_2_2_01_01 none X S) transposes_S64x4x64x128_S64x64x4x128_0_2_1_3

/-- The gradient of the states before the chunks. -/
def dsts (X : FVec Ideal S64x4x64x256 .f32) (Q : FVec Ideal S64x64x4x128 .f32) : FVec Ideal S4x128x256x64 .f32 :=
  transpose S4x128x256x64 [1, 2, 3, 0] (transpose S64x4x128x256 [0, 1, 3, 2] (Host.dotGeneral dot_S64x4x64x256_S64x64x4x128_S64x4x256x128_2_1_3_3_01_02 none X Q) transposes_S64x4x256x128_S64x4x128x256_0_1_3_2) transposes_S64x4x128x256_S4x128x256x64_1_2_3_0

/-- The gradient of what the chunks add to the states. -/
def dadds (Z : FVec Ideal S4x128x256x64 .f32) (D : FVec Ideal S64x64x4x128 .f32) : FVec Ideal S64x4x128x256 .f32 :=
  transpose S64x4x128x256 [3, 0, 1, 2] (Host.dotGeneral dot_S4x128x256x64_S64x64x4x128_S4x128x256x64_3_0_2_1_01_23 none Z D) transposes_S4x128x256x64_S64x4x128x256_3_0_1_2

/-- The gradient of the scores. -/
def dscs (X : FVec Ideal S64x4x64x256 .f32) (W : FVec Ideal S64x64x4x256 .f32) : FVec Ideal S64x4x64x64 .f32 :=
  Host.dotGeneral dot_S64x4x64x256_S64x64x4x256_S64x4x64x64_3_3_2_1_01_02 none X W

/-- The gradient of the decayed keys. -/
def dkds (B : FVec Ideal S64x4x128x256 .f32) (W : FVec Ideal S64x64x4x256 .f32) (C : FVec Ideal S64x4x64x64 .f32) (Q : FVec Ideal S64x64x4x128 .f32) : FVec Ideal S64x64x4x128 .f32 :=
  addf (transpose S64x64x4x128 [0, 3, 1, 2] (Host.dotGeneral dot_S64x4x128x256_S64x64x4x256_S64x4x128x64_3_3_2_1_01_02 none B W) transposes_S64x4x128x64_S64x64x4x128_0_3_1_2)
    (transpose S64x64x4x128 [0, 2, 1, 3] (Host.dotGeneral dot_S64x4x64x64_S64x64x4x128_S64x4x64x128_2_1_3_3_01_02 none C Q) transposes_S64x4x64x128_S64x64x4x128_0_2_1_3)

/-- The keys. -/
def rawk (proj : FVec Ideal S4096x3200 .f32) : FVec Ideal S64x64x4x128 .f32 :=
  shapeCast _ (extractStridedSlice S4096x512 ![0, 512] proj slices_S4096x3200_S4096x512_0_512) shapeCasts_S4096x512_S64x64x4x128

/-- The keys' decays. -/
def kdec (G : FVec Ideal S64x64x4x128 .f32) (E : FVec Ideal S64x1x4x128 .f32) : FVec Ideal S64x64x4x128 .f32 :=
  Host.exp (subf (broadcastInDim S64x64x4x128 ![0, 1, 2, 3] bcast_S64x1x4x128_S64x64x4x128_0_1_2_3 E) G)

/-- The gradient of the logarithms of the keys' decays. -/
def dwws (R D K : FVec Ideal S64x64x4x128 .f32) : FVec Ideal S64x64x4x128 .f32 := mulf (mulf R D) K

/-- The gradient of the sums over the chunks between two. -/
def dbtw (Z : FVec Ideal S4x128x256x64 .f32) (A : FVec Ideal S64x4x128x256 .f32) (X : FVec Ideal S64x64x4x128 .f32) : FVec Ideal S64x64x4x128 .f32 :=
  mulf (select (broadcastInDim S64x64x4x128 ![0, 1, 2, 3] bcast_S64x64x1x1_S64x64x4x128_0_1_2_3 (cmpi .slt (iotaInDim S64x64x1x1 32 1) (iotaInDim S64x64x1x1 32 0)))
    (transpose S64x64x4x128 [2, 3, 0, 1] (Host.dotGeneral dot_S4x128x256x64_S64x4x128x256_S4x128x64x64_2_3_3_0_01_12 none Z A) transposes_S4x128x64x64_S64x64x4x128_2_3_0_1)
    (broadcastInDim S64x64x4x128 ![] bcast_S_S64x64x4x128 (constant S_ .f32 0x00000000#32))) X

/-- The gradient of the chunks' whole sums, from the decays between the chunks. -/
def dbet (Y : FVec Ideal S64x64x4x128 .f32) : FVec Ideal S64x4x128 .f32 :=
  transpose S64x4x128 [2, 0, 1] (Host.dotGeneral dot_S64x64x4x128_S64x64x64_S4x128x64_01_01_23_2_n_n none Y
    (uitofp .f32 (andi (cmpi .slt (iotaInDim S64x64x64 32 1) (iotaInDim S64x64x64 32 2)) (cmpi .slt (iotaInDim S64x64x64 32 2) (iotaInDim S64x64x64 32 0))))) transposes_S4x128x64_S64x4x128_2_0_1

/-- The gradient of the chunks' whole sums. -/
def dends (Q X : FVec Ideal S64x64x4x128 .f32) (E : FVec Ideal S64x1x4x128 .f32) (B : FVec Ideal S64x4x128 .f32) (W : FVec Ideal S64x64x4x128 .f32) : FVec Ideal S64x1x4x128 .f32 :=
  addf (addf (mulf (shapeCast _ (Host.reduceAdd (mulf Q X) (constant S_ .f32 0x00000000#32) reducesTo_S64x64x4x128_S64x4x128_d1 h_S_) shapeCasts_S64x4x128_S64x1x4x128) (Host.exp E))
    (broadcastInDim S64x1x4x128 ![0, 2, 3] bcast_S64x4x128_S64x1x4x128_0_2_3 B))
    (shapeCast _ (Host.reduceAdd W (constant S_ .f32 0x00000000#32) reducesTo_S64x64x4x128_S64x4x128_d1 h_S_) shapeCasts_S64x4x128_S64x1x4x128)

/-- The gradient of the running sums. -/
def dgcs (W : FVec Ideal S64x64x4x128 .f32) (E : FVec Ideal S64x1x4x128 .f32) : FVec Ideal S64x64x512 .f32 :=
  shapeCast _ (addf (Host.negf W) (pad S64x64x4x128 ![0, 63, 0, 0] ![0, 0, 0, 0] ![0, 0, 0, 0] E (constant S_ .f32 0x00000000#32) pads_S64x1x4x128_S64x64x4x128_000_6300_000_000 h_S_)) shapeCasts_S64x64x4x128_S64x64x512

/-- The gradient of the logarithms of the gates. -/
def dlas (X : FVec Ideal S64x64x512 .f32) : FVec Ideal S64x64x512 .f32 :=
  Host.reduceWindowAdd ![1, 64, 1] ![1, 1, 1] ![0, 0, 0] ![0, 63, 0] X (broadcastInDim S_ ![] bcast_S_S_ (constant S_ .f32 0x00000000#32)) reduceWindows_S64x64x512_S64x64x512_w1s1p0_0_w64s1p0_63_w1s1p0_0 h_S_

/-- The logarithm of one plus the exponential, as the host takes it. -/
def softplus (g : FVec Ideal S4096x512 .f32) : FVec Ideal S4096x512 .f32 :=
  select (cmpf .une (subf g (broadcastInDim S4096x512 ![] bcast_S_S4096x512 (constant S_ .f32 0x00000000#32))) (subf g (broadcastInDim S4096x512 ![] bcast_S_S4096x512 (constant S_ .f32 0x00000000#32))))
    (addf g (broadcastInDim S4096x512 ![] bcast_S_S4096x512 (constant S_ .f32 0x00000000#32)))
    (addf (maximumf g (broadcastInDim S4096x512 ![] bcast_S_S4096x512 (constant S_ .f32 0x00000000#32)))
      (Host.log1p (Host.exp (Host.negf (Host.absf (subf g (broadcastInDim S4096x512 ![] bcast_S_S4096x512 (constant S_ .f32 0x00000000#32))))))))

/-- The array with zero for infinity. -/
def capped (g : FVec Ideal S4096x512 .f32) : FVec Ideal S4096x512 .f32 :=
  select (cmpf .oeq g (broadcastInDim S4096x512 ![] bcast_S_S4096x512 (constant S_ .f32 0x7F800000#32))) (broadcastInDim S4096x512 ![] bcast_S_S4096x512 (constant S_ .f32 0x00000000#32)) g

/-- The gradient of the gates' inputs. -/
def dgps (X : FVec Ideal S64x64x512 .f32) (g s : FVec Ideal S4096x512 .f32) : FVec Ideal S4096x512 .f32 :=
  Host.negf (mulf (Host.negf (Host.divf (shapeCast _ X shapeCasts_S64x64x512_S4096x512) (broadcastInDim S4096x512 ![] bcast_S_S4096x512 (constant S_ .f32 0x41800000#32))))
    (Host.exp (subf (capped g) (capped s))))

/-- The gradient of the queries. -/
def dqs (X : FVec Ideal S64x64x4x128 .f32) (E : FVec Ideal S64x1x4x128 .f32) (C : FVec Ideal S64x4x64x64 .f32) (K : FVec Ideal S64x64x4x128 .f32) : FVec Ideal S4096x512 .f32 :=
  shapeCast _ (mulf (addf (mulf X (broadcastInDim S64x64x4x128 ![0, 1, 2, 3] bcast_S64x1x4x128_S64x64x4x128_0_1_2_3 (Host.exp E)))
    (transpose S64x64x4x128 [0, 2, 1, 3] (Host.dotGeneral dot_S64x4x64x64_S64x64x4x128_S64x4x64x128_3_1_2_3_01_02 none C K) transposes_S64x4x64x128_S64x64x4x128_0_2_1_3))
    (broadcastInDim S64x64x4x128 ![] bcast_S_S64x64x4x128 (constant S_ .f32 0x3DB504F3#32))) shapeCasts_S64x64x4x128_S4096x512

/-- The gradient of the keys. -/
def dks (X D : FVec Ideal S64x64x4x128 .f32) : FVec Ideal S4096x512 .f32 := shapeCast _ (mulf X D) shapeCasts_S64x64x4x128_S4096x512

/-- The scores. -/
def scores (Q K : FVec Ideal S64x64x4x128 .f32) : FVec Ideal S64x4x64x64 .f32 :=
  Host.dotGeneral dot_S64x64x4x128_S64x64x4x128_S64x4x64x64_3_3_1_1_02_02 none Q K

/-- The gradient of the values. -/
def dvs (B : FVec Ideal S64x4x128x256 .f32) (K : FVec Ideal S64x64x4x128 .f32) (X : FVec Ideal S64x4x64x256 .f32) (C : FVec Ideal S64x4x64x64 .f32) : FVec Ideal S4096x1024 .f32 :=
  shapeCast _ (addf (transpose S64x64x4x256 [0, 3, 1, 2] (Host.dotGeneral dot_S64x4x128x256_S64x64x4x128_S64x4x256x64_2_3_3_1_01_02 none B K) transposes_S64x4x256x64_S64x64x4x256_0_3_1_2)
    (transpose S64x64x4x256 [0, 3, 1, 2] (Host.dotGeneral dot_S64x4x64x256_S64x4x64x64_S64x4x256x64_2_2_3_3_01_01 none X C) transposes_S64x4x256x64_S64x64x4x256_0_3_1_2)) shapeCasts_S64x64x4x256_S4096x1024

/-- The gradient of the low-rank gate. -/
def dgls (X : FVec Ideal S4096x512 .f32) (wg2 : FVec Ideal S16x512 .f32) : FVec Ideal S4096x16 .f32 :=
  Host.dotGeneral dot_S4096x512_S16x512_S4096x16_1_1_0_0_n_n none X wg2

/-- The gradient of the projections. -/
def dprojs (q k : FVec Ideal S4096x512 .f32) (v r : FVec Ideal S4096x1024 .f32) (l : FVec Ideal S4096x16 .f32) : FVec Ideal S4096x3200 .bf16 :=
  truncf .bf16 ((concatenate S4096x3200 1 [⟨S4096x512, q⟩, ⟨S4096x512, k⟩, ⟨S4096x1024, v⟩, ⟨S4096x1024, r⟩, ⟨S4096x16, l⟩,
    ⟨S4096x112, broadcastInDim S4096x112 ![] bcast_S_S4096x112 (constant S_ .f32 0x00000000#32)⟩] concatenates_S4096x512_S4096x512_S4096x1024_S4096x1024_S4096x16_S4096x112_S4096x3200_d1 : FVec Ideal S4096x3200 .f32)) bitsLt_bf16_f32

/-- The gradient of the gates' weight, with rows of zeros after its own. -/
def dwgs (X : FVec Ideal S4096x512 .f32) (proj : FVec Ideal S4096x3200 .f32) : FVec Ideal S128x512 .f32 :=
  pad S128x512 ![0, 0] ![112, 0] ![0, 0] (transpose S16x512 [1, 0] (Host.dotGeneral dot_S4096x512_S4096x16_S512x16_0_0_1_1_n_n none X
    (extractStridedSlice S4096x16 ![0, 3072] proj slices_S4096x3200_S4096x16_0_3072)) transposes_S512x16_S16x512_1_0) (sitofp .f32 (constantI S_ 32 0#32)) pads_S16x512_S128x512_01120_000 h_S_

/-- The gradient of the gates' bias. -/
def dbgs (X : FVec Ideal S4096x512 .f32) : FVec Ideal S1x512 .f32 :=
  shapeCast _ (Host.reduceAdd X (constant S_ .f32 0x00000000#32) reducesTo_S4096x512_S512_d0 h_S_) shapeCasts_S512_S1x512

/-! ## The steps read at an index -/

/-- The mean squares, at an index. -/
theorem means_apply (O : FVec Ideal S64x4x64x256 .f32) (n : Fin 64) (h : Fin 4) (s : Fin 64) :
    means O (ix4 n h s 0) = Ideal.div (∑ e : Fin 256, O (ix4 n h s e) * O (ix4 n h s e)) (Ideal.ofBits .f32 0x43800000#32) + Ideal.ofBits .f32 0x358637BD#32 := by
  pointwise [means]

/-- The output gates, at an index. -/
theorem gates_apply (proj : FVec Ideal S4096x3200 .f32) (i : Fin 4096) (j : Fin 1024) : gates proj (ix2 i j) = proj (ix2 i ⟨2048 + j.val, by omega⟩) := by
  pointwise [gates]

/-- Their logistic function, at an index. -/
theorem sigs_apply (R : FVec Ideal S4096x1024 .f32) (i : Fin 4096) (j : Fin 1024) : sigs R (ix2 i j) = Ideal.logistic (R (ix2 i j)) := by
  pointwise [sigs]
  rfl

/-- The gradient of the gain, at an index. -/
theorem dgains_apply (N T : FVec Ideal S4096x1024 .f32) (j : Fin 1024) : dgains N T (ix2 0 j) = ∑ i : Fin 4096, N (ix2 i j) * T (ix2 i j) := by
  pointwise [dgains]

/-- The products, at an index. -/
theorem prods_apply (N dog : FVec Ideal S4096x1024 .f32) (gn : FVec Ideal S1x1024 .f32) (i : Fin 4096) (j : Fin 1024) :
    prods N dog gn (ix2 i j) = N (ix2 i j) * gn (ix2 0 j) * dog (ix2 i j) := by
  pointwise [prods]

/-- The gradient of the output gates, at an index. -/
theorem drs_apply (R s T : FVec Ideal S4096x1024 .f32) (i : Fin 4096) (j : Fin 1024) :
    drs R s T (ix2 i j) = T (ix2 i j) * s (ix2 i j) + R (ix2 i j) * T (ix2 i j) * (s (ix2 i j) * (Ideal.ofBits .f32 0x3F800000#32 - s (ix2 i j))) := by
  pointwise [drs]

/-- The gradient of the normed outputs, at an index. -/
theorem dons_apply (T : FVec Ideal S4096x1024 .f32) (gn : FVec Ideal S1x1024 .f32) (n : Fin 64) (h : Fin 4) (s : Fin 64) (e : Fin 256) :
    dons T gn (ix4 n h s e) = T (ix2 ⟨64 * n.val + s.val, by omega⟩ ⟨256 * h.val + e.val, by omega⟩) * gn (ix2 0 ⟨256 * h.val + e.val, by omega⟩) := by
  pointwise [dons]
  congr 2 <;> idx_ext

/-- The gradient of the outputs' squares, at an index. -/
theorem dsqs_apply (O N : FVec Ideal S64x4x64x256 .f32) (M : FVec Ideal S64x4x64x1 .f32) (n : Fin 64) (h : Fin 4) (s : Fin 64) (e : Fin 256) :
    dsqs O N M (ix4 n h s e) = Ideal.div ((∑ c : Fin 256, O (ix4 n h s c) * N (ix4 n h s c))
      * (Ideal.ofBits .f32 0xBF000000#32 * Ideal.div (Ideal.rsqrt (M (ix4 n h s 0))) (M (ix4 n h s 0)))) (Ideal.ofBits .f32 0x43800000#32) := by
  pointwise [dsqs]
  exact Fin.sum_univ_one _

/-- The gradient of the outputs, at an index. -/
theorem dos_apply (O N C : FVec Ideal S64x4x64x256 .f32) (M : FVec Ideal S64x4x64x1 .f32) (n : Fin 64) (h : Fin 4) (s : Fin 64) (e : Fin 256) :
    dos O N C M (ix4 n h s e) = N (ix4 n h s e) * Ideal.rsqrt (M (ix4 n h s 0)) + O (ix4 n h s e) * C (ix4 n h s e) + C (ix4 n h s e) * O (ix4 n h s e) := by
  pointwise [dos]

/-- The decayed queries, at an index. -/
theorem qdec_apply (Q : FVec Ideal S64x64x4x128 .f32) (E : FVec Ideal S64x1x4x128 .f32) (n s : Fin 64) (h : Fin 4) (d : Fin 128) :
    qdec Q E (ix4 n s h d) = Q (ix4 n s h d) * Ideal.exp (E (ix4 n 0 h d)) := by
  pointwise [qdec]

/-- The gradient of the decayed queries, at an index. -/
theorem dqds_apply (X : FVec Ideal S64x4x64x256 .f32) (S : FVec Ideal S64x4x128x256 .f32) (n s : Fin 64) (h : Fin 4) (d : Fin 128) :
    dqds X S (ix4 n s h d) = ∑ e : Fin 256, X (ix4 n h s e) * S (ix4 n h d e) := by
  pointwise [dqds]

/-- The gradient of the states, at an index. -/
theorem dsts_apply (X : FVec Ideal S64x4x64x256 .f32) (Q : FVec Ideal S64x64x4x128 .f32) (h : Fin 4) (d : Fin 128) (e : Fin 256) (n : Fin 64) :
    dsts X Q (ix4 h d e n) = ∑ s : Fin 64, X (ix4 n h s e) * Q (ix4 n s h d) := by
  pointwise [dsts]

/-- The gradient of what the chunks add, at an index. -/
theorem dadds_apply (Z : FVec Ideal S4x128x256x64 .f32) (D : FVec Ideal S64x64x4x128 .f32) (m : Fin 64) (h : Fin 4) (d : Fin 128) (e : Fin 256) :
    dadds Z D (ix4 m h d e) = ∑ n : Fin 64, Z (ix4 h d e n) * D (ix4 n m h d) := by
  pointwise [dadds]

/-- The gradient of the scores, at an index. -/
theorem dscs_apply (X : FVec Ideal S64x4x64x256 .f32) (W : FVec Ideal S64x64x4x256 .f32) (n : Fin 64) (h : Fin 4) (s t : Fin 64) :
    dscs X W (ix4 n h s t) = ∑ e : Fin 256, X (ix4 n h s e) * W (ix4 n t h e) := by
  pointwise [dscs]

/-- The gradient of the decayed keys, at an index. -/
theorem dkds_apply (B : FVec Ideal S64x4x128x256 .f32) (W : FVec Ideal S64x64x4x256 .f32) (C : FVec Ideal S64x4x64x64 .f32) (Q : FVec Ideal S64x64x4x128 .f32) (n t : Fin 64) (h : Fin 4) (d : Fin 128) :
    dkds B W C Q (ix4 n t h d) = (∑ e : Fin 256, B (ix4 n h d e) * W (ix4 n t h e)) + ∑ s : Fin 64, C (ix4 n h s t) * Q (ix4 n s h d) := by
  pointwise [dkds]

/-- The keys, at an index. -/
theorem rawk_apply (proj : FVec Ideal S4096x3200 .f32) (n s : Fin 64) (h : Fin 4) (d : Fin 128) :
    rawk proj (ix4 n s h d) = proj (ix2 ⟨64 * n.val + s.val, by omega⟩ ⟨512 + (128 * h.val + d.val), by omega⟩) := by
  pointwise [rawk]
  congr 1; idx_ext

/-- The keys' decays, at an index. -/
theorem kdec_apply (G : FVec Ideal S64x64x4x128 .f32) (E : FVec Ideal S64x1x4x128 .f32) (n s : Fin 64) (h : Fin 4) (d : Fin 128) :
    kdec G E (ix4 n s h d) = Ideal.exp (E (ix4 n 0 h d) - G (ix4 n s h d)) := by
  pointwise [kdec]

/-- The gradient of the sums between two chunks, at an index. -/
theorem dbtw_apply (Z : FVec Ideal S4x128x256x64 .f32) (A : FVec Ideal S64x4x128x256 .f32) (X : FVec Ideal S64x64x4x128 .f32) (n m : Fin 64) (h : Fin 4) (d : Fin 128) :
    dbtw Z A X (ix4 n m h d) = (if m < n then ∑ e : Fin 256, Z (ix4 h d e n) * A (ix4 m h d e) else 0) * X (ix4 n m h d) := by
  pointwise [dbtw]
  rw [slt64]
  by_cases h1 : m < n <;> simp [h1, Scalar.select]

/-- The gradient of the chunks' sums from the decays between the chunks, at an index. -/
theorem dbet_apply (Y : FVec Ideal S64x64x4x128 .f32) (j : Fin 64) (h : Fin 4) (d : Fin 128) :
    dbet Y (ix3 j h d) = ∑ n : Fin 64, ∑ m : Fin 64, Y (ix4 n m h d) * (((if m < j ∧ j < n then 1 else 0 : ℝ)) : EReal) := by
  pointwise [dbet]
  refine Finset.sum_congr rfl fun n _ => Finset.sum_congr rfl fun m _ => ?_
  rw [slt64, slt64]
  by_cases h1 : m < j <;> by_cases h2 : j < n <;> simp [h1, h2, IntOp.andi, FloatOps.uitofp]

/-- The gradient of the chunks' sums, at an index. -/
theorem dends_apply (Q X : FVec Ideal S64x64x4x128 .f32) (E : FVec Ideal S64x1x4x128 .f32) (B : FVec Ideal S64x4x128 .f32) (W : FVec Ideal S64x64x4x128 .f32) (n : Fin 64) (h : Fin 4) (d : Fin 128) :
    dends Q X E B W (ix4 n 0 h d) = (∑ s : Fin 64, Q (ix4 n s h d) * X (ix4 n s h d)) * Ideal.exp (E (ix4 n 0 h d)) + B (ix3 n h d) + ∑ s : Fin 64, W (ix4 n s h d) := by
  pointwise [dends]

/-- The gradient of the running sums, at an index. -/
theorem dgcs_apply (W : FVec Ideal S64x64x4x128 .f32) (E : FVec Ideal S64x1x4x128 .f32) (n s : Fin 64) (k : Fin 512) :
    dgcs W E (ix3 n s k) = -W (ix4 n s ⟨k.val / 128, by omega⟩ ⟨k.val % 128, by omega⟩) + if s.val = 63 then E (ix4 n 0 ⟨k.val / 128, by omega⟩ ⟨k.val % 128, by omega⟩) else 0 := by
  pointwise [dgcs]
  congr 1
  have hs := s.isLt
  by_cases h1 : s.val = 63
  · rw [if_pos h1, dif_pos ⟨⟨by omega, by omega⟩, by omega, by omega⟩]
    exact congrArg (fun z => E (ix4 n z ⟨k.val / 128, by omega⟩ ⟨k.val % 128, by omega⟩)) (Subsingleton.elim _ _)
  · rw [if_neg h1, dif_neg fun h => h1 (by omega)]

/-- The capped array of real numbers. -/
theorem capped_coe (g : FVec Ideal S4096x512 .f32) (f : ℕ → ℕ → ℝ) (hg : ∀ (i : Fin 4096) (k : Fin 512), g (ix2 i k) = (f i.val k.val : EReal)) (i : Fin 4096) (k : Fin 512) :
    capped g (ix2 i k) = (f i.val k.val : EReal) := by
  pointwise [capped]
  rw [hg, if_neg]
  rw [show Ideal.ofBits .f32 0x7F800000#32 = ⊤ by simp [Ideal.ofBits, Ideal.ieee]]
  exact EReal.coe_ne_top _

/-- The gradient of the gates' inputs, at an index. -/
theorem dgps_apply (X : FVec Ideal S64x64x512 .f32) (g s : FVec Ideal S4096x512 .f32) (i : Fin 4096) (k : Fin 512) :
    dgps X g s (ix2 i k) = -(-(Ideal.div (X (ix3 ⟨i.val / 64, by omega⟩ ⟨i.val % 64, by omega⟩ k)) (Ideal.ofBits .f32 0x41800000#32)) * Ideal.exp (capped g (ix2 i k) - capped s (ix2 i k))) := by
  unfold dgps
  generalize capped g = a
  generalize capped s = b
  pointwise

/-- The gradient of the queries, at an index. -/
theorem dqs_apply (X : FVec Ideal S64x64x4x128 .f32) (E : FVec Ideal S64x1x4x128 .f32) (C : FVec Ideal S64x4x64x64 .f32) (K : FVec Ideal S64x64x4x128 .f32) (i : Fin 4096) (k : Fin 512) :
    dqs X E C K (ix2 i k) = (X (ix4 ⟨i.val / 64, by omega⟩ ⟨i.val % 64, by omega⟩ ⟨k.val / 128, by omega⟩ ⟨k.val % 128, by omega⟩) * Ideal.exp (E (ix4 ⟨i.val / 64, by omega⟩ 0 ⟨k.val / 128, by omega⟩ ⟨k.val % 128, by omega⟩))
      + ∑ t : Fin 64, C (ix4 ⟨i.val / 64, by omega⟩ ⟨k.val / 128, by omega⟩ ⟨i.val % 64, by omega⟩ t) * K (ix4 ⟨i.val / 64, by omega⟩ t ⟨k.val / 128, by omega⟩ ⟨k.val % 128, by omega⟩))
      * Ideal.ofBits .f32 0x3DB504F3#32 := by
  pointwise [dqs]

/-- The gradient of the keys, at an index. -/
theorem dks_apply (X D : FVec Ideal S64x64x4x128 .f32) (i : Fin 4096) (k : Fin 512) :
    dks X D (ix2 i k) = X (ix4 ⟨i.val / 64, by omega⟩ ⟨i.val % 64, by omega⟩ ⟨k.val / 128, by omega⟩ ⟨k.val % 128, by omega⟩)
      * D (ix4 ⟨i.val / 64, by omega⟩ ⟨i.val % 64, by omega⟩ ⟨k.val / 128, by omega⟩ ⟨k.val % 128, by omega⟩) := by
  pointwise [dks]

/-- The scores, at an index. -/
theorem scores_apply (Q K : FVec Ideal S64x64x4x128 .f32) (n : Fin 64) (h : Fin 4) (s t : Fin 64) :
    scores Q K (ix4 n h s t) = ∑ d : Fin 128, Q (ix4 n s h d) * K (ix4 n t h d) := by
  pointwise [scores]

/-- The gradient of the values, at an index. -/
theorem dvs_apply (B : FVec Ideal S64x4x128x256 .f32) (K : FVec Ideal S64x64x4x128 .f32) (X : FVec Ideal S64x4x64x256 .f32) (C : FVec Ideal S64x4x64x64 .f32) (i : Fin 4096) (j : Fin 1024) :
    dvs B K X C (ix2 i j) = (∑ d : Fin 128, B (ix4 ⟨i.val / 64, by omega⟩ ⟨j.val / 256, by omega⟩ d ⟨j.val % 256, by omega⟩) * K (ix4 ⟨i.val / 64, by omega⟩ ⟨i.val % 64, by omega⟩ ⟨j.val / 256, by omega⟩ d))
      + ∑ s : Fin 64, X (ix4 ⟨i.val / 64, by omega⟩ ⟨j.val / 256, by omega⟩ s ⟨j.val % 256, by omega⟩) * C (ix4 ⟨i.val / 64, by omega⟩ ⟨j.val / 256, by omega⟩ s ⟨i.val % 64, by omega⟩) := by
  pointwise [dvs]

/-- The gradient of the low-rank gate, at an index. -/
theorem dgls_apply (X : FVec Ideal S4096x512 .f32) (wg2 : FVec Ideal S16x512 .f32) (i : Fin 4096) (c : Fin 16) :
    dgls X wg2 (ix2 i c) = ∑ k : Fin 512, X (ix2 i k) * wg2 (ix2 c k) := by
  pointwise [dgls]

/-- The gradient of the projections, at an index. -/
theorem dprojs_apply (q k : FVec Ideal S4096x512 .f32) (v r : FVec Ideal S4096x1024 .f32) (l : FVec Ideal S4096x16 .f32) (i : Fin 4096) (j : Fin 3200) :
    dprojs q k v r l (ix2 i j) = if h0 : j.val < 512 then q (ix2 i ⟨j.val, h0⟩) else if h1 : j.val < 1024 then k (ix2 i ⟨j.val - 512, by omega⟩)
      else if h2 : j.val < 2048 then v (ix2 i ⟨j.val - 1024, by omega⟩) else if h3 : j.val < 3072 then r (ix2 i ⟨j.val - 2048, by omega⟩)
      else if h4 : j.val < 3088 then l (ix2 i ⟨j.val - 3072, by omega⟩) else 0 := by
  pointwise [dprojs]
  by_cases h0 : j.val < 512
  · rw [dif_pos h0, dif_pos h0]
  rw [dif_neg h0, dif_neg h0]
  by_cases h1 : j.val < 1024
  · rw [dif_pos (show j.val - 512 < 512 by omega), dif_pos h1]
  rw [dif_neg (show ¬j.val - 512 < 512 by omega), dif_neg h1]
  by_cases h2 : j.val < 2048
  · rw [dif_pos (show j.val - 512 - 512 < 1024 by omega), dif_pos h2]
    congr 1
  rw [dif_neg (show ¬j.val - 512 - 512 < 1024 by omega), dif_neg h2]
  by_cases h3 : j.val < 3072
  · rw [dif_pos (show j.val - 512 - 512 - 1024 < 1024 by omega), dif_pos h3]
    congr 1
  rw [dif_neg (show ¬j.val - 512 - 512 - 1024 < 1024 by omega), dif_neg h3]
  by_cases h4 : j.val < 3088
  · rw [dif_pos (show j.val - 512 - 512 - 1024 - 1024 < 16 by omega), dif_pos h4]
    congr 1
  rw [dif_neg (show ¬j.val - 512 - 512 - 1024 - 1024 < 16 by omega), dif_neg h4]

/-- The gradient of the gates' weight, at an index. -/
theorem dwgs_apply (X : FVec Ideal S4096x512 .f32) (proj : FVec Ideal S4096x3200 .f32) (c : Fin 128) (k : Fin 512) :
    dwgs X proj (ix2 c k) = if c.val < 16 then ∑ i : Fin 4096, X (ix2 i k) * proj (ix2 i ⟨3072 + c.val, by omega⟩) else 0 := by
  pointwise [dwgs]
  split_ifs
  · rfl
  · simp [FloatOps.sitofp]

/-- The gradient of the gates' bias, at an index. -/
theorem dbgs_apply (X : FVec Ideal S4096x512 .f32) (k : Fin 512) : dbgs X (ix2 0 k) = ∑ i : Fin 4096, X (ix2 i k) := by
  pointwise [dbgs]

end Cert.Reference4Ideal.Gla

end
-- ==== Proof.GlbReference.lean ====
module

public import proofs.«01_k».proof.Proof.GlbSteps

/-!
# The reference's gradient of the gated linear attention

On real arguments each step of the host program's backward pass is the number of Proof/GlbMaths.lean, and its four results
are the gradients of the projections, of the gates' weight and bias and of the gain.
-/

@[expose] public section

set_option maxRecDepth 16384

noncomputable section

open Idealize.ShloMosaic Idealize.ShloMosaic.TcCoe Idealize.SL.Sem

namespace Cert.Reference4Ideal.Gla

open Cert.Reference4Ideal Cert.Reference4Ideal.Gen Cert.Gla
open Cert.Reference3Ideal.Gla (G_ E_ K_ A_ S_b ends3 queries vals between decays outputs normed logGate gateIn slt64 foldl_add windowIdx sixteen
  G_coe E_coe E3_coe K_coe A_coe S_coe O_coe queries_coe vals_coe gateIn_coe between_apply decays_apply normed_apply)

/-! ## A running sum from the end -/

/-- The host's sum over a row and the later ones of its chunk. -/
theorem reversed (x : FVec Ideal S64x64x512 .f32) (f : ℕ → ℕ → ℕ → ℝ)
    (hx : ∀ (n : Fin 64) (s : Fin 64) (k : Fin 512), x (ix3 n s k) = (f n.val s.val k.val : EReal)) (n s : Fin 64) (k : Fin 512) :
    dlas x (ix3 n s k) = ((∑ t ∈ Finset.Ico s.val 64, f n.val t k.val : ℝ) : EReal) := by
  have hs := s.isLt
  have hn := n.isLt
  have hk := k.isLt
  have hi : ∀ i, (broadcastInDim S_ ![] bcast_S_S_ (constant S_ .f32 0x00000000#32) : FVec Ideal S_ .f32) i = (0 : EReal) := fun i => Ideal.ofBits_zero_f32
  unfold dlas
  generalize (broadcastInDim S_ ![] bcast_S_S_ (constant S_ .f32 0x00000000#32) : FVec Ideal S_ .f32) = init at hi
  unfold Host.reduceWindowAdd
  rw [Ideal.hostReduceWindowAdd_def]
  unfold Ideal.hostReduceWindowAdd Host.reduceWindow
  dsimp only
  rw [foldl_add, hi, zero_add, ← Fin.sum_univ_def]
  have hw : ∀ (g : (⟨3, ![1, 64, 1]⟩ : Shape).Idx → ℝ), (g = fun w => if s.val + (w 1).val < 64 then f n.val (s.val + (w 1).val) k.val else 0) →
      ∑ i, ((g ((Shape.rowMajor ⟨3, ![1, 64, 1]⟩).symm i) : ℝ) : EReal)
        = ((∑ t : Fin 64, (if s.val + t.val < 64 then f n.val (s.val + t.val) k.val else 0) : ℝ) : EReal) := fun g hg => by
    rw [Equiv.sum_comp (Shape.rowMajor ⟨3, ![1, 64, 1]⟩).symm (fun w => ((g w : ℝ) : EReal)), ← Equiv.sum_comp windowIdx, coe_sum, hg]
    rfl
  refine Eq.trans (Finset.sum_congr rfl fun i _ => ?_) ((hw _ rfl).trans ?_)
  · let w := (Shape.rowMajor ⟨3, ![1, 64, 1]⟩).symm i
    show _ = ((if s.val + (w 1).val < 64 then f n.val (s.val + (w 1).val) k.val else 0 : ℝ) : EReal)
    have hw0 : (w 0).val = 0 := by have : (w 0).val < 1 := (w 0).isLt; omega
    have hw1 : (w 1).val < 64 := (w 1).isLt
    have hw2 : (w 2).val = 0 := by have : (w 2).val < 1 := (w 2).isLt; omega
    by_cases h : s.val + (w 1).val < 64
    · rw [if_pos h, dif_pos, ← hx n ⟨s.val + (w 1).val, h⟩ k]
      · congr 1
        funext a
        match a with
        | ⟨0, _⟩ => apply Fin.ext; show n.val * 1 + (w 0).val - 0 = n.val; omega
        | ⟨1, _⟩ => apply Fin.ext; show s.val * 1 + (w 1).val - 0 = s.val + (w 1).val; omega
        | ⟨2, _⟩ => apply Fin.ext; show k.val * 1 + (w 2).val - 0 = k.val; omega
      · intro a
        match a with
        | ⟨0, _⟩ => show 0 ≤ n.val * 1 + (w 0).val ∧ n.val * 1 + (w 0).val - 0 < 64; omega
        | ⟨1, _⟩ => show 0 ≤ s.val * 1 + (w 1).val ∧ s.val * 1 + (w 1).val - 0 < 64; omega
        | ⟨2, _⟩ => show 0 ≤ k.val * 1 + (w 2).val ∧ k.val * 1 + (w 2).val - 0 < 512; omega
    · rw [if_neg h, dif_neg]
      · rfl
      · intro hin
        have h1 : s.val * 1 + (w 1).val - 0 < 64 := (hin 1).2
        omega
  congr 1
  rw [← Finset.sum_range (fun t => if s.val + t < 64 then f n.val (s.val + t) k.val else 0), ← Finset.sum_filter,
    show (Finset.range 64).filter (fun t => s.val + t < 64) = Finset.range (64 - s.val) from by
      ext t; simp only [Finset.mem_filter, Finset.mem_range]; omega, Finset.sum_Ico_eq_sum_range]

/-! ## The numbers -/

/-- The f32 constants of the backward pass. -/
theorem minus_half : Ideal.ofBits .f32 0xBF000000#32 = ((-(1 / 2) : ℝ) : EReal) := by
  simp [Ideal.ofBits, Ideal.ieee, -EReal.coe_mul]; norm_num

/-- The f32 constant 256. -/
theorem c256 : Ideal.ofBits .f32 0x43800000#32 = ((256 : ℝ) : EReal) := by
  simp [Ideal.ofBits, Ideal.ieee, -EReal.coe_mul]; norm_num

/-- The f32 constant 1. -/
theorem one : Ideal.ofBits .f32 0x3F800000#32 = ((1 : ℝ) : EReal) := by
  simp [Ideal.ofBits, Ideal.ieee, -EReal.coe_mul]; norm_num

/-- The soft plus of a real number. -/
theorem softplus_coe (g : FVec Ideal S4096x512 .f32) (f : ℕ → ℕ → ℝ) (hg : ∀ (i : Fin 4096) (k : Fin 512), g (ix2 i k) = (f i.val k.val : EReal)) (i : Fin 4096) (k : Fin 512) :
    softplus g (ix2 i k) = ((max (f i.val k.val) 0 + Real.log (1 + Real.exp (-|f i.val k.val|)) : ℝ) : EReal) := by
  pointwise [softplus]
  rw [hg, if_neg (not_not.mpr rfl), absf_coe, ← EReal.coe_neg]
  show max _ 0 + Ideal.log (1 + _) = _
  rw [log_one_add_exp, ← EReal.coe_zero, ← EReal.coe_strictMono.monotone.map_max, ← EReal.coe_add]

section
variable {proj : FVec Ideal S4096x3200 .f32} {dog : FVec Ideal S4096x1024 .f32} {wg2 : FVec Ideal S16x512 .f32} {bg : FVec Ideal S1x512 .f32} {gn : FVec Ideal S1x1024 .f32}

variable (proj dog wg2 bg gn)

/-- All the outputs. -/
abbrev O_ := outputs (queries proj) (K_ proj wg2 bg) (vals proj) (E_ proj wg2 bg) (S_b proj wg2 bg)
/-- All the mean squares. -/
abbrev M_ := means (O_ proj wg2 bg)
/-- All the logistic functions of the output gates. -/
abbrev s_ := sigs (gates proj)
/-- All the gradients of the gain's products. -/
abbrev T_ := dts dog (gates proj) (s_ proj)
/-- All the gradients of the normed outputs. -/
abbrev N_ := dons (T_ proj dog) gn
/-- All the gradients of the outputs. -/
abbrev X_ := dos (O_ proj wg2 bg) (N_ proj dog gn) (dsqs (O_ proj wg2 bg) (N_ proj dog gn) (M_ proj wg2 bg)) (M_ proj wg2 bg)
/-- All the gradients of the states before the chunks. -/
abbrev Z_ := dsts (X_ proj dog wg2 bg gn) (qdec (queries proj) (E_ proj wg2 bg))
/-- All the logarithms of the decays between the chunks. -/
abbrev F_ := between (ends3 (E_ proj wg2 bg))
/-- All the gradients of what the chunks add. -/
abbrev B_ := dadds (Z_ proj dog wg2 bg gn) (decays (F_ proj wg2 bg))
/-- All the gradients of the scores. -/
abbrev Sc_ := dscs (X_ proj dog wg2 bg gn) (vals proj)
/-- All the gradients of the decayed keys. -/
abbrev Kd_ := dkds (B_ proj dog wg2 bg gn) (vals proj) (Sc_ proj dog wg2 bg gn) (queries proj)
/-- All the keys' decays. -/
abbrev w_ := kdec (G_ proj wg2 bg) (E_ proj wg2 bg)
/-- All the gradients of the logarithms of the keys' decays. -/
abbrev Ww_ := dwws (rawk proj) (Kd_ proj dog wg2 bg gn) (w_ proj wg2 bg)
/-- All the gradients of the decays between the chunks. -/
abbrev Y_ := dbtw (Z_ proj dog wg2 bg gn) (A_ proj wg2 bg) (Host.exp (F_ proj wg2 bg))
/-- All the gradients of the decayed queries. -/
abbrev Xq_ := dqds (X_ proj dog wg2 bg gn) (S_b proj wg2 bg)
/-- All the gradients of the chunks' sums. -/
abbrev De_ := dends (queries proj) (Xq_ proj dog wg2 bg gn) (E_ proj wg2 bg) (dbet (Y_ proj dog wg2 bg gn)) (Ww_ proj dog wg2 bg gn)
/-- All the gradients of the gates' logarithms. -/
abbrev La_ := dlas (dgcs (Ww_ proj dog wg2 bg gn) (De_ proj dog wg2 bg gn))
/-- The gates' inputs, negated. -/
abbrev g_ : FVec Ideal S4096x512 .f32 := Host.negf (gateIn proj wg2 bg)
/-- All the gradients of the gates' inputs. -/
abbrev Gp_ := dgps (La_ proj dog wg2 bg gn) (g_ proj wg2 bg) (softplus (g_ proj wg2 bg))

variable {proj dog wg2 bg gn}

variable {P Gt D W : ℕ → ℕ → ℝ} {N : ℕ → ℝ} (H : Real5 P Gt D W N proj dog wg2 bg gn)
include H

/-- The output gates are real. -/
theorem gates_coe (i : Fin 4096) (j : Fin 1024) : gates proj (ix2 i j) = (rg P i.val j.val : EReal) := by
  rw [gates_apply, H.projs]
  rfl

/-- Their logistic functions are real. -/
theorem s_coe (i : Fin 4096) (j : Fin 1024) : s_ proj (ix2 i j) = (sg (rg P i.val j.val) : EReal) := by
  refine (sigs_apply _ i j).trans ?_
  rw [gates_coe H, logistic_coe]

/-- The gradient of the gain's products is real. -/
theorem T_coe (i : Fin 4096) (j : Fin 1024) : T_ proj dog (ix2 i j) = (dt P D i.val j.val : EReal) := by
  show dog (ix2 i j) * (gates proj (ix2 i j) * s_ proj (ix2 i j)) = _
  rw [s_coe H, gates_coe H, H.dogs, ← EReal.coe_mul, ← EReal.coe_mul]
  rfl

/-- The gradient of the normed outputs is real. -/
theorem N_coe (n : Fin 64) (h : Fin 4) (s : Fin 64) (e : Fin 256) : N_ proj dog gn (ix4 n h s e) = (don P D N n.val s.val h.val e.val : EReal) := by
  refine (dons_apply _ _ n h s e).trans ?_
  rw [T_coe H, H.gns, ← EReal.coe_mul]
  rfl

/-- The mean squares, and one over their roots, are real. -/
theorem M_coe (n : Fin 64) (h : Fin 4) (s : Fin 64) : Ideal.rsqrt (M_ proj wg2 bg (ix4 n h s 0)) = (rs P (fun i k => gate (Gt i k)) n.val s.val h.val : EReal)
    ∧ M_ proj wg2 bg (ix4 n h s 0) = (msq P (fun i k => gate (Gt i k)) n.val s.val h.val : EReal) := by
  have := means_apply (O_ proj wg2 bg) n h s
  rw [show M_ proj wg2 bg (ix4 n h s 0) = _ from this]
  exact rs_coe P (fun i k => gate (Gt i k)) n.val s.val h.val (fun e => O_ proj wg2 bg (ix4 n h s e)) (fun e => O_coe H.gates n s h e)

/-- The gradient of the outputs is real. -/
theorem X_coe (n : Fin 64) (h : Fin 4) (s : Fin 64) (e : Fin 256) : X_ proj dog wg2 bg gn (ix4 n h s e) = (dO P (fun i k => gate (Gt i k)) D N n.val s.val h.val e.val : EReal) := by
  have hm := msq_pos P (fun i k => gate (Gt i k)) n.val s.val h.val
  have hO := fun e => O_coe H.gates n s h e
  have hN := fun e => N_coe H n h s e
  obtain ⟨hr, hM⟩ := M_coe H n h s
  refine (dos_apply _ _ _ _ n h s e).trans ?_
  rw [dsqs_apply]
  simp only [show ∀ e, O_ proj wg2 bg (ix4 n h s e) = _ from hO, hN]
  rw [hr, hM, minus_half, c256, Ideal.div_coe hm.ne', Ideal.div_coe (by norm_num)]
  simp only [← EReal.coe_mul, ← EReal.coe_add, coe_sum]
  rw [dO_alt]
  congr 1
  rw [show ∑ c : Fin 256, out P (fun i k => gate (Gt i k)) n.val s.val h.val c.val * don P D N n.val s.val h.val c.val = ∑ c : Fin 256, don P D N n.val s.val h.val c.val * out P (fun i k => gate (Gt i k)) n.val s.val h.val c.val from
    Finset.sum_congr rfl fun c _ => mul_comm _ _]
  ring

/-- The gradient of the states before the chunks is real. -/
theorem Z_coe (h : Fin 4) (d : Fin 128) (e : Fin 256) (n : Fin 64) : Z_ proj dog wg2 bg gn (ix4 h d e n)
    = ((Real.exp (ge (fun i k => gate (Gt i k)) (128 * h.val + d.val) n.val) * qdo P (fun i k => gate (Gt i k)) D N (128 * h.val + d.val) e.val n.val : ℝ) : EReal) := by
  have hk : (128 * h.val + d.val) / 128 = h.val := by omega
  refine (dsts_apply _ _ h d e n).trans ?_
  simp only [qdec_apply, X_coe H, queries_coe H.gates, E_coe H.gates, exp_coe, ← EReal.coe_mul, coe_sum]
  rw [qdo, Finset.mul_sum, hk]
  congr 1
  refine Finset.sum_congr rfl fun s _ => ?_
  rw [ge]
  ring

/-- The logarithms of the decays between the chunks are real. -/
theorem F_coe (n m : Fin 64) (h : Fin 4) (d : Fin 128) : F_ proj wg2 bg (ix4 n m h d)
    = ((∑ j : Fin 64, (if m < j ∧ j < n then 1 else 0) * ge (fun i k => gate (Gt i k)) (128 * h.val + d.val) j.val : ℝ) : EReal) := by
  refine (between_apply _ n m h d).trans ?_
  rw [← coe_sum]
  refine Finset.sum_congr rfl fun j _ => ?_
  rw [E3_coe H.gates, ← EReal.coe_mul]
  rfl

/-- The gradient of what the chunks add is real. -/
theorem B_coe (m : Fin 64) (h : Fin 4) (d : Fin 128) (e : Fin 256) : B_ proj dog wg2 bg gn (ix4 m h d e)
    = ((Gn P (fun i k => gate (Gt i k)) D N m.val (128 * h.val + d.val) e.val - qdo P (fun i k => gate (Gt i k)) D N (128 * h.val + d.val) e.val m.val : ℝ) : EReal) := by
  refine (dadds_apply _ _ m h d e).trans ?_
  rw [← dkv_masked, ← coe_sum]
  refine Finset.sum_congr rfl fun n _ => ?_
  rw [decays_apply, Z_coe H, F_coe H, exp_coe, mul_comm, EReal.coe_mul]
  congr 1
  split
  · rw [decay_masked, ← EReal.coe_mul, ← EReal.coe_mul]
  · rfl

/-- The gradient of the scores is real. -/
theorem Sc_coe (n : Fin 64) (h : Fin 4) (s t : Fin 64) : Sc_ proj dog wg2 bg gn (ix4 n h s t)
    = ((∑ e : Fin 256, dO P (fun i k => gate (Gt i k)) D N n.val s.val h.val e.val * P (64 * n.val + t.val) (1024 + 256 * h.val + e.val) : ℝ) : EReal) := by
  refine (dscs_apply _ _ n h s t).trans ?_
  simp only [X_coe H, vals_coe H.gates, ← EReal.coe_mul, coe_sum]

/-- The gradient of the decayed keys is real. -/
theorem Kd_coe (n t : Fin 64) (h : Fin 4) (d : Fin 128) : Kd_ proj dog wg2 bg gn (ix4 n t h d) = (dkd P (fun i k => gate (Gt i k)) D N n.val t.val (128 * h.val + d.val) : EReal) := by
  refine (dkds_apply _ _ _ _ n t h d).trans ?_
  simp only [B_coe H, vals_coe H.gates, Sc_coe H, queries_coe H.gates, ← EReal.coe_mul, coe_sum, ← EReal.coe_add]
  rw [← dkd_split P (fun i k => gate (Gt i k)) D N n.val t.val h.val d.val d.isLt, add_comm]
  congr 2
  exact Finset.sum_congr rfl fun e _ => mul_comm _ _

/-- The keys' decays are real. -/
theorem w_coe (n s : Fin 64) (h : Fin 4) (d : Fin 128) : w_ proj wg2 bg (ix4 n s h d)
    = (Real.exp (gc (fun i k => gate (Gt i k)) n.val 63 (128 * h.val + d.val) - gc (fun i k => gate (Gt i k)) n.val s.val (128 * h.val + d.val)) : EReal) := by
  refine (kdec_apply _ _ n s h d).trans ?_
  rw [E_coe H.gates, G_coe H.gates, ← EReal.coe_sub, exp_coe]

/-- The gradient of the logarithms of the keys' decays is real. -/
theorem Ww_coe (n s : Fin 64) (h : Fin 4) (d : Fin 128) : Ww_ proj dog wg2 bg gn (ix4 n s h d) = (dww P (fun i k => gate (Gt i k)) D N n.val s.val (128 * h.val + d.val) : EReal) := by
  show rawk proj (ix4 n s h d) * Kd_ proj dog wg2 bg gn (ix4 n s h d) * w_ proj wg2 bg (ix4 n s h d) = _
  rw [w_coe H, Kd_coe H, rawk_apply, H.projs, ← EReal.coe_mul, ← EReal.coe_mul, dww, kd]
  congr 1
  dsimp only
  ring

/-- The gradient of the sums between two chunks is real. -/
theorem Y_coe (n m : Fin 64) (h : Fin 4) (d : Fin 128) : Y_ proj dog wg2 bg gn (ix4 n m h d)
    = (((if m < n then ∑ e : Fin 256, (Real.exp (ge (fun i k => gate (Gt i k)) (128 * h.val + d.val) n.val) * qdo P (fun i k => gate (Gt i k)) D N (128 * h.val + d.val) e.val n.val) * kv P (fun i k => gate (Gt i k)) m.val (128 * h.val + d.val) e.val else 0)
      * Real.exp (∑ j : Fin 64, (if m < j ∧ j < n then 1 else 0) * ge (fun i k => gate (Gt i k)) (128 * h.val + d.val) j.val) : ℝ) : EReal) := by
  refine (dbtw_apply _ _ _ n m h d).trans ?_
  rw [show Host.exp (F_ proj wg2 bg) (ix4 n m h d) = Ideal.exp (F_ proj wg2 bg (ix4 n m h d)) from rfl, F_coe H, exp_coe, EReal.coe_mul]
  congr 1
  split
  · simp only [Z_coe H, A_coe H.gates, ← EReal.coe_mul, coe_sum]
  · rfl

/-- The gradient of the decayed queries is real. -/
theorem Xq_coe (n s : Fin 64) (h : Fin 4) (d : Fin 128) : Xq_ proj dog wg2 bg gn (ix4 n s h d)
    = ((∑ e : Fin 256, dO P (fun i k => gate (Gt i k)) D N n.val s.val h.val e.val * St P (fun i k => gate (Gt i k)) n.val (128 * h.val + d.val) e.val : ℝ) : EReal) := by
  refine (dqds_apply _ _ n s h d).trans ?_
  simp only [X_coe H, S_coe H.gates, ← EReal.coe_mul, coe_sum]

/-- The gradient of the chunks' sums from the decays between the chunks is real. -/
theorem Bt_coe (j : Fin 64) (h : Fin 4) (d : Fin 128) : dbet (Y_ proj dog wg2 bg gn) (ix3 j h d)
    = ((∑ n : Fin 64, ∑ m : Fin 64, (if m < j ∧ j < n then decay (ge (fun i k => gate (Gt i k)) (128 * h.val + d.val)) n.val m.val *
          (∑ e : Fin 256, (Real.exp (ge (fun i k => gate (Gt i k)) (128 * h.val + d.val) n.val) * qdo P (fun i k => gate (Gt i k)) D N (128 * h.val + d.val) e.val n.val) * kv P (fun i k => gate (Gt i k)) m.val (128 * h.val + d.val) e.val) else 0) : ℝ) : EReal) := by
  refine (dbet_apply _ j h d).trans ?_
  simp only [Y_coe H, ← EReal.coe_mul, coe_sum]
  congr 1
  refine Finset.sum_congr rfl fun n _ => Finset.sum_congr rfl fun m _ => ?_
  by_cases hj : m < j ∧ j < n
  · have hmn : m < n := hj.1.trans hj.2
    rw [if_pos hj, if_pos hj, if_pos hmn, mul_one, ← decay_masked, mul_comm]
  · rw [if_neg hj, if_neg hj, mul_zero]

/-- The gradient of the chunks' sums is real. -/
theorem De_coe (n : Fin 64) (h : Fin 4) (d : Fin 128) : De_ proj dog wg2 bg gn (ix4 n 0 h d) = (dge P (fun i k => gate (Gt i k)) D N n.val (128 * h.val + d.val) : EReal) := by
  refine (dends_apply _ _ _ _ _ n h d).trans ?_
  rw [Bt_coe H, E_coe H.gates, exp_coe]
  simp only [Xq_coe H, Ww_coe H, queries_coe H.gates, ← EReal.coe_mul, coe_sum, ← EReal.coe_add]
  rw [← dge_split P (fun i k => gate (Gt i k)) D N n h.val d.val d.isLt]
  congr 4
  exact Finset.sum_congr rfl fun e _ => mul_comm _ _

/-- The gradient of the gates' logarithms is real. -/
theorem La_coe (n s : Fin 64) (k : Fin 512) : La_ proj dog wg2 bg gn (ix3 n s k) = (dla P (fun i k => gate (Gt i k)) D N n.val s.val k.val : EReal) := by
  rw [← dla_sum P (fun i k => gate (Gt i k)) D N n.val s.val k.val s.isLt]
  refine reversed _ (fun n t k => -dww P (fun i k => gate (Gt i k)) D N n t k + if t = 63 then dge P (fun i k => gate (Gt i k)) D N n k else 0) (fun n s k => ?_) n s k
  have hk : 128 * (k.val / 128) + k.val % 128 = k.val := Nat.div_add_mod _ _
  rw [dgcs_apply, Ww_coe H, De_coe H]
  dsimp only
  rw [hk, ← EReal.coe_neg, EReal.coe_add]
  congr 1
  split <;> rfl

/-- The gates' negated inputs are real. -/
theorem g_coe (i : Fin 4096) (k : Fin 512) : g_ proj wg2 bg (ix2 i k) = ((-Gt i.val k.val : ℝ) : EReal) := by
  show -(gateIn proj wg2 bg (ix2 i k)) = _
  rw [gateIn_coe H.gates, EReal.coe_neg]

/-- The gradient of the gates' inputs is real. -/
theorem Gp_coe (i : Fin 4096) (k : Fin 512) : Gp_ proj dog wg2 bg gn (ix2 i k) = (dgp P (fun i k => gate (Gt i k)) D N Gt i.val k.val : EReal) := by
  refine (dgps_apply _ _ _ i k).trans ?_
  rw [La_coe H, capped_coe _ (fun i k => -Gt i k) (g_coe H), capped_coe _ (fun i k => max (-Gt i k) 0 + Real.log (1 + Real.exp (-|-Gt i k|))) (softplus_coe _ (fun i k => -Gt i k) (g_coe H)),
    sixteen, Ideal.div_coe (by norm_num), ← EReal.coe_sub, exp_coe, abs_neg, exp_softplus]
  simp only [← EReal.coe_mul, ← EReal.coe_neg]
  rw [dgp]
  congr 1
  ring

/-- The gradient of the queries is real. -/
theorem dq_coe (i : Fin 4096) (k : Fin 512) : dqs (Xq_ proj dog wg2 bg gn) (E_ proj wg2 bg) (Sc_ proj dog wg2 bg gn) (K_ proj wg2 bg) (ix2 i k)
    = (dqn P (fun i k => gate (Gt i k)) D N (i.val / 64) (i.val % 64) k.val : EReal) := by
  have hk : 128 * (k.val / 128) + k.val % 128 = k.val := Nat.div_add_mod _ _
  rw [dqs_apply]
  simp only [Xq_coe H, E_coe H.gates, Sc_coe H, K_coe H.gates, exp_coe, scale_coe, ← EReal.coe_mul, coe_sum, ← EReal.coe_add]
  rw [add_comm, dq_split P (fun i k => gate (Gt i k)) D N (i.val / 64) (i.val % 64) (k.val / 128) (k.val % 128) (by omega), hk]

/-- The gradient of the keys is real. -/
theorem dk_coe (i : Fin 4096) (k : Fin 512) : dks (Kd_ proj dog wg2 bg gn) (w_ proj wg2 bg) (ix2 i k) = (dkn P (fun i k => gate (Gt i k)) D N (i.val / 64) (i.val % 64) k.val : EReal) := by
  have hk : 128 * (k.val / 128) + k.val % 128 = k.val := Nat.div_add_mod _ _
  rw [dks_apply, Kd_coe H, w_coe H, ← EReal.coe_mul]
  dsimp only
  rw [hk, dkn]

/-- The gradient of the values is real. -/
theorem dv_coe (i : Fin 4096) (j : Fin 1024) : dvs (B_ proj dog wg2 bg gn) (K_ proj wg2 bg) (X_ proj dog wg2 bg gn) (scores (queries proj) (K_ proj wg2 bg)) (ix2 i j)
    = (dvn P (fun i k => gate (Gt i k)) D N (i.val / 64) (i.val % 64) (j.val / 256) (j.val % 256) : EReal) := by
  rw [dvs_apply]
  simp only [scores_apply, B_coe H, X_coe H, queries_coe H.gates, K_coe H.gates, ← EReal.coe_mul, coe_sum, ← EReal.coe_add]
  rw [← dv_split P (fun i k => gate (Gt i k)) D N (i.val / 64) (i.val % 64) (j.val / 256) (j.val % 256), add_comm]
  congr 2
  · exact Finset.sum_congr rfl fun e _ => mul_comm _ _
  · exact Finset.sum_congr rfl fun e _ => mul_comm _ _

/-- The normed outputs are real. -/
theorem normed_coe (i : Fin 4096) (j : Fin 1024) : normed (O_ proj wg2 bg) (ix2 i j)
    = ((out P (fun i k => gate (Gt i k)) (i.val / 64) (i.val % 64) (j.val / 256) (j.val % 256) * rs P (fun i k => gate (Gt i k)) (i.val / 64) (i.val % 64) (j.val / 256) : ℝ) : EReal) := by
  rw [normed_apply, (rs_coe P (fun i k => gate (Gt i k)) (i.val / 64) (i.val % 64) (j.val / 256) (fun e => O_ proj wg2 bg (ix4 ⟨i.val / 64, by omega⟩ ⟨j.val / 256, by omega⟩ ⟨i.val % 64, by omega⟩ e))
    (fun e => O_coe H.gates _ _ _ e)).1, show O_ proj wg2 bg _ = _ from O_coe H.gates _ _ _ _, ← EReal.coe_mul]

/-- The gradient of the output gates is real. -/
theorem dr_coe (i : Fin 4096) (j : Fin 1024) : drs (gates proj) (s_ proj) (prods (normed (O_ proj wg2 bg)) dog gn) (ix2 i j) = (drn P (fun i k => gate (Gt i k)) D N i.val j.val : EReal) := by
  rw [drs_apply, prods_apply, normed_coe H, s_coe H, gates_coe H, H.dogs, H.gns, one]
  simp only [← EReal.coe_mul, ← EReal.coe_add, ← EReal.coe_sub]
  rw [drn]
  congr 1
  ring

/-- The reference's gradient of the projections. -/
theorem dproj_coe : dprojs (dqs (Xq_ proj dog wg2 bg gn) (E_ proj wg2 bg) (Sc_ proj dog wg2 bg gn) (K_ proj wg2 bg)) (dks (Kd_ proj dog wg2 bg gn) (w_ proj wg2 bg))
      (dvs (B_ proj dog wg2 bg gn) (K_ proj wg2 bg) (X_ proj dog wg2 bg gn) (scores (queries proj) (K_ proj wg2 bg)))
      (drs (gates proj) (s_ proj) (prods (normed (O_ proj wg2 bg)) dog gn)) (dgls (Gp_ proj dog wg2 bg gn) wg2)
    = fun y => (dpN P (fun i k => gate (Gt i k)) D N Gt W (y 0).val (y 1).val : EReal) := by
  funext y
  refine (congrArg _ (eq_ix2 y)).trans ?_
  generalize y 0 = i, y 1 = j
  change Fin 4096 at i
  change Fin 3200 at j
  have hl : ∀ c : Fin 16, dgls (Gp_ proj dog wg2 bg gn) wg2 (ix2 i c) = ((∑ k : Fin 512, dgp P (fun i k => gate (Gt i k)) D N Gt i.val k.val * W c.val k.val : ℝ) : EReal) := fun c => by
    rw [dgls_apply]
    simp only [Gp_coe H, H.wg2s, ← EReal.coe_mul, coe_sum]
  refine (dprojs_apply _ _ _ _ _ i j).trans ?_
  rw [dpN]
  split_ifs
  · exact dq_coe H _ _
  · exact dk_coe H _ _
  · exact dv_coe H _ _
  · exact dr_coe H _ _
  · exact hl _
  · rfl

/-- The reference's gradient of the gates' weight. -/
theorem dwg_coe : dwgs (Gp_ proj dog wg2 bg gn) proj = fun y => (dwgN P (fun i k => gate (Gt i k)) D N Gt (y 0).val (y 1).val : EReal) := by
  funext y
  refine (congrArg _ (eq_ix2 y)).trans ?_
  refine (dwgs_apply _ _ (y 0) (y 1)).trans ?_
  rw [dwgN]
  split
  · rw [← coe_sum]
    refine Finset.sum_congr rfl fun i _ => ?_
    rw [EReal.coe_mul]
    exact congrArg₂ (· * ·) (Gp_coe H i (y 1)) (H.projs i _)
  · rfl

/-- The reference's gradient of the gates' bias. -/
theorem dbg_coe : dbgs (Gp_ proj dog wg2 bg gn) = fun y => (dbgN P (fun i k => gate (Gt i k)) D N Gt (y 1).val : EReal) := by
  funext y
  refine (congrArg _ ((eq_ix2 y).trans (congrArg (fun z => ix2 z (y 1)) (Subsingleton.elim (α := Fin 1) (y 0) 0)))).trans ?_
  refine (dbgs_apply _ (y 1)).trans ?_
  rw [dbgN, ← coe_sum]
  exact Finset.sum_congr rfl fun i _ => Gp_coe H i (y 1)

/-- The reference's gradient of the gain. -/
theorem dgain_coe : dgains (normed (O_ proj wg2 bg)) (T_ proj dog) = fun y => (dgnn P (fun i k => gate (Gt i k)) D (y 1).val : EReal) := by
  funext y
  refine (congrArg _ ((eq_ix2 y).trans (congrArg (fun z => ix2 z (y 1)) (Subsingleton.elim (α := Fin 1) (y 0) 0)))).trans ?_
  refine (dgains_apply _ _ (y 1)).trans ?_
  rw [dgnn, ← coe_sum]
  refine Finset.sum_congr rfl fun i _ => ?_
  rw [mul_comm, EReal.coe_mul]
  exact congrArg₂ (· * ·) (T_coe H i (y 1)) (normed_coe H i (y 1))

end

end Cert.Reference4Ideal.Gla

end
-- ==== Proof.GlbTerms.lean ====
module

public import proofs.«01_k».proof.Proof.GlbReference
public import proofs.«01_k».proof.Proof.GlbPadded
public import proofs.«01_k».proof.Proof.Gen.Reference4Ideal.Run

/-!
# The reference's results as its steps give them

What the reference leaves in its four results, as the printed operations compose, are the steps of Proof/GlbSteps.lean.
-/

@[expose] public section

set_option maxRecDepth 16384
set_option maxHeartbeats 4000000

noncomputable section

open Idealize.ShloMosaic Idealize.ShloMosaic.TcCoe Idealize.SL.Sem

namespace Cert.Reference4Ideal.Gla

open Cert.Reference4Ideal Cert.Reference4Ideal.Gen Cert.Gla Cert.Reference4Ideal.Value
open Cert.Reference3Ideal.Gla (G_ E_ K_ A_ S_b ends3 queries vals between decays outputs normed logGate gateIn)

/-- The projections with the reference's columns of zeros. -/
def widened (p : FVec Ideal S4096x3088 .f32) : FVec Ideal S4096x3200 .f32 :=
  concatenate S4096x3200 1 [⟨S4096x3088, p⟩, ⟨S4096x112, (broadcastInDim S4096x112 ![] bcast_S_S4096x112 (constant S_ .f32 0x00000000#32))⟩] concatenates_S4096x3088_S4096x112_S4096x3200_d1

/-- They are the projections with zeros added. -/
theorem widened_eq (p : FVec Ideal S4096x3088 .f32) : widened p = padded p := by
  funext y
  refine (congrArg _ (eq_ix2 y)).trans (Eq.trans ?_ (congrArg _ (eq_ix2 y)).symm)
  generalize y 0 = i, y 1 = j
  change Fin 4096 at i
  change Fin 3200 at j
  unfold padded
  pointwise [widened]

/-- The terms of the four results. -/
structure Terms (r0 : FVec Ideal S4096x3200 .bf16) (r1 : FVec Ideal S128x512 .f32) (r2 : FVec Ideal S1x512 .f32) (r3 : FVec Ideal S1x1024 .f32)
    (proj : FVec Ideal S4096x3200 .f32) (dog : FVec Ideal S4096x1024 .f32) (wg2 : FVec Ideal S16x512 .f32) (bg : FVec Ideal S1x512 .f32) (gn : FVec Ideal S1x1024 .f32) : Prop where
  rows : r0 = dprojs (dqs (Xq_ proj dog wg2 bg gn) (E_ proj wg2 bg) (Sc_ proj dog wg2 bg gn) (K_ proj wg2 bg)) (dks (Kd_ proj dog wg2 bg gn) (w_ proj wg2 bg))
      (dvs (B_ proj dog wg2 bg gn) (K_ proj wg2 bg) (X_ proj dog wg2 bg gn) (scores (queries proj) (K_ proj wg2 bg)))
      (drs (gates proj) (s_ proj) (prods (normed (O_ proj wg2 bg)) dog gn)) (dgls (Gp_ proj dog wg2 bg gn) wg2)
  weight : r1 = dwgs (Gp_ proj dog wg2 bg gn) proj
  bias : r2 = dbgs (Gp_ proj dog wg2 bg gn)
  gain : r3 = dgains (normed (O_ proj wg2 bg)) (T_ proj dog)

/-- What the reference leaves in its four results. -/
theorem run_terms (m : (ℓ : Loc nD τ sig) → Buf (Elt Ideal) ℓ) (ρ : Dev nD → PrngReg) (p : Dev nD → FVec Ideal S4096x3088 .f32) (dog : Dev nD → FVec Ideal S4096x1024 .f32)
    (wg2 : Dev nD → FVec Ideal S16x512 .f32) (bg : Dev nD → FVec Ideal S1x512 .f32) (gn : Dev nD → FVec Ideal S1x1024 .f32)
    (h : ∀ c : Dev nD, m ((c.tc : Thread nD τ).loc main_arg0) = p c ∧ m ((c.tc : Thread nD τ).loc main_arg1) = dog c ∧ m ((c.tc : Thread nD τ).loc main_arg2) = wg2 c
      ∧ m ((c.tc : Thread nD τ).loc main_arg3) = bg c ∧ m ((c.tc : Thread nD τ).loc main_arg4) = gn c) :
    θ_run defs (onTc (τ := τ) (main (F := Ideal))) ⟨m, fun _ => 0, ρ⟩ fun r => ∀ c : Dev nD,
      Terms (r.2.mem ((c.tc : Thread nD τ).loc main_v162)) (r.2.mem ((c.tc : Thread nD τ).loc main_v163)) (r.2.mem ((c.tc : Thread nD τ).loc main_v156)) (r.2.mem ((c.tc : Thread nD τ).loc main_v81))
        (padded (p c)) (dog c) (wg2 c) (bg c) (gn c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r e c => by
    obtain ⟨e0, e1, e2, e3, hk⟩ := e c
    refine ⟨?_, hk⟩
    rw [← widened_eq]
    obtain ⟨h0, h1, h2, h3, h4⟩ := h c
    rw [← h0, ← h1, ← h2, ← h3, ← h4]
    refine ⟨e0.trans ?_, e1.trans ?_, e2.trans ?_, e3.trans ?_⟩
    · rfl
    · rfl
    · rfl
    · rfl) (Value.run m ρ)

end Cert.Reference4Ideal.Gla

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.ReferenceIdeal.Run
public import proofs.«01_k».proof.Proof.MlpRun
public import proofs.«01_k».proof.Proof.MlpReference
public import proofs.«01_k».proof.Proof.Gen.Reference2Ideal.Run
public import proofs.«01_k».proof.Proof.LinRun
public import proofs.«01_k».proof.Proof.LinReference
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.GlaFinite
public import proofs.«01_k».proof.Proof.GlaRun
public import proofs.«01_k».proof.Proof.GlaReference
public import proofs.«01_k».proof.Proof.GlbFinite
public import proofs.«01_k».proof.Proof.GlbRun
public import proofs.«01_k».proof.Proof.GlbTerms
public import Idealize.ShloMosaic.Adequacy
public import Idealize.ShloMosaic.Init

@[expose] public section

noncomputable section

namespace Cert.Proof

open Idealize.ShloMosaic Idealize.SL.Sem

theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Mlp.run m ρ)

theorem algebraic : Cert.algebraic_KernelIdeal_ReferenceIdeal := by
  intro m ρ m' ρ' _ hagree
  refine ⟨_, _, _, _, Cert.KernelIdeal.Mlp.run m ρ, ?_⟩
  refine (θ_run Cert.ReferenceIdeal.defs _ _).mono (fun r h c => ?_) (Cert.ReferenceIdeal.Mlp.run m' ρ')
  obtain ⟨e0, e1, e2, e3⟩ := hagree c
  have := h c
  rw [e0, e1, e2, e3] at this
  rw [e0, e1, e2, e3]
  exact this

theorem frame_reference2 : Cert.quiescent_Reference2Ideal := fun m ρ _ =>
  (θ_run Cert.Reference2Ideal.defs _ _).mono
    (fun r h => ⟨fun c => (h c).2.2.2.2.2.2.2.2.2, sem_eq_zero_of_no_sems (by decide) r.2⟩) (Cert.Reference2Ideal.Lin.run m ρ)

theorem algebraic2 : Cert.algebraic_Kernel2Ideal_Reference2Ideal := by
  intro m ρ m' ρ' _ hagree
  refine ⟨_, _, _, _, _, _, _, _, _, Cert.Kernel2Ideal.Lin.run m ρ, ?_⟩
  refine (θ_run Cert.Reference2Ideal.defs _ _).mono (fun r h c => ?_) (Cert.Reference2Ideal.Lin.run m' ρ')
  obtain ⟨e0, e1, e2, e3, e4, e5, e6, e7, e8⟩ := hagree c
  have := h c
  rw [e0, e1, e2, e3, e4, e5, e6, e7, e8] at this
  rw [e0, e1, e2, e3, e4, e5, e6, e7, e8]
  exact this

/-- The gated linear attention reference runs to its end and leaves its arguments as they were. -/
theorem frame_reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run m ρ)

instance : Cert.Pre_finite.Facts := Cert.Pre_finite.Gla.facts

/-- From the same real queries, keys, values and gates, the kernel and the reference leave the same outputs and states. -/
theorem algebraic3 : Cert.algebraic_Kernel3Ideal_Reference3Ideal_pre_finite := by
  intro m ρ m' ρ' hpre hagree
  have H := fun c => Cert.Pre_finite.Gla.real4 _ _ _ _ (hpre c)
  refine ⟨_, _, Cert.Kernel3Ideal.Gla.values m ρ (fun c => (_, _)) H, ?_⟩
  refine (θ_run Cert.Reference3Ideal.defs _ _).mono (fun r h c => ?_) (Cert.Reference3Ideal.Value.run m' ρ')
  obtain ⟨e0, e1, e2, e3⟩ := hagree c
  obtain ⟨h0, h1, hk⟩ := h c
  exact ⟨h0.trans ((Cert.Reference3Ideal.Gla.out0_term _ _ _ _ m' c e0 e1 e2 e3).trans (Cert.Reference3Ideal.Gla.og_eq _ (H c))),
    h1.trans ((Cert.Reference3Ideal.Gla.out1_term _ _ _ m' c e0 e1 e2).trans (Cert.Reference3Ideal.Gla.states_eq (H c))), hk⟩

/-- The reference of the gated linear attention's gradient runs to its end and leaves its arguments as they were. -/
theorem frame_reference4 : Cert.quiescent_Reference4Ideal := fun m ρ _ =>
  (θ_run Cert.Reference4Ideal.defs _ _).mono (fun r h => ⟨fun c => (h c).2.2.2.2, sem_eq_zero_of_no_sems (by decide) r.2⟩)
    (Cert.Reference4Ideal.Value.run m ρ)

instance : Cert.Pre_finite4.Facts := Cert.Pre_finite4.Gla.facts

/-- From the same real arguments, the kernel and the reference leave the same gradients of the projections, of the gates'
weight and bias and of the gain. -/
theorem algebraic4 : Cert.algebraic_Kernel4Ideal_Reference4Ideal_pre_finite4 := by
  intro m ρ m' ρ' hpre hagree
  have H := fun c => Cert.Pre_finite4.Gla.real5 _ _ _ _ _ (hpre c)
  refine ⟨_, _, _, _, Cert.Kernel4Ideal.Gla.values m ρ (fun c => _) (fun c => _) (fun c => _) (fun c => _) (fun c => _) H, ?_⟩
  refine (θ_run Cert.Reference4Ideal.defs _ _).mono (fun r h c => ?_) (Cert.Reference4Ideal.Gla.run_terms m' ρ' _ _ _ _ _ hagree)
  obtain ⟨t, hk⟩ := h c
  exact ⟨t.rows.trans (Cert.Reference4Ideal.Gla.dproj_coe (H c)), t.weight.trans (Cert.Reference4Ideal.Gla.dwg_coe (H c)),
    t.bias.trans (Cert.Reference4Ideal.Gla.dbg_coe (H c)), t.gain.trans (Cert.Reference4Ideal.Gla.dgain_coe (H c)), hk⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.Gla.facts, Cert.Pre_finite4.Gla.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, fun m ρ _ => Cert.Kernel3Ideal.Gen.frame m ρ,
  frame_reference3, fun m ρ _ => frame_reference3 m ρ trivial,
  fun m ρ _ => Cert.Kernel4.Gen.frame m ρ, fun m ρ _ => Cert.Kernel4Ideal.Gen.frame m ρ, fun m ρ _ => Cert.Kernel4Ideal.Gen.frame m ρ,
  frame_reference4, fun m ρ _ => frame_reference4 m ρ trivial,
  trivial, algebraic, trivial, algebraic2, trivial, algebraic3, trivial, algebraic4⟩

end Cert.Proof

end
